-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables_in_range : Cert.Pre_tables_in_range.Facts] (m : (ℓ : Loc Cert.Kernel3.nD Cert.Kernel3.τ Cert.Kernel3.sig) → Buf (Elt Bits) ℓ) : Prop :=
  ∀ c : Dev Cert.Kernel3.nD,
    (Cert.Pre_tables_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_tables_in_range : Cert.Pre_tables_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_in_range [hPre_tables_in_range : Cert.Pre_tables_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_mixers_finite [hPre_mixers_finite : Cert.Pre_mixers_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_mixers_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_mixers_finite [hPre_mixers_finite : Cert.Pre_mixers_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_mixers_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tables_in_range : Cert.Pre_tables_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_tables_in_range [hReference3Ideal : Cert.Reference3Ideal.Facts] [hPre_tables_in_range : Cert.Pre_tables_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_mixers_finite [hKernel4Ideal : Cert.Kernel4Ideal.Facts] [hPre_mixers_finite : Cert.Pre_mixers_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_mixers_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_mixers_finite [hReference4Ideal : Cert.Reference4Ideal.Facts] [hPre_mixers_finite : Cert.Pre_mixers_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_mixers_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v59) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_mixers_finite [hKernel4Ideal : Cert.Kernel4Ideal.Facts] [hReference4Ideal : Cert.Reference4Ideal.Facts] [hPre_mixers_finite : Cert.Pre_mixers_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_mixers_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v96) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_gates_finite : Cert.Pre_gates_finite.Facts) (hPre_tables_in_range : Cert.Pre_tables_in_range.Facts) (hPre_mixers_finite : Cert.Pre_mixers_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables_in_range := hPre_tables_in_range)
    ∧ quiescent_Kernel3Ideal (hKernel3Ideal := hKernel3Ideal) (hPre_tables_in_range := hPre_tables_in_range)
    ∧ quiescent_Reference3Ideal (hReference3Ideal := hReference3Ideal)
    ∧ quiescent_Reference3Ideal_pre_tables_in_range (hReference3Ideal := hReference3Ideal) (hPre_tables_in_range := hPre_tables_in_range)
    ∧ quiescent_Kernel4 (hKernel4 := hKernel4)
    ∧ quiescent_Kernel4Ideal (hKernel4Ideal := hKernel4Ideal)
    ∧ quiescent_Kernel4Ideal_pre_mixers_finite (hKernel4Ideal := hKernel4Ideal) (hPre_mixers_finite := hPre_mixers_finite)
    ∧ quiescent_Reference4Ideal (hReference4Ideal := hReference4Ideal)
    ∧ quiescent_Reference4Ideal_pre_mixers_finite (hReference4Ideal := hReference4Ideal) (hPre_mixers_finite := hPre_mixers_finite)
    ∧ preserves_Kernel_KernelIdeal
    ∧ algebraic_KernelIdeal_ReferenceIdeal_pre_gates_finite (hKernelIdeal := hKernelIdeal) (hReferenceIdeal := hReferenceIdeal) (hPre_gates_finite := hPre_gates_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables_in_range := hPre_tables_in_range)
    ∧ preserves_Kernel4_Kernel4Ideal
    ∧ algebraic_Kernel4Ideal_Reference4Ideal_pre_mixers_finite (hKernel4Ideal := hKernel4Ideal) (hReference4Ideal := hReference4Ideal) (hPre_mixers_finite := hPre_mixers_finite)
-- ==== Pre_gates_finite.lean ====
abbrev S4x4096x1040 : Shape := ⟨3, ![4, 4096, 1040]⟩
abbrev S4x256x1040 : Shape := ⟨3, ![4, 256, 1040]⟩
abbrev S4x4 : Shape := ⟨2, ![4, 4]⟩
abbrev S4x4096x16 : Shape := ⟨3, ![4, 4096, 16]⟩
abbrev S_ : Shape := ⟨0, ![]⟩
abbrev S4x256x16 : Shape := ⟨3, ![4, 256, 16]⟩

class Facts : Prop where
  slices_S4x4096x1040_S4x4096x16_0_0_1024 : S4x4096x1040.Slices ![0, 0, 1024] S4x4096x16
  bcast_S_S4x4096x16 : S_.BroadcastsInDim S4x4096x16 (![] : Fin 0 → Fin S4x4096x16.rank)
  reducesTo_S4x4096x16_S_d0_1_2 : S4x4096x16.ReducesTo [0, 1, 2] S_
  h_S_ : 0 < S_.numel
  slices_S4x256x1040_S4x256x16_0_0_1024 : S4x256x1040.Slices ![0, 0, 1024] S4x256x16
  bcast_S_S4x256x16 : S_.BroadcastsInDim S4x256x16 (![] : Fin 0 → Fin S4x256x16.rank)
  reducesTo_S4x256x16_S_d0_1_2 : S4x256x16.ReducesTo [0, 1, 2] S_
  bcast_S_S4x4 : S_.BroadcastsInDim S4x4 (![] : Fin 0 → Fin S4x4.rank)
  reducesTo_S4x4_S_d0_1 : S4x4.ReducesTo [0, 1] S_

variable [Facts]

def fn {F : FTy → Type} [FloatOps F] (main_arg0 : FVec F S4x4096x1040 .f32) (main_arg1 : FVec F S4x256x1040 .f32) (main_arg2 : FVec F S4x4 .f32) : IVec S_ 1 :=
  let main_v0 : FVec F S4x4096x16 .f32 := (extractStridedSlice S4x4096x16 ![0, 0, 1024] · slices_S4x4096x1040_S4x4096x16_0_0_1024) main_arg0
  let main_v1 : FVec F S4x4096x16 .f32 := Host.absf main_v0
  let main_cst : FVec F S_ .f32 := constant S_ .f32 0x7F800000#32
  let main_v2 : FVec F S4x4096x16 .f32 := broadcastInDim S4x4096x16 ![] bcast_S_S4x4096x16 main_cst
  let main_v3 : IVec S4x4096x16 1 := cmpf .olt main_v1 main_v2
  let main_c : IVec S_ 1 := constantI S_ 1 1#1
  let main_v4 : IVec S_ 1 := (fun x v => Host.reduce IntOp.andi x v reducesTo_S4x4096x16_S_d0_1_2 h_S_) main_v3 main_c
  let main_v5 : FVec F S4x256x16 .f32 := (extractStridedSlice S4x256x16 ![0, 0, 1024] · slices_S4x256x1040_S4x256x16_0_0_1024) main_arg1
  let main_v6 : FVec F S4x256x16 .f32 := Host.absf main_v5
  let main_cst_0 : FVec F S_ .f32 := constant S_ .f32 0x7F800000#32
  let main_v7 : FVec F S4x256x16 .f32 := broadcastInDim S4x256x16 ![] bcast_S_S4x256x16 main_cst_0
  let main_v8 : IVec S4x256x16 1 := cmpf .olt main_v6 main_v7
  let main_c_1 : IVec S_ 1 := constantI S_ 1 1#1
  let main_v9 : IVec S_ 1 := (fun x v => Host.reduce IntOp.andi x v reducesTo_S4x256x16_S_d0_1_2 h_S_) main_v8 main_c_1
  let main_v10 : IVec S_ 1 := andi main_v4 main_v9
  let main_v11 : FVec F S4x4 .f32 := Host.absf main_arg2
  let main_cst_2 : FVec F S_ .f32 := constant S_ .f32 0x7F800000#32
  let main_v12 : FVec F S4x4 .f32 := broadcastInDim S4x4 ![] bcast_S_S4x4 main_cst_2
  let main_v13 : IVec S4x4 1 := cmpf .olt main_v11 main_v12
  let main_c_3 : IVec S_ 1 := constantI S_ 1 1#1
  let main_v14 : IVec S_ 1 := (fun x v => Host.reduce IntOp.andi x v reducesTo_S4x4_S_d0_1 h_S_) main_v13 main_c_3
  let main_v15 : IVec S_ 1 := andi main_v10 main_v14
  main_v15
-- ==== Pre_mixers_finite.lean ====
abbrev S4x4352x1024 : Shape := ⟨3, ![4, 4352, 1024]⟩
abbrev S2x4x4352x256 : Shape := ⟨4, ![2, 4, 4352, 256]⟩
abbrev S4x4352x1280 : Shape := ⟨3, ![4, 4352, 1280]⟩
abbrev S4x4352x256 : Shape := ⟨3, ![4, 4352, 256]⟩
abbrev S4x256 : Shape := ⟨2, ![4, 256]⟩
abbrev S5x1x1024 : Shape := ⟨3, ![5, 1, 1024]⟩
abbrev S1024x1024 : Shape := ⟨2, ![1024, 1024]⟩
abbrev S1x4x4352x256 : Shape := ⟨4, ![1, 4, 4352, 256]⟩
abbrev S_ : Shape := ⟨0, ![]⟩

class Facts : Prop where
  slices_S2x4x4352x256_S1x4x4352x256_0_0_0_0 : S2x4x4352x256.Slices ![0, 0, 0, 0] S1x4x4352x256
  shapeCasts_S1x4x4352x256_S4x4352x256 : S1x4x4352x256.ShapeCasts S4x4352x256
  slices_S2x4x4352x256_S1x4x4352x256_1_0_0_0 : S2x4x4352x256.Slices ![1, 0, 0, 0] S1x4x4352x256
  bcast_S_S4x4352x256 : S_.BroadcastsInDim S4x4352x256 (![] : Fin 0 → Fin S4x4352x256.rank)
  reducesTo_S4x4352x256_S_d0_1_2 : S4x4352x256.ReducesTo [0, 1, 2] S_
  h_S_ : 0 < S_.numel

variable [Facts]

def fn_part1 {F : FTy → Type} [FloatOps F] (main_arg6 : FVec F S2x4x4352x256 .f32) (main_v18 : IVec S_ 1) (main_v19 : FVec F S1x4x4352x256 .f32) : IVec S_ 1 :=
  let main_v20 : FVec F S4x4352x256 .f32 := shapeCast S4x4352x256 main_v19 shapeCasts_S1x4x4352x256_S4x4352x256
  let main_v21 : FVec F S1x4x4352x256 .f32 := (extractStridedSlice S1x4x4352x256 ![1, 0, 0, 0] · slices_S2x4x4352x256_S1x4x4352x256_1_0_0_0) main_arg6
  let main_v22 : FVec F S4x4352x256 .f32 := shapeCast S4x4352x256 main_v21 shapeCasts_S1x4x4352x256_S4x4352x256
  let main_v23 : FVec F S4x4352x256 .f32 := addf main_v20 main_v22
  let main_v24 : FVec F S4x4352x256 .f32 := Host.absf main_v23
  let main_cst_2 : FVec F S_ .f32 := constant S_ .f32 0x7F800000#32
  let main_v25 : FVec F S4x4352x256 .f32 := broadcastInDim S4x4352x256 ![] bcast_S_S4x4352x256 main_cst_2
  let main_v26 : IVec S4x4352x256 1 := cmpf .olt main_v24 main_v25
  let main_c_3 : IVec S_ 1 := constantI S_ 1 1#1
  let main_v27 : IVec S_ 1 := (fun x v => Host.reduce IntOp.andi x v reducesTo_S4x4352x256_S_d0_1_2 h_S_) main_v26 main_c_3
  let main_v28 : IVec S_ 1 := andi main_v18 main_v27
  main_v28

def fn {F : FTy → Type} [FloatOps F] (main_arg0 : FVec F S4x4352x1024 .f32) (main_arg1 : FVec F S2x4x4352x256 .f32) (main_arg2 : FVec F S4x4352x1280 .f32) (main_arg3 : FVec F S2x4x4352x256 .f32) (main_arg4 : FVec F S4x4352x1024 .f32) (main_arg5 : FVec F S4x4352x256 .f32) (main_arg6 : FVec F S2x4x4352x256 .f32) (main_arg7 : FVec F S4x4352x1024 .f32) (main_arg8 : FVec F S4x256 .f32) (main_arg9 : FVec F S5x1x1024 .f32) (main_arg10 : FVec F S1024x1024 .f32) : IVec S_ 1 :=
  let main_v0 : FVec F S1x4x4352x256 .f32 := (extractStridedSlice S1x4x4352x256 ![0, 0, 0, 0] · slices_S2x4x4352x256_S1x4x4352x256_0_0_0_0) main_arg1
  let main_v1 : FVec F S4x4352x256 .f32 := shapeCast S4x4352x256 main_v0 shapeCasts_S1x4x4352x256_S4x4352x256
  let main_v2 : FVec F S1x4x4352x256 .f32 := (extractStridedSlice S1x4x4352x256 ![1, 0, 0, 0] · slices_S2x4x4352x256_S1x4x4352x256_1_0_0_0) main_arg1
  let main_v3 : FVec F S4x4352x256 .f32 := shapeCast S4x4352x256 main_v2 shapeCasts_S1x4x4352x256_S4x4352x256
  let main_v4 : FVec F S4x4352x256 .f32 := addf main_v1 main_v3
  let main_v5 : FVec F S4x4352x256 .f32 := Host.absf main_v4
  let main_cst : FVec F S_ .f32 := constant S_ .f32 0x7F800000#32
  let main_v6 : FVec F S4x4352x256 .f32 := broadcastInDim S4x4352x256 ![] bcast_S_S4x4352x256 main_cst
  let main_v7 : IVec S4x4352x256 1 := cmpf .olt main_v5 main_v6
  let main_c : IVec S_ 1 := constantI S_ 1 1#1
  let main_v8 : IVec S_ 1 := (fun x v => Host.reduce IntOp.andi x v reducesTo_S4x4352x256_S_d0_1_2 h_S_) main_v7 main_c
  let main_v9 : FVec F S1x4x4352x256 .f32 := (extractStridedSlice S1x4x4352x256 ![0, 0, 0, 0] · slices_S2x4x4352x256_S1x4x4352x256_0_0_0_0) main_arg3
  let main_v10 : FVec F S4x4352x256 .f32 := shapeCast S4x4352x256 main_v9 shapeCasts_S1x4x4352x256_S4x4352x256
  let main_v11 : FVec F S1x4x4352x256 .f32 := (extractStridedSlice S1x4x4352x256 ![1, 0, 0, 0] · slices_S2x4x4352x256_S1x4x4352x256_1_0_0_0) main_arg3
  let main_v12 : FVec F S4x4352x256 .f32 := shapeCast S4x4352x256 main_v11 shapeCasts_S1x4x4352x256_S4x4352x256
  let main_v13 : FVec F S4x4352x256 .f32 := addf main_v10 main_v12
  let main_v14 : FVec F S4x4352x256 .f32 := Host.absf main_v13
  let main_cst_0 : FVec F S_ .f32 := constant S_ .f32 0x7F800000#32
  let main_v15 : FVec F S4x4352x256 .f32 := broadcastInDim S4x4352x256 ![] bcast_S_S4x4352x256 main_cst_0
  let main_v16 : IVec S4x4352x256 1 := cmpf .olt main_v14 main_v15
  let main_c_1 : IVec S_ 1 := constantI S_ 1 1#1
  let main_v17 : IVec S_ 1 := (fun x v => Host.reduce IntOp.andi x v reducesTo_S4x4352x256_S_d0_1_2 h_S_) main_v16 main_c_1
  let main_v18 : IVec S_ 1 := andi main_v8 main_v17
  let main_v19 : FVec F S1x4x4352x256 .f32 := (extractStridedSlice S1x4x4352x256 ![0, 0, 0, 0] · slices_S2x4x4352x256_S1x4x4352x256_0_0_0_0) main_arg6
  fn_part1 (F := F) main_arg6 main_v18 main_v19
-- ==== Pre_tables_in_range.lean ====
abbrev S304 : Shape := ⟨1, ![304]⟩
abbrev S1 : Shape := ⟨1, ![1]⟩
abbrev S77824x1024 : Shape := ⟨2, ![77824, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩

class Facts : Prop where
  bcast_S_S304 : S_.BroadcastsInDim S304 (![] : Fin 0 → Fin S304.rank)
  reducesTo_S304_S_d0 : S304.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S304 32) (main_arg1 : IVec S1 32) (main_arg2 : FVec F S77824x1024 .f32) (main_arg3 : FVec F S2x32x1024x2048 .f32) (main_arg4 : FVec F S32x2048 .f32) (main_arg5 : FVec F S2x32x1024x1024 .f32) (main_arg6 : FVec F S32x1024 .f32) : IVec S_ 1 :=
  let main_c : IVec S_ 32 := constantI S_ 32 0#32
  let main_v0 : IVec S304 32 := broadcastInDim S304 ![] bcast_S_S304 main_c
  let main_v1 : IVec S304 1 := cmpi .sge main_arg0 main_v0
  let main_c_0 : IVec S_ 32 := constantI S_ 32 32#32
  let main_v2 : IVec S304 32 := broadcastInDim S304 ![] bcast_S_S304 main_c_0
  let main_v3 : IVec S304 1 := cmpi .slt main_arg0 main_v2
  let main_v4 : IVec S304 1 := andi main_v1 main_v3
  let main_c_1 : IVec S_ 1 := constantI S_ 1 1#1
  let main_v5 : IVec S_ 1 := (fun x v => Host.reduce IntOp.andi x v reducesTo_S304_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 304#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S4x4096x1040 : Shape := ⟨3, ![4, 4096, 1040]⟩
abbrev S4x256x1040 : Shape := ⟨3, ![4, 256, 1040]⟩
abbrev S4x4 : Shape := ⟨2, ![4, 4]⟩
abbrev S4x4096x1024 : Shape := ⟨3, ![4, 4096, 1024]⟩
abbrev S4x256x1024 : Shape := ⟨3, ![4, 256, 1024]⟩
abbrev S4x4352x1024 : Shape := ⟨3, ![4, 4352, 1024]⟩
abbrev S4x4096x16 : Shape := ⟨3, ![4, 4096, 16]⟩
abbrev S4x256x16 : Shape := ⟨3, ![4, 256, 16]⟩
abbrev S4x4352x16 : Shape := ⟨3, ![4, 4352, 16]⟩
abbrev S_ : Shape := ⟨0, ![]⟩
abbrev S4x4352x128 : Shape := ⟨3, ![4, 4352, 128]⟩
abbrev S64x64 : Shape := ⟨2, ![64, 64]⟩
abbrev S256x256 : Shape := ⟨2, ![256, 256]⟩
abbrev S128x256 : Shape := ⟨2, ![128, 256]⟩
abbrev S1x128x256 : Shape := ⟨3, ![1, 128, 256]⟩
abbrev S4x128x256 : Shape := ⟨3, ![4, 128, 256]⟩
abbrev S8x128 : Shape := ⟨2, ![8, 128]⟩
abbrev S1x8x128 : Shape := ⟨3, ![1, 8, 128]⟩
abbrev S4x8x128 : Shape := ⟨3, ![4, 8, 128]⟩
abbrev S1x16 : Shape := ⟨2, ![1, 16]⟩
abbrev S1x128 : Shape := ⟨2, ![1, 128]⟩
abbrev S4x4352x256 : Shape := ⟨3, ![4, 4352, 256]⟩
abbrev S1x64x1024 : Shape := ⟨3, ![1, 64, 1024]⟩
abbrev S1x64x128 : Shape := ⟨3, ![1, 64, 128]⟩
abbrev S1x64x256 : Shape := ⟨3, ![1, 64, 256]⟩
abbrev S2x256x256 : Shape := ⟨3, ![2, 256, 256]⟩
abbrev S2x1x256 : Shape := ⟨3, ![2, 1, 256]⟩
abbrev S64x256 : Shape := ⟨2, ![64, 256]⟩
abbrev S64x128 : Shape := ⟨2, ![64, 128]⟩
abbrev S8x64 : Shape := ⟨2, ![8, 64]⟩
abbrev S1x256 : Shape := ⟨2, ![1, 256]⟩
abbrev S256 : Shape := ⟨1, ![256]⟩
abbrev S1x256x256 : Shape := ⟨3, ![1, 256, 256]⟩
abbrev S1x1x256 : Shape := ⟨3, ![1, 1, 256]⟩
abbrev S1x64 : Shape := ⟨2, ![1, 64]⟩
abbrev S64 : Shape := ⟨1, ![64]⟩
abbrev S64x1 : Shape := ⟨2, ![64, 1]⟩

abbrev nBuf : Space → Nat
  | .hbm => 152
  | .vmem => 21
  | .smem => 0
  | _ => 0

abbrev hbmTy0_0 (i : Nat) : BufTy := match i % 128 with
  | 0 => ⟨S4x4096x1040, .f32⟩
  | 1 => ⟨S4x256x1040, .f32⟩
  | 2 => ⟨S4x4, .f32⟩
  | 3 => ⟨S4x4096x1024, .f32⟩
  | 4 => ⟨S4x256x1024, .f32⟩
  | 5 => ⟨S4x4352x1024, .f32⟩
  | 6 => ⟨S4x4096x16, .f32⟩
  | 7 => ⟨S4x256x16, .f32⟩
  | 8 => ⟨S4x4352x16, .f32⟩
  | 9 => ⟨S_, .i32⟩
  | 10 => ⟨S_, .f32⟩
  | 11 => ⟨S4x4352x128, .f32⟩
  | 12 => ⟨S64x64, .i32⟩
  | 13 => ⟨S64x64, .i32⟩
  | 14 => ⟨S64x64, .i1⟩
  | 15 => ⟨S64x64, .f32⟩
  | 16 => ⟨S64x64, .i1⟩
  | 17 => ⟨S64x64, .f32⟩
  | 18 => ⟨S256x256, .i32⟩
  | 19 => ⟨S_, .i32⟩
  | 20 => ⟨S_, .i32⟩
  | 21 => ⟨S256x256, .i32⟩
  | 22 => ⟨S256x256, .i32⟩
  | 23 => ⟨S256x256, .i32⟩
  | 24 => ⟨S_, .i32⟩
  | 25 => ⟨S256x256, .i32⟩
  | 26 => ⟨S256x256, .i1⟩
  | 27 => ⟨S256x256, .i32⟩
  | 28 => ⟨S256x256, .i32⟩
  | 29 => ⟨S_, .i32⟩
  | 30 => ⟨S256x256, .i32⟩
  | 31 => ⟨S256x256, .i1⟩
  | 32 => ⟨S256x256, .i1⟩
  | 33 => ⟨S_, .i32⟩
  | 34 => ⟨S256x256, .i32⟩
  | 35 => ⟨S256x256, .i32⟩
  | 36 => ⟨S256x256, .i32⟩
  | 37 => ⟨S256x256, .i32⟩
  | 38 => ⟨S_, .i32⟩
  | 39 => ⟨S_, .i32⟩
  | 40 => ⟨S256x256, .i32⟩
  | 41 => ⟨S256x256, .i32⟩
  | 42 => ⟨S256x256, .i32⟩
  | 43 => ⟨S_, .i32⟩
  | 44 => ⟨S256x256, .i32⟩
  | 45 => ⟨S256x256, .i1⟩
  | 46 => ⟨S256x256, .i32⟩
  | 47 => ⟨S256x256, .i32⟩
  | 48 => ⟨S_, .i32⟩
  | 49 => ⟨S256x256, .i32⟩
  | 50 => ⟨S256x256, .i1⟩
  | 51 => ⟨S256x256, .i1⟩
  | 52 => ⟨S_, .i32⟩
  | 53 => ⟨S256x256, .i32⟩
  | 54 => ⟨S256x256, .i32⟩
  | 55 => ⟨S256x256, .i32⟩
  | 56 => ⟨S256x256, .i1⟩
  | 57 => ⟨S256x256, .f32⟩
  | 58 => ⟨S128x256, .i32⟩
  | 59 => ⟨S128x256, .i32⟩
  | 60 => ⟨S_, .i32⟩
  | 61 => ⟨S_, .i32⟩
  | 62 => ⟨S128x256, .i32⟩
  | 63 => ⟨S128x256, .i32⟩
  | 64 => ⟨S128x256, .i32⟩
  | 65 => ⟨S_, .i32⟩
  | 66 => ⟨S128x256, .i32⟩
  | 67 => ⟨S128x256, .i1⟩
  | 68 => ⟨S128x256, .i32⟩
  | 69 => ⟨S128x256, .i32⟩
  | 70 => ⟨S_, .i32⟩
  | 71 => ⟨S128x256, .i32⟩
  | 72 => ⟨S128x256, .i1⟩
  | 73 => ⟨S128x256, .i1⟩
  | 74 => ⟨S_, .i32⟩
  | 75 => ⟨S128x256, .i32⟩
  | 76 => ⟨S128x256, .i32⟩
  | 77 => ⟨S128x256, .i32⟩
  | 78 => ⟨S_, .i32⟩
  | 79 => ⟨S128x256, .i32⟩
  | 80 => ⟨S128x256, .i32⟩
  | 81 => ⟨S128x256, .i1⟩
  | 82 => ⟨S128x256, .f32⟩
  | 83 => ⟨S_, .i32⟩
  | 84 => ⟨S128x256, .i32⟩
  | 85 => ⟨S128x256, .i32⟩
  | 86 => ⟨S128x256, .i1⟩
  | 87 => ⟨S128x256, .f32⟩
  | 88 => ⟨S_, .i32⟩
  | 89 => ⟨S128x256, .i32⟩
  | 90 => ⟨S128x256, .i32⟩
  | 91 => ⟨S128x256, .i1⟩
  | 92 => ⟨S128x256, .f32⟩
  | 93 => ⟨S_, .i32⟩
  | 94 => ⟨S128x256, .i32⟩
  | 95 => ⟨S128x256, .i32⟩
  | 96 => ⟨S128x256, .i1⟩
  | 97 => ⟨S128x256, .f32⟩
  | 98 => ⟨S1x128x256, .f32⟩
  | 99 => ⟨S1x128x256, .f32⟩
  | 100 => ⟨S1x128x256, .f32⟩
  | 101 => ⟨S1x128x256, .f32⟩
  | 102 => ⟨S4x128x256, .f32⟩
  | 103 => ⟨S8x128, .i32⟩
  | 104 => ⟨S8x128, .i32⟩
  | 105 => ⟨S_, .i32⟩
  | 106 => ⟨S8x128, .i32⟩
  | 107 => ⟨S8x128, .i32⟩
  | 108 => ⟨S8x128, .i1⟩
  | 109 => ⟨S_, .i32⟩
  | 110 => ⟨S8x128, .i32⟩
  | 111 => ⟨S8x128, .i1⟩
  | 112 => ⟨S8x128, .i1⟩
  | 113 => ⟨S8x128, .f32⟩
  | 114 => ⟨S_, .i32⟩
  | 115 => ⟨S8x128, .i32⟩
  | 116 => ⟨S8x128, .i32⟩
  | 117 => ⟨S8x128, .i1⟩
  | 118 => ⟨S_, .i32⟩
  | 119 => ⟨S8x128, .i32⟩
  | 120 => ⟨S8x128, .i1⟩
  | 121 => ⟨S8x128, .i1⟩
  | 122 => ⟨S8x128, .f32⟩
  | 123 => ⟨S_, .i32⟩
  | 124 => ⟨S8x128, .i32⟩
  | 125 => ⟨S8x128, .i32⟩
  | 126 => ⟨S8x128, .i1⟩
  | 127 => ⟨S_, .i32⟩
  | _ => ⟨S4x4096x1040, .f32⟩

abbrev hbmTy0_1 (i : Nat) : BufTy := match i % 128 with
  | 0 => ⟨S8x128, .i32⟩
  | 1 => ⟨S8x128, .i1⟩
  | 2 => ⟨S8x128, .i1⟩
  | 3 => ⟨S8x128, .f32⟩
  | 4 => ⟨S_, .i32⟩
  | 5 => ⟨S8x128, .i32⟩
  | 6 => ⟨S8x128, .i32⟩
  | 7 => ⟨S8x128, .i1⟩
  | 8 => ⟨S_, .i32⟩
  | 9 => ⟨S8x128, .i32⟩
  | 10 => ⟨S8x128, .i1⟩
  | 11 => ⟨S8x128, .i1⟩
  | 12 => ⟨S8x128, .f32⟩
  | 13 => ⟨S1x8x128, .f32⟩
  | 14 => ⟨S1x8x128, .f32⟩
  | 15 => ⟨S1x8x128, .f32⟩
  | 16 => ⟨S1x8x128, .f32⟩
  | 17 => ⟨S4x8x128, .f32⟩
  | 18 => ⟨S1x16, .f32⟩
  | 19 => ⟨S_, .i32⟩
  | 20 => ⟨S_, .f32⟩
  | 21 => ⟨S1x128, .f32⟩
  | 22 => ⟨S4x4352x256, .f32⟩
  | 23 => ⟨S4x4352x256, .f32⟩
  | _ => ⟨S4x4096x1040, .f32⟩

abbrev hbmTy (i : Nat) : BufTy := match i / 128 with
  | 0 => hbmTy0_0 i
  | 1 => hbmTy0_1 i
  | _ => ⟨S4x4096x1040, .f32⟩

abbrev bufTy : (tb : Table) → Fin (tcTables nBuf tb) → BufTy
  | .hbm, ⟨i, _⟩ => hbmTy i
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x128, .f32⟩
  | .local _ .vmem, ⟨9, _⟩ => ⟨S64x64, .f32⟩
  | .local _ .vmem, ⟨10, _⟩ => ⟨S64x64, .f32⟩
  | .local _ .vmem, ⟨11, _⟩ => ⟨S256x256, .f32⟩
  | .local _ .vmem, ⟨12, _⟩ => ⟨S4x128x256, .f32⟩
  | .local _ .vmem, ⟨13, _⟩ => ⟨S4x8x128, .f32⟩
  | .local _ .vmem, ⟨14, _⟩ => ⟨S1x64x256, .f32⟩
  | .local _ .vmem, ⟨15, _⟩ => ⟨S1x64x256, .f32⟩
  | .local _ .vmem, ⟨16, _⟩ => ⟨S1x64x256, .f32⟩
  | .local _ .vmem, ⟨17, _⟩ => ⟨S1x64x256, .f32⟩
  | .local _ .vmem, ⟨18, _⟩ => ⟨S2x256x256, .f32⟩
  | .local _ .vmem, ⟨19, _⟩ => ⟨S2x1x256, .f32⟩
  | .local _ .vmem, ⟨20, _⟩ => ⟨S2x1x256, .f32⟩
  | _, _ => ⟨S4x4096x1040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_c : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_0 : Ref sig .tc := ⟨.hbm, 33, rfl⟩
abbrev main_call1_v12 : Ref sig .tc := ⟨.hbm, 34, rfl⟩
abbrev main_call1_v13 : Ref sig .tc := ⟨.hbm, 35, rfl⟩
abbrev main_v14 : Ref sig .tc := ⟨.hbm, 36, rfl⟩
abbrev main_v15 : Ref sig .tc := ⟨.hbm, 37, rfl⟩
abbrev main_c_1 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_c : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_0 : Ref sig .tc := ⟨.hbm, 52, rfl⟩
abbrev main_call2_v12 : Ref sig .tc := ⟨.hbm, 53, rfl⟩
abbrev main_call2_v13 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_c_2 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_c : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_0 : Ref sig .tc := ⟨.hbm, 74, rfl⟩
abbrev main_call3_v12 : Ref sig .tc := ⟨.hbm, 75, rfl⟩
abbrev main_call3_v13 : Ref sig .tc := ⟨.hbm, 76, rfl⟩
abbrev main_v21 : Ref sig .tc := ⟨.hbm, 77, rfl⟩
abbrev main_c_3 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_c_4 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_c_5 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_c_6 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_c_7 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_c_8 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_c_9 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_c_10 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_c_11 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_c_12 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_c_13 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_c_14 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_c_15 : Ref sig .tc := ⟨.hbm, 147, rfl⟩
abbrev main_call4_v0 : Ref sig .tc := ⟨.hbm, 148, rfl⟩
abbrev main_v79 : Ref sig .tc := ⟨.hbm, 149, rfl⟩
abbrev main_v80_0 : Ref sig .tc := ⟨.hbm, 150, rfl⟩
abbrev main_v80_1 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 68], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c64_i32 : BitVec 32 := 64#32
  let v1 : BitVec 32 := Scalar.addi c64_i32 arg1
  let c4_i32_0 : BitVec 32 := 4#32
  let v2 : BitVec 32 := Scalar.subi arg1 c4_i32_0
  let v3 : BitVec 32 := Scalar.select v0 v1 v2
  let c0_i32 : BitVec 32 := 0#32
  let c0_i32_1 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c67_i32 : BitVec 32 := 67#32
  let v1 : BitVec 32 := Scalar.subi c67_i32 arg1
  let c67_i32_0 : BitVec 32 := 67#32
  let v2 : BitVec 32 := Scalar.subi c67_i32_0 arg1
  let v3 : BitVec 32 := Scalar.select v0 v1 v2
  let c0_i32 : BitVec 32 := 0#32
  let c0_i32_1 : BitVec 32 := 0#32
  ![arg0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c64_i32 : BitVec 32 := 64#32
  let v1 : BitVec 32 := Scalar.addi c64_i32 arg1
  let c4_i32_0 : BitVec 32 := 4#32
  let v2 : BitVec 32 := Scalar.subi arg1 c4_i32_0
  let v3 : BitVec 32 := Scalar.select v0 v1 v2
  let c0_i32 : BitVec 32 := 0#32
  let c0_i32_1 : BitVec 32 := 0#32
  ![arg0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c67_i32 : BitVec 32 := 67#32
  let v1 : BitVec 32 := Scalar.subi c67_i32 arg1
  let c67_i32_0 : BitVec 32 := 67#32
  let v2 : BitVec 32 := Scalar.subi c67_i32_0 arg1
  let v3 : BitVec 32 := Scalar.select v0 v1 v2
  let c0_i32 : BitVec 32 := 0#32
  let c0_i32_1 : BitVec 32 := 0#32
  ![arg0.toNat, v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c64_i32 : BitVec 32 := 64#32
  let v1 : BitVec 32 := Scalar.addi c64_i32 arg1
  let c4_i32_0 : BitVec 32 := 4#32
  let v2 : BitVec 32 := Scalar.subi arg1 c4_i32_0
  let v3 : BitVec 32 := Scalar.select v0 v1 v2
  let c0_i32 : BitVec 32 := 0#32
  let c0_i32_1 : BitVec 32 := 0#32
  ![arg0.toNat, v3.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c67_i32 : BitVec 32 := 67#32
  let v1 : BitVec 32 := Scalar.subi c67_i32 arg1
  let c67_i32_0 : BitVec 32 := 67#32
  let v2 : BitVec 32 := Scalar.subi c67_i32_0 arg1
  let v3 : BitVec 32 := Scalar.select v0 v1 v2
  let c0_i32 : BitVec 32 := 0#32
  let c0_i32_1 : BitVec 32 := 0#32
  ![arg0.toNat, v3.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x4096x1040 : Shape := ⟨3, ![4, 4096, 1040]⟩
abbrev S4x256x1040 : Shape := ⟨3, ![4, 256, 1040]⟩
abbrev S4x4 : Shape := ⟨2, ![4, 4]⟩
abbrev S4x4352x1040 : Shape := ⟨3, ![4, 4352, 1040]⟩
abbrev S1x4x4352x1040 : Shape := ⟨4, ![1, 4, 4352, 1040]⟩
abbrev S2x4x4352x1040 : Shape := ⟨4, ![2, 4, 4352, 1040]⟩
abbrev S2x4x4352x768 : Shape := ⟨4, ![2, 4, 4352, 768]⟩
abbrev S2x4x4352x256 : Shape := ⟨4, ![2, 4, 4352, 256]⟩
abbrev S2x4x4352x4x64 : Shape := ⟨5, ![2, 4, 4352, 4, 64]⟩
abbrev S2x4x4x4352x64 : Shape := ⟨5, ![2, 4, 4, 4352, 64]⟩
abbrev S2x4x4352x16 : Shape := ⟨4, ![2, 4, 4352, 16]⟩
abbrev S2x4x4352x4x4 : Shape := ⟨5, ![2, 4, 4352, 4, 4]⟩
abbrev S1x1x1x4x4 : Shape := ⟨5, ![1, 1, 1, 4, 4]⟩
abbrev S4x2x4x4x4352 : Shape := ⟨5, ![4, 2, 4, 4, 4352]⟩
abbrev S1x1x4x4x4352 : Shape := ⟨5, ![1, 1, 4, 4, 4352]⟩
abbrev S4x4x4352 : Shape := ⟨3, ![4, 4, 4352]⟩
abbrev S1x4x4x4352 : Shape := ⟨4, ![1, 4, 4, 4352]⟩
abbrev S2x4x4x4352 : Shape := ⟨4, ![2, 4, 4, 4352]⟩
abbrev S_ : Shape := ⟨0, ![]⟩
abbrev S64x64 : Shape := ⟨2, ![64, 64]⟩
abbrev S2x4x4x64x64 : Shape := ⟨5, ![2, 4, 4, 64, 64]⟩
abbrev S2x4x4x64 : Shape := ⟨4, ![2, 4, 4, 64]⟩
abbrev S2x4x4 : Shape := ⟨3, ![2, 4, 4]⟩
abbrev S2x4x4x68x64x64 : Shape := ⟨6, ![2, 4, 4, 68, 64, 64]⟩
abbrev S68x2x4x4x64x64 : Shape := ⟨6, ![68, 2, 4, 4, 64, 64]⟩
abbrev S2x4x4x68x64 : Shape := ⟨5, ![2, 4, 4, 68, 64]⟩
abbrev S68x2x4x4x64 : Shape := ⟨5, ![68, 2, 4, 4, 64]⟩
abbrev S1x2x4x4x64x64 : Shape := ⟨6, ![1, 2, 4, 4, 64, 64]⟩
abbrev S1x2x4x4x64 : Shape := ⟨5, ![1, 2, 4, 4, 64]⟩
abbrev S2x4x4x64x1 : Shape := ⟨5, ![2, 4, 4, 64, 1]⟩
abbrev S2x4x4x1x64 : Shape := ⟨5, ![2, 4, 4, 1, 64]⟩
abbrev S2x4x4x1 : Shape := ⟨4, ![2, 4, 4, 1]⟩
abbrev S2x4x4x1x1 : Shape := ⟨5, ![2, 4, 4, 1, 1]⟩
abbrev S1x4x4096x256 : Shape := ⟨4, ![1, 4, 4096, 256]⟩
abbrev S4x4096x256 : Shape := ⟨3, ![4, 4096, 256]⟩
abbrev S1x4x256x256 : Shape := ⟨4, ![1, 4, 256, 256]⟩
abbrev S4x256x256 : Shape := ⟨3, ![4, 256, 256]⟩
abbrev S4x4352x256 : Shape := ⟨3, ![4, 4352, 256]⟩

abbrev nBuf : Space → Nat
  | .hbm => 247
  | .vmem => 0
  | .smem => 0
  | _ => 0

abbrev hbmTy0_0 (i : Nat) : BufTy := match i % 128 with
  | 0 => ⟨S4x4096x1040, .f32⟩
  | 1 => ⟨S4x256x1040, .f32⟩
  | 2 => ⟨S4x4, .f32⟩
  | 3 => ⟨S4x4352x1040, .f32⟩
  | 4 => ⟨S4x256x1040, .f32⟩
  | 5 => ⟨S4x4096x1040, .f32⟩
  | 6 => ⟨S4x4352x1040, .f32⟩
  | 7 => ⟨S1x4x4352x1040, .f32⟩
  | 8 => ⟨S1x4x4352x1040, .f32⟩
  | 9 => ⟨S2x4x4352x1040, .f32⟩
  | 10 => ⟨S2x4x4352x768, .f32⟩
  | 11 => ⟨S2x4x4352x256, .f32⟩
  | 12 => ⟨S2x4x4352x256, .f32⟩
  | 13 => ⟨S2x4x4352x256, .f32⟩
  | 14 => ⟨S2x4x4352x4x64, .f32⟩
  | 15 => ⟨S2x4x4x4352x64, .f32⟩
  | 16 => ⟨S2x4x4352x4x64, .f32⟩
  | 17 => ⟨S2x4x4x4352x64, .f32⟩
  | 18 => ⟨S2x4x4352x4x64, .f32⟩
  | 19 => ⟨S2x4x4x4352x64, .f32⟩
  | 20 => ⟨S2x4x4352x16, .f32⟩
  | 21 => ⟨S2x4x4352x4x4, .f32⟩
  | 22 => ⟨S1x1x1x4x4, .f32⟩
  | 23 => ⟨S2x4x4352x4x4, .f32⟩
  | 24 => ⟨S2x4x4352x4x4, .f32⟩
  | 25 => ⟨S4x2x4x4x4352, .f32⟩
  | 26 => ⟨S1x1x4x4x4352, .f32⟩
  | 27 => ⟨S4x4x4352, .f32⟩
  | 28 => ⟨S1x1x4x4x4352, .f32⟩
  | 29 => ⟨S4x4x4352, .f32⟩
  | 30 => ⟨S1x4x4x4352, .f32⟩
  | 31 => ⟨S1x4x4x4352, .f32⟩
  | 32 => ⟨S2x4x4x4352, .f32⟩
  | 33 => ⟨S1x1x4x4x4352, .f32⟩
  | 34 => ⟨S4x4x4352, .f32⟩
  | 35 => ⟨S1x1x4x4x4352, .f32⟩
  | 36 => ⟨S4x4x4352, .f32⟩
  | 37 => ⟨S1x4x4x4352, .f32⟩
  | 38 => ⟨S1x4x4x4352, .f32⟩
  | 39 => ⟨S2x4x4x4352, .f32⟩
  | 40 => ⟨S2x4x4x4352, .f32⟩
  | 41 => ⟨S_, .f32⟩
  | 42 => ⟨S2x4x4x4352, .f32⟩
  | 43 => ⟨S2x4x4x4352, .f32⟩
  | 44 => ⟨S2x4x4x4352, .f32⟩
  | 45 => ⟨S2x4x4x4352, .f32⟩
  | 46 => ⟨S2x4x4x4352, .i1⟩
  | 47 => ⟨S2x4x4x4352, .f32⟩
  | 48 => ⟨S2x4x4x4352, .f32⟩
  | 49 => ⟨S2x4x4x4352, .f32⟩
  | 50 => ⟨S2x4x4x4352, .f32⟩
  | 51 => ⟨S2x4x4x4352, .f32⟩
  | 52 => ⟨S2x4x4x4352, .f32⟩
  | 53 => ⟨S2x4x4x4352, .f32⟩
  | 54 => ⟨S2x4x4x4352, .f32⟩
  | 55 => ⟨S2x4x4x4352, .f32⟩
  | 56 => ⟨S_, .i1⟩
  | 57 => ⟨S64x64, .i1⟩
  | 58 => ⟨S64x64, .i32⟩
  | 59 => ⟨S_, .i32⟩
  | 60 => ⟨S64x64, .i32⟩
  | 61 => ⟨S64x64, .i32⟩
  | 62 => ⟨S64x64, .i32⟩
  | 63 => ⟨S64x64, .i1⟩
  | 64 => ⟨S_, .i1⟩
  | 65 => ⟨S64x64, .i1⟩
  | 66 => ⟨S64x64, .i1⟩
  | 67 => ⟨S_, .f32⟩
  | 68 => ⟨S2x4x4x4352x64, .f32⟩
  | 69 => ⟨S2x4x4x4352x64, .f32⟩
  | 70 => ⟨S_, .f32⟩
  | 71 => ⟨S2x4x4x64x64, .f32⟩
  | 72 => ⟨S_, .f32⟩
  | 73 => ⟨S2x4x4x64, .f32⟩
  | 74 => ⟨S_, .f32⟩
  | 75 => ⟨S2x4x4, .f32⟩
  | 76 => ⟨S2x4x4x68x64x64, .f32⟩
  | 77 => ⟨S68x2x4x4x64x64, .f32⟩
  | 78 => ⟨S2x4x4x68x64x64, .f32⟩
  | 79 => ⟨S68x2x4x4x64x64, .f32⟩
  | 80 => ⟨S2x4x4x68x64x64, .f32⟩
  | 81 => ⟨S68x2x4x4x64x64, .f32⟩
  | 82 => ⟨S2x4x4x68x64, .f32⟩
  | 83 => ⟨S68x2x4x4x64, .f32⟩
  | 84 => ⟨S2x4x4x68x64, .f32⟩
  | 85 => ⟨S68x2x4x4x64, .f32⟩
  | 86 => ⟨S_, .f32⟩
  | 87 => ⟨S68x2x4x4x64x64, .f32⟩
  | 88 => ⟨S_, .i32⟩
  | 89 => ⟨S68x2x4x4x64x64, .f32⟩
  | 90 => ⟨S68x2x4x4x64x64, .f32⟩
  | 91 => ⟨S68x2x4x4x64x64, .f32⟩
  | 92 => ⟨S68x2x4x4x64, .f32⟩
  | 93 => ⟨S68x2x4x4x64, .f32⟩
  | 94 => ⟨S64x64, .i1⟩
  | 95 => ⟨S_, .i32⟩
  | 96 => ⟨S2x4x4x64x64, .f32⟩
  | 97 => ⟨S2x4x4x64, .f32⟩
  | 98 => ⟨S2x4x4, .f32⟩
  | 99 => ⟨S68x2x4x4x64x64, .f32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S1x2x4x4x64x64, .f32⟩
  | 108 => ⟨S2x4x4x64x64, .f32⟩
  | 109 => ⟨S_, .i32⟩
  | 110 => ⟨S_, .i32⟩
  | 111 => ⟨S_, .i32⟩
  | 112 => ⟨S_, .i32⟩
  | 113 => ⟨S_, .i32⟩
  | 114 => ⟨S1x2x4x4x64x64, .f32⟩
  | 115 => ⟨S2x4x4x64x64, .f32⟩
  | 116 => ⟨S_, .i32⟩
  | 117 => ⟨S_, .i32⟩
  | 118 => ⟨S_, .i32⟩
  | 119 => ⟨S_, .i32⟩
  | 120 => ⟨S_, .i32⟩
  | 121 => ⟨S1x2x4x4x64x64, .f32⟩
  | 122 => ⟨S2x4x4x64x64, .f32⟩
  | 123 => ⟨S_, .i32⟩
  | 124 => ⟨S_, .i32⟩
  | 125 => ⟨S_, .i32⟩
  | 126 => ⟨S_, .i32⟩
  | 127 => ⟨S1x2x4x4x64, .f32⟩
  | _ => ⟨S4x4096x1040, .f32⟩

abbrev hbmTy0_1 (i : Nat) : BufTy := match i % 128 with
  | 0 => ⟨S2x4x4x64, .f32⟩
  | 1 => ⟨S_, .i32⟩
  | 2 => ⟨S_, .i32⟩
  | 3 => ⟨S_, .i32⟩
  | 4 => ⟨S_, .i32⟩
  | 5 => ⟨S1x2x4x4x64, .f32⟩
  | 6 => ⟨S2x4x4x64, .f32⟩
  | 7 => ⟨S_, .f32⟩
  | 8 => ⟨S_, .f32⟩
  | 9 => ⟨S2x4x4x64, .f32⟩
  | 10 => ⟨S2x4x4x64x1, .f32⟩
  | 11 => ⟨S2x4x4x1x64, .f32⟩
  | 12 => ⟨S2x4x4x64x64, .f32⟩
  | 13 => ⟨S2x4x4x64x64, .f32⟩
  | 14 => ⟨S2x4x4x64x64, .f32⟩
  | 15 => ⟨S2x4x4x1x64, .f32⟩
  | 16 => ⟨S2x4x4x64x64, .f32⟩
  | 17 => ⟨S2x4x4x64x64, .f32⟩
  | 18 => ⟨S_, .f32⟩
  | 19 => ⟨S_, .f32⟩
  | 20 => ⟨S2x4x4x64x64, .i1⟩
  | 21 => ⟨S2x4x4x64x64, .f32⟩
  | 22 => ⟨S2x4x4x64x64, .f32⟩
  | 23 => ⟨S2x4x4x1, .f32⟩
  | 24 => ⟨S2x4x4x64, .f32⟩
  | 25 => ⟨S2x4x4x64, .f32⟩
  | 26 => ⟨S_, .f32⟩
  | 27 => ⟨S2x4x4x64, .f32⟩
  | 28 => ⟨S2x4x4x64, .f32⟩
  | 29 => ⟨S2x4x4x64x1, .f32⟩
  | 30 => ⟨S2x4x4x64x64, .f32⟩
  | 31 => ⟨S2x4x4x64x64, .f32⟩
  | 32 => ⟨S2x4x4x64x64, .f32⟩
  | 33 => ⟨S2x4x4x64x64, .f32⟩
  | 34 => ⟨S2x4x4x64x64, .f32⟩
  | 35 => ⟨S2x4x4x64, .f32⟩
  | 36 => ⟨S2x4x4x64, .f32⟩
  | 37 => ⟨S2x4x4x64x64, .f32⟩
  | 38 => ⟨S2x4x4x64x1, .f32⟩
  | 39 => ⟨S2x4x4x64x64, .f32⟩
  | 40 => ⟨S2x4x4x64x64, .f32⟩
  | 41 => ⟨S2x4x4x64x64, .f32⟩
  | 42 => ⟨S2x4x4x64x64, .f32⟩
  | 43 => ⟨S_, .f32⟩
  | 44 => ⟨S2x4x4x64, .f32⟩
  | 45 => ⟨S2x4x4x64, .f32⟩
  | 46 => ⟨S2x4x4x64, .f32⟩
  | 47 => ⟨S2x4x4x64, .f32⟩
  | 48 => ⟨S2x4x4x64, .f32⟩
  | 49 => ⟨S2x4x4x64, .f32⟩
  | 50 => ⟨S2x4x4x64, .f32⟩
  | 51 => ⟨S2x4x4x64, .f32⟩
  | 52 => ⟨S2x4x4x64x1, .f32⟩
  | 53 => ⟨S2x4x4x64x64, .f32⟩
  | 54 => ⟨S2x4x4x64x64, .f32⟩
  | 55 => ⟨S2x4x4x1, .f32⟩
  | 56 => ⟨S2x4x4, .f32⟩
  | 57 => ⟨S2x4x4x1, .f32⟩
  | 58 => ⟨S2x4x4x64, .f32⟩
  | 59 => ⟨S2x4x4x64, .f32⟩
  | 60 => ⟨S2x4x4x64, .f32⟩
  | 61 => ⟨S_, .f32⟩
  | 62 => ⟨S2x4x4, .f32⟩
  | 63 => ⟨S2x4x4x1, .f32⟩
  | 64 => ⟨S2x4x4x64, .f32⟩
  | 65 => ⟨S2x4x4x64, .f32⟩
  | 66 => ⟨S2x4x4x64, .f32⟩
  | 67 => ⟨S2x4x4x64x1, .f32⟩
  | 68 => ⟨S2x4x4x64x64, .f32⟩
  | 69 => ⟨S2x4x4x64x64, .f32⟩
  | 70 => ⟨S2x4x4, .f32⟩
  | 71 => ⟨S2x4x4, .f32⟩
  | 72 => ⟨S2x4x4, .f32⟩
  | 73 => ⟨S2x4x4, .f32⟩
  | 74 => ⟨S2x4x4, .f32⟩
  | 75 => ⟨S2x4x4, .f32⟩
  | 76 => ⟨S2x4x4, .f32⟩
  | 77 => ⟨S2x4x4x1x1, .f32⟩
  | 78 => ⟨S2x4x4x64x64, .f32⟩
  | 79 => ⟨S2x4x4x64x64, .f32⟩
  | 80 => ⟨S2x4x4x1x1, .f32⟩
  | 81 => ⟨S2x4x4x64x64, .f32⟩
  | 82 => ⟨S2x4x4x64x64, .f32⟩
  | 83 => ⟨S2x4x4x64x64, .f32⟩
  | 84 => ⟨S2x4x4x64x64, .f32⟩
  | 85 => ⟨S2x4x4x1, .f32⟩
  | 86 => ⟨S2x4x4x64, .f32⟩
  | 87 => ⟨S2x4x4x64, .f32⟩
  | 88 => ⟨S2x4x4x1, .f32⟩
  | 89 => ⟨S_, .f32⟩
  | 90 => ⟨S2x4x4x64, .f32⟩
  | 91 => ⟨S2x4x4x64, .f32⟩
  | 92 => ⟨S2x4x4x64, .f32⟩
  | 93 => ⟨S2x4x4x64, .f32⟩
  | 94 => ⟨S1x2x4x4x64x64, .f32⟩
  | 95 => ⟨S_, .i32⟩
  | 96 => ⟨S_, .i32⟩
  | 97 => ⟨S_, .i32⟩
  | 98 => ⟨S_, .i32⟩
  | 99 => ⟨S_, .i32⟩
  | 100 => ⟨S68x2x4x4x64x64, .f32⟩
  | 101 => ⟨S_, .i32⟩
  | 102 => ⟨S_, .i32⟩
  | 103 => ⟨S2x4x4x68x64x64, .f32⟩
  | 104 => ⟨S2x4x4x4352x64, .f32⟩
  | 105 => ⟨S2x4x4352x4x64, .f32⟩
  | 106 => ⟨S2x4x4352x256, .f32⟩
  | 107 => ⟨S1x4x4096x256, .f32⟩
  | 108 => ⟨S4x4096x256, .f32⟩
  | 109 => ⟨S1x4x256x256, .f32⟩
  | 110 => ⟨S4x256x256, .f32⟩
  | 111 => ⟨S4x4352x256, .f32⟩
  | 112 => ⟨S1x4x4096x256, .f32⟩
  | 113 => ⟨S4x4096x256, .f32⟩
  | 114 => ⟨S4x4096x256, .f32⟩
  | 115 => ⟨S1x4x256x256, .f32⟩
  | 116 => ⟨S4x256x256, .f32⟩
  | 117 => ⟨S4x256x256, .f32⟩
  | 118 => ⟨S4x4352x256, .f32⟩
  | _ => ⟨S4x4096x1040, .f32⟩

abbrev hbmTy (i : Nat) : BufTy := match i / 128 with
  | 0 => hbmTy0_0 i
  | 1 => hbmTy0_1 i
  | _ => ⟨S4x4096x1040, .f32⟩

abbrev bufTy : (tb : Table) → Fin (tcTables nBuf tb) → BufTy
  | .hbm, ⟨i, _⟩ => hbmTy i
  | _, _ => ⟨S4x4096x1040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_call2_v0 : Ref sig .tc := ⟨.hbm, 40, rfl⟩
abbrev main_call2_call0_cst : Ref sig .tc := ⟨.hbm, 41, rfl⟩
abbrev main_call2_call0_v0 : Ref sig .tc := ⟨.hbm, 42, rfl⟩
abbrev main_call2_call0_v1 : Ref sig .tc := ⟨.hbm, 43, rfl⟩
abbrev main_call2_call0_v2 : Ref sig .tc := ⟨.hbm, 44, rfl⟩
abbrev main_call2_call0_v3 : Ref sig .tc := ⟨.hbm, 45, rfl⟩
abbrev main_call2_call0_v4 : Ref sig .tc := ⟨.hbm, 46, rfl⟩
abbrev main_call2_call0_v5 : Ref sig .tc := ⟨.hbm, 47, rfl⟩
abbrev main_call2_call0_v6 : Ref sig .tc := ⟨.hbm, 48, rfl⟩
abbrev main_call2_call0_v7 : Ref sig .tc := ⟨.hbm, 49, rfl⟩
abbrev main_call2_call0_v8 : Ref sig .tc := ⟨.hbm, 50, rfl⟩
abbrev main_call2_call0_v9 : Ref sig .tc := ⟨.hbm, 51, rfl⟩
abbrev main_call2_call0_v10 : Ref sig .tc := ⟨.hbm, 52, rfl⟩
abbrev main_call2_call0_v11 : Ref sig .tc := ⟨.hbm, 53, rfl⟩
abbrev main_call2_v1 : Ref sig .tc := ⟨.hbm, 54, rfl⟩
abbrev main_v37 : Ref sig .tc := ⟨.hbm, 55, rfl⟩
abbrev main_c : Ref sig .tc := ⟨.hbm, 56, rfl⟩
abbrev main_v38 : Ref sig .tc := ⟨.hbm, 57, rfl⟩
abbrev main_call3_v0 : Ref sig .tc := ⟨.hbm, 58, rfl⟩
abbrev main_call3_c : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_c_0 : Ref sig .tc := ⟨.hbm, 64, rfl⟩
abbrev main_call3_v5 : Ref sig .tc := ⟨.hbm, 65, rfl⟩
abbrev main_v39 : Ref sig .tc := ⟨.hbm, 66, rfl⟩
abbrev main_cst : Ref sig .tc := ⟨.hbm, 67, rfl⟩
abbrev main_v40 : Ref sig .tc := ⟨.hbm, 68, rfl⟩
abbrev main_v41 : Ref sig .tc := ⟨.hbm, 69, rfl⟩
abbrev main_cst_0 : Ref sig .tc := ⟨.hbm, 70, rfl⟩
abbrev main_v42 : Ref sig .tc := ⟨.hbm, 71, rfl⟩
abbrev main_cst_1 : Ref sig .tc := ⟨.hbm, 72, rfl⟩
abbrev main_v43 : Ref sig .tc := ⟨.hbm, 73, rfl⟩
abbrev main_cst_2 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_3 : Ref sig .tc := ⟨.hbm, 86, rfl⟩
abbrev main_v55 : Ref sig .tc := ⟨.hbm, 87, rfl⟩
abbrev main_c_4 : Ref sig .tc := ⟨.hbm, 88, rfl⟩
abbrev main_v56_0 : Ref sig .tc := ⟨.hbm, 89, rfl⟩
abbrev main_v56_1 : Ref sig .tc := ⟨.hbm, 90, rfl⟩
abbrev main_v56_2 : Ref sig .tc := ⟨.hbm, 91, rfl⟩
abbrev main_v56_3 : Ref sig .tc := ⟨.hbm, 92, rfl⟩
abbrev main_v56_4 : Ref sig .tc := ⟨.hbm, 93, rfl⟩
abbrev main_v56_5 : Ref sig .tc := ⟨.hbm, 94, rfl⟩
abbrev main_v56_6 : Ref sig .tc := ⟨.hbm, 95, rfl⟩
abbrev main_v56_7 : Ref sig .tc := ⟨.hbm, 96, rfl⟩
abbrev main_v56_8 : Ref sig .tc := ⟨.hbm, 97, rfl⟩
abbrev main_v56_9 : Ref sig .tc := ⟨.hbm, 98, rfl⟩
abbrev main_v56_10 : Ref sig .tc := ⟨.hbm, 99, rfl⟩
abbrev main_while0c_c_15 : Ref sig .tc := ⟨.hbm, 100, rfl⟩
abbrev main_while0c_v73 : Ref sig .tc := ⟨.hbm, 101, rfl⟩
abbrev main_while0b_call4_c : Ref sig .tc := ⟨.hbm, 102, rfl⟩
abbrev main_while0b_call4_c_0 : Ref sig .tc := ⟨.hbm, 103, rfl⟩
abbrev main_while0b_call4_c_1 : Ref sig .tc := ⟨.hbm, 104, rfl⟩
abbrev main_while0b_call4_c_2 : Ref sig .tc := ⟨.hbm, 105, rfl⟩
abbrev main_while0b_call4_c_3 : Ref sig .tc := ⟨.hbm, 106, rfl⟩
abbrev main_while0b_call4_v0 : Ref sig .tc := ⟨.hbm, 107, rfl⟩
abbrev main_while0b_v73 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_c_2 : Ref sig .tc := ⟨.hbm, 112, rfl⟩
abbrev main_while0b_call5_c_3 : Ref sig .tc := ⟨.hbm, 113, rfl⟩
abbrev main_while0b_call5_v0 : Ref sig .tc := ⟨.hbm, 114, rfl⟩
abbrev main_while0b_v74 : Ref sig .tc := ⟨.hbm, 115, rfl⟩
abbrev main_while0b_call6_c : Ref sig .tc := ⟨.hbm, 116, rfl⟩
abbrev main_while0b_call6_c_0 : Ref sig .tc := ⟨.hbm, 117, rfl⟩
abbrev main_while0b_call6_c_1 : Ref sig .tc := ⟨.hbm, 118, rfl⟩
abbrev main_while0b_call6_c_2 : Ref sig .tc := ⟨.hbm, 119, rfl⟩
abbrev main_while0b_call6_c_3 : Ref sig .tc := ⟨.hbm, 120, rfl⟩
abbrev main_while0b_call6_v0 : Ref sig .tc := ⟨.hbm, 121, rfl⟩
abbrev main_while0b_v75 : Ref sig .tc := ⟨.hbm, 122, rfl⟩
abbrev main_while0b_call7_c : Ref sig .tc := ⟨.hbm, 123, rfl⟩
abbrev main_while0b_call7_c_0 : Ref sig .tc := ⟨.hbm, 124, rfl⟩
abbrev main_while0b_call7_c_1 : Ref sig .tc := ⟨.hbm, 125, rfl⟩
abbrev main_while0b_call7_c_2 : Ref sig .tc := ⟨.hbm, 126, rfl⟩
abbrev main_while0b_call7_v0 : Ref sig .tc := ⟨.hbm, 127, rfl⟩
abbrev main_while0b_v76 : Ref sig .tc := ⟨.hbm, 128, rfl⟩
abbrev main_while0b_call8_c : Ref sig .tc := ⟨.hbm, 129, rfl⟩
abbrev main_while0b_call8_c_0 : Ref sig .tc := ⟨.hbm, 130, rfl⟩
abbrev main_while0b_call8_c_1 : Ref sig .tc := ⟨.hbm, 131, rfl⟩
abbrev main_while0b_call8_c_2 : Ref sig .tc := ⟨.hbm, 132, rfl⟩
abbrev main_while0b_call8_v0 : Ref sig .tc := ⟨.hbm, 133, rfl⟩
abbrev main_while0b_v77 : Ref sig .tc := ⟨.hbm, 134, rfl⟩
abbrev main_while0b_call9_call0_cst : Ref sig .tc := ⟨.hbm, 135, rfl⟩
abbrev main_while0b_call9_call0_v0 : Ref sig .tc := ⟨.hbm, 136, rfl⟩
abbrev main_while0b_v78 : Ref sig .tc := ⟨.hbm, 137, rfl⟩
abbrev main_while0b_v79 : Ref sig .tc := ⟨.hbm, 138, rfl⟩
abbrev main_while0b_v80 : Ref sig .tc := ⟨.hbm, 139, rfl⟩
abbrev main_while0b_v81 : Ref sig .tc := ⟨.hbm, 140, rfl⟩
abbrev main_while0b_v82 : Ref sig .tc := ⟨.hbm, 141, rfl⟩
abbrev main_while0b_v83 : Ref sig .tc := ⟨.hbm, 142, rfl⟩
abbrev main_while0b_v84 : Ref sig .tc := ⟨.hbm, 143, rfl⟩
abbrev main_while0b_v85 : Ref sig .tc := ⟨.hbm, 144, rfl⟩
abbrev main_while0b_v86 : Ref sig .tc := ⟨.hbm, 145, rfl⟩
abbrev main_while0b_cst_15 : Ref sig .tc := ⟨.hbm, 146, rfl⟩
abbrev main_while0b_call10_v0 : Ref sig .tc := ⟨.hbm, 147, rfl⟩
abbrev main_while0b_call10_v1 : Ref sig .tc := ⟨.hbm, 148, rfl⟩
abbrev main_while0b_call10_v2 : Ref sig .tc := ⟨.hbm, 149, rfl⟩
abbrev main_while0b_v87 : Ref sig .tc := ⟨.hbm, 150, rfl⟩
abbrev main_while0b_v88 : Ref sig .tc := ⟨.hbm, 151, rfl⟩
abbrev main_while0b_v89 : Ref sig .tc := ⟨.hbm, 152, rfl⟩
abbrev main_while0b_v90 : Ref sig .tc := ⟨.hbm, 153, rfl⟩
abbrev main_while0b_cst_16 : Ref sig .tc := ⟨.hbm, 154, rfl⟩
abbrev main_while0b_v91 : Ref sig .tc := ⟨.hbm, 155, rfl⟩
abbrev main_while0b_v92 : Ref sig .tc := ⟨.hbm, 156, rfl⟩
abbrev main_while0b_v93 : Ref sig .tc := ⟨.hbm, 157, rfl⟩
abbrev main_while0b_v94 : Ref sig .tc := ⟨.hbm, 158, rfl⟩
abbrev main_while0b_v95 : Ref sig .tc := ⟨.hbm, 159, rfl⟩
abbrev main_while0b_v96 : Ref sig .tc := ⟨.hbm, 160, rfl⟩
abbrev main_while0b_v97 : Ref sig .tc := ⟨.hbm, 161, rfl⟩
abbrev main_while0b_v98 : Ref sig .tc := ⟨.hbm, 162, rfl⟩
abbrev main_while0b_v99 : Ref sig .tc := ⟨.hbm, 163, rfl⟩
abbrev main_while0b_v100 : Ref sig .tc := ⟨.hbm, 164, rfl⟩
abbrev main_while0b_v101 : Ref sig .tc := ⟨.hbm, 165, rfl⟩
abbrev main_while0b_v102 : Ref sig .tc := ⟨.hbm, 166, rfl⟩
abbrev main_while0b_v103 : Ref sig .tc := ⟨.hbm, 167, rfl⟩
abbrev main_while0b_v104 : Ref sig .tc := ⟨.hbm, 168, rfl⟩
abbrev main_while0b_v105 : Ref sig .tc := ⟨.hbm, 169, rfl⟩
abbrev main_while0b_v106 : Ref sig .tc := ⟨.hbm, 170, rfl⟩
abbrev main_while0b_cst_17 : Ref sig .tc := ⟨.hbm, 171, rfl⟩
abbrev main_while0b_v107 : Ref sig .tc := ⟨.hbm, 172, rfl⟩
abbrev main_while0b_v108 : Ref sig .tc := ⟨.hbm, 173, rfl⟩
abbrev main_while0b_v109 : Ref sig .tc := ⟨.hbm, 174, rfl⟩
abbrev main_while0b_v110 : Ref sig .tc := ⟨.hbm, 175, rfl⟩
abbrev main_while0b_v111 : Ref sig .tc := ⟨.hbm, 176, rfl⟩
abbrev main_while0b_v112 : Ref sig .tc := ⟨.hbm, 177, rfl⟩
abbrev main_while0b_v113 : Ref sig .tc := ⟨.hbm, 178, rfl⟩
abbrev main_while0b_v114 : Ref sig .tc := ⟨.hbm, 179, rfl⟩
abbrev main_while0b_v115 : Ref sig .tc := ⟨.hbm, 180, rfl⟩
abbrev main_while0b_v116 : Ref sig .tc := ⟨.hbm, 181, rfl⟩
abbrev main_while0b_v117 : Ref sig .tc := ⟨.hbm, 182, rfl⟩
abbrev main_while0b_v118 : Ref sig .tc := ⟨.hbm, 183, rfl⟩
abbrev main_while0b_v119 : Ref sig .tc := ⟨.hbm, 184, rfl⟩
abbrev main_while0b_v120 : Ref sig .tc := ⟨.hbm, 185, rfl⟩
abbrev main_while0b_v121 : Ref sig .tc := ⟨.hbm, 186, rfl⟩
abbrev main_while0b_v122 : Ref sig .tc := ⟨.hbm, 187, rfl⟩
abbrev main_while0b_v123 : Ref sig .tc := ⟨.hbm, 188, rfl⟩
abbrev main_while0b_cst_18 : Ref sig .tc := ⟨.hbm, 189, rfl⟩
abbrev main_while0b_v124 : Ref sig .tc := ⟨.hbm, 190, rfl⟩
abbrev main_while0b_v125 : Ref sig .tc := ⟨.hbm, 191, rfl⟩
abbrev main_while0b_v126 : Ref sig .tc := ⟨.hbm, 192, rfl⟩
abbrev main_while0b_v127 : Ref sig .tc := ⟨.hbm, 193, rfl⟩
abbrev main_while0b_v128 : Ref sig .tc := ⟨.hbm, 194, rfl⟩
abbrev main_while0b_v129 : Ref sig .tc := ⟨.hbm, 195, rfl⟩
abbrev main_while0b_v130 : Ref sig .tc := ⟨.hbm, 196, rfl⟩
abbrev main_while0b_v131 : Ref sig .tc := ⟨.hbm, 197, rfl⟩
abbrev main_while0b_v132 : Ref sig .tc := ⟨.hbm, 198, rfl⟩
abbrev main_while0b_v133 : Ref sig .tc := ⟨.hbm, 199, rfl⟩
abbrev main_while0b_v134 : Ref sig .tc := ⟨.hbm, 200, rfl⟩
abbrev main_while0b_v135 : Ref sig .tc := ⟨.hbm, 201, rfl⟩
abbrev main_while0b_v136 : Ref sig .tc := ⟨.hbm, 202, rfl⟩
abbrev main_while0b_v137 : Ref sig .tc := ⟨.hbm, 203, rfl⟩
abbrev main_while0b_v138 : Ref sig .tc := ⟨.hbm, 204, rfl⟩
abbrev main_while0b_v139 : Ref sig .tc := ⟨.hbm, 205, rfl⟩
abbrev main_while0b_v140 : Ref sig .tc := ⟨.hbm, 206, rfl⟩
abbrev main_while0b_v141 : Ref sig .tc := ⟨.hbm, 207, rfl⟩
abbrev main_while0b_v142 : Ref sig .tc := ⟨.hbm, 208, rfl⟩
abbrev main_while0b_v143 : Ref sig .tc := ⟨.hbm, 209, rfl⟩
abbrev main_while0b_v144 : Ref sig .tc := ⟨.hbm, 210, rfl⟩
abbrev main_while0b_v145 : Ref sig .tc := ⟨.hbm, 211, rfl⟩
abbrev main_while0b_v146 : Ref sig .tc := ⟨.hbm, 212, rfl⟩
abbrev main_while0b_v147 : Ref sig .tc := ⟨.hbm, 213, rfl⟩
abbrev main_while0b_v148 : Ref sig .tc := ⟨.hbm, 214, rfl⟩
abbrev main_while0b_v149 : Ref sig .tc := ⟨.hbm, 215, rfl⟩
abbrev main_while0b_v150 : Ref sig .tc := ⟨.hbm, 216, rfl⟩
abbrev main_while0b_cst_19 : Ref sig .tc := ⟨.hbm, 217, rfl⟩
abbrev main_while0b_v151 : Ref sig .tc := ⟨.hbm, 218, rfl⟩
abbrev main_while0b_v152 : Ref sig .tc := ⟨.hbm, 219, rfl⟩
abbrev main_while0b_v153 : Ref sig .tc := ⟨.hbm, 220, rfl⟩
abbrev main_while0b_v154 : Ref sig .tc := ⟨.hbm, 221, rfl⟩
abbrev main_while0b_call11_v0 : Ref sig .tc := ⟨.hbm, 222, rfl⟩
abbrev main_while0b_call11_c : Ref sig .tc := ⟨.hbm, 223, rfl⟩
abbrev main_while0b_call11_c_0 : Ref sig .tc := ⟨.hbm, 224, rfl⟩
abbrev main_while0b_call11_c_1 : Ref sig .tc := ⟨.hbm, 225, rfl⟩
abbrev main_while0b_call11_c_2 : Ref sig .tc := ⟨.hbm, 226, rfl⟩
abbrev main_while0b_call11_c_3 : Ref sig .tc := ⟨.hbm, 227, rfl⟩
abbrev main_while0b_v155 : Ref sig .tc := ⟨.hbm, 228, rfl⟩
abbrev main_while0b_c_20 : Ref sig .tc := ⟨.hbm, 229, rfl⟩
abbrev main_while0b_v156 : Ref sig .tc := ⟨.hbm, 230, rfl⟩
abbrev main_v57 : Ref sig .tc := ⟨.hbm, 231, rfl⟩
abbrev main_v58 : Ref sig .tc := ⟨.hbm, 232, rfl⟩
abbrev main_v59 : Ref sig .tc := ⟨.hbm, 233, rfl⟩
abbrev main_v60 : Ref sig .tc := ⟨.hbm, 234, rfl⟩
abbrev main_v61 : Ref sig .tc := ⟨.hbm, 235, rfl⟩
abbrev main_v62 : Ref sig .tc := ⟨.hbm, 236, rfl⟩
abbrev main_v63 : Ref sig .tc := ⟨.hbm, 237, rfl⟩
abbrev main_v64 : Ref sig .tc := ⟨.hbm, 238, rfl⟩
abbrev main_v65 : Ref sig .tc := ⟨.hbm, 239, rfl⟩
abbrev main_v66 : Ref sig .tc := ⟨.hbm, 240, rfl⟩
abbrev main_v67 : Ref sig .tc := ⟨.hbm, 241, rfl⟩
abbrev main_v68 : Ref sig .tc := ⟨.hbm, 242, rfl⟩
abbrev main_v69 : Ref sig .tc := ⟨.hbm, 243, rfl⟩
abbrev main_v70 : Ref sig .tc := ⟨.hbm, 244, rfl⟩
abbrev main_v71 : Ref sig .tc := ⟨.hbm, 245, rfl⟩
abbrev main_v72 : Ref sig .tc := ⟨.hbm, 246, rfl⟩

abbrev nD : Nat := 1
abbrev τ : Topo := Topo.v7x

variable {F : FTy → Type} [FloatOps F]

abbrev main_while0_count : Scf.Loop 32 := ⟨0#32, 68#32, 1#32⟩
-- ==== Kernel2.lean ====
abbrev S4x4352x1024 : Shape := ⟨3, ![4, 4352, 1024]⟩
abbrev S1024 : Shape := ⟨1, ![1024]⟩
abbrev S5x1x1024 : Shape := ⟨3, ![5, 1, 1024]⟩
abbrev S1024x4128 : Shape := ⟨2, ![1024, 4128]⟩
abbrev S1024x1280 : Shape := ⟨2, ![1024, 1280]⟩
abbrev S1024x1024 : Shape := ⟨2, ![1024, 1024]⟩
abbrev S1024x768 : Shape := ⟨2, ![1024, 768]⟩
abbrev S1024x16 : Shape := ⟨2, ![1024, 16]⟩
abbrev S_ : Shape := ⟨0, ![]⟩
abbrev S1024x96 : Shape := ⟨2, ![1024, 96]⟩
abbrev S1024x4224 : Shape := ⟨2, ![1024, 4224]⟩
abbrev S1x1024 : Shape := ⟨2, ![1, 1024]⟩
abbrev S4x4352x1280 : Shape := ⟨3, ![4, 4352, 1280]⟩
abbrev S4x4352x768 : Shape := ⟨3, ![4, 4352, 768]⟩
abbrev S4x4352x128 : Shape := ⟨3, ![4, 4352, 128]⟩
abbrev S1x256x1024 : Shape := ⟨3, ![1, 256, 1024]⟩
abbrev S1x1x1024 : Shape := ⟨3, ![1, 1, 1024]⟩
abbrev S1x256x1280 : Shape := ⟨3, ![1, 256, 1280]⟩
abbrev S1x256x768 : Shape := ⟨3, ![1, 256, 768]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S256x1280 : Shape := ⟨2, ![256, 1280]⟩
abbrev S256x768 : Shape := ⟨2, ![256, 768]⟩
abbrev S1024x128 : Shape := ⟨2, ![1024, 128]⟩
abbrev S256x128 : Shape := ⟨2, ![256, 128]⟩

abbrev nBuf : Space → Nat
  | .hbm => 21
  | .vmem => 18
  | .smem => 0
  | _ => 0

abbrev bufTy : (tb : Table) → Fin (tcTables nBuf tb) → BufTy
  | .hbm, ⟨0, _⟩ => ⟨S4x4352x1024, .f32⟩
  | .hbm, ⟨1, _⟩ => ⟨S1024, .f32⟩
  | .hbm, ⟨2, _⟩ => ⟨S5x1x1024, .f32⟩
  | .hbm, ⟨3, _⟩ => ⟨S5x1x1024, .f32⟩
  | .hbm, ⟨4, _⟩ => ⟨S1024x4128, .f32⟩
  | .hbm, ⟨5, _⟩ => ⟨S1024x1280, .f32⟩
  | .hbm, ⟨6, _⟩ => ⟨S1024x1024, .f32⟩
  | .hbm, ⟨7, _⟩ => ⟨S1024x768, .f32⟩
  | .hbm, ⟨8, _⟩ => ⟨S1024x1024, .f32⟩
  | .hbm, ⟨9, _⟩ => ⟨S1024x16, .f32⟩
  | .hbm, ⟨10, _⟩ => ⟨S1024x16, .f32⟩
  | .hbm, ⟨11, _⟩ => ⟨S_, .f32⟩
  | .hbm, ⟨12, _⟩ => ⟨S1024x96, .f32⟩
  | .hbm, ⟨13, _⟩ => ⟨S1024x4224, .f32⟩
  | .hbm, ⟨14, _⟩ => ⟨S1024x4224, .bf16⟩
  | .hbm, ⟨15, _⟩ => ⟨S1x1024, .f32⟩
  | .hbm, ⟨16, _⟩ => ⟨S4x4352x1280, .f32⟩
  | .hbm, ⟨17, _⟩ => ⟨S4x4352x1024, .f32⟩
  | .hbm, ⟨18, _⟩ => ⟨S4x4352x768, .f32⟩
  | .hbm, ⟨19, _⟩ => ⟨S4x4352x1024, .f32⟩
  | .hbm, ⟨20, _⟩ => ⟨S4x4352x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4224, .bf16⟩
  | .local _ .vmem, ⟨8, _⟩ => ⟨S1x256x1280, .f32⟩
  | .local _ .vmem, ⟨9, _⟩ => ⟨S1x256x1280, .f32⟩
  | .local _ .vmem, ⟨10, _⟩ => ⟨S1x256x1024, .f32⟩
  | .local _ .vmem, ⟨11, _⟩ => ⟨S1x256x1024, .f32⟩
  | .local _ .vmem, ⟨12, _⟩ => ⟨S1x256x768, .f32⟩
  | .local _ .vmem, ⟨13, _⟩ => ⟨S1x256x768, .f32⟩
  | .local _ .vmem, ⟨14, _⟩ => ⟨S1x256x1024, .f32⟩
  | .local _ .vmem, ⟨15, _⟩ => ⟨S1x256x1024, .f32⟩
  | .local _ .vmem, ⟨16, _⟩ => ⟨S1x256x128, .f32⟩
  | .local _ .vmem, ⟨17, _⟩ => ⟨S1x256x128, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c4_i32 : BitVec 32 := 4#32
  let v1 : BitVec 32 := Scalar.select v0 c4_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c4_i32 : BitVec 32 := 4#32
  let v1 : BitVec 32 := Scalar.select v0 c4_i32 arg0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x4352x1024 : Shape := ⟨3, ![4, 4352, 1024]⟩
abbrev S1024 : Shape := ⟨1, ![1024]⟩
abbrev S5x1x1024 : Shape := ⟨3, ![5, 1, 1024]⟩
abbrev S1024x4128 : Shape := ⟨2, ![1024, 4128]⟩
abbrev S4x4096x1024 : Shape := ⟨3, ![4, 4096, 1024]⟩
abbrev S4x256x1024 : Shape := ⟨3, ![4, 256, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x256 : Shape := ⟨2, ![4, 256]⟩
abbrev S4x256x1 : Shape := ⟨3, ![4, 256, 1]⟩
abbrev S1x1024 : Shape := ⟨2, ![1, 1024]⟩
abbrev S4x4352x4128 : Shape := ⟨3, ![4, 4352, 4128]⟩
abbrev S4x4352x1280 : Shape := ⟨3, ![4, 4352, 1280]⟩
abbrev S4x4352x1040 : Shape := ⟨3, ![4, 4352, 1040]⟩
abbrev S4x4352x768 : Shape := ⟨3, ![4, 4352, 768]⟩
abbrev S4x4352x16 : Shape := ⟨3, ![4, 4352, 16]⟩
abbrev S4x4352x32 : Shape := ⟨3, ![4, 4352, 32]⟩
abbrev S4x4352x128 : Shape := ⟨3, ![4, 4352, 128]⟩

abbrev nBuf : Space → Nat
  | .hbm => 75
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S1024, .f32⟩
  | .hbm, ⟨2, _⟩ => ⟨S5x1x1024, .f32⟩
  | .hbm, ⟨3, _⟩ => ⟨S5x1x1024, .f32⟩
  | .hbm, ⟨4, _⟩ => ⟨S1024x4128, .f32⟩
  | .hbm, ⟨5, _⟩ => ⟨S4x4096x1024, .f32⟩
  | .hbm, ⟨6, _⟩ => ⟨S4x256x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x256x1024, .f32⟩
  | .hbm, ⟨33, _⟩ => ⟨S_, .f32⟩
  | .hbm, ⟨34, _⟩ => ⟨S4x256, .f32⟩
  | .hbm, ⟨35, _⟩ => ⟨S4x256x1, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S_, .f32⟩
  | .hbm, ⟨40, _⟩ => ⟨S4x256x1, .f32⟩
  | .hbm, ⟨41, _⟩ => ⟨S4x256x1, .f32⟩
  | .hbm, ⟨42, _⟩ => ⟨S4x256x1, .f32⟩
  | .hbm, ⟨43, _⟩ => ⟨S4x256x1024, .f32⟩
  | .hbm, ⟨44, _⟩ => ⟨S4x256x1024, .f32⟩
  | .hbm, ⟨45, _⟩ => ⟨S1x1x1024, .f32⟩
  | .hbm, ⟨46, _⟩ => ⟨S4x256x1024, .f32⟩
  | .hbm, ⟨47, _⟩ => ⟨S4x256x1024, .f32⟩
  | .hbm, ⟨48, _⟩ => ⟨S1x1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1x1x1024, .f32⟩
  | .hbm, ⟨54, _⟩ => ⟨S4x256x1024, .f32⟩
  | .hbm, ⟨55, _⟩ => ⟨S4x256x1024, .f32⟩
  | .hbm, ⟨56, _⟩ => ⟨S1x1x1024, .f32⟩
  | .hbm, ⟨57, _⟩ => ⟨S1x1024, .f32⟩
  | .hbm, ⟨58, _⟩ => ⟨S1x1x1024, .f32⟩
  | .hbm, ⟨59, _⟩ => ⟨S4x256x1024, .f32⟩
  | .hbm, ⟨60, _⟩ => ⟨S4x256x1024, .f32⟩
  | .hbm, ⟨61, _⟩ => ⟨S4x4352x1024, .f32⟩
  | .hbm, ⟨62, _⟩ => ⟨S4x4352x4128, .f32⟩
  | .hbm, ⟨63, _⟩ => ⟨S4x4352x1280, .f32⟩
  | .hbm, ⟨64, _⟩ => ⟨S4x4352x1040, .f32⟩
  | .hbm, ⟨65, _⟩ => ⟨S4x4352x768, .f32⟩
  | .hbm, ⟨66, _⟩ => ⟨S4x4352x1040, .f32⟩
  | .hbm, ⟨67, _⟩ => ⟨S4x4352x16, .f32⟩
  | .hbm, ⟨68, _⟩ => ⟨S4x4352x16, .f32⟩
  | .hbm, ⟨69, _⟩ => ⟨S4x4352x32, .f32⟩
  | .hbm, ⟨70, _⟩ => ⟨S4x4352x1024, .f32⟩
  | .hbm, ⟨71, _⟩ => ⟨S4x4352x1024, .f32⟩
  | .hbm, ⟨72, _⟩ => ⟨S_, .i32⟩
  | .hbm, ⟨73, _⟩ => ⟨S_, .f32⟩
  | .hbm, ⟨74, _⟩ => ⟨S4x4352x128, .f32⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c : Ref sig .tc := ⟨.hbm, 72, rfl⟩
abbrev main_call0_v0 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Kernel3.lean ====
abbrev S304 : Shape := ⟨1, ![304]⟩
abbrev S1 : Shape := ⟨1, ![1]⟩
abbrev S77824x1024 : Shape := ⟨2, ![77824, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1x1024x2048 : Shape := ⟨4, ![1, 1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S77824x1024, .f32⟩
  | .hbm, ⟨1, _⟩ => ⟨S2x32x1024x2048, .f32⟩
  | .hbm, ⟨2, _⟩ => ⟨S32x2048, .f32⟩
  | .hbm, ⟨3, _⟩ => ⟨S2x32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S77824x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S304, .i32⟩
  | .local _ .smem, ⟨1, _⟩ => ⟨S1, .i32⟩
  | _, _ => ⟨S77824x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![304], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v9 : BitVec 32) : BitVec 1 :=
  let arg0 : BitVec 32 := BitVec.ofNat 32 (i 0).val
  let v10 : BitVec 1 := Scalar.cmpi .slt arg0 v9
  let v14 : BitVec 32 := Scalar.extui v10
  let c0_i32_2 : BitVec 32 := 0#32
  let v15 : BitVec 1 := Scalar.cmpi .ne v14 c0_i32_2
  v15

def k0_cond3 (i : grid0.Coords) (v9 : BitVec 32) : BitVec 1 :=
  let arg0 : BitVec 32 := BitVec.ofNat 32 (i 0).val
  let v10 : BitVec 1 := Scalar.cmpi .slt arg0 v9
  let v_true : BitVec 1 := 1#1
  let v16 : BitVec 1 := Scalar.xori v10 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S304.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S304 : Shape := ⟨1, ![304]⟩
abbrev S1 : Shape := ⟨1, ![1]⟩
abbrev S77824x1024 : Shape := ⟨2, ![77824, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S304x256x1024 : Shape := ⟨3, ![304, 256, 1024]⟩
abbrev S1x32x1024x2048 : Shape := ⟨4, ![1, 32, 1024, 2048]⟩
abbrev S32x1024x2048 : Shape := ⟨3, ![32, 1024, 2048]⟩
abbrev S_ : Shape := ⟨0, ![]⟩
abbrev S304x1 : Shape := ⟨2, ![304, 1]⟩
abbrev S304x1024x2048 : Shape := ⟨3, ![304, 1024, 2048]⟩
abbrev S304x256x2048 : Shape := ⟨3, ![304, 256, 2048]⟩
abbrev S304x2048 : Shape := ⟨2, ![304, 2048]⟩
abbrev S304x1x2048 : Shape := ⟨3, ![304, 1, 2048]⟩
abbrev S1x32x1024x1024 : Shape := ⟨4, ![1, 32, 1024, 1024]⟩
abbrev S32x1024x1024 : Shape := ⟨3, ![32, 1024, 1024]⟩
abbrev S304x1024x1024 : Shape := ⟨3, ![304, 1024, 1024]⟩
abbrev S304x1024 : Shape := ⟨2, ![304, 1024]⟩
abbrev S304x1x1024 : Shape := ⟨3, ![304, 1, 1024]⟩
abbrev S304x1x1 : Shape := ⟨3, ![304, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S304, .i32⟩
  | .hbm, ⟨1, _⟩ => ⟨S1, .i32⟩
  | .hbm, ⟨2, _⟩ => ⟨S77824x1024, .f32⟩
  | .hbm, ⟨3, _⟩ => ⟨S2x32x1024x2048, .f32⟩
  | .hbm, ⟨4, _⟩ => ⟨S32x2048, .f32⟩
  | .hbm, ⟨5, _⟩ => ⟨S2x32x1024x1024, .f32⟩
  | .hbm, ⟨6, _⟩ => ⟨S32x1024, .f32⟩
  | .hbm, ⟨7, _⟩ => ⟨S304x256x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S304, .i32⟩
  | .hbm, ⟨12, _⟩ => ⟨S304, .i1⟩
  | .hbm, ⟨13, _⟩ => ⟨S_, .i32⟩
  | .hbm, ⟨14, _⟩ => ⟨S304, .i32⟩
  | .hbm, ⟨15, _⟩ => ⟨S304, .i32⟩
  | .hbm, ⟨16, _⟩ => ⟨S304, .i32⟩
  | .hbm, ⟨17, _⟩ => ⟨S304x1, .i32⟩
  | .hbm, ⟨18, _⟩ => ⟨S304x1024x2048, .f32⟩
  | .hbm, ⟨19, _⟩ => ⟨S304x256x2048, .f32⟩
  | .hbm, ⟨20, _⟩ => ⟨S_, .i32⟩
  | .hbm, ⟨21, _⟩ => ⟨S304, .i32⟩
  | .hbm, ⟨22, _⟩ => ⟨S304, .i1⟩
  | .hbm, ⟨23, _⟩ => ⟨S_, .i32⟩
  | .hbm, ⟨24, _⟩ => ⟨S304, .i32⟩
  | .hbm, ⟨25, _⟩ => ⟨S304, .i32⟩
  | .hbm, ⟨26, _⟩ => ⟨S304, .i32⟩
  | .hbm, ⟨27, _⟩ => ⟨S304x1, .i32⟩
  | .hbm, ⟨28, _⟩ => ⟨S304x2048, .f32⟩
  | .hbm, ⟨29, _⟩ => ⟨S304x1x2048, .f32⟩
  | .hbm, ⟨30, _⟩ => ⟨S304x256x2048, .f32⟩
  | .hbm, ⟨31, _⟩ => ⟨S304x256x2048, .f32⟩
  | .hbm, ⟨32, _⟩ => ⟨S304x256x1024, .f32⟩
  | .hbm, ⟨33, _⟩ => ⟨S304x256x1024, .f32⟩
  | .hbm, ⟨34, _⟩ => ⟨S_, .f32⟩
  | .hbm, ⟨35, _⟩ => ⟨S304x256x1024, .f32⟩
  | .hbm, ⟨36, _⟩ => ⟨S304x256x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S304x256x1024, .f32⟩
  | .hbm, ⟨41, _⟩ => ⟨S304x256x1024, .f32⟩
  | .hbm, ⟨42, _⟩ => ⟨S_, .f32⟩
  | .hbm, ⟨43, _⟩ => ⟨S304x256x1024, .f32⟩
  | .hbm, ⟨44, _⟩ => ⟨S304x256x1024, .f32⟩
  | .hbm, ⟨45, _⟩ => ⟨S_, .f32⟩
  | .hbm, ⟨46, _⟩ => ⟨S304x256x1024, .f32⟩
  | .hbm, ⟨47, _⟩ => ⟨S304x256x1024, .f32⟩
  | .hbm, ⟨48, _⟩ => ⟨S304x256x1024, .f32⟩
  | .hbm, ⟨49, _⟩ => ⟨S_, .f32⟩
  | .hbm, ⟨50, _⟩ => ⟨S304x256x1024, .f32⟩
  | .hbm, ⟨51, _⟩ => ⟨S304x256x1024, .f32⟩
  | .hbm, ⟨52, _⟩ => ⟨S304x256x1024, .f32⟩
  | .hbm, ⟨53, _⟩ => ⟨S304x256x1024, .f32⟩
  | .hbm, ⟨54, _⟩ => ⟨S_, .f32⟩
  | .hbm, ⟨55, _⟩ => ⟨S304x256x1024, .f32⟩
  | .hbm, ⟨56, _⟩ => ⟨S304x256x1024, .f32⟩
  | .hbm, ⟨57, _⟩ => ⟨S_, .f32⟩
  | .hbm, ⟨58, _⟩ => ⟨S304x256x1024, .f32⟩
  | .hbm, ⟨59, _⟩ => ⟨S304x256x1024, .f32⟩
  | .hbm, ⟨60, _⟩ => ⟨S304x256x1024, .f32⟩
  | .hbm, ⟨61, _⟩ => ⟨S1x32x1024x1024, .f32⟩
  | .hbm, ⟨62, _⟩ => ⟨S32x1024x1024, .f32⟩
  | .hbm, ⟨63, _⟩ => ⟨S_, .i32⟩
  | .hbm, ⟨64, _⟩ => ⟨S304, .i32⟩
  | .hbm, ⟨65, _⟩ => ⟨S304, .i1⟩
  | .hbm, ⟨66, _⟩ => ⟨S_, .i32⟩
  | .hbm, ⟨67, _⟩ => ⟨S304, .i32⟩
  | .hbm, ⟨68, _⟩ => ⟨S304, .i32⟩
  | .hbm, ⟨69, _⟩ => ⟨S304, .i32⟩
  | .hbm, ⟨70, _⟩ => ⟨S304x1, .i32⟩
  | .hbm, ⟨71, _⟩ => ⟨S304x1024x1024, .f32⟩
  | .hbm, ⟨72, _⟩ => ⟨S304x256x1024, .f32⟩
  | .hbm, ⟨73, _⟩ => ⟨S_, .i32⟩
  | .hbm, ⟨74, _⟩ => ⟨S304, .i32⟩
  | .hbm, ⟨75, _⟩ => ⟨S304, .i1⟩
  | .hbm, ⟨76, _⟩ => ⟨S_, .i32⟩
  | .hbm, ⟨77, _⟩ => ⟨S304, .i32⟩
  | .hbm, ⟨78, _⟩ => ⟨S304, .i32⟩
  | .hbm, ⟨79, _⟩ => ⟨S304, .i32⟩
  | .hbm, ⟨80, _⟩ => ⟨S304x1, .i32⟩
  | .hbm, ⟨81, _⟩ => ⟨S304x1024, .f32⟩
  | .hbm, ⟨82, _⟩ => ⟨S304x1x1024, .f32⟩
  | .hbm, ⟨83, _⟩ => ⟨S304x256x1024, .f32⟩
  | .hbm, ⟨84, _⟩ => ⟨S304x256x1024, .f32⟩
  | .hbm, ⟨85, _⟩ => ⟨S304, .i32⟩
  | .hbm, ⟨86, _⟩ => ⟨S_, .i32⟩
  | .hbm, ⟨87, _⟩ => ⟨S304, .i32⟩
  | .hbm, ⟨88, _⟩ => ⟨S304, .i1⟩
  | .hbm, ⟨89, _⟩ => ⟨S304x1x1, .i1⟩
  | .hbm, ⟨90, _⟩ => ⟨S_, .f32⟩
  | .hbm, ⟨91, _⟩ => ⟨S_, .f32⟩
  | .hbm, ⟨92, _⟩ => ⟨S304x256x1024, .i1⟩
  | .hbm, ⟨93, _⟩ => ⟨S304x256x1024, .f32⟩
  | .hbm, ⟨94, _⟩ => ⟨S304x256x1024, .f32⟩
  | .hbm, ⟨95, _⟩ => ⟨S77824x1024, .f32⟩
  | _, _ => ⟨S304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== Kernel4.lean ====
abbrev S4x4352x1024 : Shape := ⟨3, ![4, 4352, 1024]⟩
abbrev S2x4x4352x256 : Shape := ⟨4, ![2, 4, 4352, 256]⟩
abbrev S4x4352x1280 : Shape := ⟨3, ![4, 4352, 1280]⟩
abbrev S4x4352x256 : Shape := ⟨3, ![4, 4352, 256]⟩
abbrev S4x256 : Shape := ⟨2, ![4, 256]⟩
abbrev S5x1x1024 : Shape := ⟨3, ![5, 1, 1024]⟩
abbrev S1024x1024 : Shape := ⟨2, ![1024, 1024]⟩
abbrev S1x4x4352x256 : Shape := ⟨4, ![1, 4, 4352, 256]⟩
abbrev S256x256 : Shape := ⟨2, ![256, 256]⟩
abbrev S_ : Shape := ⟨0, ![]⟩
abbrev S1x256x1024 : Shape := ⟨3, ![1, 256, 1024]⟩
abbrev S1x256x256 : Shape := ⟨3, ![1, 256, 256]⟩
abbrev S1x1x1024 : Shape := ⟨3, ![1, 1, 1024]⟩
abbrev S256x1024 : Shape := ⟨2, ![256, 1024]⟩
abbrev S1x256 : Shape := ⟨2, ![1, 256]⟩
abbrev S1x1024 : Shape := ⟨2, ![1, 1024]⟩

abbrev nBuf : Space → Nat
  | .hbm => 65
  | .vmem => 29
  | .smem => 0
  | _ => 0

abbrev bufTy : (tb : Table) → Fin (tcTables nBuf tb) → BufTy
  | .hbm, ⟨0, _⟩ => ⟨S4x4352x1024, .f32⟩
  | .hbm, ⟨1, _⟩ => ⟨S2x4x4352x256, .f32⟩
  | .hbm, ⟨2, _⟩ => ⟨S4x4352x1280, .f32⟩
  | .hbm, ⟨3, _⟩ => ⟨S2x4x4352x256, .f32⟩
  | .hbm, ⟨4, _⟩ => ⟨S4x4352x1024, .f32⟩
  | .hbm, ⟨5, _⟩ => ⟨S4x4352x256, .f32⟩
  | .hbm, ⟨6, _⟩ => ⟨S2x4x4352x256, .f32⟩
  | .hbm, ⟨7, _⟩ => ⟨S4x4352x1024, .f32⟩
  | .hbm, ⟨8, _⟩ => ⟨S4x256, .f32⟩
  | .hbm, ⟨9, _⟩ => ⟨S5x1x1024, .f32⟩
  | .hbm, ⟨10, _⟩ => ⟨S1024x1024, .f32⟩
  | .hbm, ⟨11, _⟩ => ⟨S1x4x4352x256, .f32⟩
  | .hbm, ⟨12, _⟩ => ⟨S4x4352x256, .f32⟩
  | .hbm, ⟨13, _⟩ => ⟨S1x4x4352x256, .f32⟩
  | .hbm, ⟨14, _⟩ => ⟨S4x4352x256, .f32⟩
  | .hbm, ⟨15, _⟩ => ⟨S1x4x4352x256, .f32⟩
  | .hbm, ⟨16, _⟩ => ⟨S4x4352x256, .f32⟩
  | .hbm, ⟨17, _⟩ => ⟨S1x4x4352x256, .f32⟩
  | .hbm, ⟨18, _⟩ => ⟨S4x4352x256, .f32⟩
  | .hbm, ⟨19, _⟩ => ⟨S1x4x4352x256, .f32⟩
  | .hbm, ⟨20, _⟩ => ⟨S4x4352x256, .f32⟩
  | .hbm, ⟨21, _⟩ => ⟨S1x4x4352x256, .f32⟩
  | .hbm, ⟨22, _⟩ => ⟨S4x4352x256, .f32⟩
  | .hbm, ⟨23, _⟩ => ⟨S1024x1024, .bf16⟩
  | .hbm, ⟨24, _⟩ => ⟨S256x256, .i32⟩
  | .hbm, ⟨25, _⟩ => ⟨S_, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S_, .i32⟩
  | .hbm, ⟨31, _⟩ => ⟨S256x256, .i32⟩
  | .hbm, ⟨32, _⟩ => ⟨S256x256, .i1⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i1⟩
  | .hbm, ⟨38, _⟩ => ⟨S256x256, .i1⟩
  | .hbm, ⟨39, _⟩ => ⟨S_, .i32⟩
  | .hbm, ⟨40, _⟩ => ⟨S256x256, .i32⟩
  | .hbm, ⟨41, _⟩ => ⟨S256x256, .i32⟩
  | .hbm, ⟨42, _⟩ => ⟨S256x256, .i32⟩
  | .hbm, ⟨43, _⟩ => ⟨S256x256, .i32⟩
  | .hbm, ⟨44, _⟩ => ⟨S_, .i32⟩
  | .hbm, ⟨45, _⟩ => ⟨S_, .i32⟩
  | .hbm, ⟨46, _⟩ => ⟨S256x256, .i32⟩
  | .hbm, ⟨47, _⟩ => ⟨S256x256, .i32⟩
  | .hbm, ⟨48, _⟩ => ⟨S256x256, .i32⟩
  | .hbm, ⟨49, _⟩ => ⟨S_, .i32⟩
  | .hbm, ⟨50, _⟩ => ⟨S256x256, .i32⟩
  | .hbm, ⟨51, _⟩ => ⟨S256x256, .i1⟩
  | .hbm, ⟨52, _⟩ => ⟨S256x256, .i32⟩
  | .hbm, ⟨53, _⟩ => ⟨S256x256, .i32⟩
  | .hbm, ⟨54, _⟩ => ⟨S_, .i32⟩
  | .hbm, ⟨55, _⟩ => ⟨S256x256, .i32⟩
  | .hbm, ⟨56, _⟩ => ⟨S256x256, .i1⟩
  | .hbm, ⟨57, _⟩ => ⟨S256x256, .i1⟩
  | .hbm, ⟨58, _⟩ => ⟨S_, .i32⟩
  | .hbm, ⟨59, _⟩ => ⟨S256x256, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S256x256, .f32⟩
  | .hbm, ⟨64, _⟩ => ⟨S4x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S4x256, .f32⟩
  | .local _ .vmem, ⟨23, _⟩ => ⟨S1x1x1024, .f32⟩
  | .local _ .vmem, ⟨24, _⟩ => ⟨S1x1x1024, .f32⟩
  | .local _ .vmem, ⟨25, _⟩ => ⟨S256x256, .f32⟩
  | .local _ .vmem, ⟨26, _⟩ => ⟨S1024x1024, .bf16⟩
  | .local _ .vmem, ⟨27, _⟩ => ⟨S1x256x1024, .f32⟩
  | .local _ .vmem, ⟨28, _⟩ => ⟨S1x256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v14 : Ref sig .tc := ⟨.hbm, 42, rfl⟩
abbrev main_v15 : Ref sig .tc := ⟨.hbm, 43, rfl⟩
abbrev main_c_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c4_i32 : BitVec 32 := 4#32
  let v1 : BitVec 32 := Scalar.select v0 c4_i32 arg0
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S4x4352x1024 : Shape := ⟨3, ![4, 4352, 1024]⟩
abbrev S2x4x4352x256 : Shape := ⟨4, ![2, 4, 4352, 256]⟩
abbrev S4x4352x1280 : Shape := ⟨3, ![4, 4352, 1280]⟩
abbrev S4x4352x256 : Shape := ⟨3, ![4, 4352, 256]⟩
abbrev S4x256 : Shape := ⟨2, ![4, 256]⟩
abbrev S5x1x1024 : Shape := ⟨3, ![5, 1, 1024]⟩
abbrev S1024x1024 : Shape := ⟨2, ![1024, 1024]⟩
abbrev S1x4x4352x256 : Shape := ⟨4, ![1, 4, 4352, 256]⟩
abbrev S1x256 : Shape := ⟨2, ![1, 256]⟩
abbrev S256 : Shape := ⟨1, ![256]⟩
abbrev S4x4352x4x64 : Shape := ⟨4, ![4, 4352, 4, 64]⟩
abbrev S_ : Shape := ⟨0, ![]⟩
abbrev S4x4352x4 : Shape := ⟨3, ![4, 4352, 4]⟩
abbrev S4x4352x4x1 : Shape := ⟨4, ![4, 4352, 4, 1]⟩
abbrev S1x1x256 : Shape := ⟨3, ![1, 1, 256]⟩
abbrev S4x4096x1024 : Shape := ⟨3, ![4, 4096, 1024]⟩
abbrev S4x256x1024 : Shape := ⟨3, ![4, 256, 1024]⟩
abbrev S4x1x1024 : Shape := ⟨3, ![4, 1, 1024]⟩
abbrev S1x1x1024 : Shape := ⟨3, ![1, 1, 1024]⟩
abbrev S1x1024 : Shape := ⟨2, ![1, 1024]⟩

abbrev nBuf : Space → Nat
  | .hbm => 135
  | .vmem => 0
  | .smem => 0
  | _ => 0

abbrev hbmTy0_0 (i : Nat) : BufTy := match i % 128 with
  | 0 => ⟨S4x4352x1024, .f32⟩
  | 1 => ⟨S2x4x4352x256, .f32⟩
  | 2 => ⟨S4x4352x1280, .f32⟩
  | 3 => ⟨S2x4x4352x256, .f32⟩
  | 4 => ⟨S4x4352x1024, .f32⟩
  | 5 => ⟨S4x4352x256, .f32⟩
  | 6 => ⟨S2x4x4352x256, .f32⟩
  | 7 => ⟨S4x4352x1024, .f32⟩
  | 8 => ⟨S4x256, .f32⟩
  | 9 => ⟨S5x1x1024, .f32⟩
  | 10 => ⟨S1024x1024, .f32⟩
  | 11 => ⟨S1x4x4352x256, .f32⟩
  | 12 => ⟨S4x4352x256, .f32⟩
  | 13 => ⟨S1x4x4352x256, .f32⟩
  | 14 => ⟨S4x4352x256, .f32⟩
  | 15 => ⟨S4x4352x256, .f32⟩
  | 16 => ⟨S1x256, .f32⟩
  | 17 => ⟨S256, .f32⟩
  | 18 => ⟨S4x4352x4x64, .f32⟩
  | 19 => ⟨S4x4352x4x64, .f32⟩
  | 20 => ⟨S_, .f32⟩
  | 21 => ⟨S4x4352x4, .f32⟩
  | 22 => ⟨S4x4352x4x1, .f32⟩
  | 23 => ⟨S_, .f32⟩
  | 24 => ⟨S4x4352x4x1, .f32⟩
  | 25 => ⟨S4x4352x4x1, .f32⟩
  | 26 => ⟨S_, .f32⟩
  | 27 => ⟨S4x4352x4x1, .f32⟩
  | 28 => ⟨S4x4352x4x1, .f32⟩
  | 29 => ⟨S4x4352x4x1, .f32⟩
  | 30 => ⟨S4x4352x4x64, .f32⟩
  | 31 => ⟨S4x4352x4x64, .f32⟩
  | 32 => ⟨S4x4352x256, .f32⟩
  | 33 => ⟨S1x1x256, .f32⟩
  | 34 => ⟨S4x4352x256, .f32⟩
  | 35 => ⟨S4x4352x256, .f32⟩
  | 36 => ⟨S4x4352x256, .f32⟩
  | 37 => ⟨S4x4352x256, .f32⟩
  | 38 => ⟨S4x4352x256, .f32⟩
  | 39 => ⟨S_, .f32⟩
  | 40 => ⟨S4x4352x256, .f32⟩
  | 41 => ⟨S4x4352x256, .f32⟩
  | 42 => ⟨S_, .f32⟩
  | 43 => ⟨S4x4352x256, .f32⟩
  | 44 => ⟨S4x4352x256, .f32⟩
  | 45 => ⟨S4x4352x256, .f32⟩
  | 46 => ⟨S4x4352x256, .f32⟩
  | 47 => ⟨S4x4352x256, .f32⟩
  | 48 => ⟨S4x4352x256, .f32⟩
  | 49 => ⟨S4x4352x256, .f32⟩
  | 50 => ⟨S_, .f32⟩
  | 51 => ⟨S4x4352x256, .f32⟩
  | 52 => ⟨S4x4352x256, .f32⟩
  | 53 => ⟨S_, .f32⟩
  | 54 => ⟨S4x4352x256, .f32⟩
  | 55 => ⟨S4x4352x256, .f32⟩
  | 56 => ⟨S1x4x4352x256, .f32⟩
  | 57 => ⟨S4x4352x256, .f32⟩
  | 58 => ⟨S1x4x4352x256, .f32⟩
  | 59 => ⟨S4x4352x256, .f32⟩
  | 60 => ⟨S4x4352x256, .f32⟩
  | 61 => ⟨S1x256, .f32⟩
  | 62 => ⟨S256, .f32⟩
  | 63 => ⟨S4x4352x4x64, .f32⟩
  | 64 => ⟨S4x4352x4x64, .f32⟩
  | 65 => ⟨S_, .f32⟩
  | 66 => ⟨S4x4352x4, .f32⟩
  | 67 => ⟨S4x4352x4x1, .f32⟩
  | 68 => ⟨S_, .f32⟩
  | 69 => ⟨S4x4352x4x1, .f32⟩
  | 70 => ⟨S4x4352x4x1, .f32⟩
  | 71 => ⟨S_, .f32⟩
  | 72 => ⟨S4x4352x4x1, .f32⟩
  | 73 => ⟨S4x4352x4x1, .f32⟩
  | 74 => ⟨S4x4352x4x1, .f32⟩
  | 75 => ⟨S4x4352x4x64, .f32⟩
  | 76 => ⟨S4x4352x4x64, .f32⟩
  | 77 => ⟨S4x4352x256, .f32⟩
  | 78 => ⟨S1x1x256, .f32⟩
  | 79 => ⟨S4x4352x256, .f32⟩
  | 80 => ⟨S4x4352x256, .f32⟩
  | 81 => ⟨S4x4352x256, .f32⟩
  | 82 => ⟨S1x4x4352x256, .f32⟩
  | 83 => ⟨S4x4352x256, .f32⟩
  | 84 => ⟨S1x4x4352x256, .f32⟩
  | 85 => ⟨S4x4352x256, .f32⟩
  | 86 => ⟨S4x4352x256, .f32⟩
  | 87 => ⟨S1x256, .f32⟩
  | 88 => ⟨S256, .f32⟩
  | 89 => ⟨S4x4352x4x64, .f32⟩
  | 90 => ⟨S4x4352x4x64, .f32⟩
  | 91 => ⟨S_, .f32⟩
  | 92 => ⟨S4x4352x4, .f32⟩
  | 93 => ⟨S4x4352x4x1, .f32⟩
  | 94 => ⟨S_, .f32⟩
  | 95 => ⟨S4x4352x4x1, .f32⟩
  | 96 => ⟨S4x4352x4x1, .f32⟩
  | 97 => ⟨S_, .f32⟩
  | 98 => ⟨S4x4352x4x1, .f32⟩
  | 99 => ⟨S4x4352x4x1, .f32⟩
  | 100 => ⟨S4x4352x4x1, .f32⟩
  | 101 => ⟨S4x4352x4x64, .f32⟩
  | 102 => ⟨S4x4352x4x64, .f32⟩
  | 103 => ⟨S4x4352x256, .f32⟩
  | 104 => ⟨S1x1x256, .f32⟩
  | 105 => ⟨S4x4352x256, .f32⟩
  | 106 => ⟨S4x4352x256, .f32⟩
  | 107 => ⟨S4x4352x256, .f32⟩
  | 108 => ⟨S4x4352x256, .f32⟩
  | 109 => ⟨S4x4352x256, .f32⟩
  | 110 => ⟨S_, .f32⟩
  | 111 => ⟨S4x4352x256, .f32⟩
  | 112 => ⟨S4x4352x256, .f32⟩
  | 113 => ⟨S_, .f32⟩
  | 114 => ⟨S4x4352x256, .f32⟩
  | 115 => ⟨S4x4352x256, .f32⟩
  | 116 => ⟨S4x4352x256, .f32⟩
  | 117 => ⟨S4x4352x256, .f32⟩
  | 118 => ⟨S4x4352x1024, .f32⟩
  | 119 => ⟨S4x4352x1024, .f32⟩
  | 120 => ⟨S4x4096x1024, .f32⟩
  | 121 => ⟨S4x256x1024, .f32⟩
  | 122 => ⟨S4x1x1024, .f32⟩
  | 123 => ⟨S4x4096x1024, .f32⟩
  | 124 => ⟨S4x4096x1024, .f32⟩
  | 125 => ⟨S4x4096x1024, .f32⟩
  | 126 => ⟨S4x4096x1024, .f32⟩
  | 127 => ⟨S1x1x1024, .f32⟩
  | _ => ⟨S4x4352x1024, .f32⟩

abbrev hbmTy0_1 (i : Nat) : BufTy := match i % 128 with
  | 0 => ⟨S1x1024, .f32⟩
  | 1 => ⟨S4x256x1024, .f32⟩
  | 2 => ⟨S1x1x1024, .f32⟩
  | 3 => ⟨S4x256x1024, .f32⟩
  | 4 => ⟨S4x256x1024, .f32⟩
  | 5 => ⟨S4x256x1024, .f32⟩
  | 6 => ⟨S4x4352x1024, .f32⟩
  | _ => ⟨S4x4352x1024, .f32⟩

abbrev hbmTy (i : Nat) : BufTy := match i / 128 with
  | 0 => hbmTy0_0 i
  | 1 => hbmTy0_1 i
  | _ => ⟨S4x4352x1024, .f32⟩

abbrev bufTy : (tb : Table) → Fin (tcTables nBuf tb) → BufTy
  | .hbm, ⟨i, _⟩ => hbmTy i
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_cst_8 : Ref sig .tc := ⟨.hbm, 94, rfl⟩
abbrev main_v66 : Ref sig .tc := ⟨.hbm, 95, rfl⟩
abbrev main_v67 : Ref sig .tc := ⟨.hbm, 96, rfl⟩
abbrev main_cst_9 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_call1_v0 : Ref sig .tc := ⟨.hbm, 108, rfl⟩
abbrev main_call1_v1 : Ref sig .tc := ⟨.hbm, 109, rfl⟩
abbrev main_call1_cst : Ref sig .tc := ⟨.hbm, 110, rfl⟩
abbrev main_call1_v2 : Ref sig .tc := ⟨.hbm, 111, rfl⟩
abbrev main_call1_v3 : Ref sig .tc := ⟨.hbm, 112, rfl⟩
abbrev main_call1_cst_0 : Ref sig .tc := ⟨.hbm, 113, rfl⟩
abbrev main_call1_v4 : Ref sig .tc := ⟨.hbm, 114, rfl⟩
abbrev main_call1_v5 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]
-- ==== Proof.Spec.lean ====
module

public import proofs.«01_k».proof.Defs
public import Idealize.ShloMosaic.Lib.Pointwise

@[expose] public section

set_option maxRecDepth 16384

/-!
The mLSTM chunk step over the extended reals, for one head and one direction: what one chunk of
64 rows gives of its projected rows, its gates and the state carried into it.
-/

noncomputable section

open Idealize.ShloMosaic

namespace Cert.Mlstm

/-- One value for each row of a chunk. -/
abbrev Row := Fin 64 → EReal
/-- A 64 × 64 matrix. -/
abbrev Mat := Fin 64 → Fin 64 → EReal

/-- What one head reads of one chunk: queries, scaled keys, values, and the two log gates. -/
structure Ch where
  q : Mat
  k : Mat
  v : Mat
  i : Row
  f : Row

/-- The state one head carries: the memory, the normaliser and the stabiliser. -/
structure St where
  C : Mat
  N : Row
  M : EReal

/-- Row `s` is seen from row `t`: before it (`r = false`) or after it (`r = true`). -/
def live (r : Bool) (t s : Fin 64) : Prop := if r then t ≤ s else s ≤ t

instance (r : Bool) (t s : Fin 64) : Decidable (live r t s) := by unfold live; infer_instance

/-- The row the scan reaches last. -/
def last (r : Bool) : Fin 64 := if r then 0 else 63

/-- The value a masked score takes. -/
abbrev NEG : EReal := Ideal.ofBits FTy.f32 0xF149F2CA#32

/-- The greatest value of a row. -/
abbrev rmax (f : Row) : EReal := Finset.univ.fold max (Ideal.ofBits FTy.f32 0xFF800000#32) f

/-- The log-sigmoid as both programs write it. -/
def lsg (x : EReal) : EReal :=
  0 - (max (0 - x) 0 + Ideal.log1p (Ideal.exp (0 - max (0 - x) (-(0 - x)))))

variable (r : Bool) (x : Ch) (s : St)

def fcum (t : Fin 64) : EReal := ∑ u, if live r t u then x.f u else 0
def amat (t u : Fin 64) : EReal := if live r t u then fcum r x t - fcum r x u + x.i u else NEG
def ainit (t : Fin 64) : EReal := fcum r x t + s.M
def mt (t : Fin 64) : EReal := max (rmax (amat r x t)) (ainit r x s t)
def pmat (t u : Fin 64) : EReal := Ideal.exp (amat r x t u - mt r x s t) * ∑ d, x.q t d * x.k u d
def e0 (t : Fin 64) : EReal := Ideal.exp (ainit r x s t - mt r x s t)
def num (t e : Fin 64) : EReal := ∑ u, pmat r x s t u * x.v u e + e0 r x s t * ∑ d, x.q t d * s.C d e
def den (t : Fin 64) : EReal := ∑ u, pmat r x s t u + e0 r x s t * ∑ d, x.q t d * s.N d
/-- The chunk's output row `t`. -/
def outH (t e : Fin 64) : EReal :=
  Ideal.div (num r x s t e) (max (max (den r x s t) (-den r x s t)) (Ideal.exp (0 - mt r x s t)))

def ftot : EReal := fcum r x (last r)
def g (t : Fin 64) : EReal := ftot r x - fcum r x t + x.i t
def gmax : EReal := rmax (g r x)
def kw (t d : Fin 64) : EReal := x.k t d * Ideal.exp (g r x t - gmax r x)
def mnew : EReal := max (ftot r x + s.M) (gmax r x)
def aold : EReal := Ideal.exp (ftot r x + s.M - mnew r x s)
def anew : EReal := Ideal.exp (gmax r x - mnew r x s)
def Cnew (d e : Fin 64) : EReal := aold r x s * s.C d e + anew r x s * ∑ t, kw r x t d * x.v t e
def Nnew (d : Fin 64) : EReal := aold r x s * s.N d + anew r x s * ∑ t, kw r x t d
/-- The state after the chunk. -/
def stepH : St := ⟨Cnew r x s, Nnew r x s, mnew r x s⟩

/-- The chunk with its rows in the other order. -/
def Ch.rev (x : Ch) : Ch :=
  ⟨fun t => x.q t.rev, fun t => x.k t.rev, fun t => x.v t.rev, fun t => x.i t.rev, fun t => x.f t.rev⟩

theorem sum_rev (f : Row) : ∑ t : Fin 64, f t.rev = ∑ t, f t := Equiv.sum_comp Fin.revPerm f

theorem rmax_rev (f : Row) : rmax (fun t => f t.rev) = rmax f := by
  unfold rmax
  conv_rhs => rw [← Finset.map_univ_equiv Fin.revPerm]
  rw [Finset.fold_map]; rfl

theorem live_rev (t u : Fin 64) : live true t u ↔ live false t.rev u.rev := by
  simp [live, Fin.rev_le_rev]

theorem fcum_rev (t : Fin 64) : fcum true x t = fcum false x.rev t.rev := by
  unfold fcum
  rw [← sum_rev]
  refine Finset.sum_congr rfl fun u _ => ?_
  simp only [live_rev, Fin.rev_rev, Ch.rev]

theorem amat_rev (t u : Fin 64) : amat true x t u = amat false x.rev t.rev u.rev := by
  simp only [amat, live_rev, fcum_rev, Ch.rev, Fin.rev_rev]

theorem mt_rev (t : Fin 64) : mt true x s t = mt false x.rev s t.rev := by
  unfold mt
  rw [← rmax_rev (amat false x.rev t.rev)]
  simp only [← amat_rev, ainit, fcum_rev]

theorem pmat_rev (t u : Fin 64) : pmat true x s t u = pmat false x.rev s t.rev u.rev := by
  simp only [pmat, amat_rev, mt_rev, Ch.rev, Fin.rev_rev]

/-- Scanning backwards gives the output rows of scanning the reversed chunk forwards. -/
theorem outH_rev (t e : Fin 64) : outH true x s t e = outH false x.rev s t.rev e := by
  have hn : num true x s t e = num false x.rev s t.rev e := by
    unfold num
    rw [← sum_rev fun u => pmat false x.rev s t.rev u * x.rev.v u e]
    simp only [pmat_rev, e0, ainit, fcum_rev, mt_rev, Ch.rev, Fin.rev_rev]
  have hd : den true x s t = den false x.rev s t.rev := by
    unfold den
    rw [← sum_rev fun u => pmat false x.rev s t.rev u]
    simp only [pmat_rev, e0, ainit, fcum_rev, mt_rev, Ch.rev, Fin.rev_rev]
  simp only [outH, hn, hd, mt_rev]

theorem ftot_rev : ftot true x = ftot false x.rev := by
  unfold ftot
  rw [fcum_rev]; rfl

theorem g_rev (t : Fin 64) : g true x t = g false x.rev t.rev := by
  simp only [g, ftot_rev, fcum_rev, Ch.rev, Fin.rev_rev]

theorem gmax_rev : gmax true x = gmax false x.rev := by
  unfold gmax
  rw [← rmax_rev (g false x.rev)]
  simp only [← g_rev]

theorem kw_rev (t d : Fin 64) : kw true x t d = kw false x.rev t.rev d := by
  simp only [kw, g_rev, gmax_rev, Ch.rev, Fin.rev_rev]

/-- Scanning backwards leaves the state of scanning the reversed chunk forwards. -/
theorem stepH_rev : stepH true x s = stepH false x.rev s := by
  have hm : mnew true x s = mnew false x.rev s := by simp only [mnew, ftot_rev, gmax_rev]
  have hC : Cnew true x s = Cnew false x.rev s := by
    funext d e
    unfold Cnew
    rw [← sum_rev fun t => kw false x.rev t d * x.rev.v t e]
    simp only [aold, anew, hm, ftot_rev, gmax_rev, kw_rev, Ch.rev, Fin.rev_rev]
  have hN : Nnew true x s = Nnew false x.rev s := by
    funext d
    unfold Nnew
    rw [← sum_rev fun t => kw false x.rev t d]
    simp only [aold, anew, hm, ftot_rev, gmax_rev, kw_rev]
  simp only [stepH, hm, hC, hN]

/-! ## Lanes: 256 columns are four heads of 64. -/

/-- The head of a column. -/
def hd (L : Fin 256) : Fin 4 := ⟨L.val / 64, by omega⟩
/-- The column within its head. -/
def dd (L : Fin 256) : Fin 64 := ⟨L.val % 64, by omega⟩
/-- Column `d` of head `h`. -/
def ln (h : Fin 4) (d : Fin 64) : Fin 256 := ⟨64 * h.val + d.val, by omega⟩

@[simp] theorem hd_ln (h : Fin 4) (d : Fin 64) : hd (ln h d) = h := by
  apply Fin.ext; simp only [hd, ln]; omega
@[simp] theorem dd_ln (h : Fin 4) (d : Fin 64) : dd (ln h d) = d := by
  apply Fin.ext; simp only [dd, ln]; omega
theorem ln_hd_dd (L : Fin 256) : ln (hd L) (dd L) = L := by
  apply Fin.ext; simp only [hd, dd, ln]; omega

/-- The columns, by head. -/
def lanes : Fin 4 × Fin 64 ≃ Fin 256 where
  toFun p := ln p.1 p.2
  invFun L := (hd L, dd L)
  left_inv p := by simp
  right_inv L := ln_hd_dd L

/-- A sum over the columns of one head. -/
theorem sum_lane (h : Fin 4) (f : Fin 256 → EReal) :
    (∑ L, if hd L = h then f L else 0) = ∑ d, f (ln h d) := by
  rw [← Equiv.sum_comp lanes, Fintype.sum_prod_type]
  simp only [lanes, Equiv.coe_fn_mk, hd_ln]
  rw [Finset.sum_eq_single h]
  · simp
  · intro b _ hb; simp [hb]
  · simp

/-! ## Sums against an indicator, as a value and its two remainders. -/

/-- A finite extended real. -/
def Fin' (x : EReal) : Prop := x ≠ ⊤ ∧ x ≠ ⊥

theorem sub_self' {x : EReal} (h : Fin' x) : x - x = 0 := EReal.sub_self h.1 h.2

/-- Selecting one entry through the three-part sum. -/
theorem sel3 {n : ℕ} (c : Fin n) (x : Fin n → EReal) (h : Fin' (x c)) :
    (∑ u, x u * (if u = c then 1 else 0)) + (∑ u, (x u - x u) * (if u = c then 1 else 0))
      + (∑ u, (x u - x u - (x u - x u)) * (if u = c then 1 else 0)) = x c := by
  simp only [mul_ite, mul_one, mul_zero, Finset.sum_ite_eq', Finset.mem_univ, if_true]
  rw [sub_self' h]; simp

theorem lsg_fin {x : EReal} (h : Fin' x) : Fin' (lsg x) := by
  obtain ⟨h1, h2⟩ := h
  lift x to ℝ using ⟨h1, h2⟩
  have h0 : (0 : EReal) - (x : EReal) = ((-x : ℝ) : EReal) := by rw [zero_sub]; rfl
  have hm : max ((-x : ℝ) : EReal) (-((-x : ℝ) : EReal)) = ((max (-x) (- -x) : ℝ) : EReal) := by
    rw [← EReal.coe_neg]; exact (EReal.coe_strictMono.monotone.map_max).symm
  have hz : max ((-x : ℝ) : EReal) 0 = ((max (-x) 0 : ℝ) : EReal) :=
    (EReal.coe_strictMono.monotone.map_max (a := -x) (b := 0)).symm
  unfold lsg
  rw [h0, hm, hz, zero_sub (a := ((max (-x) (- -x) : ℝ) : EReal)), ← EReal.coe_neg, Ideal.exp_coe]
  unfold Ideal.log1p
  rw [show (1 : EReal) = ((1 : ℝ) : EReal) from rfl, ← EReal.coe_add]
  set y := Real.exp (-max (-x) (- -x)) with hy
  have hpos : 0 < 1 + y := by have := Real.exp_pos (-max (-x) (- -x)); linarith
  have hl : Ideal.log ((1 + y : ℝ) : EReal) = ((Real.log (1 + y) : ℝ) : EReal) := by
    show (if 1 + y ≤ 0 then ⊥ else ((Real.log (1 + y) : ℝ) : EReal)) = _
    rw [if_neg (not_le.mpr hpos)]
  rw [hl, ← EReal.coe_add, zero_sub, ← EReal.coe_neg]
  exact ⟨EReal.coe_ne_top _, EReal.coe_ne_bot _⟩

end Cert.Mlstm

end
-- ==== Proof.PayF.lean ====
module

public import proofs.«01_k».proof.Defs
public import proofs.«01_k».proof.Proof.Gen.KernelIdeal.Frame
public import Idealize.ShloMosaic.Lib.Pipeline.Value
public import Idealize.ShloMosaic.Lib.Pointwise
public import Idealize.ShloMosaic.Lib.Tactic
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Mlstm

/-- Row `h` of the eight-row tables. -/
def h8 (h : Fin 4) : Fin 8 := ⟨h.val, by omega⟩
/-- The gate column of head `h` for gate `a`. -/
def gc (a : Fin 4) (h : Fin 4) : Fin 128 := ⟨4 * a.val + h.val, by omega⟩

@[simp] theorem h8_0 : h8 0 = 0 := rfl
@[simp] theorem h8_1 : h8 1 = 1 := rfl
@[simp] theorem h8_2 : h8 2 = 2 := rfl
@[simp] theorem h8_3 : h8 3 = 3 := rfl

theorem hd_0 (d : Fin 64) (p) : hd ⟨d.val, p⟩ = 0 := by apply Fin.ext; simp only [hd]; show _ = 0; omega
theorem hd_1 (d : Fin 64) (p) : hd ⟨64 + d.val, p⟩ = 1 := by apply Fin.ext; simp only [hd]; show _ = 1; omega
theorem hd_2 (d : Fin 64) (p) : hd ⟨128 + d.val, p⟩ = 2 := by apply Fin.ext; simp only [hd]; show _ = 2; omega
theorem hd_3 (d : Fin 64) (p) : hd ⟨192 + d.val, p⟩ = 3 := by apply Fin.ext; simp only [hd]; show _ = 3; omega
theorem dd_0 (d : Fin 64) (p) : dd ⟨d.val, p⟩ = d := by apply Fin.ext; simp only [dd]; omega
theorem dd_1 (d : Fin 64) (p) : dd ⟨64 + d.val, p⟩ = d := by apply Fin.ext; simp only [dd]; omega
theorem dd_2 (d : Fin 64) (p) : dd ⟨128 + d.val, p⟩ = d := by apply Fin.ext; simp only [dd]; omega
theorem dd_3 (d : Fin 64) (p) : dd ⟨192 + d.val, p⟩ = d := by apply Fin.ext; simp only [dd]; omega

theorem live_symm (t u : Fin 64) : live true u t ↔ live false t u := by simp [live]
theorem live_symm' (t u : Fin 64) : live false u t ↔ live true t u := by simp [live]

theorem sel3' {n : ℕ} (c : Fin n) (x : Fin n → EReal) (h : Fin' (x c)) :
    (∑ u, (if u = c then 1 else 0) * x u) + (∑ u, (if u = c then 1 else 0) * (x u - x u))
      + (∑ u, (if u = c then 1 else 0) * (x u - x u - (x u - x u))) = x c := by
  have := sel3 c x h
  simpa only [mul_comm] using this

theorem one3 (p : Fin 64 → Prop) [DecidablePred p] (x : Fin 64 → EReal) (h : ∀ u, Fin' (x u)) :
    (∑ u, (if p u then 1 else 0) * x u) + (∑ u, (if p u then 1 else 0) * (x u - x u))
      + (∑ u, (if p u then 1 else 0) * (x u - x u - (x u - x u))) = ∑ u, if p u then x u else 0 := by
  simp only [fun u => sub_self' (h u), sub_zero, mul_zero, Finset.sum_const_zero, add_zero, ite_mul, one_mul, zero_mul]

theorem one3' (p : Fin 64 → Prop) [DecidablePred p] (x : Fin 64 → EReal) (h : ∀ u, Fin' (x u)) :
    (∑ u, x u * (if p u then 1 else 0)) + (∑ u, (x u - x u) * (if p u then 1 else 0))
      + (∑ u, (x u - x u - (x u - x u)) * (if p u then 1 else 0)) = ∑ u, if p u then x u else 0 := by
  have := one3 p x h
  simpa only [mul_comm] using this

/-- A sum over columns that keeps the head of `L`. -/
theorem sum_lane' (L : Fin 256) (f : Fin 256 → EReal) :
    (∑ u, if hd u = hd L then f u else 0) = ∑ d, f (ln (hd L) d) := sum_lane (hd L) f

/-- The gates of a chunk, read off the gate columns. -/
structure Gates (X : Fin 4 → Ch) (Z : Fin 64 → Fin 128 → EReal) (B : Fin 128 → EReal) (ai af : Fin 4) : Prop where
  i : ∀ h t, (X h).i t = Z t (gc ai h) + B (gc ai h)
  f : ∀ h t, (X h).f t = lsg (Z t (gc af h) + B (gc af h))
  fi : ∀ h t, Fin' (Z t (gc ai h) + B (gc ai h))
  ff : ∀ h t, Fin' (Z t (gc af h) + B (gc af h))

theorem Gates.fin {X Z B ai af} (h : Gates X Z B ai af) (k : Fin 4) (t : Fin 64) : Fin' ((X k).f t) := by
  rw [h.f]; exact lsg_fin (h.ff k t)

theorem selp {α : Type} (p : Prop) [Decidable p] (a b : α) :
    Scalar.select (if p then 1#1 else 0#1) a b = if p then a else b := by
  by_cases h : p <;> simp [h, Scalar.select]

/-- Comparing a head's number with a literal. -/
theorem selh {α : Type} (h k : Fin 4) (a b : α) :
    Scalar.select (IntOp.cmpi .eq (BitVec.ofNat 32 h.val) (BitVec.ofNat 32 k.val)) a b = if h = k then a else b := by
  fin_cases h <;> fin_cases k <;> rfl
theorem selh0 {α : Type} (h : Fin 4) (a b : α) :
    Scalar.select (IntOp.cmpi .eq (BitVec.ofNat 32 h.val) 0#32) a b = if h = 0 then a else b := selh h 0 a b

theorem selh1 {α : Type} (h : Fin 4) (a b : α) :
    Scalar.select (IntOp.cmpi .eq (BitVec.ofNat 32 h.val) 1#32) a b = if h = 1 then a else b := selh h 1 a b

theorem selh2 {α : Type} (h : Fin 4) (a b : α) :
    Scalar.select (IntOp.cmpi .eq (BitVec.ofNat 32 h.val) 2#32) a b = if h = 2 then a else b := selh h 2 a b

theorem selh3 {α : Type} (h : Fin 4) (a b : α) :
    Scalar.select (IntOp.cmpi .eq (BitVec.ofNat 32 h.val) 3#32) a b = if h = 3 then a else b := selh h 3 a b

theorem eqh3 (h : Fin 4) : IntOp.cmpi .eq (BitVec.ofNat 32 h.val) 3#32 = if h = 3 then 1#1 else 0#1 := by
  fin_cases h <;> rfl

/-- The head number of a column, as the kernel divides it out. -/
theorem lane_num (x : Fin 256) : Scalar.select
          (IntOp.andi
            (IntOp.cmpi CmpIPredicate.ne
              (IntOp.subi (BitVec.setWidth 32 (IntOp.cmpi CmpIPredicate.sgt (BitVec.ofNat 32 x.val) 0#32))
                (BitVec.setWidth 32 (IntOp.cmpi CmpIPredicate.slt (BitVec.ofNat 32 x.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 x.val) 64#32) 0#32))
          (IntOp.subi (IntOp.divsi ArithUnit.vector (BitVec.ofNat 32 x.val) 64#32) 1#32)
          (IntOp.divsi ArithUnit.vector (BitVec.ofNat 32 x.val) 64#32) = BitVec.ofNat 32 (hd x).val := by
  revert x; decide +kernel

theorem cat_lane (L : Fin 256) (f : Fin 4 → Fin 64 → EReal) :
    (if h : L.val < 64 then f 0 ⟨L.val, h⟩ else if h : L.val - 64 < 64 then f 1 ⟨L.val - 64, h⟩
      else if h : L.val - 64 - 64 < 64 then f 2 ⟨L.val - 64 - 64, h⟩
      else f 3 ⟨L.val - 64 - 64 - 64, by omega⟩) = f (hd L) (dd L) := by
  split_ifs with h1 h2 h3 <;> congr 1 <;> first | (congr 1; apply Fin.ext; simp only [hd]; first | (show 0 = _; omega) | (show 1 = _; omega) | (show 2 = _; omega) | (show 3 = _; omega)) | (apply Fin.ext; simp only [dd]; omega)

variable {X : Fin 4 → Ch} {S : Fin 4 → St} {Z : Fin 64 → Fin 128 → EReal} {B : Fin 128 → EReal} {ai af : Fin 4}

theorem l6 {x0 : Vec Ideal S64x64 .f32} (hG : Gates X Z B ai af) (h0 : ∀ t u, x0 (ix2 t u) = if live false t u then 1 else 0) :
    ∀ t u, (k0_pay6 x0) (ix2 t u) = if live false t u then 1 else 0 := by
  intro t u
  pointwise [k0_pay6]
  simp only [h0, hd_0, hd_1, hd_2, hd_3, dd_0, dd_1, dd_2, dd_3, h8_0, h8_1, h8_2, h8_3, selp]

theorem l7 {x0 : Vec Ideal S64x64 .f32} (hG : Gates X Z B ai af) (h0 : ∀ t u, x0 (ix2 t u) = if live true t u then 1 else 0) :
    ∀ t u, (k0_pay7 x0) (ix2 t u) = if live true t u then 1 else 0 := by
  intro t u
  pointwise [k0_pay7]
  simp only [h0, hd_0, hd_1, hd_2, hd_3, dd_0, dd_1, dd_2, dd_3, h8_0, h8_1, h8_2, h8_3, selp]

theorem l8 {x0 : Vec Ideal S256x256 .f32} (hG : Gates X Z B ai af) (h0 : ∀ L L', x0 (ix2 L L') = if hd L = hd L' then 1 else 0) :
    ∀ L L', (k0_pay8 x0) (ix2 L L') = if hd L = hd L' then 1 else 0 := by
  intro L L'
  pointwise [k0_pay8]
  simp only [h0, hd_0, hd_1, hd_2, hd_3, dd_0, dd_1, dd_2, dd_3, h8_0, h8_1, h8_2, h8_3, selp]

theorem l9 {x0 : Vec Ideal S1x128 .f32} (hG : Gates X Z B ai af) (h0 : ∀ c, x0 (ix2 0 c) = B c) :
    ∀ c, (k0_pay9 x0) (ix2 0 c) = B c := by
  intro c
  pointwise [k0_pay9]
  simp only [h0, hd_0, hd_1, hd_2, hd_3, dd_0, dd_1, dd_2, dd_3, h8_0, h8_1, h8_2, h8_3, selp]

theorem l10 {x0 : Vec Ideal S1x128x256 .f32} (hG : Gates X Z B ai af) (h0 : ∀ c L, x0 (ix3 0 c L) = if c = gc ai (hd L) then 1 else 0) :
    ∀ c L, (k0_pay10 x0) (ix2 c L) = if c = gc ai (hd L) then 1 else 0 := by
  intro c L
  pointwise [k0_pay10]
  simp only [h0, hd_0, hd_1, hd_2, hd_3, dd_0, dd_1, dd_2, dd_3, h8_0, h8_1, h8_2, h8_3, selp]

theorem l11 {x0 : Vec Ideal S1x128x256 .f32} (hG : Gates X Z B ai af) (h0 : ∀ c L, x0 (ix3 0 c L) = if c = gc af (hd L) then 1 else 0) :
    ∀ c L, (k0_pay11 x0) (ix2 c L) = if c = gc af (hd L) then 1 else 0 := by
  intro c L
  pointwise [k0_pay11]
  simp only [h0, hd_0, hd_1, hd_2, hd_3, dd_0, dd_1, dd_2, dd_3, h8_0, h8_1, h8_2, h8_3, selp]

theorem l12 {x0 : Vec Ideal S1x8x128 .f32} (hG : Gates X Z B ai af) (h0 : ∀ h c, x0 (ix3 0 (h8 h) c) = if c = gc ai h then 1 else 0) :
    ∀ h c, (k0_pay12 x0) (ix2 (h8 h) c) = if c = gc ai h then 1 else 0 := by
  intro h c
  pointwise [k0_pay12]
  simp only [h0, hd_0, hd_1, hd_2, hd_3, dd_0, dd_1, dd_2, dd_3, h8_0, h8_1, h8_2, h8_3, selp]

theorem l13 {x0 : Vec Ideal S1x8x128 .f32} (hG : Gates X Z B ai af) (h0 : ∀ h c, x0 (ix3 0 (h8 h) c) = if c = gc af h then 1 else 0) :
    ∀ h c, (k0_pay13 x0) (ix2 (h8 h) c) = if c = gc af h then 1 else 0 := by
  intro h c
  pointwise [k0_pay13]
  simp only [h0, hd_0, hd_1, hd_2, hd_3, dd_0, dd_1, dd_2, dd_3, h8_0, h8_1, h8_2, h8_3, selp]

theorem l14 {x0 : Vec Ideal S1x64x256 .f32} (hG : Gates X Z B ai af) (h0 : ∀ t L, x0 (ix3 0 t L) = (X (hd L)).q t (dd L)) :
    ∀ t L, (k0_pay14 x0) (ix2 t L) = (X (hd L)).q t (dd L) := by
  intro t L
  pointwise [k0_pay14]
  simp only [h0, hd_0, hd_1, hd_2, hd_3, dd_0, dd_1, dd_2, dd_3, h8_0, h8_1, h8_2, h8_3, selp]

theorem l15 {x0 : Vec Ideal S1x64x256 .f32} (hG : Gates X Z B ai af) (h0 : ∀ t L, x0 (ix3 0 t L) * Ideal.ofBits FTy.f32 0x3E000000#32 = (X (hd L)).k t (dd L)) :
    ∀ t L, (k0_pay15 x0) (ix2 t L) = (X (hd L)).k t (dd L) := by
  intro t L
  pointwise [k0_pay15]
  simp only [h0, hd_0, hd_1, hd_2, hd_3, dd_0, dd_1, dd_2, dd_3, h8_0, h8_1, h8_2, h8_3, selp]

theorem l16 {x0 : Vec Ideal S1x64x256 .f32} (hG : Gates X Z B ai af) (h0 : ∀ t L, x0 (ix3 0 t L) = (X (hd L)).v t (dd L)) :
    ∀ t L, (k0_pay16 x0) (ix2 t L) = (X (hd L)).v t (dd L) := by
  intro t L
  pointwise [k0_pay16]
  simp only [h0, hd_0, hd_1, hd_2, hd_3, dd_0, dd_1, dd_2, dd_3, h8_0, h8_1, h8_2, h8_3, selp]

theorem l17 {x0 : FVec Ideal S1x128 .f32} {x1 : Vec Ideal S1x64x128 .f32} (hG : Gates X Z B ai af) (h0 : ∀ c, x0 (ix2 0 c) = B c) (h1 : ∀ t c, x1 (ix3 0 t c) = Z t c) :
    ∀ t c, (k0_pay17 x0 x1) (ix2 t c) = Z t c + B c := by
  intro t c
  pointwise [k0_pay17]
  simp only [h0, h1, hd_0, hd_1, hd_2, hd_3, dd_0, dd_1, dd_2, dd_3, h8_0, h8_1, h8_2, h8_3]

theorem l18 {x0 : FVec Ideal S1x128 .f32} {x1 : FVec Ideal S128x256 .f32} {x2 : Vec Ideal S1x64x128 .f32} (hG : Gates X Z B ai af) (h0 : ∀ c, x0 (ix2 0 c) = B c) (h1 : ∀ c L, x1 (ix2 c L) = if c = gc ai (hd L) then 1 else 0) (h2 : ∀ t c, x2 (ix3 0 t c) = Z t c) :
    ∀ t L, (k0_pay18 x0 x1 x2) (ix2 t L) = (X (hd L)).i t := by
  intro t L
  pointwise [k0_pay18, k0_pay17]
  simp only [h0, h1, h2, hd_0, hd_1, hd_2, hd_3, dd_0, dd_1, dd_2, dd_3, h8_0, h8_1, h8_2, h8_3]
  exact (sel3 (gc ai (hd L)) (fun c => Z t c + B c) (hG.fi _ _)).trans (hG.i _ _).symm

theorem l19 {x0 : FVec Ideal S1x128 .f32} {x1 : FVec Ideal S128x256 .f32} {x2 : Vec Ideal S1x64x128 .f32} (hG : Gates X Z B ai af) (h0 : ∀ c, x0 (ix2 0 c) = B c) (h1 : ∀ c L, x1 (ix2 c L) = if c = gc af (hd L) then 1 else 0) (h2 : ∀ t c, x2 (ix3 0 t c) = Z t c) :
    ∀ t L, 0 - (k0_pay19 x0 x1 x2) (ix2 t L) = (X (hd L)).f t := by
  intro t L
  pointwise [k0_pay19, k0_pay17]
  simp only [h0, h1, h2, hd_0, hd_1, hd_2, hd_3, dd_0, dd_1, dd_2, dd_3, h8_0, h8_1, h8_2, h8_3]
  have hs := sel3 (gc af (hd L)) (fun c => Z t c + B c) (hG.ff _ _)
  simp only [hs, ne_eq, not_true, if_false, Ideal.absf_def]
  rw [hG.f]; rfl

theorem l20 {x0 : FVec Ideal S64x256 .f32} (hG : Gates X Z B ai af) (h0 : ∀ t L, 0 - x0 (ix2 t L) = (X (hd L)).f t) :
    ∀ t L, (k0_pay20 x0) (ix2 t L) = (X (hd L)).f t := by
  intro t L
  pointwise [k0_pay20]
  exact h0 t L

theorem l21 {x0 : FVec Ideal S8x128 .f32} {x1 : FVec Ideal S64x128 .f32} (hG : Gates X Z B ai af) (h0 : ∀ h c, x0 (ix2 (h8 h) c) = if c = gc ai h then 1 else 0) (h1 : ∀ t c, x1 (ix2 t c) = Z t c + B c) :
    ∀ h t, (k0_pay21 x0 x1) (ix2 (h8 h) t) = (X h).i t := by
  intro h t
  pointwise [k0_pay21]
  simp only [h0, h1, hd_0, hd_1, hd_2, hd_3, dd_0, dd_1, dd_2, dd_3, h8_0, h8_1, h8_2, h8_3]
  exact (sel3' (gc ai h) (fun c => Z t c + B c) (hG.fi _ _)).trans (hG.i _ _).symm

theorem l22 {x0 : FVec Ideal S8x128 .f32} {x1 : FVec Ideal S64x128 .f32} (hG : Gates X Z B ai af) (h0 : ∀ h c, x0 (ix2 (h8 h) c) = if c = gc af h then 1 else 0) (h1 : ∀ t c, x1 (ix2 t c) = Z t c + B c) :
    ∀ h t, (k0_pay22 x0 x1) (ix2 (h8 h) t) = (X h).f t := by
  intro h t
  pointwise [k0_pay22]
  simp only [h0, h1, hd_0, hd_1, hd_2, hd_3, dd_0, dd_1, dd_2, dd_3, h8_0, h8_1, h8_2, h8_3]
  have hs := sel3' (gc af h) (fun c => Z t c + B c) (hG.ff _ _)
  simp only [hs, ne_eq, not_true, if_false, Ideal.absf_def]
  rw [hG.f]; rfl

theorem l23 {x0 : FVec Ideal S64x64 .f32} (hG : Gates X Z B ai af) (h0 : ∀ t u, x0 (ix2 t u) = if live false t u then 1 else 0) :
    ∀ t u, (k0_pay23 x0) (ix2 t u) = if live false t u then 1 else 0 := by
  intro t u
  pointwise [k0_pay23]
  simp only [h0, hd_0, hd_1, hd_2, hd_3, dd_0, dd_1, dd_2, dd_3, h8_0, h8_1, h8_2, h8_3]

theorem l24 {x0 : FVec Ideal S64x256 .f32} (hG : Gates X Z B ai af) (h0 : ∀ t L, 0 - x0 (ix2 t L) = (X (hd L)).f t) :
    ∀ t L, (k0_pay24 x0) (ix2 t L) = (X (hd L)).f t := by
  intro t L
  pointwise [k0_pay24, k0_pay20]
  exact h0 t L

theorem l25 {x0 : FVec Ideal S64x256 .f32} (hG : Gates X Z B ai af) (h0 : ∀ t L, 0 - x0 (ix2 t L) = (X (hd L)).f t) :
    ∀ t L, (k0_pay25 x0) (ix2 t L) = (X (hd L)).f t := by
  intro t L
  pointwise [k0_pay25, k0_pay24, k0_pay20]
  exact h0 t L

theorem l26 {x0 : FVec Ideal S64x256 .f32} {x1 : FVec Ideal S64x64 .bf16} {x2 : FVec Ideal S64x256 .bf16} {x3 : FVec Ideal S64x256 .f32} (hG : Gates X Z B ai af) (h0 : ∀ t L, x0 (ix2 t L) = (X (hd L)).f t) (h1 : ∀ t u, x1 (ix2 t u) = if live false t u then 1 else 0) (h2 : ∀ t L, x2 (ix2 t L) = (X (hd L)).f t) (h3 : ∀ t L, x3 (ix2 t L) = (X (hd L)).f t) :
    ∀ t L, (k0_pay26 x0 x1 x2 x3) (ix2 t L) = fcum false (X (hd L)) t := by
  intro t L
  pointwise [k0_pay26]
  simp only [h0, h1, h2, h3, hd_0, hd_1, hd_2, hd_3, dd_0, dd_1, dd_2, dd_3, h8_0, h8_1, h8_2, h8_3]
  exact one3 (fun u => live false t u) (fun u => (X (hd L)).f u) (hG.fin _)

theorem l27 {x0 : FVec Ideal S64x64 .f32} {x1 : FVec Ideal S8x64 .f32} (hG : Gates X Z B ai af) (h0 : ∀ t u, x0 (ix2 t u) = if live true t u then 1 else 0) (h1 : ∀ h t, x1 (ix2 (h8 h) t) = (X h).f t) :
    ∀ h t, (k0_pay27 x0 x1) (ix2 (h8 h) t) = fcum false (X h) t := by
  intro h t
  pointwise [k0_pay27]
  simp only [h0, h1, hd_0, hd_1, hd_2, hd_3, dd_0, dd_1, dd_2, dd_3, h8_0, h8_1, h8_2, h8_3]
  simp only [live_symm]
  exact one3' (fun u => live false t u) (fun u => (X h).f u) (hG.fin _)

theorem l28 {x0 : FVec Ideal S64x256 .f32} {x1 : FVec Ideal S64x64 .bf16} {x2 : FVec Ideal S64x256 .bf16} {x3 : FVec Ideal S64x256 .f32} (hG : Gates X Z B ai af) (h0 : ∀ t L, x0 (ix2 t L) = (X (hd L)).f t) (h1 : ∀ t u, x1 (ix2 t u) = if live false t u then 1 else 0) (h2 : ∀ t L, x2 (ix2 t L) = (X (hd L)).f t) (h3 : ∀ t L, x3 (ix2 t L) = (X (hd L)).f t) :
    ∀ L, (k0_pay28 x0 x1 x2 x3) (ix2 0 L) = ftot false (X (hd L)) := by
  intro L
  pointwise [k0_pay28, k0_pay26]
  simp only [h0, h1, h2, h3, hd_0, hd_1, hd_2, hd_3, dd_0, dd_1, dd_2, dd_3, h8_0, h8_1, h8_2, h8_3]
  exact one3 (fun u => live false 63 u) (fun u => (X (hd L)).f u) (hG.fin _)

theorem l30 {x0 : FVec Ideal S64x256 .f32} {x1 : FVec Ideal S64x256 .f32} {x2 : FVec Ideal S64x64 .bf16} {x3 : FVec Ideal S64x256 .bf16} {x4 : FVec Ideal S64x256 .f32} (hG : Gates X Z B ai af) (h0 : ∀ t L, x0 (ix2 t L) = (X (hd L)).i t) (h1 : ∀ t L, x1 (ix2 t L) = (X (hd L)).f t) (h2 : ∀ t u, x2 (ix2 t u) = if live false t u then 1 else 0) (h3 : ∀ t L, x3 (ix2 t L) = (X (hd L)).f t) (h4 : ∀ t L, x4 (ix2 t L) = (X (hd L)).f t) :
    ∀ L, (k0_pay30 x0 x1 x2 x3 x4) (ix2 0 L) = gmax false (X (hd L)) := by
  intro L
  pointwise [k0_pay30, k0_pay29, k0_pay28, k0_pay26]
  simp only [h0, h1, h2, h3, h4, hd_0, hd_1, hd_2, hd_3, dd_0, dd_1, dd_2, dd_3, h8_0, h8_1, h8_2, h8_3]
  have key := fun t L => one3 (fun u => live false t u) (fun u => (X (hd L)).f u) (hG.fin _)
  simp only [key]
  rfl

theorem l31 {x0 : FVec Ideal S64x256 .f32} {x1 : FVec Ideal S64x256 .f32} {x2 : FVec Ideal S64x256 .f32} {x3 : FVec Ideal S64x64 .bf16} {x4 : FVec Ideal S64x256 .bf16} {x5 : FVec Ideal S64x256 .f32} (hG : Gates X Z B ai af) (h0 : ∀ t L, x0 (ix2 t L) = (X (hd L)).k t (dd L)) (h1 : ∀ t L, x1 (ix2 t L) = (X (hd L)).i t) (h2 : ∀ t L, x2 (ix2 t L) = (X (hd L)).f t) (h3 : ∀ t u, x3 (ix2 t u) = if live false t u then 1 else 0) (h4 : ∀ t L, x4 (ix2 t L) = (X (hd L)).f t) (h5 : ∀ t L, x5 (ix2 t L) = (X (hd L)).f t) :
    ∀ t L, (k0_pay31 x0 x1 x2 x3 x4 x5) (ix2 t L) = kw false (X (hd L)) t (dd L) := by
  intro t L
  pointwise [k0_pay31, k0_pay30, k0_pay29, k0_pay28, k0_pay26]
  simp only [h0, h1, h2, h3, h4, h5, hd_0, hd_1, hd_2, hd_3, dd_0, dd_1, dd_2, dd_3, h8_0, h8_1, h8_2, h8_3]
  have key := fun t L => one3 (fun u => live false t u) (fun u => (X (hd L)).f u) (hG.fin _)
  simp only [key]
  rfl

theorem l32 {x0 : Vec Ideal S1x256x256 .f32} (hG : Gates X Z B ai af) (h0 : ∀ L L', x0 (ix3 0 L L') = if hd L = hd L' then (S (hd L)).C (dd L) (dd L') else 0) :
    ∀ L L', (k0_pay32 x0) (ix2 L L') = if hd L = hd L' then (S (hd L)).C (dd L) (dd L') else 0 := by
  intro L L'
  pointwise [k0_pay32]
  simp only [h0, hd_0, hd_1, hd_2, hd_3, dd_0, dd_1, dd_2, dd_3, h8_0, h8_1, h8_2, h8_3, selp]

theorem l33 {x0 : Vec Ideal S1x1x256 .f32} (hG : Gates X Z B ai af) (h0 : ∀ L, x0 (ix3 0 0 L) = (S (hd L)).N (dd L)) :
    ∀ L, (k0_pay33 x0) (ix2 0 L) = (S (hd L)).N (dd L) := by
  intro L
  pointwise [k0_pay33]
  simp only [h0, hd_0, hd_1, hd_2, hd_3, dd_0, dd_1, dd_2, dd_3, h8_0, h8_1, h8_2, h8_3]

theorem l34 {x0 : Vec Ideal S1x1x256 .f32} (hG : Gates X Z B ai af) (h0 : ∀ L, x0 (ix3 0 0 L) = (S (hd L)).M) :
    ∀ L, (k0_pay34 x0) (ix2 0 L) = (S (hd L)).M := by
  intro L
  pointwise [k0_pay34]
  simp only [h0, hd_0, hd_1, hd_2, hd_3, dd_0, dd_1, dd_2, dd_3, h8_0, h8_1, h8_2, h8_3]

theorem l35 {x0 : FVec Ideal S64x256 .f32} (hG : Gates X Z B ai af) (h0 : ∀ t L, x0 (ix2 t L) = (X (hd L)).k t (dd L)) :
    ∀ t L, (k0_pay35 x0) (ix2 t L) = (X (hd L)).k t (dd L) := by
  intro t L
  pointwise [k0_pay35]
  simp only [h0, hd_0, hd_1, hd_2, hd_3, dd_0, dd_1, dd_2, dd_3, h8_0, h8_1, h8_2, h8_3]

theorem l36 {x0 : FVec Ideal S64x256 .f32} {x1 : Vec Ideal S1x256x256 .f32} (hG : Gates X Z B ai af) (h0 : ∀ t L, x0 (ix2 t L) = (X (hd L)).q t (dd L)) (h1 : ∀ L L', x1 (ix3 0 L L') = if hd L = hd L' then (S (hd L)).C (dd L) (dd L') else 0) :
    ∀ t L, (k0_pay36 x0 x1) (ix2 t L) = ∑ d, (X (hd L)).q t d * (S (hd L)).C d (dd L) := by
  intro t L
  pointwise [k0_pay36, k0_pay32]
  simp only [h0, h1, hd_0, hd_1, hd_2, hd_3, dd_0, dd_1, dd_2, dd_3, h8_0, h8_1, h8_2, h8_3, mul_ite, mul_one, mul_zero, sum_lane', hd_ln, dd_ln]

theorem l37 {x0 : FVec Ideal S256x256 .f32} {x1 : FVec Ideal S64x256 .f32} {x2 : FVec Ideal S1x256 .f32} (hG : Gates X Z B ai af) (h0 : ∀ L L', x0 (ix2 L L') = if hd L = hd L' then 1 else 0) (h1 : ∀ t L, x1 (ix2 t L) = (X (hd L)).q t (dd L)) (h2 : ∀ L, x2 (ix2 0 L) = (S (hd L)).N (dd L)) :
    ∀ t L, (k0_pay37 x0 x1 x2) (ix2 t L) = ∑ d, (X (hd L)).q t d * (S (hd L)).N d := by
  intro t L
  pointwise [k0_pay37]
  simp only [h0, h1, h2, hd_0, hd_1, hd_2, hd_3, dd_0, dd_1, dd_2, dd_3, h8_0, h8_1, h8_2, h8_3, mul_ite, mul_one, mul_zero, sum_lane', hd_ln, dd_ln]

theorem l38 {x0 : FVec Ideal S64x256 .f32} {x1 : FVec Ideal S1x256 .f32} (hG : Gates X Z B ai af) (h0 : ∀ t L, x0 (ix2 t L) = fcum false (X (hd L)) t) (h1 : ∀ L, x1 (ix2 0 L) = (S (hd L)).M) :
    ∀ t L, (k0_pay38 x0 x1) (ix2 t L) = ainit false (X (hd L)) (S (hd L)) t := by
  intro t L
  pointwise [k0_pay38]
  simp only [h0, h1, hd_0, hd_1, hd_2, hd_3, dd_0, dd_1, dd_2, dd_3, h8_0, h8_1, h8_2, h8_3, selp] <;> rfl

theorem l39 (hG : Gates X Z B ai af)  :
    ∀ t u, k0_pay39 (ix2 t u) = if live false t u then 1#1 else 0#1 := by
  intro t u
  pointwise [k0_pay39]
  revert t u; decide +kernel

theorem l75 {x0 : FVec Ideal S64x256 .f32} {x1 : FVec Ideal S64x256 .bf16} {x2 : IVec S64x256 32} (hG : Gates X Z B ai af) (h0 : ∀ t L, x0 (ix2 t L) = (X (hd L)).q t (dd L)) (h1 : ∀ t L, x1 (ix2 t L) = (X (hd L)).k t (dd L)) (h2 : ∀ t L, x2 (ix2 t L) = BitVec.ofNat 32 L.val) :
    ∀ t u, (k0_pay75 x0 x1 x2 64#32) (ix2 t u) = ∑ d, (X 0).q t d * (X 0).k u d := by
  intro t u
  pointwise [k0_pay75, k0_pay74]
  simp only [h0, h1, h2, hd_0, hd_1, hd_2, hd_3, dd_0, dd_1, dd_2, dd_3, h8_0, h8_1, h8_2, h8_3, lane_num, selh0, selp, sum_lane, hd_ln, dd_ln]

theorem l76 {x0 : FVec Ideal S64x256 .f32} {x1 : FVec Ideal S64x256 .bf16} {x2 : IVec S64x256 32} (hG : Gates X Z B ai af) (h0 : ∀ t L, x0 (ix2 t L) = (X (hd L)).q t (dd L)) (h1 : ∀ t L, x1 (ix2 t L) = (X (hd L)).k t (dd L)) (h2 : ∀ t L, x2 (ix2 t L) = BitVec.ofNat 32 L.val) :
    ∀ t u, (k0_pay76 x0 x1 x2 64#32) (ix2 t u) = ∑ d, (X 1).q t d * (X 1).k u d := by
  intro t u
  pointwise [k0_pay76, k0_pay74]
  simp only [h0, h1, h2, hd_0, hd_1, hd_2, hd_3, dd_0, dd_1, dd_2, dd_3, h8_0, h8_1, h8_2, h8_3, lane_num, selh1, selp, sum_lane, hd_ln, dd_ln]

theorem l77 {x0 : FVec Ideal S64x256 .f32} {x1 : FVec Ideal S64x256 .bf16} {x2 : IVec S64x256 32} (hG : Gates X Z B ai af) (h0 : ∀ t L, x0 (ix2 t L) = (X (hd L)).q t (dd L)) (h1 : ∀ t L, x1 (ix2 t L) = (X (hd L)).k t (dd L)) (h2 : ∀ t L, x2 (ix2 t L) = BitVec.ofNat 32 L.val) :
    ∀ t u, (k0_pay77 x0 x1 x2 64#32) (ix2 t u) = ∑ d, (X 2).q t d * (X 2).k u d := by
  intro t u
  pointwise [k0_pay77, k0_pay74]
  simp only [h0, h1, h2, hd_0, hd_1, hd_2, hd_3, dd_0, dd_1, dd_2, dd_3, h8_0, h8_1, h8_2, h8_3, lane_num, selh2, selp, sum_lane, hd_ln, dd_ln]

theorem l78 {x0 : IVec S64x256 32} (hG : Gates X Z B ai af) (h0 : ∀ t L, x0 (ix2 t L) = BitVec.ofNat 32 L.val) :
    ∀ t L, (k0_pay78 x0 64#32) (ix2 t L) = if hd L = 3 then 1#1 else 0#1 := by
  intro t L
  pointwise [k0_pay78, k0_pay74]
  simp only [h0, lane_num, eqh3]

theorem l79 {x0 : FVec Ideal S64x256 .f32} {x1 : FVec Ideal S64x256 .bf16} {x2 : IVec S64x256 1} (hG : Gates X Z B ai af) (h0 : ∀ t L, x0 (ix2 t L) = (X (hd L)).q t (dd L)) (h1 : ∀ t L, x1 (ix2 t L) = (X (hd L)).k t (dd L)) (h2 : ∀ t L, x2 (ix2 t L) = if hd L = 3 then 1#1 else 0#1) :
    ∀ t u, (k0_pay79 x0 x1 x2) (ix2 t u) = ∑ d, (X 3).q t d * (X 3).k u d := by
  intro t u
  pointwise [k0_pay79]
  simp only [h0, h1, h2, hd_0, hd_1, hd_2, hd_3, dd_0, dd_1, dd_2, dd_3, h8_0, h8_1, h8_2, h8_3, lane_num, selh3, selp, sum_lane, hd_ln, dd_ln]

theorem l84 {x0 : FVec Ideal S8x64 .f32} {x1 : FVec Ideal S64x256 .f32} {x2 : FVec Ideal S8x64 .f32} {x3 : IVec S64x64 1} (hG : Gates X Z B ai af) (h0 : ∀ h t, x0 (ix2 (h8 h) t) = (X h).i t) (h1 : ∀ t L, x1 (ix2 t L) = fcum false (X (hd L)) t) (h2 : ∀ h t, x2 (ix2 (h8 h) t) = fcum false (X h) t) (h3 : ∀ t u, x3 (ix2 t u) = if live false t u then 1#1 else 0#1) :
    ∀ t u, (k0_pay84 x0 x1 x2 x3) (ix2 t u) = amat false (X 0) t u := by
  intro t u
  pointwise [k0_pay84]
  have e0 : ∀ u, x0 (ix2 0 u) = _ := h0 0
  have e2 : ∀ u, x2 (ix2 0 u) = _ := h2 0
  simp only [h1, e0, e2, hd_0, hd_1, hd_2, hd_3, dd_0, dd_1, dd_2, dd_3, h8_0, h8_1, h8_2, h8_3, selp, h3] <;> rfl

theorem l85 {x0 : FVec Ideal S8x64 .f32} {x1 : FVec Ideal S64x256 .f32} {x2 : FVec Ideal S8x64 .f32} (hG : Gates X Z B ai af) (h0 : ∀ h t, x0 (ix2 (h8 h) t) = (X h).i t) (h1 : ∀ t L, x1 (ix2 t L) = fcum false (X (hd L)) t) (h2 : ∀ h t, x2 (ix2 (h8 h) t) = fcum false (X h) t) :
    ∀ t u, (k0_pay85 x0 x1 x2) (ix2 t u) = fcum false (X 1) t - fcum false (X 1) u + (X 1).i u := by
  intro t u
  pointwise [k0_pay85]
  have e0 : ∀ u, x0 (ix2 1 u) = _ := h0 1
  have e2 : ∀ u, x2 (ix2 1 u) = _ := h2 1
  simp only [h1, e0, e2, hd_0, hd_1, hd_2, hd_3, dd_0, dd_1, dd_2, dd_3, h8_0, h8_1, h8_2, h8_3, selp] <;> rfl

theorem l86 {x0 : IVec S64x64 1} {x1 : FVec Ideal S64x64 .f32} (hG : Gates X Z B ai af) (h0 : ∀ t u, x0 (ix2 t u) = if live false t u then 1#1 else 0#1) (h1 : ∀ t u, x1 (ix2 t u) = fcum false (X 1) t - fcum false (X 1) u + (X 1).i u) :
    ∀ t u, (k0_pay86 x0 x1 (Ideal.ofBits FTy.f32 0xF149F2CA#32)) (ix2 t u) = amat false (X 1) t u := by
  intro t u
  pointwise [k0_pay86]
  simp only [h0, h1, hd_0, hd_1, hd_2, hd_3, dd_0, dd_1, dd_2, dd_3, h8_0, h8_1, h8_2, h8_3, selp] <;> rfl

theorem l87 {x0 : FVec Ideal S8x64 .f32} {x1 : FVec Ideal S64x256 .f32} {x2 : FVec Ideal S8x64 .f32} {x3 : IVec S64x64 1} (hG : Gates X Z B ai af) (h0 : ∀ h t, x0 (ix2 (h8 h) t) = (X h).i t) (h1 : ∀ t L, x1 (ix2 t L) = fcum false (X (hd L)) t) (h2 : ∀ h t, x2 (ix2 (h8 h) t) = fcum false (X h) t) (h3 : ∀ t u, x3 (ix2 t u) = if live false t u then 1#1 else 0#1) :
    ∀ t u, (k0_pay87 x0 x1 x2 x3) (ix2 t u) = amat false (X 2) t u := by
  intro t u
  pointwise [k0_pay87]
  have e0 : ∀ u, x0 (ix2 2 u) = _ := h0 2
  have e2 : ∀ u, x2 (ix2 2 u) = _ := h2 2
  simp only [h1, e0, e2, hd_0, hd_1, hd_2, hd_3, dd_0, dd_1, dd_2, dd_3, h8_0, h8_1, h8_2, h8_3, selp, h3] <;> rfl

theorem l88 {x0 : FVec Ideal S8x64 .f32} {x1 : FVec Ideal S64x256 .f32} {x2 : FVec Ideal S8x64 .f32} {x3 : IVec S64x64 1} (hG : Gates X Z B ai af) (h0 : ∀ h t, x0 (ix2 (h8 h) t) = (X h).i t) (h1 : ∀ t L, x1 (ix2 t L) = fcum false (X (hd L)) t) (h2 : ∀ h t, x2 (ix2 (h8 h) t) = fcum false (X h) t) (h3 : ∀ t u, x3 (ix2 t u) = if live false t u then 1#1 else 0#1) :
    ∀ t u, (k0_pay88 x0 x1 x2 x3) (ix2 t u) = amat false (X 3) t u := by
  intro t u
  pointwise [k0_pay88]
  have e0 : ∀ u, x0 (ix2 3 u) = _ := h0 3
  have e2 : ∀ u, x2 (ix2 3 u) = _ := h2 3
  simp only [h1, e0, e2, hd_0, hd_1, hd_2, hd_3, dd_0, dd_1, dd_2, dd_3, h8_0, h8_1, h8_2, h8_3, selp, h3] <;> rfl

theorem l94 {x0 : FVec Ideal S64x256 .f32} {x1 : FVec Ideal S64x64 .f32} (hG : Gates X Z B ai af) (h0 : ∀ t L, x0 (ix2 t L) = ainit false (X (hd L)) (S (hd L)) t) (h1 : ∀ t u, x1 (ix2 t u) = amat false (X 0) t u) :
    ∀ t u, (k0_pay94 x0 x1) (ix2 t u) = mt false (X 0) (S 0) t := by
  intro t u
  pointwise [k0_pay94]
  simp only [h0, h1, hd_0, hd_1, hd_2, hd_3, dd_0, dd_1, dd_2, dd_3, h8_0, h8_1, h8_2, h8_3, selp] <;> rfl

theorem l95 {x0 : FVec Ideal S64x256 .f32} {x1 : FVec Ideal S64x64 .f32} (hG : Gates X Z B ai af) (h0 : ∀ t L, x0 (ix2 t L) = ainit false (X (hd L)) (S (hd L)) t) (h1 : ∀ t u, x1 (ix2 t u) = amat false (X 1) t u) :
    ∀ t u, (k0_pay95 x0 x1) (ix2 t u) = mt false (X 1) (S 1) t := by
  intro t u
  pointwise [k0_pay95]
  simp only [h0, h1, hd_0, hd_1, hd_2, hd_3, dd_0, dd_1, dd_2, dd_3, h8_0, h8_1, h8_2, h8_3, selp] <;> rfl

theorem l96 {x0 : FVec Ideal S64x256 .f32} {x1 : FVec Ideal S64x64 .f32} (hG : Gates X Z B ai af) (h0 : ∀ t L, x0 (ix2 t L) = ainit false (X (hd L)) (S (hd L)) t) (h1 : ∀ t u, x1 (ix2 t u) = amat false (X 2) t u) :
    ∀ t u, (k0_pay96 x0 x1) (ix2 t u) = mt false (X 2) (S 2) t := by
  intro t u
  pointwise [k0_pay96]
  simp only [h0, h1, hd_0, hd_1, hd_2, hd_3, dd_0, dd_1, dd_2, dd_3, h8_0, h8_1, h8_2, h8_3, selp] <;> rfl

theorem l97 {x0 : FVec Ideal S64x256 .f32} {x1 : FVec Ideal S64x64 .f32} (hG : Gates X Z B ai af) (h0 : ∀ t L, x0 (ix2 t L) = ainit false (X (hd L)) (S (hd L)) t) (h1 : ∀ t u, x1 (ix2 t u) = amat false (X 3) t u) :
    ∀ t u, (k0_pay97 x0 x1) (ix2 t u) = mt false (X 3) (S 3) t := by
  intro t u
  pointwise [k0_pay97]
  simp only [h0, h1, hd_0, hd_1, hd_2, hd_3, dd_0, dd_1, dd_2, dd_3, h8_0, h8_1, h8_2, h8_3, selp] <;> rfl

theorem l102 {x0 : FVec Ideal S64x256 .f32} {x1 : FVec Ideal S64x64 .f32} {x2 : FVec Ideal S64x64 .f32} (hG : Gates X Z B ai af) (h0 : ∀ t L, x0 (ix2 t L) = ainit false (X (hd L)) (S (hd L)) t) (h1 : ∀ t u, x1 (ix2 t u) = ∑ d, (X 0).q t d * (X 0).k u d) (h2 : ∀ t u, x2 (ix2 t u) = amat false (X 0) t u) :
    ∀ t u, (k0_pay102 x0 x1 x2) (ix2 t u) = pmat false (X 0) (S 0) t u := by
  intro t u
  pointwise [k0_pay102, k0_pay94]
  simp only [h0, h1, h2, hd_0, hd_1, hd_2, hd_3, dd_0, dd_1, dd_2, dd_3, h8_0, h8_1, h8_2, h8_3, selp] <;> rfl

theorem l103 {x0 : FVec Ideal S64x256 .f32} {x1 : FVec Ideal S64x64 .f32} {x2 : FVec Ideal S64x64 .f32} (hG : Gates X Z B ai af) (h0 : ∀ t L, x0 (ix2 t L) = ainit false (X (hd L)) (S (hd L)) t) (h1 : ∀ t u, x1 (ix2 t u) = ∑ d, (X 1).q t d * (X 1).k u d) (h2 : ∀ t u, x2 (ix2 t u) = amat false (X 1) t u) :
    ∀ t u, (k0_pay103 x0 x1 x2) (ix2 t u) = pmat false (X 1) (S 1) t u := by
  intro t u
  pointwise [k0_pay103, k0_pay95]
  simp only [h0, h1, h2, hd_0, hd_1, hd_2, hd_3, dd_0, dd_1, dd_2, dd_3, h8_0, h8_1, h8_2, h8_3, selp] <;> rfl

theorem l104 {x0 : FVec Ideal S64x256 .f32} {x1 : FVec Ideal S64x64 .f32} {x2 : FVec Ideal S64x64 .f32} (hG : Gates X Z B ai af) (h0 : ∀ t L, x0 (ix2 t L) = ainit false (X (hd L)) (S (hd L)) t) (h1 : ∀ t u, x1 (ix2 t u) = ∑ d, (X 2).q t d * (X 2).k u d) (h2 : ∀ t u, x2 (ix2 t u) = amat false (X 2) t u) :
    ∀ t u, (k0_pay104 x0 x1 x2) (ix2 t u) = pmat false (X 2) (S 2) t u := by
  intro t u
  pointwise [k0_pay104, k0_pay96]
  simp only [h0, h1, h2, hd_0, hd_1, hd_2, hd_3, dd_0, dd_1, dd_2, dd_3, h8_0, h8_1, h8_2, h8_3, selp] <;> rfl

theorem l105 {x0 : FVec Ideal S64x256 .f32} {x1 : FVec Ideal S64x64 .f32} (hG : Gates X Z B ai af) (h0 : ∀ t L, x0 (ix2 t L) = ainit false (X (hd L)) (S (hd L)) t) (h1 : ∀ t u, x1 (ix2 t u) = amat false (X 3) t u) :
    ∀ t u, (k0_pay105 x0 x1) (ix2 t u) = amat false (X 3) t u - mt false (X 3) (S 3) t := by
  intro t u
  pointwise [k0_pay105, k0_pay97]
  simp only [h0, h1, hd_0, hd_1, hd_2, hd_3, dd_0, dd_1, dd_2, dd_3, h8_0, h8_1, h8_2, h8_3, selp] <;> rfl

theorem l106 {x0 : FVec Ideal S64x64 .f32} {x1 : FVec Ideal S64x64 .f32} (hG : Gates X Z B ai af) (h0 : ∀ t u, x0 (ix2 t u) = ∑ d, (X 3).q t d * (X 3).k u d) (h1 : ∀ t u, x1 (ix2 t u) = amat false (X 3) t u - mt false (X 3) (S 3) t) :
    ∀ t u, (k0_pay106 x0 x1) (ix2 t u) = pmat false (X 3) (S 3) t u := by
  intro t u
  pointwise [k0_pay106]
  simp only [h0, h1, hd_0, hd_1, hd_2, hd_3, dd_0, dd_1, dd_2, dd_3, h8_0, h8_1, h8_2, h8_3, selp] <;> rfl

theorem l111 {x0 : FVec Ideal S64x256 .f32} {x1 : FVec Ideal S64x64 .f32} (hG : Gates X Z B ai af) (h0 : ∀ t L, x0 (ix2 t L) = (X (hd L)).v t (dd L)) (h1 : ∀ t u, x1 (ix2 t u) = pmat false (X 1) (S 1) t u) :
    ∀ t e, (k0_pay111 x0 x1) (ix2 t e) = ∑ u, pmat false (X 1) (S 1) t u * (X 1).v u e := by
  intro t e
  pointwise [k0_pay111]
  simp only [h0, h1, hd_0, hd_1, hd_2, hd_3, dd_0, dd_1, dd_2, dd_3, h8_0, h8_1, h8_2, h8_3, selp] <;> rfl

theorem l112 {x0 : FVec Ideal S64x256 .f32} {x1 : FVec Ideal S64x64 .f32} (hG : Gates X Z B ai af) (h0 : ∀ t L, x0 (ix2 t L) = (X (hd L)).v t (dd L)) (h1 : ∀ t u, x1 (ix2 t u) = pmat false (X 2) (S 2) t u) :
    ∀ t e, (k0_pay112 x0 x1) (ix2 t e) = ∑ u, pmat false (X 2) (S 2) t u * (X 2).v u e := by
  intro t e
  pointwise [k0_pay112]
  simp only [h0, h1, hd_0, hd_1, hd_2, hd_3, dd_0, dd_1, dd_2, dd_3, h8_0, h8_1, h8_2, h8_3, selp] <;> rfl

theorem l113 {x0 : FVec Ideal S64x256 .f32} {x1 : FVec Ideal S64x64 .f32} {x2 : FVec Ideal S64x64 .f32} (hG : Gates X Z B ai af) (h0 : ∀ t L, x0 (ix2 t L) = (X (hd L)).v t (dd L)) (h1 : ∀ t u, x1 (ix2 t u) = ∑ d, (X 3).q t d * (X 3).k u d) (h2 : ∀ t u, x2 (ix2 t u) = amat false (X 3) t u - mt false (X 3) (S 3) t) :
    ∀ t e, (k0_pay113 x0 x1 x2) (ix2 t e) = ∑ u, pmat false (X 3) (S 3) t u * (X 3).v u e := by
  intro t e
  pointwise [k0_pay113, k0_pay106]
  simp only [h0, h1, h2, hd_0, hd_1, hd_2, hd_3, dd_0, dd_1, dd_2, dd_3, h8_0, h8_1, h8_2, h8_3, selp] <;> rfl

theorem l118 {x0 : FVec Ideal S64x256 .f32} {x1 : FVec Ideal S64x64 .f32} (hG : Gates X Z B ai af) (h0 : ∀ t L, x0 (ix2 t L) = ainit false (X (hd L)) (S (hd L)) t) (h1 : ∀ t u, x1 (ix2 t u) = mt false (X 0) (S 0) t) :
    ∀ t u, (k0_pay118 x0 x1) (ix2 t u) = e0 false (X 0) (S 0) t := by
  intro t u
  pointwise [k0_pay118]
  simp only [h0, h1, hd_0, hd_1, hd_2, hd_3, dd_0, dd_1, dd_2, dd_3, h8_0, h8_1, h8_2, h8_3, selp] <;> rfl

theorem l119 {x0 : FVec Ideal S64x256 .f32} {x1 : FVec Ideal S64x256 .f32} {x2 : FVec Ideal S64x256 .f32} {x3 : FVec Ideal S64x64 .f32} {x4 : FVec Ideal S64x64 .f32} (hG : Gates X Z B ai af) (h0 : ∀ t L, x0 (ix2 t L) = (X (hd L)).v t (dd L)) (h1 : ∀ t L, x1 (ix2 t L) = ∑ d, (X (hd L)).q t d * (S (hd L)).C d (dd L)) (h2 : ∀ t L, x2 (ix2 t L) = ainit false (X (hd L)) (S (hd L)) t) (h3 : ∀ t u, x3 (ix2 t u) = mt false (X 0) (S 0) t) (h4 : ∀ t u, x4 (ix2 t u) = pmat false (X 0) (S 0) t u) :
    ∀ t e, (k0_pay119 x0 x1 x2 x3 x4) (ix2 t e) = num false (X 0) (S 0) t e := by
  intro t e
  pointwise [k0_pay119, k0_pay118]
  simp only [h0, h1, h2, h3, h4, hd_0, hd_1, hd_2, hd_3, dd_0, dd_1, dd_2, dd_3, h8_0, h8_1, h8_2, h8_3, selp] <;> rfl

theorem l120 {x0 : FVec Ideal S64x256 .f32} {x1 : FVec Ideal S64x64 .f32} {x2 : FVec Ideal S64x64 .f32} {x3 : FVec Ideal S64x64 .f32} {x4 : FVec Ideal S64x64 .f32} (hG : Gates X Z B ai af) (h0 : ∀ t L, x0 (ix2 t L) = ∑ d, (X (hd L)).q t d * (S (hd L)).N d) (h1 : ∀ t u, x1 (ix2 t u) = mt false (X 0) (S 0) t) (h2 : ∀ t u, x2 (ix2 t u) = pmat false (X 0) (S 0) t u) (h3 : ∀ t u, x3 (ix2 t u) = e0 false (X 0) (S 0) t) (h4 : ∀ t e, x4 (ix2 t e) = num false (X 0) (S 0) t e) :
    ∀ t e, (k0_pay120 x0 x1 x2 x3 x4) (ix2 t e) = outH false (X 0) (S 0) t e := by
  intro t e
  pointwise [k0_pay120]
  simp only [h0, h1, h2, h3, h4, hd_0, hd_1, hd_2, hd_3, dd_0, dd_1, dd_2, dd_3, h8_0, h8_1, h8_2, h8_3, selp] <;> rfl

theorem l121 {x0 : FVec Ideal S64x256 .f32} {x1 : FVec Ideal S64x256 .f32} {x2 : FVec Ideal S64x256 .f32} {x3 : FVec Ideal S64x64 .f32} {x4 : FVec Ideal S64x64 .f32} {x5 : FVec Ideal S64x64 .f32} (hG : Gates X Z B ai af) (h0 : ∀ t L, x0 (ix2 t L) = ∑ d, (X (hd L)).q t d * (S (hd L)).C d (dd L)) (h1 : ∀ t L, x1 (ix2 t L) = ∑ d, (X (hd L)).q t d * (S (hd L)).N d) (h2 : ∀ t L, x2 (ix2 t L) = ainit false (X (hd L)) (S (hd L)) t) (h3 : ∀ t u, x3 (ix2 t u) = mt false (X 1) (S 1) t) (h4 : ∀ t u, x4 (ix2 t u) = pmat false (X 1) (S 1) t u) (h5 : ∀ t e, x5 (ix2 t e) = ∑ u, pmat false (X 1) (S 1) t u * (X 1).v u e) :
    ∀ t e, (k0_pay121 x0 x1 x2 x3 x4 x5) (ix2 t e) = outH false (X 1) (S 1) t e := by
  intro t e
  pointwise [k0_pay121]
  simp only [h0, h1, h2, h3, h4, h5, hd_0, hd_1, hd_2, hd_3, dd_0, dd_1, dd_2, dd_3, h8_0, h8_1, h8_2, h8_3, selp] <;> rfl

theorem l122 {x0 : FVec Ideal S64x256 .f32} {x1 : FVec Ideal S64x256 .f32} {x2 : FVec Ideal S64x256 .f32} {x3 : FVec Ideal S64x64 .f32} {x4 : FVec Ideal S64x64 .f32} {x5 : FVec Ideal S64x64 .f32} (hG : Gates X Z B ai af) (h0 : ∀ t L, x0 (ix2 t L) = ∑ d, (X (hd L)).q t d * (S (hd L)).C d (dd L)) (h1 : ∀ t L, x1 (ix2 t L) = ∑ d, (X (hd L)).q t d * (S (hd L)).N d) (h2 : ∀ t L, x2 (ix2 t L) = ainit false (X (hd L)) (S (hd L)) t) (h3 : ∀ t u, x3 (ix2 t u) = mt false (X 2) (S 2) t) (h4 : ∀ t u, x4 (ix2 t u) = pmat false (X 2) (S 2) t u) (h5 : ∀ t e, x5 (ix2 t e) = ∑ u, pmat false (X 2) (S 2) t u * (X 2).v u e) :
    ∀ t e, (k0_pay122 x0 x1 x2 x3 x4 x5) (ix2 t e) = outH false (X 2) (S 2) t e := by
  intro t e
  pointwise [k0_pay122]
  simp only [h0, h1, h2, h3, h4, h5, hd_0, hd_1, hd_2, hd_3, dd_0, dd_1, dd_2, dd_3, h8_0, h8_1, h8_2, h8_3, selp] <;> rfl

theorem l123 {x0 : FVec Ideal S64x256 .f32} {x1 : FVec Ideal S64x64 .f32} (hG : Gates X Z B ai af) (h0 : ∀ t L, x0 (ix2 t L) = ainit false (X (hd L)) (S (hd L)) t) (h1 : ∀ t u, x1 (ix2 t u) = mt false (X 3) (S 3) t) :
    ∀ t u, (k0_pay123 x0 x1) (ix2 t u) = e0 false (X 3) (S 3) t := by
  intro t u
  pointwise [k0_pay123]
  simp only [h0, h1, hd_0, hd_1, hd_2, hd_3, dd_0, dd_1, dd_2, dd_3, h8_0, h8_1, h8_2, h8_3, selp] <;> rfl

theorem l124 {x0 : FVec Ideal S64x256 .f32} {x1 : FVec Ideal S64x256 .f32} {x2 : FVec Ideal S64x64 .f32} {x3 : FVec Ideal S64x64 .f32} (hG : Gates X Z B ai af) (h0 : ∀ t L, x0 (ix2 t L) = ∑ d, (X (hd L)).q t d * (S (hd L)).C d (dd L)) (h1 : ∀ t L, x1 (ix2 t L) = ainit false (X (hd L)) (S (hd L)) t) (h2 : ∀ t u, x2 (ix2 t u) = mt false (X 3) (S 3) t) (h3 : ∀ t e, x3 (ix2 t e) = ∑ u, pmat false (X 3) (S 3) t u * (X 3).v u e) :
    ∀ t e, (k0_pay124 x0 x1 x2 x3) (ix2 t e) = num false (X 3) (S 3) t e := by
  intro t e
  pointwise [k0_pay124, k0_pay123]
  simp only [h0, h1, h2, h3, hd_0, hd_1, hd_2, hd_3, dd_0, dd_1, dd_2, dd_3, h8_0, h8_1, h8_2, h8_3, selp] <;> rfl

theorem l125 {x0 : FVec Ideal S64x256 .f32} {x1 : FVec Ideal S64x64 .f32} {x2 : FVec Ideal S64x64 .f32} {x3 : FVec Ideal S64x64 .f32} {x4 : FVec Ideal S64x64 .f32} (hG : Gates X Z B ai af) (h0 : ∀ t L, x0 (ix2 t L) = ∑ d, (X (hd L)).q t d * (S (hd L)).N d) (h1 : ∀ t u, x1 (ix2 t u) = mt false (X 3) (S 3) t) (h2 : ∀ t u, x2 (ix2 t u) = pmat false (X 3) (S 3) t u) (h3 : ∀ t u, x3 (ix2 t u) = e0 false (X 3) (S 3) t) (h4 : ∀ t e, x4 (ix2 t e) = num false (X 3) (S 3) t e) :
    ∀ t e, (k0_pay125 x0 x1 x2 x3 x4) (ix2 t e) = outH false (X 3) (S 3) t e := by
  intro t e
  pointwise [k0_pay125]
  simp only [h0, h1, h2, h3, h4, hd_0, hd_1, hd_2, hd_3, dd_0, dd_1, dd_2, dd_3, h8_0, h8_1, h8_2, h8_3, selp] <;> rfl

theorem l132 {x0 : FVec Ideal S256x256 .f32} {x1 : FVec Ideal S64x256 .f32} {x2 : FVec Ideal S64x256 .f32} (hG : Gates X Z B ai af) (h0 : ∀ L L', x0 (ix2 L L') = if hd L = hd L' then 1 else 0) (h1 : ∀ t L, x1 (ix2 t L) = (X (hd L)).v t (dd L)) (h2 : ∀ t L, x2 (ix2 t L) = kw false (X (hd L)) t (dd L)) :
    ∀ L L', (k0_pay132 x0 x1 x2) (ix2 L L') = if hd L = hd L' then ∑ t, kw false (X (hd L)) t (dd L) * (X (hd L)).v t (dd L') else 0 := by
  intro L L'
  pointwise [k0_pay132]
  simp only [h0, h1, h2, mul_ite, mul_one, mul_zero]
  by_cases h : hd L = hd L' <;> simp only [h, if_true, if_false]

theorem l134 {x0 : FVec Ideal S64x64 .f32} {x1 : FVec Ideal S64x64 .f32} {x2 : FVec Ideal S64x64 .f32} {x3 : FVec Ideal S64x64 .f32} (hG : Gates X Z B ai af) (h0 : ∀ t e, x0 (ix2 t e) = outH false (X 0) (S 0) t e) (h1 : ∀ t e, x1 (ix2 t e) = outH false (X 1) (S 1) t e) (h2 : ∀ t e, x2 (ix2 t e) = outH false (X 2) (S 2) t e) (h3 : ∀ t e, x3 (ix2 t e) = outH false (X 3) (S 3) t e) :
    ∀ t L, (k0_pay134 x0 x1 x2 x3) (ix3 0 t L) = outH false (X (hd L)) (S (hd L)) t (dd L) := by
  intro t L
  pointwise [k0_pay134]
  simp only [h0, h1, h2, h3]
  exact cat_lane L fun h d => outH false (X h) (S h) t d

theorem l135 {x0 : FVec Ideal S1x256 .f32} {x1 : FVec Ideal S1x256 .f32} {x2 : FVec Ideal S1x256 .f32} (hG : Gates X Z B ai af) (h0 : ∀ L, x0 (ix2 0 L) = ftot false (X (hd L))) (h1 : ∀ L, x1 (ix2 0 L) = gmax false (X (hd L))) (h2 : ∀ L, x2 (ix2 0 L) = (S (hd L)).M) :
    ∀ L, (k0_pay135 x0 x1 x2) (ix2 0 L) = mnew false (X (hd L)) (S (hd L)) := by
  intro L
  pointwise [k0_pay135]
  simp only [h0, h1, h2, hd_0, hd_1, hd_2, hd_3, dd_0, dd_1, dd_2, dd_3, h8_0, h8_1, h8_2, h8_3, selp] <;> rfl

theorem l136 {x0 : FVec Ideal S1x256 .f32} {x1 : FVec Ideal S1x256 .f32} {x2 : FVec Ideal S1x256 .f32} (hG : Gates X Z B ai af) (h0 : ∀ L, x0 (ix2 0 L) = ftot false (X (hd L))) (h1 : ∀ L, x1 (ix2 0 L) = gmax false (X (hd L))) (h2 : ∀ L, x2 (ix2 0 L) = (S (hd L)).M) :
    ∀ L, (k0_pay136 x0 x1 x2) (ix2 0 L) = aold false (X (hd L)) (S (hd L)) := by
  intro L
  pointwise [k0_pay136, k0_pay135]
  simp only [h0, h1, h2, hd_0, hd_1, hd_2, hd_3, dd_0, dd_1, dd_2, dd_3, h8_0, h8_1, h8_2, h8_3, selp] <;> rfl

theorem l137 {x0 : FVec Ideal S1x256 .f32} {x1 : FVec Ideal S1x256 .f32} {x2 : FVec Ideal S1x256 .f32} (hG : Gates X Z B ai af) (h0 : ∀ L, x0 (ix2 0 L) = ftot false (X (hd L))) (h1 : ∀ L, x1 (ix2 0 L) = gmax false (X (hd L))) (h2 : ∀ L, x2 (ix2 0 L) = (S (hd L)).M) :
    ∀ L, (k0_pay137 x0 x1 x2) (ix2 0 L) = anew false (X (hd L)) (S (hd L)) := by
  intro L
  pointwise [k0_pay137, k0_pay135]
  simp only [h0, h1, h2, hd_0, hd_1, hd_2, hd_3, dd_0, dd_1, dd_2, dd_3, h8_0, h8_1, h8_2, h8_3, selp] <;> rfl

theorem l138 {x0 : FVec Ideal S1x256 .f32} {x1 : FVec Ideal S1x256 .f32} {x2 : FVec Ideal S1x256 .f32} (hG : Gates X Z B ai af) (h0 : ∀ L, x0 (ix2 0 L) = ftot false (X (hd L))) (h1 : ∀ L, x1 (ix2 0 L) = gmax false (X (hd L))) (h2 : ∀ L, x2 (ix2 0 L) = (S (hd L)).M) :
    ∀ L L', (k0_pay138 x0 x1 x2) (ix2 L L') = aold false (X (hd L')) (S (hd L')) := by
  intro L L'
  pointwise [k0_pay138, k0_pay136, k0_pay135]
  simp only [h0, h1, h2, hd_0, hd_1, hd_2, hd_3, dd_0, dd_1, dd_2, dd_3, h8_0, h8_1, h8_2, h8_3, selp] <;> rfl

theorem l139 {x0 : FVec Ideal S256x256 .f32} {x1 : FVec Ideal S256x256 .f32} {x2 : FVec Ideal S1x256 .f32} {x3 : FVec Ideal S256x256 .f32} (hG : Gates X Z B ai af) (h0 : ∀ L L', x0 (ix2 L L') = if hd L = hd L' then (S (hd L)).C (dd L) (dd L') else 0) (h1 : ∀ L L', x1 (ix2 L L') = if hd L = hd L' then ∑ t, kw false (X (hd L)) t (dd L) * (X (hd L)).v t (dd L') else 0) (h2 : ∀ L, x2 (ix2 0 L) = anew false (X (hd L)) (S (hd L))) (h3 : ∀ L L', x3 (ix2 L L') = aold false (X (hd L')) (S (hd L'))) :
    ∀ L L', (k0_pay139 x0 x1 x2 x3) (ix3 0 L L') = if hd L = hd L' then Cnew false (X (hd L)) (S (hd L)) (dd L) (dd L') else 0 := by
  intro L L'
  pointwise [k0_pay139]
  simp only [h0, h1, h2, h3]
  by_cases h : hd L = hd L'
  · simp only [h, if_true]; rfl
  · simp only [h, if_false, mul_zero, add_zero]

theorem l140 {x0 : FVec Ideal S64x256 .f32} {x1 : FVec Ideal S1x256 .f32} {x2 : FVec Ideal S1x256 .f32} {x3 : FVec Ideal S1x256 .f32} (hG : Gates X Z B ai af) (h0 : ∀ t L, x0 (ix2 t L) = kw false (X (hd L)) t (dd L)) (h1 : ∀ L, x1 (ix2 0 L) = (S (hd L)).N (dd L)) (h2 : ∀ L, x2 (ix2 0 L) = aold false (X (hd L)) (S (hd L))) (h3 : ∀ L, x3 (ix2 0 L) = anew false (X (hd L)) (S (hd L))) :
    ∀ L, (k0_pay140 x0 x1 x2 x3) (ix3 0 0 L) = Nnew false (X (hd L)) (S (hd L)) (dd L) := by
  intro L
  pointwise [k0_pay140]
  simp only [h0, h1, h2, h3, hd_0, hd_1, hd_2, hd_3, dd_0, dd_1, dd_2, dd_3, h8_0, h8_1, h8_2, h8_3, selp] <;> rfl

theorem l141 {x0 : FVec Ideal S1x256 .f32} (hG : Gates X Z B ai af) (h0 : ∀ L, x0 (ix2 0 L) = mnew false (X (hd L)) (S (hd L))) :
    ∀ L, (k0_pay141 x0) (ix3 0 0 L) = mnew false (X (hd L)) (S (hd L)) := by
  intro L
  pointwise [k0_pay141]
  simp only [h0, hd_0, hd_1, hd_2, hd_3, dd_0, dd_1, dd_2, dd_3, h8_0, h8_1, h8_2, h8_3, selp] <;> rfl

end Cert.KernelIdeal.Hand
end
-- ==== Proof.PayB.lean ====
module

public import proofs.«01_k».proof.Defs
public import proofs.«01_k».proof.Proof.Gen.KernelIdeal.Frame
public import Idealize.ShloMosaic.Lib.Pipeline.Value
public import Idealize.ShloMosaic.Lib.Pointwise
public import Idealize.ShloMosaic.Lib.Tactic
public import proofs.«01_k».proof.Proof.PayF

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Mlstm

variable {X : Fin 4 → Ch} {S : Fin 4 → St} {Z : Fin 64 → Fin 128 → EReal} {B : Fin 128 → EReal} {ai af : Fin 4}

theorem l1 {x0 : FVec Ideal S64x256 .f32} {x1 : FVec Ideal S1x256 .f32} {x2 : FVec Ideal S1x256 .f32} (hG : Gates X Z B ai af) (h0 : ∀ t L, x0 (ix2 t L) = kw true (X (hd L)) t (dd L)) (h1 : ∀ L, x1 (ix2 0 L) = anew true (X (hd L)) (S (hd L))) (h2 : ∀ L, x2 (ix2 0 L) = aold true (X (hd L)) (S (hd L)) * (S (hd L)).N (dd L)) :
    ∀ L, (k0_pay1 x0 x1 x2) (ix3 0 0 L) = Nnew true (X (hd L)) (S (hd L)) (dd L) := by
  intro L
  pointwise [k0_pay1]
  simp only [h0, h1, h2, hd_0, hd_1, hd_2, hd_3, dd_0, dd_1, dd_2, dd_3, h8_0, h8_1, h8_2, h8_3, selp] <;> rfl

theorem l2 {x0 : FVec Ideal S1x256 .f32} (hG : Gates X Z B ai af) (h0 : ∀ L, x0 (ix2 0 L) = mnew true (X (hd L)) (S (hd L))) :
    ∀ L, (k0_pay2 x0) (ix3 0 0 L) = mnew true (X (hd L)) (S (hd L)) := by
  intro L
  pointwise [k0_pay2]
  simp only [h0, hd_0, hd_1, hd_2, hd_3, dd_0, dd_1, dd_2, dd_3, h8_0, h8_1, h8_2, h8_3, selp] <;> rfl

theorem l40 {x0 : Vec Ideal S1x128x256 .f32} (hG : Gates X Z B ai af) (h0 : ∀ c L, x0 (ix3 0 c L) = if c = gc af (hd L) then 1 else 0) :
    ∀ c L, (k0_pay40 x0) (ix2 c L) = if c = gc af (hd L) then 1 else 0 := by
  intro c L
  pointwise [k0_pay40]
  simp only [h0, hd_0, hd_1, hd_2, hd_3, dd_0, dd_1, dd_2, dd_3, h8_0, h8_1, h8_2, h8_3, selp]

theorem l41 {x0 : Vec Ideal S1x8x128 .f32} (hG : Gates X Z B ai af) (h0 : ∀ h c, x0 (ix3 0 (h8 h) c) = if c = gc ai h then 1 else 0) :
    ∀ h c, (k0_pay41 x0) (ix2 (h8 h) c) = if c = gc ai h then 1 else 0 := by
  intro h c
  pointwise [k0_pay41]
  simp only [h0, hd_0, hd_1, hd_2, hd_3, dd_0, dd_1, dd_2, dd_3, h8_0, h8_1, h8_2, h8_3, selp]

theorem l42 {x0 : Vec Ideal S1x8x128 .f32} (hG : Gates X Z B ai af) (h0 : ∀ h c, x0 (ix3 0 (h8 h) c) = if c = gc af h then 1 else 0) :
    ∀ h c, (k0_pay42 x0) (ix2 (h8 h) c) = if c = gc af h then 1 else 0 := by
  intro h c
  pointwise [k0_pay42]
  simp only [h0, hd_0, hd_1, hd_2, hd_3, dd_0, dd_1, dd_2, dd_3, h8_0, h8_1, h8_2, h8_3, selp]

theorem l43 {x0 : Vec Ideal S1x64x256 .f32} (hG : Gates X Z B ai af) (h0 : ∀ t L, x0 (ix3 0 t L) = (X (hd L)).q t (dd L)) :
    ∀ t L, (k0_pay43 x0) (ix2 t L) = (X (hd L)).q t (dd L) := by
  intro t L
  pointwise [k0_pay43]
  simp only [h0, hd_0, hd_1, hd_2, hd_3, dd_0, dd_1, dd_2, dd_3, h8_0, h8_1, h8_2, h8_3, selp]

theorem l44 {x0 : Vec Ideal S1x64x256 .f32} (hG : Gates X Z B ai af) (h0 : ∀ t L, x0 (ix3 0 t L) * Ideal.ofBits FTy.f32 0x3E000000#32 = (X (hd L)).k t (dd L)) :
    ∀ t L, (k0_pay44 x0) (ix2 t L) = (X (hd L)).k t (dd L) := by
  intro t L
  pointwise [k0_pay44]
  simp only [h0, hd_0, hd_1, hd_2, hd_3, dd_0, dd_1, dd_2, dd_3, h8_0, h8_1, h8_2, h8_3, selp]

theorem l45 {x0 : Vec Ideal S1x64x256 .f32} (hG : Gates X Z B ai af) (h0 : ∀ t L, x0 (ix3 0 t L) = (X (hd L)).v t (dd L)) :
    ∀ t L, (k0_pay45 x0) (ix2 t L) = (X (hd L)).v t (dd L) := by
  intro t L
  pointwise [k0_pay45]
  simp only [h0, hd_0, hd_1, hd_2, hd_3, dd_0, dd_1, dd_2, dd_3, h8_0, h8_1, h8_2, h8_3, selp]

theorem l46 {x0 : FVec Ideal S1x128 .f32} {x1 : Vec Ideal S1x64x128 .f32} (hG : Gates X Z B ai af) (h0 : ∀ c, x0 (ix2 0 c) = B c) (h1 : ∀ t c, x1 (ix3 0 t c) = Z t c) :
    ∀ t c, (k0_pay46 x0 x1) (ix2 t c) = Z t c + B c := by
  intro t c
  pointwise [k0_pay46]
  simp only [h0, h1, hd_0, hd_1, hd_2, hd_3, dd_0, dd_1, dd_2, dd_3, h8_0, h8_1, h8_2, h8_3]

theorem l47 {x0 : Vec Ideal S1x128x256 .f32} (hG : Gates X Z B ai af) (h0 : ∀ c L, x0 (ix3 0 c L) = if c = gc ai (hd L) then 1 else 0) :
    ∀ c L, (k0_pay47 x0) (ix2 c L) = if c = gc ai (hd L) then 1 else 0 := by
  intro c L
  pointwise [k0_pay47]
  simp only [h0, hd_0, hd_1, hd_2, hd_3, dd_0, dd_1, dd_2, dd_3, h8_0, h8_1, h8_2, h8_3, selp]

theorem l48 {x0 : FVec Ideal S1x128 .f32} {x1 : Vec Ideal S1x64x128 .f32} (hG : Gates X Z B ai af) (h0 : ∀ c, x0 (ix2 0 c) = B c) (h1 : ∀ t c, x1 (ix3 0 t c) = Z t c) :
    ∀ t c, (k0_pay48 x0 x1) (ix2 t c) = Z t c + B c := by
  intro t c
  pointwise [k0_pay48, k0_pay46]
  simp only [h0, h1, hd_0, hd_1, hd_2, hd_3, dd_0, dd_1, dd_2, dd_3, h8_0, h8_1, h8_2, h8_3]

theorem l49 {x0 : FVec Ideal S1x128 .f32} {x1 : Vec Ideal S1x64x128 .f32} (hG : Gates X Z B ai af) (h0 : ∀ c, x0 (ix2 0 c) = B c) (h1 : ∀ t c, x1 (ix3 0 t c) = Z t c) :
    ∀ t c, (k0_pay49 x0 x1) (ix2 t c) = Z t c + B c - (Z t c + B c) := by
  intro t c
  pointwise [k0_pay49, k0_pay48, k0_pay46]
  simp only [h0, h1, hd_0, hd_1, hd_2, hd_3, dd_0, dd_1, dd_2, dd_3, h8_0, h8_1, h8_2, h8_3]

theorem l50 {x0 : FVec Ideal S128x256 .bf16} {x1 : FVec Ideal S64x128 .bf16} {x2 : FVec Ideal S64x128 .f32} (hG : Gates X Z B ai af) (h0 : ∀ c L, x0 (ix2 c L) = if c = gc ai (hd L) then 1 else 0) (h1 : ∀ t c, x1 (ix2 t c) = Z t c + B c) (h2 : ∀ t c, x2 (ix2 t c) = Z t c + B c - (Z t c + B c)) :
    ∀ t L, (k0_pay50 x0 x1 x2) (ix2 t L) = (X (hd L)).i t := by
  intro t L
  pointwise [k0_pay50]
  simp only [h0, h1, h2, hd_0, hd_1, hd_2, hd_3, dd_0, dd_1, dd_2, dd_3, h8_0, h8_1, h8_2, h8_3]
  exact (sel3 (gc ai (hd L)) (fun c => Z t c + B c) (hG.fi _ _)).trans (hG.i _ _).symm

theorem l51 {x0 : FVec Ideal S128x256 .f32} {x1 : FVec Ideal S64x128 .f32} (hG : Gates X Z B ai af) (h0 : ∀ c L, x0 (ix2 c L) = if c = gc af (hd L) then 1 else 0) (h1 : ∀ t c, x1 (ix2 t c) = Z t c + B c) :
    ∀ t L, (k0_pay51 x0 x1) (ix2 t L) = (X (hd L)).f t := by
  intro t L
  pointwise [k0_pay51]
  simp only [h0, h1, hd_0, hd_1, hd_2, hd_3, dd_0, dd_1, dd_2, dd_3, h8_0, h8_1, h8_2, h8_3]
  have hs := sel3 (gc af (hd L)) (fun c => Z t c + B c) (hG.ff _ _)
  simp only [hs, ne_eq, not_true, if_false, Ideal.absf_def]
  rw [hG.f]; rfl

theorem l52 {x0 : FVec Ideal S8x128 .f32} (hG : Gates X Z B ai af) (h0 : ∀ h c, x0 (ix2 (h8 h) c) = if c = gc ai h then 1 else 0) :
    ∀ h c, (k0_pay52 x0) (ix2 (h8 h) c) = if c = gc ai h then 1 else 0 := by
  intro h c
  pointwise [k0_pay52]
  simp only [h0, hd_0, hd_1, hd_2, hd_3, dd_0, dd_1, dd_2, dd_3, h8_0, h8_1, h8_2, h8_3]

theorem l55 {x0 : FVec Ideal S64x128 .f32} (hG : Gates X Z B ai af) (h0 : ∀ t c, x0 (ix2 t c) = Z t c + B c) :
    ∀ t c, (k0_pay55 x0) (ix2 t c) = Z t c + B c - (Z t c + B c) := by
  intro t c
  pointwise [k0_pay55, k0_pay54, k0_pay53]
  simp only [h0, hd_0, hd_1, hd_2, hd_3, dd_0, dd_1, dd_2, dd_3, h8_0, h8_1, h8_2, h8_3]
  try rfl

theorem l56 {x0 : FVec Ideal S64x128 .f32} (hG : Gates X Z B ai af) (h0 : ∀ t c, x0 (ix2 t c) = Z t c + B c) :
    ∀ t c, (k0_pay56 x0) (ix2 t c) = Z t c + B c - (Z t c + B c) - (Z t c + B c - (Z t c + B c)) := by
  intro t c
  pointwise [k0_pay56, k0_pay55, k0_pay54, k0_pay53]
  simp only [h0, hd_0, hd_1, hd_2, hd_3, dd_0, dd_1, dd_2, dd_3, h8_0, h8_1, h8_2, h8_3]
  try rfl

theorem l57 {x0 : FVec Ideal S8x128 .f32} {x1 : FVec Ideal S64x128 .f32} (hG : Gates X Z B ai af) (h0 : ∀ h c, x0 (ix2 (h8 h) c) = if c = gc ai h then 1 else 0) (h1 : ∀ t c, x1 (ix2 t c) = Z t c + B c) :
    ∀ h t, (k0_pay57 x0 x1) (ix2 (h8 h) t) = ∑ c, (if c = gc ai h then 1 else 0) * (Z t c + B c) := by
  intro h t
  pointwise [k0_pay57, k0_pay52, k0_pay53]
  simp only [h0, h1, hd_0, hd_1, hd_2, hd_3, dd_0, dd_1, dd_2, dd_3, h8_0, h8_1, h8_2, h8_3]

theorem l58 {x0 : FVec Ideal S8x128 .bf16} {x1 : FVec Ideal S64x128 .bf16} {x2 : FVec Ideal S64x128 .bf16} {x3 : FVec Ideal S8x64 .f32} (hG : Gates X Z B ai af) (h0 : ∀ h c, x0 (ix2 (h8 h) c) = if c = gc ai h then 1 else 0) (h1 : ∀ t c, x1 (ix2 t c) = Z t c + B c - (Z t c + B c)) (h2 : ∀ t c, x2 (ix2 t c) = Z t c + B c - (Z t c + B c) - (Z t c + B c - (Z t c + B c))) (h3 : ∀ h t, x3 (ix2 (h8 h) t) = ∑ c, (if c = gc ai h then 1 else 0) * (Z t c + B c)) :
    ∀ h t, (k0_pay58 x0 x1 x2 x3) (ix2 (h8 h) t) = (X h).i t := by
  intro h t
  pointwise [k0_pay58]
  simp only [h0, h1, h2, h3, hd_0, hd_1, hd_2, hd_3, dd_0, dd_1, dd_2, dd_3, h8_0, h8_1, h8_2, h8_3]
  exact (sel3' (gc ai h) (fun c => Z t c + B c) (hG.fi _ _)).trans (hG.i _ _).symm

theorem l59 {x0 : FVec Ideal S8x128 .f32} {x1 : FVec Ideal S64x128 .f32} (hG : Gates X Z B ai af) (h0 : ∀ h c, x0 (ix2 (h8 h) c) = if c = gc af h then 1 else 0) (h1 : ∀ t c, x1 (ix2 t c) = Z t c + B c) :
    ∀ h t, (k0_pay59 x0 x1) (ix2 (h8 h) t) = (X h).f t := by
  intro h t
  pointwise [k0_pay59]
  simp only [h0, h1, hd_0, hd_1, hd_2, hd_3, dd_0, dd_1, dd_2, dd_3, h8_0, h8_1, h8_2, h8_3]
  have hs := sel3' (gc af h) (fun c => Z t c + B c) (hG.ff _ _)
  simp only [hs, ne_eq, not_true, if_false, Ideal.absf_def]
  rw [hG.f]; rfl

theorem l60 {x0 : FVec Ideal S64x64 .f32} {x1 : FVec Ideal S64x256 .f32} (hG : Gates X Z B ai af) (h0 : ∀ t u, x0 (ix2 t u) = if live true t u then 1 else 0) (h1 : ∀ t L, x1 (ix2 t L) = (X (hd L)).f t) :
    ∀ t L, (k0_pay60 x0 x1) (ix2 t L) = fcum true (X (hd L)) t := by
  intro t L
  pointwise [k0_pay60]
  simp only [h0, h1, hd_0, hd_1, hd_2, hd_3, dd_0, dd_1, dd_2, dd_3, h8_0, h8_1, h8_2, h8_3]
  exact one3 (fun u => live true t u) (fun u => (X (hd L)).f u) (hG.fin _)

theorem l61 {x0 : FVec Ideal S64x64 .f32} {x1 : FVec Ideal S8x64 .f32} (hG : Gates X Z B ai af) (h0 : ∀ t u, x0 (ix2 t u) = if live false t u then 1 else 0) (h1 : ∀ h t, x1 (ix2 (h8 h) t) = (X h).f t) :
    ∀ h t, (k0_pay61 x0 x1) (ix2 (h8 h) t) = fcum true (X h) t := by
  intro h t
  pointwise [k0_pay61]
  simp only [h0, h1, hd_0, hd_1, hd_2, hd_3, dd_0, dd_1, dd_2, dd_3, h8_0, h8_1, h8_2, h8_3]
  simp only [live_symm']
  exact one3' (fun u => live true t u) (fun u => (X h).f u) (hG.fin _)

theorem l62 {x0 : FVec Ideal S64x256 .f32} (hG : Gates X Z B ai af) (h0 : ∀ t L, x0 (ix2 t L) = fcum true (X (hd L)) t) :
    ∀ L, (k0_pay62 x0) (ix2 0 L) = ftot true (X (hd L)) := by
  intro L
  pointwise [k0_pay62]
  simp only [h0, hd_0, hd_1, hd_2, hd_3, dd_0, dd_1, dd_2, dd_3, h8_0, h8_1, h8_2, h8_3]
  rfl

theorem l64 {x0 : FVec Ideal S64x256 .f32} {x1 : FVec Ideal S64x256 .f32} (hG : Gates X Z B ai af) (h0 : ∀ t L, x0 (ix2 t L) = (X (hd L)).i t) (h1 : ∀ t L, x1 (ix2 t L) = fcum true (X (hd L)) t) :
    ∀ L, (k0_pay64 x0 x1) (ix2 0 L) = gmax true (X (hd L)) := by
  intro L
  pointwise [k0_pay64, k0_pay63, k0_pay62]
  simp only [h0, h1, hd_0, hd_1, hd_2, hd_3, dd_0, dd_1, dd_2, dd_3, h8_0, h8_1, h8_2, h8_3]
  rfl

theorem l65 {x0 : FVec Ideal S64x256 .f32} {x1 : FVec Ideal S64x256 .f32} {x2 : FVec Ideal S64x256 .f32} (hG : Gates X Z B ai af) (h0 : ∀ t L, x0 (ix2 t L) = (X (hd L)).k t (dd L)) (h1 : ∀ t L, x1 (ix2 t L) = (X (hd L)).i t) (h2 : ∀ t L, x2 (ix2 t L) = fcum true (X (hd L)) t) :
    ∀ t L, (k0_pay65 x0 x1 x2) (ix2 t L) = kw true (X (hd L)) t (dd L) := by
  intro t L
  pointwise [k0_pay65, k0_pay64, k0_pay63, k0_pay62]
  simp only [h0, h1, h2, hd_0, hd_1, hd_2, hd_3, dd_0, dd_1, dd_2, dd_3, h8_0, h8_1, h8_2, h8_3]
  rfl

theorem l66 {x0 : Vec Ideal S1x256x256 .f32} (hG : Gates X Z B ai af) (h0 : ∀ L L', x0 (ix3 0 L L') = if hd L = hd L' then (S (hd L)).C (dd L) (dd L') else 0) :
    ∀ L L', (k0_pay66 x0) (ix2 L L') = if hd L = hd L' then (S (hd L)).C (dd L) (dd L') else 0 := by
  intro L L'
  pointwise [k0_pay66]
  simp only [h0, hd_0, hd_1, hd_2, hd_3, dd_0, dd_1, dd_2, dd_3, h8_0, h8_1, h8_2, h8_3, selp]

theorem l67 {x0 : Vec Ideal S1x1x256 .f32} (hG : Gates X Z B ai af) (h0 : ∀ L, x0 (ix3 0 0 L) = (S (hd L)).N (dd L)) :
    ∀ L, (k0_pay67 x0) (ix2 0 L) = (S (hd L)).N (dd L) := by
  intro L
  pointwise [k0_pay67]
  simp only [h0, hd_0, hd_1, hd_2, hd_3, dd_0, dd_1, dd_2, dd_3, h8_0, h8_1, h8_2, h8_3]

theorem l68 {x0 : Vec Ideal S1x1x256 .f32} (hG : Gates X Z B ai af) (h0 : ∀ L, x0 (ix3 0 0 L) = (S (hd L)).M) :
    ∀ L, (k0_pay68 x0) (ix2 0 L) = (S (hd L)).M := by
  intro L
  pointwise [k0_pay68]
  simp only [h0, hd_0, hd_1, hd_2, hd_3, dd_0, dd_1, dd_2, dd_3, h8_0, h8_1, h8_2, h8_3]

theorem l69 {x0 : FVec Ideal S64x256 .f32} (hG : Gates X Z B ai af) (h0 : ∀ t L, x0 (ix2 t L) = (X (hd L)).k t (dd L)) :
    ∀ t L, (k0_pay69 x0) (ix2 t L) = (X (hd L)).k t (dd L) := by
  intro t L
  pointwise [k0_pay69]
  simp only [h0, hd_0, hd_1, hd_2, hd_3, dd_0, dd_1, dd_2, dd_3, h8_0, h8_1, h8_2, h8_3]

theorem l70 {x0 : FVec Ideal S64x256 .f32} {x1 : Vec Ideal S1x256x256 .f32} (hG : Gates X Z B ai af) (h0 : ∀ t L, x0 (ix2 t L) = (X (hd L)).q t (dd L)) (h1 : ∀ L L', x1 (ix3 0 L L') = if hd L = hd L' then (S (hd L)).C (dd L) (dd L') else 0) :
    ∀ t L, (k0_pay70 x0 x1) (ix2 t L) = ∑ d, (X (hd L)).q t d * (S (hd L)).C d (dd L) := by
  intro t L
  pointwise [k0_pay70, k0_pay66]
  simp only [h0, h1, hd_0, hd_1, hd_2, hd_3, dd_0, dd_1, dd_2, dd_3, h8_0, h8_1, h8_2, h8_3, mul_ite, mul_one, mul_zero, sum_lane', hd_ln, dd_ln]

theorem l71 {x0 : FVec Ideal S256x256 .f32} {x1 : FVec Ideal S64x256 .f32} {x2 : Vec Ideal S1x1x256 .f32} (hG : Gates X Z B ai af) (h0 : ∀ L L', x0 (ix2 L L') = if hd L = hd L' then 1 else 0) (h1 : ∀ t L, x1 (ix2 t L) = (X (hd L)).q t (dd L)) (h2 : ∀ L, x2 (ix3 0 0 L) = (S (hd L)).N (dd L)) :
    ∀ t L, (k0_pay71 x0 x1 x2) (ix2 t L) = ∑ d, (X (hd L)).q t d * (S (hd L)).N d := by
  intro t L
  pointwise [k0_pay71, k0_pay67]
  simp only [h0, h1, h2, hd_0, hd_1, hd_2, hd_3, dd_0, dd_1, dd_2, dd_3, h8_0, h8_1, h8_2, h8_3, mul_ite, mul_one, mul_zero, sum_lane', hd_ln, dd_ln]

theorem l72 {x0 : FVec Ideal S64x256 .f32} {x1 : Vec Ideal S1x1x256 .f32} (hG : Gates X Z B ai af) (h0 : ∀ t L, x0 (ix2 t L) = fcum true (X (hd L)) t) (h1 : ∀ L, x1 (ix3 0 0 L) = (S (hd L)).M) :
    ∀ t L, (k0_pay72 x0 x1) (ix2 t L) = ainit true (X (hd L)) (S (hd L)) t := by
  intro t L
  pointwise [k0_pay72, k0_pay68]
  simp only [h0, h1, hd_0, hd_1, hd_2, hd_3, dd_0, dd_1, dd_2, dd_3, h8_0, h8_1, h8_2, h8_3, selp] <;> rfl

theorem l73 (hG : Gates X Z B ai af)  :
    ∀ t u, k0_pay73 (ix2 t u) = if live true t u then 1#1 else 0#1 := by
  intro t u
  pointwise [k0_pay73]
  revert t u; decide +kernel

theorem l74 {x0 : IVec S64x256 32} (hG : Gates X Z B ai af) (h0 : ∀ t L, x0 (ix2 t L) = BitVec.ofNat 32 L.val) :
    ∀ t L, (k0_pay74 x0 64#32) (ix2 t L) = BitVec.ofNat 32 (hd L).val := by
  intro t L
  pointwise [k0_pay74]
  simp only [h0]
  exact lane_num L

theorem l80 {x0 : FVec Ideal S64x256 .f32} {x1 : FVec Ideal S64x256 .bf16} {x2 : IVec S64x256 32} (hG : Gates X Z B ai af) (h0 : ∀ t L, x0 (ix2 t L) = (X (hd L)).q t (dd L)) (h1 : ∀ t L, x1 (ix2 t L) = (X (hd L)).k t (dd L)) (h2 : ∀ t L, x2 (ix2 t L) = BitVec.ofNat 32 (hd L).val) :
    ∀ t u, (k0_pay80 x0 x1 x2) (ix2 t u) = ∑ d, (X 0).q t d * (X 0).k u d := by
  intro t u
  pointwise [k0_pay80]
  simp only [h0, h1, h2, hd_0, hd_1, hd_2, hd_3, dd_0, dd_1, dd_2, dd_3, h8_0, h8_1, h8_2, h8_3, lane_num, selh0, selp, sum_lane, hd_ln, dd_ln]

theorem l81 {x0 : FVec Ideal S64x256 .f32} {x1 : FVec Ideal S64x256 .bf16} {x2 : IVec S64x256 32} (hG : Gates X Z B ai af) (h0 : ∀ t L, x0 (ix2 t L) = (X (hd L)).q t (dd L)) (h1 : ∀ t L, x1 (ix2 t L) = (X (hd L)).k t (dd L)) (h2 : ∀ t L, x2 (ix2 t L) = BitVec.ofNat 32 (hd L).val) :
    ∀ t u, (k0_pay81 x0 x1 x2) (ix2 t u) = ∑ d, (X 1).q t d * (X 1).k u d := by
  intro t u
  pointwise [k0_pay81]
  simp only [h0, h1, h2, hd_0, hd_1, hd_2, hd_3, dd_0, dd_1, dd_2, dd_3, h8_0, h8_1, h8_2, h8_3, lane_num, selh1, selp, sum_lane, hd_ln, dd_ln]

theorem l82 {x0 : FVec Ideal S64x256 .f32} {x1 : FVec Ideal S64x256 .bf16} {x2 : IVec S64x256 32} (hG : Gates X Z B ai af) (h0 : ∀ t L, x0 (ix2 t L) = (X (hd L)).q t (dd L)) (h1 : ∀ t L, x1 (ix2 t L) = (X (hd L)).k t (dd L)) (h2 : ∀ t L, x2 (ix2 t L) = BitVec.ofNat 32 (hd L).val) :
    ∀ t u, (k0_pay82 x0 x1 x2) (ix2 t u) = ∑ d, (X 2).q t d * (X 2).k u d := by
  intro t u
  pointwise [k0_pay82]
  simp only [h0, h1, h2, hd_0, hd_1, hd_2, hd_3, dd_0, dd_1, dd_2, dd_3, h8_0, h8_1, h8_2, h8_3, lane_num, selh2, selp, sum_lane, hd_ln, dd_ln]

theorem l83 {x0 : FVec Ideal S64x256 .f32} {x1 : FVec Ideal S64x256 .bf16} {x2 : IVec S64x256 32} (hG : Gates X Z B ai af) (h0 : ∀ t L, x0 (ix2 t L) = (X (hd L)).q t (dd L)) (h1 : ∀ t L, x1 (ix2 t L) = (X (hd L)).k t (dd L)) (h2 : ∀ t L, x2 (ix2 t L) = BitVec.ofNat 32 (hd L).val) :
    ∀ t u, (k0_pay83 x0 x1 x2) (ix2 t u) = ∑ d, (X 3).q t d * (X 3).k u d := by
  intro t u
  pointwise [k0_pay83]
  simp only [h0, h1, h2, hd_0, hd_1, hd_2, hd_3, dd_0, dd_1, dd_2, dd_3, h8_0, h8_1, h8_2, h8_3, lane_num, selh3, selp, sum_lane, hd_ln, dd_ln]

theorem l89 {x0 : FVec Ideal S8x64 .f32} {x1 : FVec Ideal S64x256 .f32} {x2 : FVec Ideal S8x64 .f32} {x3 : IVec S64x64 1} (hG : Gates X Z B ai af) (h0 : ∀ h t, x0 (ix2 (h8 h) t) = (X h).i t) (h1 : ∀ t L, x1 (ix2 t L) = fcum true (X (hd L)) t) (h2 : ∀ h t, x2 (ix2 (h8 h) t) = fcum true (X h) t) (h3 : ∀ t u, x3 (ix2 t u) = if live true t u then 1#1 else 0#1) :
    ∀ t u, (k0_pay89 x0 x1 x2 x3) (ix2 t u) = amat true (X 0) t u := by
  intro t u
  pointwise [k0_pay89]
  have e0 : ∀ u, x0 (ix2 0 u) = _ := h0 0
  have e2 : ∀ u, x2 (ix2 0 u) = _ := h2 0
  simp only [h1, e0, e2, hd_0, hd_1, hd_2, hd_3, dd_0, dd_1, dd_2, dd_3, h8_0, h8_1, h8_2, h8_3, selp, h3] <;> rfl

theorem l90 {x0 : FVec Ideal S8x64 .f32} {x1 : FVec Ideal S64x256 .f32} {x2 : FVec Ideal S8x64 .f32} {x3 : IVec S64x64 1} (hG : Gates X Z B ai af) (h0 : ∀ h t, x0 (ix2 (h8 h) t) = (X h).i t) (h1 : ∀ t L, x1 (ix2 t L) = fcum true (X (hd L)) t) (h2 : ∀ h t, x2 (ix2 (h8 h) t) = fcum true (X h) t) (h3 : ∀ t u, x3 (ix2 t u) = if live true t u then 1#1 else 0#1) :
    ∀ t u, (k0_pay90 x0 x1 x2 x3) (ix2 t u) = amat true (X 1) t u := by
  intro t u
  pointwise [k0_pay90]
  have e0 : ∀ u, x0 (ix2 1 u) = _ := h0 1
  have e2 : ∀ u, x2 (ix2 1 u) = _ := h2 1
  simp only [h1, e0, e2, hd_0, hd_1, hd_2, hd_3, dd_0, dd_1, dd_2, dd_3, h8_0, h8_1, h8_2, h8_3, selp, h3] <;> rfl

theorem l91 {x0 : FVec Ideal S8x64 .f32} {x1 : FVec Ideal S64x256 .f32} {x2 : FVec Ideal S8x64 .f32} {x3 : IVec S64x64 1} (hG : Gates X Z B ai af) (h0 : ∀ h t, x0 (ix2 (h8 h) t) = (X h).i t) (h1 : ∀ t L, x1 (ix2 t L) = fcum true (X (hd L)) t) (h2 : ∀ h t, x2 (ix2 (h8 h) t) = fcum true (X h) t) (h3 : ∀ t u, x3 (ix2 t u) = if live true t u then 1#1 else 0#1) :
    ∀ t u, (k0_pay91 x0 x1 x2 x3) (ix2 t u) = amat true (X 2) t u := by
  intro t u
  pointwise [k0_pay91]
  have e0 : ∀ u, x0 (ix2 2 u) = _ := h0 2
  have e2 : ∀ u, x2 (ix2 2 u) = _ := h2 2
  simp only [h1, e0, e2, hd_0, hd_1, hd_2, hd_3, dd_0, dd_1, dd_2, dd_3, h8_0, h8_1, h8_2, h8_3, selp, h3] <;> rfl

theorem l92 {x0 : FVec Ideal S8x64 .f32} {x1 : FVec Ideal S64x256 .f32} {x2 : FVec Ideal S8x64 .f32} (hG : Gates X Z B ai af) (h0 : ∀ h t, x0 (ix2 (h8 h) t) = (X h).i t) (h1 : ∀ t L, x1 (ix2 t L) = fcum true (X (hd L)) t) (h2 : ∀ h t, x2 (ix2 (h8 h) t) = fcum true (X h) t) :
    ∀ t u, (k0_pay92 x0 x1 x2) (ix2 t u) = fcum true (X 3) t - fcum true (X 3) u + (X 3).i u := by
  intro t u
  pointwise [k0_pay92]
  have e0 : ∀ u, x0 (ix2 3 u) = _ := h0 3
  have e2 : ∀ u, x2 (ix2 3 u) = _ := h2 3
  simp only [h1, e0, e2, hd_0, hd_1, hd_2, hd_3, dd_0, dd_1, dd_2, dd_3, h8_0, h8_1, h8_2, h8_3, selp] <;> rfl

theorem l93 {x0 : IVec S64x64 1} {x1 : FVec Ideal S64x64 .f32} (hG : Gates X Z B ai af) (h0 : ∀ t u, x0 (ix2 t u) = if live true t u then 1#1 else 0#1) (h1 : ∀ t u, x1 (ix2 t u) = fcum true (X 3) t - fcum true (X 3) u + (X 3).i u) :
    ∀ t u, (k0_pay93 x0 x1 (Ideal.ofBits FTy.f32 0xF149F2CA#32)) (ix2 t u) = amat true (X 3) t u := by
  intro t u
  pointwise [k0_pay93]
  simp only [h0, h1, hd_0, hd_1, hd_2, hd_3, dd_0, dd_1, dd_2, dd_3, h8_0, h8_1, h8_2, h8_3, selp] <;> rfl

theorem l98 {x0 : FVec Ideal S64x256 .f32} {x1 : FVec Ideal S64x64 .f32} (hG : Gates X Z B ai af) (h0 : ∀ t L, x0 (ix2 t L) = ainit true (X (hd L)) (S (hd L)) t) (h1 : ∀ t u, x1 (ix2 t u) = amat true (X 0) t u) :
    ∀ t u, (k0_pay98 x0 x1) (ix2 t u) = mt true (X 0) (S 0) t := by
  intro t u
  pointwise [k0_pay98]
  simp only [h0, h1, hd_0, hd_1, hd_2, hd_3, dd_0, dd_1, dd_2, dd_3, h8_0, h8_1, h8_2, h8_3, selp] <;> rfl

theorem l99 {x0 : FVec Ideal S64x256 .f32} {x1 : FVec Ideal S64x64 .f32} (hG : Gates X Z B ai af) (h0 : ∀ t L, x0 (ix2 t L) = ainit true (X (hd L)) (S (hd L)) t) (h1 : ∀ t u, x1 (ix2 t u) = amat true (X 1) t u) :
    ∀ t u, (k0_pay99 x0 x1) (ix2 t u) = mt true (X 1) (S 1) t := by
  intro t u
  pointwise [k0_pay99]
  simp only [h0, h1, hd_0, hd_1, hd_2, hd_3, dd_0, dd_1, dd_2, dd_3, h8_0, h8_1, h8_2, h8_3, selp] <;> rfl

theorem l100 {x0 : FVec Ideal S64x256 .f32} {x1 : FVec Ideal S64x64 .f32} (hG : Gates X Z B ai af) (h0 : ∀ t L, x0 (ix2 t L) = ainit true (X (hd L)) (S (hd L)) t) (h1 : ∀ t u, x1 (ix2 t u) = amat true (X 2) t u) :
    ∀ t u, (k0_pay100 x0 x1) (ix2 t u) = mt true (X 2) (S 2) t := by
  intro t u
  pointwise [k0_pay100]
  simp only [h0, h1, hd_0, hd_1, hd_2, hd_3, dd_0, dd_1, dd_2, dd_3, h8_0, h8_1, h8_2, h8_3, selp] <;> rfl

theorem l101 {x0 : FVec Ideal S64x256 .f32} {x1 : IVec S64x64 1} {x2 : FVec Ideal S64x64 .f32} (hG : Gates X Z B ai af) (h0 : ∀ t L, x0 (ix2 t L) = ainit true (X (hd L)) (S (hd L)) t) (h1 : ∀ t u, x1 (ix2 t u) = if live true t u then 1#1 else 0#1) (h2 : ∀ t u, x2 (ix2 t u) = fcum true (X 3) t - fcum true (X 3) u + (X 3).i u) :
    ∀ t u, (k0_pay101 x0 x1 x2 (Ideal.ofBits FTy.f32 0xF149F2CA#32)) (ix2 t u) = mt true (X 3) (S 3) t := by
  intro t u
  pointwise [k0_pay101, k0_pay93]
  simp only [h0, h1, h2, hd_0, hd_1, hd_2, hd_3, dd_0, dd_1, dd_2, dd_3, h8_0, h8_1, h8_2, h8_3, selp] <;> rfl

theorem l107 {x0 : FVec Ideal S64x64 .f32} {x1 : FVec Ideal S64x64 .f32} {x2 : FVec Ideal S64x64 .f32} (hG : Gates X Z B ai af) (h0 : ∀ t u, x0 (ix2 t u) = ∑ d, (X 0).q t d * (X 0).k u d) (h1 : ∀ t u, x1 (ix2 t u) = amat true (X 0) t u) (h2 : ∀ t u, x2 (ix2 t u) = mt true (X 0) (S 0) t) :
    ∀ t u, (k0_pay107 x0 x1 x2) (ix2 t u) = pmat true (X 0) (S 0) t u := by
  intro t u
  pointwise [k0_pay107]
  simp only [h0, h1, h2, hd_0, hd_1, hd_2, hd_3, dd_0, dd_1, dd_2, dd_3, h8_0, h8_1, h8_2, h8_3, selp] <;> rfl

theorem l108 {x0 : FVec Ideal S64x64 .f32} {x1 : FVec Ideal S64x64 .f32} {x2 : FVec Ideal S64x64 .f32} (hG : Gates X Z B ai af) (h0 : ∀ t u, x0 (ix2 t u) = ∑ d, (X 1).q t d * (X 1).k u d) (h1 : ∀ t u, x1 (ix2 t u) = amat true (X 1) t u) (h2 : ∀ t u, x2 (ix2 t u) = mt true (X 1) (S 1) t) :
    ∀ t u, (k0_pay108 x0 x1 x2) (ix2 t u) = pmat true (X 1) (S 1) t u := by
  intro t u
  pointwise [k0_pay108]
  simp only [h0, h1, h2, hd_0, hd_1, hd_2, hd_3, dd_0, dd_1, dd_2, dd_3, h8_0, h8_1, h8_2, h8_3, selp] <;> rfl

theorem l109 {x0 : FVec Ideal S64x64 .f32} {x1 : FVec Ideal S64x64 .f32} {x2 : FVec Ideal S64x64 .f32} (hG : Gates X Z B ai af) (h0 : ∀ t u, x0 (ix2 t u) = ∑ d, (X 2).q t d * (X 2).k u d) (h1 : ∀ t u, x1 (ix2 t u) = amat true (X 2) t u) (h2 : ∀ t u, x2 (ix2 t u) = mt true (X 2) (S 2) t) :
    ∀ t u, (k0_pay109 x0 x1 x2) (ix2 t u) = pmat true (X 2) (S 2) t u := by
  intro t u
  pointwise [k0_pay109]
  simp only [h0, h1, h2, hd_0, hd_1, hd_2, hd_3, dd_0, dd_1, dd_2, dd_3, h8_0, h8_1, h8_2, h8_3, selp] <;> rfl

theorem l110 {x0 : FVec Ideal S64x64 .f32} {x1 : FVec Ideal S64x64 .f32} {x2 : FVec Ideal S64x64 .f32} (hG : Gates X Z B ai af) (h0 : ∀ t u, x0 (ix2 t u) = ∑ d, (X 3).q t d * (X 3).k u d) (h1 : ∀ t u, x1 (ix2 t u) = amat true (X 3) t u) (h2 : ∀ t u, x2 (ix2 t u) = mt true (X 3) (S 3) t) :
    ∀ t u, (k0_pay110 x0 x1 x2) (ix2 t u) = pmat true (X 3) (S 3) t u := by
  intro t u
  pointwise [k0_pay110]
  simp only [h0, h1, h2, hd_0, hd_1, hd_2, hd_3, dd_0, dd_1, dd_2, dd_3, h8_0, h8_1, h8_2, h8_3, selp] <;> rfl

theorem l114 {x0 : FVec Ideal S64x256 .f32} {x1 : FVec Ideal S64x64 .f32} {x2 : FVec Ideal S64x64 .f32} {x3 : FVec Ideal S64x64 .f32} (hG : Gates X Z B ai af) (h0 : ∀ t L, x0 (ix2 t L) = (X (hd L)).v t (dd L)) (h1 : ∀ t u, x1 (ix2 t u) = ∑ d, (X 0).q t d * (X 0).k u d) (h2 : ∀ t u, x2 (ix2 t u) = amat true (X 0) t u) (h3 : ∀ t u, x3 (ix2 t u) = mt true (X 0) (S 0) t) :
    ∀ t e, (k0_pay114 x0 x1 x2 x3) (ix2 t e) = ∑ u, pmat true (X 0) (S 0) t u * (X 0).v u e := by
  intro t e
  pointwise [k0_pay114, k0_pay107]
  simp only [h0, h1, h2, h3, hd_0, hd_1, hd_2, hd_3, dd_0, dd_1, dd_2, dd_3, h8_0, h8_1, h8_2, h8_3, selp] <;> rfl

theorem l115 {x0 : FVec Ideal S64x256 .f32} {x1 : FVec Ideal S64x64 .f32} {x2 : FVec Ideal S64x64 .f32} {x3 : FVec Ideal S64x64 .f32} (hG : Gates X Z B ai af) (h0 : ∀ t L, x0 (ix2 t L) = (X (hd L)).v t (dd L)) (h1 : ∀ t u, x1 (ix2 t u) = ∑ d, (X 1).q t d * (X 1).k u d) (h2 : ∀ t u, x2 (ix2 t u) = amat true (X 1) t u) (h3 : ∀ t u, x3 (ix2 t u) = mt true (X 1) (S 1) t) :
    ∀ t e, (k0_pay115 x0 x1 x2 x3) (ix2 t e) = ∑ u, pmat true (X 1) (S 1) t u * (X 1).v u e := by
  intro t e
  pointwise [k0_pay115, k0_pay108]
  simp only [h0, h1, h2, h3, hd_0, hd_1, hd_2, hd_3, dd_0, dd_1, dd_2, dd_3, h8_0, h8_1, h8_2, h8_3, selp] <;> rfl

theorem l116 {x0 : FVec Ideal S64x256 .f32} {x1 : FVec Ideal S64x64 .f32} {x2 : FVec Ideal S64x64 .f32} {x3 : FVec Ideal S64x64 .f32} (hG : Gates X Z B ai af) (h0 : ∀ t L, x0 (ix2 t L) = (X (hd L)).v t (dd L)) (h1 : ∀ t u, x1 (ix2 t u) = ∑ d, (X 2).q t d * (X 2).k u d) (h2 : ∀ t u, x2 (ix2 t u) = amat true (X 2) t u) (h3 : ∀ t u, x3 (ix2 t u) = mt true (X 2) (S 2) t) :
    ∀ t e, (k0_pay116 x0 x1 x2 x3) (ix2 t e) = ∑ u, pmat true (X 2) (S 2) t u * (X 2).v u e := by
  intro t e
  pointwise [k0_pay116, k0_pay109]
  simp only [h0, h1, h2, h3, hd_0, hd_1, hd_2, hd_3, dd_0, dd_1, dd_2, dd_3, h8_0, h8_1, h8_2, h8_3, selp] <;> rfl

theorem l117 {x0 : FVec Ideal S64x256 .f32} {x1 : FVec Ideal S64x64 .f32} {x2 : FVec Ideal S64x64 .f32} {x3 : FVec Ideal S64x64 .f32} (hG : Gates X Z B ai af) (h0 : ∀ t L, x0 (ix2 t L) = (X (hd L)).v t (dd L)) (h1 : ∀ t u, x1 (ix2 t u) = ∑ d, (X 3).q t d * (X 3).k u d) (h2 : ∀ t u, x2 (ix2 t u) = amat true (X 3) t u) (h3 : ∀ t u, x3 (ix2 t u) = mt true (X 3) (S 3) t) :
    ∀ t e, (k0_pay117 x0 x1 x2 x3) (ix2 t e) = ∑ u, pmat true (X 3) (S 3) t u * (X 3).v u e := by
  intro t e
  pointwise [k0_pay117, k0_pay110]
  simp only [h0, h1, h2, h3, hd_0, hd_1, hd_2, hd_3, dd_0, dd_1, dd_2, dd_3, h8_0, h8_1, h8_2, h8_3, selp] <;> rfl

theorem l126 {x0 : FVec Ideal S64x256 .f32} {x1 : FVec Ideal S64x256 .f32} {x2 : FVec Ideal S64x256 .f32} {x3 : FVec Ideal S64x64 .f32} {x4 : FVec Ideal S64x64 .f32} {x5 : FVec Ideal S64x64 .f32} (hG : Gates X Z B ai af) (h0 : ∀ t L, x0 (ix2 t L) = ∑ d, (X (hd L)).q t d * (S (hd L)).C d (dd L)) (h1 : ∀ t L, x1 (ix2 t L) = ∑ d, (X (hd L)).q t d * (S (hd L)).N d) (h2 : ∀ t L, x2 (ix2 t L) = ainit true (X (hd L)) (S (hd L)) t) (h3 : ∀ t u, x3 (ix2 t u) = mt true (X 0) (S 0) t) (h4 : ∀ t u, x4 (ix2 t u) = pmat true (X 0) (S 0) t u) (h5 : ∀ t e, x5 (ix2 t e) = ∑ u, pmat true (X 0) (S 0) t u * (X 0).v u e) :
    ∀ t e, (k0_pay126 x0 x1 x2 x3 x4 x5) (ix2 t e) = outH true (X 0) (S 0) t e := by
  intro t e
  pointwise [k0_pay126]
  simp only [h0, h1, h2, h3, h4, h5, hd_0, hd_1, hd_2, hd_3, dd_0, dd_1, dd_2, dd_3, h8_0, h8_1, h8_2, h8_3, selp] <;> rfl

theorem l127 {x0 : FVec Ideal S64x256 .f32} {x1 : FVec Ideal S64x256 .f32} {x2 : FVec Ideal S64x256 .f32} {x3 : FVec Ideal S64x64 .f32} {x4 : FVec Ideal S64x64 .f32} {x5 : FVec Ideal S64x64 .f32} (hG : Gates X Z B ai af) (h0 : ∀ t L, x0 (ix2 t L) = ∑ d, (X (hd L)).q t d * (S (hd L)).C d (dd L)) (h1 : ∀ t L, x1 (ix2 t L) = ∑ d, (X (hd L)).q t d * (S (hd L)).N d) (h2 : ∀ t L, x2 (ix2 t L) = ainit true (X (hd L)) (S (hd L)) t) (h3 : ∀ t u, x3 (ix2 t u) = mt true (X 1) (S 1) t) (h4 : ∀ t u, x4 (ix2 t u) = pmat true (X 1) (S 1) t u) (h5 : ∀ t e, x5 (ix2 t e) = ∑ u, pmat true (X 1) (S 1) t u * (X 1).v u e) :
    ∀ t e, (k0_pay127 x0 x1 x2 x3 x4 x5) (ix2 t e) = outH true (X 1) (S 1) t e := by
  intro t e
  pointwise [k0_pay127]
  simp only [h0, h1, h2, h3, h4, h5, hd_0, hd_1, hd_2, hd_3, dd_0, dd_1, dd_2, dd_3, h8_0, h8_1, h8_2, h8_3, selp] <;> rfl

theorem l128 {x0 : FVec Ideal S64x256 .f32} {x1 : FVec Ideal S64x64 .f32} (hG : Gates X Z B ai af) (h0 : ∀ t L, x0 (ix2 t L) = ainit true (X (hd L)) (S (hd L)) t) (h1 : ∀ t u, x1 (ix2 t u) = mt true (X 2) (S 2) t) :
    ∀ t u, (k0_pay128 x0 x1) (ix2 t u) = e0 true (X 2) (S 2) t := by
  intro t u
  pointwise [k0_pay128]
  simp only [h0, h1, hd_0, hd_1, hd_2, hd_3, dd_0, dd_1, dd_2, dd_3, h8_0, h8_1, h8_2, h8_3, selp] <;> rfl

theorem l129 {x0 : FVec Ideal S64x256 .f32} {x1 : FVec Ideal S64x256 .f32} {x2 : FVec Ideal S64x64 .f32} {x3 : FVec Ideal S64x64 .f32} (hG : Gates X Z B ai af) (h0 : ∀ t L, x0 (ix2 t L) = ∑ d, (X (hd L)).q t d * (S (hd L)).C d (dd L)) (h1 : ∀ t L, x1 (ix2 t L) = ainit true (X (hd L)) (S (hd L)) t) (h2 : ∀ t u, x2 (ix2 t u) = mt true (X 2) (S 2) t) (h3 : ∀ t e, x3 (ix2 t e) = ∑ u, pmat true (X 2) (S 2) t u * (X 2).v u e) :
    ∀ t e, (k0_pay129 x0 x1 x2 x3) (ix2 t e) = num true (X 2) (S 2) t e := by
  intro t e
  pointwise [k0_pay129, k0_pay128]
  simp only [h0, h1, h2, h3, hd_0, hd_1, hd_2, hd_3, dd_0, dd_1, dd_2, dd_3, h8_0, h8_1, h8_2, h8_3, selp] <;> rfl

theorem l130 {x0 : FVec Ideal S64x256 .f32} {x1 : FVec Ideal S64x64 .f32} {x2 : FVec Ideal S64x64 .f32} {x3 : FVec Ideal S64x64 .f32} {x4 : FVec Ideal S64x64 .f32} (hG : Gates X Z B ai af) (h0 : ∀ t L, x0 (ix2 t L) = ∑ d, (X (hd L)).q t d * (S (hd L)).N d) (h1 : ∀ t u, x1 (ix2 t u) = mt true (X 2) (S 2) t) (h2 : ∀ t u, x2 (ix2 t u) = pmat true (X 2) (S 2) t u) (h3 : ∀ t u, x3 (ix2 t u) = e0 true (X 2) (S 2) t) (h4 : ∀ t e, x4 (ix2 t e) = num true (X 2) (S 2) t e) :
    ∀ t e, (k0_pay130 x0 x1 x2 x3 x4) (ix2 t e) = outH true (X 2) (S 2) t e := by
  intro t e
  pointwise [k0_pay130]
  simp only [h0, h1, h2, h3, h4, hd_0, hd_1, hd_2, hd_3, dd_0, dd_1, dd_2, dd_3, h8_0, h8_1, h8_2, h8_3, selp] <;> rfl

theorem l131 {x0 : FVec Ideal S64x256 .f32} {x1 : FVec Ideal S64x256 .f32} {x2 : FVec Ideal S64x256 .f32} {x3 : FVec Ideal S64x64 .f32} {x4 : FVec Ideal S64x64 .f32} {x5 : FVec Ideal S64x64 .f32} (hG : Gates X Z B ai af) (h0 : ∀ t L, x0 (ix2 t L) = ∑ d, (X (hd L)).q t d * (S (hd L)).C d (dd L)) (h1 : ∀ t L, x1 (ix2 t L) = ∑ d, (X (hd L)).q t d * (S (hd L)).N d) (h2 : ∀ t L, x2 (ix2 t L) = ainit true (X (hd L)) (S (hd L)) t) (h3 : ∀ t u, x3 (ix2 t u) = mt true (X 3) (S 3) t) (h4 : ∀ t u, x4 (ix2 t u) = pmat true (X 3) (S 3) t u) (h5 : ∀ t e, x5 (ix2 t e) = ∑ u, pmat true (X 3) (S 3) t u * (X 3).v u e) :
    ∀ t e, (k0_pay131 x0 x1 x2 x3 x4 x5) (ix2 t e) = outH true (X 3) (S 3) t e := by
  intro t e
  pointwise [k0_pay131]
  simp only [h0, h1, h2, h3, h4, h5, hd_0, hd_1, hd_2, hd_3, dd_0, dd_1, dd_2, dd_3, h8_0, h8_1, h8_2, h8_3, selp] <;> rfl

theorem l133 {x0 : FVec Ideal S256x256 .f32} {x1 : FVec Ideal S64x256 .f32} {x2 : FVec Ideal S64x256 .f32} (hG : Gates X Z B ai af) (h0 : ∀ L L', x0 (ix2 L L') = if hd L = hd L' then 1 else 0) (h1 : ∀ t L, x1 (ix2 t L) = (X (hd L)).v t (dd L)) (h2 : ∀ t L, x2 (ix2 t L) = kw true (X (hd L)) t (dd L)) :
    ∀ L L', (k0_pay133 x0 x1 x2) (ix2 L L') = if hd L = hd L' then ∑ t, kw true (X (hd L)) t (dd L) * (X (hd L)).v t (dd L') else 0 := by
  intro L L'
  pointwise [k0_pay133]
  simp only [h0, h1, h2, mul_ite, mul_one, mul_zero]
  by_cases h : hd L = hd L' <;> simp only [h, if_true, if_false]

theorem l142 {x0 : FVec Ideal S64x64 .f32} {x1 : FVec Ideal S64x64 .f32} {x2 : FVec Ideal S64x64 .f32} {x3 : FVec Ideal S64x64 .f32} (hG : Gates X Z B ai af) (h0 : ∀ t e, x0 (ix2 t e) = outH true (X 0) (S 0) t e) (h1 : ∀ t e, x1 (ix2 t e) = outH true (X 1) (S 1) t e) (h2 : ∀ t e, x2 (ix2 t e) = outH true (X 2) (S 2) t e) (h3 : ∀ t e, x3 (ix2 t e) = outH true (X 3) (S 3) t e) :
    ∀ t L, (k0_pay142 x0 x1 x2 x3) (ix3 0 t L) = outH true (X (hd L)) (S (hd L)) t (dd L) := by
  intro t L
  pointwise [k0_pay142]
  simp only [h0, h1, h2, h3]
  exact cat_lane L fun h d => outH true (X h) (S h) t d

theorem l143 {x0 : FVec Ideal S1x256 .f32} {x1 : FVec Ideal S1x256 .f32} {x2 : FVec Ideal S1x256 .f32} (hG : Gates X Z B ai af) (h0 : ∀ L, x0 (ix2 0 L) = ftot true (X (hd L))) (h1 : ∀ L, x1 (ix2 0 L) = gmax true (X (hd L))) (h2 : ∀ L, x2 (ix2 0 L) = (S (hd L)).M) :
    ∀ L, (k0_pay143 x0 x1 x2) (ix2 0 L) = mnew true (X (hd L)) (S (hd L)) := by
  intro L
  pointwise [k0_pay143]
  simp only [h0, h1, h2, hd_0, hd_1, hd_2, hd_3, dd_0, dd_1, dd_2, dd_3, h8_0, h8_1, h8_2, h8_3, selp] <;> rfl

theorem l145 {x0 : FVec Ideal S1x256 .f32} {x1 : FVec Ideal S1x256 .f32} {x2 : FVec Ideal S1x256 .f32} (hG : Gates X Z B ai af) (h0 : ∀ L, x0 (ix2 0 L) = ftot true (X (hd L))) (h1 : ∀ L, x1 (ix2 0 L) = gmax true (X (hd L))) (h2 : ∀ L, x2 (ix2 0 L) = (S (hd L)).M) :
    ∀ L, (k0_pay145 x0 x1 x2) (ix2 0 L) = anew true (X (hd L)) (S (hd L)) := by
  intro L
  pointwise [k0_pay145, k0_pay143]
  simp only [h0, h1, h2, hd_0, hd_1, hd_2, hd_3, dd_0, dd_1, dd_2, dd_3, h8_0, h8_1, h8_2, h8_3, selp] <;> rfl

theorem l146 {x0 : FVec Ideal S1x256 .f32} {x1 : FVec Ideal S1x256 .f32} {x2 : FVec Ideal S256x256 .f32} {x3 : FVec Ideal S1x256 .f32} {x4 : FVec Ideal S256x256 .f32} (hG : Gates X Z B ai af) (h0 : ∀ L, x0 (ix2 0 L) = ftot true (X (hd L))) (h1 : ∀ L, x1 (ix2 0 L) = gmax true (X (hd L))) (h2 : ∀ L L', x2 (ix2 L L') = if hd L = hd L' then (S (hd L)).C (dd L) (dd L') else 0) (h3 : ∀ L, x3 (ix2 0 L) = (S (hd L)).M) (h4 : ∀ L L', x4 (ix2 L L') = if hd L = hd L' then ∑ t, kw true (X (hd L)) t (dd L) * (X (hd L)).v t (dd L') else 0) :
    ∀ L L', (k0_pay146 x0 x1 x2 x3 x4) (ix3 0 L L') = if hd L = hd L' then Cnew true (X (hd L)) (S (hd L)) (dd L) (dd L') else 0 := by
  intro L L'
  pointwise [k0_pay146, k0_pay144, k0_pay145, k0_pay143]
  simp only [h0, h1, h2, h3, h4]
  by_cases h : hd L = hd L'
  · simp only [h, if_true]; rfl
  · simp only [h, if_false, mul_zero, add_zero]

theorem l147 {x0 : FVec Ideal S1x256 .f32} {x1 : FVec Ideal S1x256 .f32} {x2 : FVec Ideal S1x256 .f32} {x3 : FVec Ideal S1x256 .f32} (hG : Gates X Z B ai af) (h0 : ∀ L, x0 (ix2 0 L) = ftot true (X (hd L))) (h1 : ∀ L, x1 (ix2 0 L) = gmax true (X (hd L))) (h2 : ∀ L, x2 (ix2 0 L) = (S (hd L)).N (dd L)) (h3 : ∀ L, x3 (ix2 0 L) = (S (hd L)).M) :
    ∀ L, (k0_pay147 x0 x1 x2 x3) (ix2 0 L) = aold true (X (hd L)) (S (hd L)) * (S (hd L)).N (dd L) := by
  intro L
  pointwise [k0_pay147, k0_pay144, k0_pay143]
  simp only [h0, h1, h2, h3, hd_0, hd_1, hd_2, hd_3, dd_0, dd_1, dd_2, dd_3, h8_0, h8_1, h8_2, h8_3, selp] <;> rfl

end Cert.KernelIdeal.Hand
end
-- ==== Proof.Chunk.lean ====
module

public import proofs.«01_k».proof.Defs
public import proofs.«01_k».proof.Proof.Gen.KernelIdeal.Frame
public import Idealize.ShloMosaic.Lib.Pipeline.Value
public import Idealize.ShloMosaic.Lib.Pointwise
public import Idealize.ShloMosaic.Lib.Tactic
public import proofs.«01_k».proof.Proof.PayF
public import proofs.«01_k».proof.Proof.PayB

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Mlstm

/-- One chunk: what the kernel body stores is the chunk step of each head, for both directions. -/
theorem chunk {XF XB : Fin 4 → Ch} {SF SB : Fin 4 → St} {ZF ZB : Fin 64 → Fin 128 → EReal} {B : Fin 128 → EReal}
    (hGF : Gates XF ZF B 0 1) (hGB : Gates XB ZB B 2 3)
    {u0 : Vec Ideal S64x64 .f32}
    {u1 : Vec Ideal S64x64 .f32}
    {u2 : Vec Ideal S256x256 .f32}
    {u3 : Vec Ideal S1x128 .f32}
    {u4 : Vec Ideal S1x128x256 .f32}
    {u5 : Vec Ideal S1x128x256 .f32}
    {u6 : Vec Ideal S1x8x128 .f32}
    {u7 : Vec Ideal S1x8x128 .f32}
    {u8 : Vec Ideal S1x64x256 .f32}
    {u9 : Vec Ideal S1x64x256 .f32}
    {u10 : Vec Ideal S1x64x256 .f32}
    {u11 : Vec Ideal S1x64x128 .f32}
    {u12 : Vec Ideal S1x256x256 .f32}
    {u13 : Vec Ideal S1x1x256 .f32}
    {u14 : Vec Ideal S1x1x256 .f32}
    {u15 : Vec Ideal S1x128x256 .f32}
    {u16 : Vec Ideal S1x8x128 .f32}
    {u17 : Vec Ideal S1x8x128 .f32}
    {u18 : Vec Ideal S1x64x256 .f32}
    {u19 : Vec Ideal S1x64x256 .f32}
    {u20 : Vec Ideal S1x64x256 .f32}
    {u21 : Vec Ideal S1x64x128 .f32}
    {u22 : Vec Ideal S1x128x256 .f32}
    {u23 : Vec Ideal S1x256x256 .f32}
    {u24 : Vec Ideal S1x1x256 .f32}
    {u25 : Vec Ideal S1x1x256 .f32}
    {v339 : IVec S64x256 32}
    {r_0 r_1 r_63 r_64 r_65 r_67 r_68 r_69 r_70 r_71 r_72 r_73 r_74 r_75 r_76 r_77 r_78 r_79 r_80 r_81 r_82 r_83 r_84 r_85 r_86 r_87 r_88 r_89 r_90 r_91 r_92 r_93 r_94 r_95 r_96 r_97 r_98 r_99 r_100 r_101 r_102 r_103 r_104 r_105 r_106 r_107 r_108 r_109 r_110 r_111 r_112 r_113 r_114 r_115 r_116 r_117 r_118 r_119 : FVec Ideal S64x64 .f32}
    {r_2 r_25 r_55 r_120 r_121 r_125 : FVec Ideal S256x256 .f32}
    {r_3 : FVec Ideal S1x128 .f32}
    {r_4 r_5 r_32 : FVec Ideal S128x256 .f32}
    {r_6 r_7 r_33 r_34 : FVec Ideal S8x128 .f32}
    {r_8 r_9 r_10 r_12 r_13 r_14 r_19 r_20 r_24 r_29 r_30 r_31 r_35 r_36 r_37 r_42 r_43 r_50 r_54 r_59 r_60 r_61 : FVec Ideal S64x256 .f32}
    {r_11 r_38 r_41 : FVec Ideal S64x128 .f32}
    {r_15 r_16 r_21 r_47 r_48 r_49 r_51 : FVec Ideal S8x64 .f32}
    {r_17 : FVec Ideal S64x64 .bf16}
    {r_18 r_28 r_58 : FVec Ideal S64x256 .bf16}
    {r_22 r_23 r_26 r_27 r_52 r_53 r_56 r_57 r_122 r_123 r_124 r_126 r_127 r_128 : FVec Ideal S1x256 .f32}
    {r_39 : FVec Ideal S128x256 .bf16}
    {r_40 r_45 r_46 : FVec Ideal S64x128 .bf16}
    {r_44 : FVec Ideal S8x128 .bf16}
    {r_62 : IVec S64x256 32}
    {r_66 : IVec S64x256 1}
    {S10 S11 : FVec Ideal S1x64x256 .f32}
    {C0 C1 : FVec Ideal S1x256x256 .f32}
    {N0 M0 N1 M1 : FVec Ideal S1x1x256 .f32}
    (hu0 : ∀ t u, u0 (ix2 t u) = if live false t u then 1 else 0)
    (hu1 : ∀ t u, u1 (ix2 t u) = if live true t u then 1 else 0)
    (hu2 : ∀ L L', u2 (ix2 L L') = if hd L = hd L' then 1 else 0)
    (hu3 : ∀ c, u3 (ix2 0 c) = B c)
    (hu4 : ∀ c L, u4 (ix3 0 c L) = if c = gc 0 (hd L) then 1 else 0)
    (hu5 : ∀ c L, u5 (ix3 0 c L) = if c = gc 1 (hd L) then 1 else 0)
    (hu6 : ∀ h c, u6 (ix3 0 (h8 h) c) = if c = gc 0 h then 1 else 0)
    (hu7 : ∀ h c, u7 (ix3 0 (h8 h) c) = if c = gc 1 h then 1 else 0)
    (hu8 : ∀ t L, u8 (ix3 0 t L) = (XF (hd L)).q t (dd L))
    (hu9 : ∀ t L, u9 (ix3 0 t L) * Ideal.ofBits FTy.f32 0x3E000000#32 = (XF (hd L)).k t (dd L))
    (hu10 : ∀ t L, u10 (ix3 0 t L) = (XF (hd L)).v t (dd L))
    (hu11 : ∀ t c, u11 (ix3 0 t c) = ZF t c)
    (hu12 : ∀ L L', u12 (ix3 0 L L') = if hd L = hd L' then (SF (hd L)).C (dd L) (dd L') else 0)
    (hu13 : ∀ L, u13 (ix3 0 0 L) = (SF (hd L)).N (dd L))
    (hu14 : ∀ L, u14 (ix3 0 0 L) = (SF (hd L)).M)
    (hu15 : ∀ c L, u15 (ix3 0 c L) = if c = gc 3 (hd L) then 1 else 0)
    (hu16 : ∀ h c, u16 (ix3 0 (h8 h) c) = if c = gc 2 h then 1 else 0)
    (hu17 : ∀ h c, u17 (ix3 0 (h8 h) c) = if c = gc 3 h then 1 else 0)
    (hu18 : ∀ t L, u18 (ix3 0 t L) = (XB (hd L)).q t (dd L))
    (hu19 : ∀ t L, u19 (ix3 0 t L) * Ideal.ofBits FTy.f32 0x3E000000#32 = (XB (hd L)).k t (dd L))
    (hu20 : ∀ t L, u20 (ix3 0 t L) = (XB (hd L)).v t (dd L))
    (hu21 : ∀ t c, u21 (ix3 0 t c) = ZB t c)
    (hu22 : ∀ c L, u22 (ix3 0 c L) = if c = gc 2 (hd L) then 1 else 0)
    (hu23 : ∀ L L', u23 (ix3 0 L L') = if hd L = hd L' then (SB (hd L)).C (dd L) (dd L') else 0)
    (hu24 : ∀ L, u24 (ix3 0 0 L) = (SB (hd L)).N (dd L))
    (hu25 : ∀ L, u25 (ix3 0 0 L) = (SB (hd L)).M)
    (hio : ∀ t L, v339 (ix2 t L) = BitVec.ofNat 32 L.val)
    (e_M1 : M1 = k0_pay2 r_126)
    (e_N1 : N1 = k0_pay1 r_54 r_127 r_128)
    (e_C1 : C1 = k0_pay146 r_52 r_53 r_55 r_57 r_121)
    (e_M0 : M0 = k0_pay141 r_122)
    (e_N0 : N0 = k0_pay140 r_24 r_26 r_123 r_124)
    (e_C0 : C0 = k0_pay139 r_25 r_120 r_124 r_125)
    (e_S11 : S11 = k0_pay142 r_114 r_115 r_118 r_119)
    (e_S10 : S10 = k0_pay134 r_108 r_109 r_110 r_113)
    (e_r_128 : r_128 = k0_pay147 r_52 r_53 r_56 r_57)
    (e_r_127 : r_127 = k0_pay145 r_52 r_53 r_57)
    (e_r_126 : r_126 = k0_pay143 r_52 r_53 r_57)
    (e_r_125 : r_125 = k0_pay138 r_22 r_23 r_27)
    (e_r_124 : r_124 = k0_pay137 r_22 r_23 r_27)
    (e_r_123 : r_123 = k0_pay136 r_22 r_23 r_27)
    (e_r_122 : r_122 = k0_pay135 r_22 r_23 r_27)
    (e_r_121 : r_121 = k0_pay133 r_2 r_37 r_54)
    (e_r_120 : r_120 = k0_pay132 r_2 r_10 r_24)
    (e_r_119 : r_119 = k0_pay131 r_59 r_60 r_61 r_89 r_98 r_105)
    (e_r_118 : r_118 = k0_pay130 r_60 r_88 r_97 r_116 r_117)
    (e_r_117 : r_117 = k0_pay129 r_59 r_61 r_88 r_104)
    (e_r_116 : r_116 = k0_pay128 r_61 r_88)
    (e_r_115 : r_115 = k0_pay127 r_59 r_60 r_61 r_87 r_96 r_103)
    (e_r_114 : r_114 = k0_pay126 r_59 r_60 r_61 r_86 r_95 r_102)
    (e_r_113 : r_113 = k0_pay125 r_30 r_85 r_94 r_111 r_112)
    (e_r_112 : r_112 = k0_pay124 r_29 r_31 r_85 r_101)
    (e_r_111 : r_111 = k0_pay123 r_31 r_85)
    (e_r_110 : r_110 = k0_pay122 r_29 r_30 r_31 r_84 r_92 r_100)
    (e_r_109 : r_109 = k0_pay121 r_29 r_30 r_31 r_83 r_91 r_99)
    (e_r_108 : r_108 = k0_pay120 r_30 r_82 r_90 r_106 r_107)
    (e_r_107 : r_107 = k0_pay119 r_10 r_29 r_31 r_82 r_90)
    (e_r_106 : r_106 = k0_pay118 r_31 r_82)
    (e_r_105 : r_105 = k0_pay117 r_37 r_71 r_81 r_89)
    (e_r_104 : r_104 = k0_pay116 r_37 r_70 r_79 r_88)
    (e_r_103 : r_103 = k0_pay115 r_37 r_69 r_78 r_87)
    (e_r_102 : r_102 = k0_pay114 r_37 r_68 r_77 r_86)
    (e_r_101 : r_101 = k0_pay113 r_10 r_67 r_93)
    (e_r_100 : r_100 = k0_pay112 r_10 r_92)
    (e_r_99 : r_99 = k0_pay111 r_10 r_91)
    (e_r_98 : r_98 = k0_pay110 r_71 r_81 r_89)
    (e_r_97 : r_97 = k0_pay109 r_70 r_79 r_88)
    (e_r_96 : r_96 = k0_pay108 r_69 r_78 r_87)
    (e_r_95 : r_95 = k0_pay107 r_68 r_77 r_86)
    (e_r_94 : r_94 = k0_pay106 r_67 r_93)
    (e_r_93 : r_93 = k0_pay105 r_31 r_76)
    (e_r_92 : r_92 = k0_pay104 r_31 r_65 r_75)
    (e_r_91 : r_91 = k0_pay103 r_31 r_64 r_74)
    (e_r_90 : r_90 = k0_pay102 r_31 r_63 r_72)
    (e_r_89 : r_89 = k0_pay101 r_61 k0_pay73 r_80 (Ideal.ofBits FTy.f32 0xF149F2CA#32))
    (e_r_88 : r_88 = k0_pay100 r_61 r_79)
    (e_r_87 : r_87 = k0_pay99 r_61 r_78)
    (e_r_86 : r_86 = k0_pay98 r_61 r_77)
    (e_r_85 : r_85 = k0_pay97 r_31 r_76)
    (e_r_84 : r_84 = k0_pay96 r_31 r_75)
    (e_r_83 : r_83 = k0_pay95 r_31 r_74)
    (e_r_82 : r_82 = k0_pay94 r_31 r_72)
    (e_r_81 : r_81 = k0_pay93 k0_pay73 r_80 (Ideal.ofBits FTy.f32 0xF149F2CA#32))
    (e_r_80 : r_80 = k0_pay92 r_48 r_50 r_51)
    (e_r_79 : r_79 = k0_pay91 r_48 r_50 r_51 k0_pay73)
    (e_r_78 : r_78 = k0_pay90 r_48 r_50 r_51 k0_pay73)
    (e_r_77 : r_77 = k0_pay89 r_48 r_50 r_51 k0_pay73)
    (e_r_76 : r_76 = k0_pay88 r_15 r_20 r_21 k0_pay39)
    (e_r_75 : r_75 = k0_pay87 r_15 r_20 r_21 k0_pay39)
    (e_r_74 : r_74 = k0_pay86 k0_pay39 r_73 (Ideal.ofBits FTy.f32 0xF149F2CA#32))
    (e_r_73 : r_73 = k0_pay85 r_15 r_20 r_21)
    (e_r_72 : r_72 = k0_pay84 r_15 r_20 r_21 k0_pay39)
    (e_r_71 : r_71 = k0_pay83 r_35 r_58 r_62)
    (e_r_70 : r_70 = k0_pay82 r_35 r_58 r_62)
    (e_r_69 : r_69 = k0_pay81 r_35 r_58 r_62)
    (e_r_68 : r_68 = k0_pay80 r_35 r_58 r_62)
    (e_r_67 : r_67 = k0_pay79 r_8 r_28 r_66)
    (e_r_66 : r_66 = k0_pay78 v339 64#32)
    (e_r_65 : r_65 = k0_pay77 r_8 r_28 v339 64#32)
    (e_r_64 : r_64 = k0_pay76 r_8 r_28 v339 64#32)
    (e_r_63 : r_63 = k0_pay75 r_8 r_28 v339 64#32)
    (e_r_62 : r_62 = k0_pay74 v339 64#32)
    (e_r_61 : r_61 = k0_pay72 r_50 u25)
    (e_r_60 : r_60 = k0_pay71 r_2 r_35 u24)
    (e_r_59 : r_59 = k0_pay70 r_35 u23)
    (e_r_58 : r_58 = k0_pay69 r_36)
    (e_r_57 : r_57 = k0_pay68 u25)
    (e_r_56 : r_56 = k0_pay67 u24)
    (e_r_55 : r_55 = k0_pay66 u23)
    (e_r_54 : r_54 = k0_pay65 r_36 r_42 r_50)
    (e_r_53 : r_53 = k0_pay64 r_42 r_50)
    (e_r_52 : r_52 = k0_pay62 r_50)
    (e_r_51 : r_51 = k0_pay61 r_0 r_49)
    (e_r_50 : r_50 = k0_pay60 r_1 r_43)
    (e_r_49 : r_49 = k0_pay59 r_34 r_38)
    (e_r_48 : r_48 = k0_pay58 r_44 r_45 r_46 r_47)
    (e_r_47 : r_47 = k0_pay57 r_33 r_38)
    (e_r_46 : r_46 = k0_pay56 r_38)
    (e_r_45 : r_45 = k0_pay55 r_38)
    (e_r_44 : r_44 = k0_pay52 r_33)
    (e_r_43 : r_43 = k0_pay51 r_32 r_38)
    (e_r_42 : r_42 = k0_pay50 r_39 r_40 r_41)
    (e_r_41 : r_41 = k0_pay49 r_3 u21)
    (e_r_40 : r_40 = k0_pay48 r_3 u21)
    (e_r_39 : r_39 = k0_pay47 u22)
    (e_r_38 : r_38 = k0_pay46 r_3 u21)
    (e_r_37 : r_37 = k0_pay45 u20)
    (e_r_36 : r_36 = k0_pay44 u19)
    (e_r_35 : r_35 = k0_pay43 u18)
    (e_r_34 : r_34 = k0_pay42 u17)
    (e_r_33 : r_33 = k0_pay41 u16)
    (e_r_32 : r_32 = k0_pay40 u15)
    (e_r_31 : r_31 = k0_pay38 r_20 r_27)
    (e_r_30 : r_30 = k0_pay37 r_2 r_8 r_26)
    (e_r_29 : r_29 = k0_pay36 r_8 u12)
    (e_r_28 : r_28 = k0_pay35 r_9)
    (e_r_27 : r_27 = k0_pay34 u14)
    (e_r_26 : r_26 = k0_pay33 u13)
    (e_r_25 : r_25 = k0_pay32 u12)
    (e_r_24 : r_24 = k0_pay31 r_9 r_12 r_14 r_17 r_18 r_19)
    (e_r_23 : r_23 = k0_pay30 r_12 r_14 r_17 r_18 r_19)
    (e_r_22 : r_22 = k0_pay28 r_14 r_17 r_18 r_19)
    (e_r_21 : r_21 = k0_pay27 r_1 r_16)
    (e_r_20 : r_20 = k0_pay26 r_14 r_17 r_18 r_19)
    (e_r_19 : r_19 = k0_pay25 r_13)
    (e_r_18 : r_18 = k0_pay24 r_13)
    (e_r_17 : r_17 = k0_pay23 r_0)
    (e_r_16 : r_16 = k0_pay22 r_7 r_11)
    (e_r_15 : r_15 = k0_pay21 r_6 r_11)
    (e_r_14 : r_14 = k0_pay20 r_13)
    (e_r_13 : r_13 = k0_pay19 r_3 r_5 u11)
    (e_r_12 : r_12 = k0_pay18 r_3 r_4 u11)
    (e_r_11 : r_11 = k0_pay17 r_3 u11)
    (e_r_10 : r_10 = k0_pay16 u10)
    (e_r_9 : r_9 = k0_pay15 u9)
    (e_r_8 : r_8 = k0_pay14 u8)
    (e_r_7 : r_7 = k0_pay13 u7)
    (e_r_6 : r_6 = k0_pay12 u6)
    (e_r_5 : r_5 = k0_pay11 u5)
    (e_r_4 : r_4 = k0_pay10 u4)
    (e_r_3 : r_3 = k0_pay9 u3)
    (e_r_2 : r_2 = k0_pay8 u2)
    (e_r_1 : r_1 = k0_pay7 u1)
    (e_r_0 : r_0 = k0_pay6 u0) :
    (∀ t L, S10 (ix3 0 t L) = outH false (XF (hd L)) (SF (hd L)) t (dd L)) ∧
      (∀ t L, S11 (ix3 0 t L) = outH true (XB (hd L)) (SB (hd L)) t (dd L)) ∧
      (∀ L L', C0 (ix3 0 L L') = if hd L = hd L' then Cnew false (XF (hd L)) (SF (hd L)) (dd L) (dd L') else 0) ∧
      (∀ L, N0 (ix3 0 0 L) = Nnew false (XF (hd L)) (SF (hd L)) (dd L)) ∧
      (∀ L, M0 (ix3 0 0 L) = mnew false (XF (hd L)) (SF (hd L))) ∧
      (∀ L L', C1 (ix3 0 L L') = if hd L = hd L' then Cnew true (XB (hd L)) (SB (hd L)) (dd L) (dd L') else 0) ∧
      (∀ L, N1 (ix3 0 0 L) = Nnew true (XB (hd L)) (SB (hd L)) (dd L)) ∧
      (∀ L, M1 (ix3 0 0 L) = mnew true (XB (hd L)) (SB (hd L))) := by
  have f_0 : ∀ t u, r_0 (ix2 t u) = if live false t u then 1 else 0 := by rw [e_r_0]; exact l6 hGF hu0
  have f_1 : ∀ t u, r_1 (ix2 t u) = if live true t u then 1 else 0 := by rw [e_r_1]; exact l7 hGF hu1
  have f_2 : ∀ L L', r_2 (ix2 L L') = if hd L = hd L' then 1 else 0 := by rw [e_r_2]; exact l8 hGF hu2
  have f_3 : ∀ c, r_3 (ix2 0 c) = B c := by rw [e_r_3]; exact l9 hGF hu3
  have f_4 : ∀ c L, r_4 (ix2 c L) = if c = gc 0 (hd L) then 1 else 0 := by rw [e_r_4]; exact l10 hGF hu4
  have f_5 : ∀ c L, r_5 (ix2 c L) = if c = gc 1 (hd L) then 1 else 0 := by rw [e_r_5]; exact l11 hGF hu5
  have f_6 : ∀ h c, r_6 (ix2 (h8 h) c) = if c = gc 0 h then 1 else 0 := by rw [e_r_6]; exact l12 hGF hu6
  have f_7 : ∀ h c, r_7 (ix2 (h8 h) c) = if c = gc 1 h then 1 else 0 := by rw [e_r_7]; exact l13 hGF hu7
  have f_8 : ∀ t L, r_8 (ix2 t L) = (XF (hd L)).q t (dd L) := by rw [e_r_8]; exact l14 hGF hu8
  have f_9 : ∀ t L, r_9 (ix2 t L) = (XF (hd L)).k t (dd L) := by rw [e_r_9]; exact l15 hGF hu9
  have f_10 : ∀ t L, r_10 (ix2 t L) = (XF (hd L)).v t (dd L) := by rw [e_r_10]; exact l16 hGF hu10
  have f_11 : ∀ t c, r_11 (ix2 t c) = ZF t c + B c := by rw [e_r_11]; exact l17 hGF f_3 hu11
  have f_12 : ∀ t L, r_12 (ix2 t L) = (XF (hd L)).i t := by rw [e_r_12]; exact l18 hGF f_3 f_4 hu11
  have f_13 : ∀ t L, 0 - r_13 (ix2 t L) = (XF (hd L)).f t := by rw [e_r_13]; exact l19 hGF f_3 f_5 hu11
  have f_14 : ∀ t L, r_14 (ix2 t L) = (XF (hd L)).f t := by rw [e_r_14]; exact l20 hGF f_13
  have f_15 : ∀ h t, r_15 (ix2 (h8 h) t) = (XF h).i t := by rw [e_r_15]; exact l21 hGF f_6 f_11
  have f_16 : ∀ h t, r_16 (ix2 (h8 h) t) = (XF h).f t := by rw [e_r_16]; exact l22 hGF f_7 f_11
  have f_17 : ∀ t u, r_17 (ix2 t u) = if live false t u then 1 else 0 := by rw [e_r_17]; exact l23 hGF f_0
  have f_18 : ∀ t L, r_18 (ix2 t L) = (XF (hd L)).f t := by rw [e_r_18]; exact l24 hGF f_13
  have f_19 : ∀ t L, r_19 (ix2 t L) = (XF (hd L)).f t := by rw [e_r_19]; exact l25 hGF f_13
  have f_20 : ∀ t L, r_20 (ix2 t L) = fcum false (XF (hd L)) t := by rw [e_r_20]; exact l26 hGF f_14 f_17 f_18 f_19
  have f_21 : ∀ h t, r_21 (ix2 (h8 h) t) = fcum false (XF h) t := by rw [e_r_21]; exact l27 hGF f_1 f_16
  have f_22 : ∀ L, r_22 (ix2 0 L) = ftot false (XF (hd L)) := by rw [e_r_22]; exact l28 hGF f_14 f_17 f_18 f_19
  have f_23 : ∀ L, r_23 (ix2 0 L) = gmax false (XF (hd L)) := by rw [e_r_23]; exact l30 hGF f_12 f_14 f_17 f_18 f_19
  have f_24 : ∀ t L, r_24 (ix2 t L) = kw false (XF (hd L)) t (dd L) := by rw [e_r_24]; exact l31 hGF f_9 f_12 f_14 f_17 f_18 f_19
  have f_25 : ∀ L L', r_25 (ix2 L L') = if hd L = hd L' then (SF (hd L)).C (dd L) (dd L') else 0 := by rw [e_r_25]; exact l32 hGF hu12
  have f_26 : ∀ L, r_26 (ix2 0 L) = (SF (hd L)).N (dd L) := by rw [e_r_26]; exact l33 hGF hu13
  have f_27 : ∀ L, r_27 (ix2 0 L) = (SF (hd L)).M := by rw [e_r_27]; exact l34 hGF hu14
  have f_28 : ∀ t L, r_28 (ix2 t L) = (XF (hd L)).k t (dd L) := by rw [e_r_28]; exact l35 hGF f_9
  have f_29 : ∀ t L, r_29 (ix2 t L) = ∑ d, (XF (hd L)).q t d * (SF (hd L)).C d (dd L) := by rw [e_r_29]; exact l36 hGF f_8 hu12
  have f_30 : ∀ t L, r_30 (ix2 t L) = ∑ d, (XF (hd L)).q t d * (SF (hd L)).N d := by rw [e_r_30]; exact l37 hGF f_2 f_8 f_26
  have f_31 : ∀ t L, r_31 (ix2 t L) = ainit false (XF (hd L)) (SF (hd L)) t := by rw [e_r_31]; exact l38 hGF f_20 f_27
  have f_32 : ∀ c L, r_32 (ix2 c L) = if c = gc 3 (hd L) then 1 else 0 := by rw [e_r_32]; exact l40 hGB hu15
  have f_33 : ∀ h c, r_33 (ix2 (h8 h) c) = if c = gc 2 h then 1 else 0 := by rw [e_r_33]; exact l41 hGB hu16
  have f_34 : ∀ h c, r_34 (ix2 (h8 h) c) = if c = gc 3 h then 1 else 0 := by rw [e_r_34]; exact l42 hGB hu17
  have f_35 : ∀ t L, r_35 (ix2 t L) = (XB (hd L)).q t (dd L) := by rw [e_r_35]; exact l43 hGB hu18
  have f_36 : ∀ t L, r_36 (ix2 t L) = (XB (hd L)).k t (dd L) := by rw [e_r_36]; exact l44 hGB hu19
  have f_37 : ∀ t L, r_37 (ix2 t L) = (XB (hd L)).v t (dd L) := by rw [e_r_37]; exact l45 hGB hu20
  have f_38 : ∀ t c, r_38 (ix2 t c) = ZB t c + B c := by rw [e_r_38]; exact l46 hGB f_3 hu21
  have f_39 : ∀ c L, r_39 (ix2 c L) = if c = gc 2 (hd L) then 1 else 0 := by rw [e_r_39]; exact l47 hGB hu22
  have f_40 : ∀ t c, r_40 (ix2 t c) = ZB t c + B c := by rw [e_r_40]; exact l48 hGB f_3 hu21
  have f_41 : ∀ t c, r_41 (ix2 t c) = ZB t c + B c - (ZB t c + B c) := by rw [e_r_41]; exact l49 hGB f_3 hu21
  have f_42 : ∀ t L, r_42 (ix2 t L) = (XB (hd L)).i t := by rw [e_r_42]; exact l50 hGB f_39 f_40 f_41
  have f_43 : ∀ t L, r_43 (ix2 t L) = (XB (hd L)).f t := by rw [e_r_43]; exact l51 hGB f_32 f_38
  have f_44 : ∀ h c, r_44 (ix2 (h8 h) c) = if c = gc 2 h then 1 else 0 := by rw [e_r_44]; exact l52 hGB f_33
  have f_45 : ∀ t c, r_45 (ix2 t c) = ZB t c + B c - (ZB t c + B c) := by rw [e_r_45]; exact l55 hGB f_38
  have f_46 : ∀ t c, r_46 (ix2 t c) = ZB t c + B c - (ZB t c + B c) - (ZB t c + B c - (ZB t c + B c)) := by rw [e_r_46]; exact l56 hGB f_38
  have f_47 : ∀ h t, r_47 (ix2 (h8 h) t) = ∑ c, (if c = gc 2 h then 1 else 0) * (ZB t c + B c) := by rw [e_r_47]; exact l57 hGB f_33 f_38
  have f_48 : ∀ h t, r_48 (ix2 (h8 h) t) = (XB h).i t := by rw [e_r_48]; exact l58 hGB f_44 f_45 f_46 f_47
  have f_49 : ∀ h t, r_49 (ix2 (h8 h) t) = (XB h).f t := by rw [e_r_49]; exact l59 hGB f_34 f_38
  have f_50 : ∀ t L, r_50 (ix2 t L) = fcum true (XB (hd L)) t := by rw [e_r_50]; exact l60 hGB f_1 f_43
  have f_51 : ∀ h t, r_51 (ix2 (h8 h) t) = fcum true (XB h) t := by rw [e_r_51]; exact l61 hGB f_0 f_49
  have f_52 : ∀ L, r_52 (ix2 0 L) = ftot true (XB (hd L)) := by rw [e_r_52]; exact l62 hGB f_50
  have f_53 : ∀ L, r_53 (ix2 0 L) = gmax true (XB (hd L)) := by rw [e_r_53]; exact l64 hGB f_42 f_50
  have f_54 : ∀ t L, r_54 (ix2 t L) = kw true (XB (hd L)) t (dd L) := by rw [e_r_54]; exact l65 hGB f_36 f_42 f_50
  have f_55 : ∀ L L', r_55 (ix2 L L') = if hd L = hd L' then (SB (hd L)).C (dd L) (dd L') else 0 := by rw [e_r_55]; exact l66 hGB hu23
  have f_56 : ∀ L, r_56 (ix2 0 L) = (SB (hd L)).N (dd L) := by rw [e_r_56]; exact l67 hGB hu24
  have f_57 : ∀ L, r_57 (ix2 0 L) = (SB (hd L)).M := by rw [e_r_57]; exact l68 hGB hu25
  have f_58 : ∀ t L, r_58 (ix2 t L) = (XB (hd L)).k t (dd L) := by rw [e_r_58]; exact l69 hGB f_36
  have f_59 : ∀ t L, r_59 (ix2 t L) = ∑ d, (XB (hd L)).q t d * (SB (hd L)).C d (dd L) := by rw [e_r_59]; exact l70 hGB f_35 hu23
  have f_60 : ∀ t L, r_60 (ix2 t L) = ∑ d, (XB (hd L)).q t d * (SB (hd L)).N d := by rw [e_r_60]; exact l71 hGB f_2 f_35 hu24
  have f_61 : ∀ t L, r_61 (ix2 t L) = ainit true (XB (hd L)) (SB (hd L)) t := by rw [e_r_61]; exact l72 hGB f_50 hu25
  have f_62 : ∀ t L, r_62 (ix2 t L) = BitVec.ofNat 32 (hd L).val := by rw [e_r_62]; exact l74 hGB hio
  have f_63 : ∀ t u, r_63 (ix2 t u) = ∑ d, (XF 0).q t d * (XF 0).k u d := by rw [e_r_63]; exact l75 hGF f_8 f_28 hio
  have f_64 : ∀ t u, r_64 (ix2 t u) = ∑ d, (XF 1).q t d * (XF 1).k u d := by rw [e_r_64]; exact l76 hGF f_8 f_28 hio
  have f_65 : ∀ t u, r_65 (ix2 t u) = ∑ d, (XF 2).q t d * (XF 2).k u d := by rw [e_r_65]; exact l77 hGF f_8 f_28 hio
  have f_66 : ∀ t L, r_66 (ix2 t L) = if hd L = 3 then 1#1 else 0#1 := by rw [e_r_66]; exact l78 hGF hio
  have f_67 : ∀ t u, r_67 (ix2 t u) = ∑ d, (XF 3).q t d * (XF 3).k u d := by rw [e_r_67]; exact l79 hGF f_8 f_28 f_66
  have f_68 : ∀ t u, r_68 (ix2 t u) = ∑ d, (XB 0).q t d * (XB 0).k u d := by rw [e_r_68]; exact l80 hGB f_35 f_58 f_62
  have f_69 : ∀ t u, r_69 (ix2 t u) = ∑ d, (XB 1).q t d * (XB 1).k u d := by rw [e_r_69]; exact l81 hGB f_35 f_58 f_62
  have f_70 : ∀ t u, r_70 (ix2 t u) = ∑ d, (XB 2).q t d * (XB 2).k u d := by rw [e_r_70]; exact l82 hGB f_35 f_58 f_62
  have f_71 : ∀ t u, r_71 (ix2 t u) = ∑ d, (XB 3).q t d * (XB 3).k u d := by rw [e_r_71]; exact l83 hGB f_35 f_58 f_62
  have f_72 : ∀ t u, r_72 (ix2 t u) = amat false (XF 0) t u := by rw [e_r_72]; exact l84 hGF f_15 f_20 f_21 (l39 hGF)
  have f_73 : ∀ t u, r_73 (ix2 t u) = fcum false (XF 1) t - fcum false (XF 1) u + (XF 1).i u := by rw [e_r_73]; exact l85 hGF f_15 f_20 f_21
  have f_74 : ∀ t u, r_74 (ix2 t u) = amat false (XF 1) t u := by rw [e_r_74]; exact l86 hGF (l39 hGF) f_73
  have f_75 : ∀ t u, r_75 (ix2 t u) = amat false (XF 2) t u := by rw [e_r_75]; exact l87 hGF f_15 f_20 f_21 (l39 hGF)
  have f_76 : ∀ t u, r_76 (ix2 t u) = amat false (XF 3) t u := by rw [e_r_76]; exact l88 hGF f_15 f_20 f_21 (l39 hGF)
  have f_77 : ∀ t u, r_77 (ix2 t u) = amat true (XB 0) t u := by rw [e_r_77]; exact l89 hGB f_48 f_50 f_51 (l73 hGB)
  have f_78 : ∀ t u, r_78 (ix2 t u) = amat true (XB 1) t u := by rw [e_r_78]; exact l90 hGB f_48 f_50 f_51 (l73 hGB)
  have f_79 : ∀ t u, r_79 (ix2 t u) = amat true (XB 2) t u := by rw [e_r_79]; exact l91 hGB f_48 f_50 f_51 (l73 hGB)
  have f_80 : ∀ t u, r_80 (ix2 t u) = fcum true (XB 3) t - fcum true (XB 3) u + (XB 3).i u := by rw [e_r_80]; exact l92 hGB f_48 f_50 f_51
  have f_81 : ∀ t u, r_81 (ix2 t u) = amat true (XB 3) t u := by rw [e_r_81]; exact l93 hGB (l73 hGB) f_80
  have f_82 : ∀ t u, r_82 (ix2 t u) = mt false (XF 0) (SF 0) t := by rw [e_r_82]; exact l94 hGF f_31 f_72
  have f_83 : ∀ t u, r_83 (ix2 t u) = mt false (XF 1) (SF 1) t := by rw [e_r_83]; exact l95 hGF f_31 f_74
  have f_84 : ∀ t u, r_84 (ix2 t u) = mt false (XF 2) (SF 2) t := by rw [e_r_84]; exact l96 hGF f_31 f_75
  have f_85 : ∀ t u, r_85 (ix2 t u) = mt false (XF 3) (SF 3) t := by rw [e_r_85]; exact l97 hGF f_31 f_76
  have f_86 : ∀ t u, r_86 (ix2 t u) = mt true (XB 0) (SB 0) t := by rw [e_r_86]; exact l98 hGB f_61 f_77
  have f_87 : ∀ t u, r_87 (ix2 t u) = mt true (XB 1) (SB 1) t := by rw [e_r_87]; exact l99 hGB f_61 f_78
  have f_88 : ∀ t u, r_88 (ix2 t u) = mt true (XB 2) (SB 2) t := by rw [e_r_88]; exact l100 hGB f_61 f_79
  have f_89 : ∀ t u, r_89 (ix2 t u) = mt true (XB 3) (SB 3) t := by rw [e_r_89]; exact l101 hGB f_61 (l73 hGB) f_80
  have f_90 : ∀ t u, r_90 (ix2 t u) = pmat false (XF 0) (SF 0) t u := by rw [e_r_90]; exact l102 hGF f_31 f_63 f_72
  have f_91 : ∀ t u, r_91 (ix2 t u) = pmat false (XF 1) (SF 1) t u := by rw [e_r_91]; exact l103 hGF f_31 f_64 f_74
  have f_92 : ∀ t u, r_92 (ix2 t u) = pmat false (XF 2) (SF 2) t u := by rw [e_r_92]; exact l104 hGF f_31 f_65 f_75
  have f_93 : ∀ t u, r_93 (ix2 t u) = amat false (XF 3) t u - mt false (XF 3) (SF 3) t := by rw [e_r_93]; exact l105 hGF f_31 f_76
  have f_94 : ∀ t u, r_94 (ix2 t u) = pmat false (XF 3) (SF 3) t u := by rw [e_r_94]; exact l106 hGF f_67 f_93
  have f_95 : ∀ t u, r_95 (ix2 t u) = pmat true (XB 0) (SB 0) t u := by rw [e_r_95]; exact l107 hGB f_68 f_77 f_86
  have f_96 : ∀ t u, r_96 (ix2 t u) = pmat true (XB 1) (SB 1) t u := by rw [e_r_96]; exact l108 hGB f_69 f_78 f_87
  have f_97 : ∀ t u, r_97 (ix2 t u) = pmat true (XB 2) (SB 2) t u := by rw [e_r_97]; exact l109 hGB f_70 f_79 f_88
  have f_98 : ∀ t u, r_98 (ix2 t u) = pmat true (XB 3) (SB 3) t u := by rw [e_r_98]; exact l110 hGB f_71 f_81 f_89
  have f_99 : ∀ t e, r_99 (ix2 t e) = ∑ u, pmat false (XF 1) (SF 1) t u * (XF 1).v u e := by rw [e_r_99]; exact l111 hGF f_10 f_91
  have f_100 : ∀ t e, r_100 (ix2 t e) = ∑ u, pmat false (XF 2) (SF 2) t u * (XF 2).v u e := by rw [e_r_100]; exact l112 hGF f_10 f_92
  have f_101 : ∀ t e, r_101 (ix2 t e) = ∑ u, pmat false (XF 3) (SF 3) t u * (XF 3).v u e := by rw [e_r_101]; exact l113 hGF f_10 f_67 f_93
  have f_102 : ∀ t e, r_102 (ix2 t e) = ∑ u, pmat true (XB 0) (SB 0) t u * (XB 0).v u e := by rw [e_r_102]; exact l114 hGB f_37 f_68 f_77 f_86
  have f_103 : ∀ t e, r_103 (ix2 t e) = ∑ u, pmat true (XB 1) (SB 1) t u * (XB 1).v u e := by rw [e_r_103]; exact l115 hGB f_37 f_69 f_78 f_87
  have f_104 : ∀ t e, r_104 (ix2 t e) = ∑ u, pmat true (XB 2) (SB 2) t u * (XB 2).v u e := by rw [e_r_104]; exact l116 hGB f_37 f_70 f_79 f_88
  have f_105 : ∀ t e, r_105 (ix2 t e) = ∑ u, pmat true (XB 3) (SB 3) t u * (XB 3).v u e := by rw [e_r_105]; exact l117 hGB f_37 f_71 f_81 f_89
  have f_106 : ∀ t u, r_106 (ix2 t u) = e0 false (XF 0) (SF 0) t := by rw [e_r_106]; exact l118 hGF f_31 f_82
  have f_107 : ∀ t e, r_107 (ix2 t e) = num false (XF 0) (SF 0) t e := by rw [e_r_107]; exact l119 hGF f_10 f_29 f_31 f_82 f_90
  have f_108 : ∀ t e, r_108 (ix2 t e) = outH false (XF 0) (SF 0) t e := by rw [e_r_108]; exact l120 hGF f_30 f_82 f_90 f_106 f_107
  have f_109 : ∀ t e, r_109 (ix2 t e) = outH false (XF 1) (SF 1) t e := by rw [e_r_109]; exact l121 hGF f_29 f_30 f_31 f_83 f_91 f_99
  have f_110 : ∀ t e, r_110 (ix2 t e) = outH false (XF 2) (SF 2) t e := by rw [e_r_110]; exact l122 hGF f_29 f_30 f_31 f_84 f_92 f_100
  have f_111 : ∀ t u, r_111 (ix2 t u) = e0 false (XF 3) (SF 3) t := by rw [e_r_111]; exact l123 hGF f_31 f_85
  have f_112 : ∀ t e, r_112 (ix2 t e) = num false (XF 3) (SF 3) t e := by rw [e_r_112]; exact l124 hGF f_29 f_31 f_85 f_101
  have f_113 : ∀ t e, r_113 (ix2 t e) = outH false (XF 3) (SF 3) t e := by rw [e_r_113]; exact l125 hGF f_30 f_85 f_94 f_111 f_112
  have f_114 : ∀ t e, r_114 (ix2 t e) = outH true (XB 0) (SB 0) t e := by rw [e_r_114]; exact l126 hGB f_59 f_60 f_61 f_86 f_95 f_102
  have f_115 : ∀ t e, r_115 (ix2 t e) = outH true (XB 1) (SB 1) t e := by rw [e_r_115]; exact l127 hGB f_59 f_60 f_61 f_87 f_96 f_103
  have f_116 : ∀ t u, r_116 (ix2 t u) = e0 true (XB 2) (SB 2) t := by rw [e_r_116]; exact l128 hGB f_61 f_88
  have f_117 : ∀ t e, r_117 (ix2 t e) = num true (XB 2) (SB 2) t e := by rw [e_r_117]; exact l129 hGB f_59 f_61 f_88 f_104
  have f_118 : ∀ t e, r_118 (ix2 t e) = outH true (XB 2) (SB 2) t e := by rw [e_r_118]; exact l130 hGB f_60 f_88 f_97 f_116 f_117
  have f_119 : ∀ t e, r_119 (ix2 t e) = outH true (XB 3) (SB 3) t e := by rw [e_r_119]; exact l131 hGB f_59 f_60 f_61 f_89 f_98 f_105
  have f_120 : ∀ L L', r_120 (ix2 L L') = if hd L = hd L' then ∑ t, kw false (XF (hd L)) t (dd L) * (XF (hd L)).v t (dd L') else 0 := by rw [e_r_120]; exact l132 hGF f_2 f_10 f_24
  have f_121 : ∀ L L', r_121 (ix2 L L') = if hd L = hd L' then ∑ t, kw true (XB (hd L)) t (dd L) * (XB (hd L)).v t (dd L') else 0 := by rw [e_r_121]; exact l133 hGB f_2 f_37 f_54
  have f_122 : ∀ L, r_122 (ix2 0 L) = mnew false (XF (hd L)) (SF (hd L)) := by rw [e_r_122]; exact l135 hGF f_22 f_23 f_27
  have f_123 : ∀ L, r_123 (ix2 0 L) = aold false (XF (hd L)) (SF (hd L)) := by rw [e_r_123]; exact l136 hGF f_22 f_23 f_27
  have f_124 : ∀ L, r_124 (ix2 0 L) = anew false (XF (hd L)) (SF (hd L)) := by rw [e_r_124]; exact l137 hGF f_22 f_23 f_27
  have f_125 : ∀ L L', r_125 (ix2 L L') = aold false (XF (hd L')) (SF (hd L')) := by rw [e_r_125]; exact l138 hGF f_22 f_23 f_27
  have f_126 : ∀ L, r_126 (ix2 0 L) = mnew true (XB (hd L)) (SB (hd L)) := by rw [e_r_126]; exact l143 hGB f_52 f_53 f_57
  have f_127 : ∀ L, r_127 (ix2 0 L) = anew true (XB (hd L)) (SB (hd L)) := by rw [e_r_127]; exact l145 hGB f_52 f_53 f_57
  have f_128 : ∀ L, r_128 (ix2 0 L) = aold true (XB (hd L)) (SB (hd L)) * (SB (hd L)).N (dd L) := by rw [e_r_128]; exact l147 hGB f_52 f_53 f_56 f_57
  have fS10 : ∀ t L, S10 (ix3 0 t L) = outH false (XF (hd L)) (SF (hd L)) t (dd L) := by rw [e_S10]; exact l134 hGF f_108 f_109 f_110 f_113
  have fS11 : ∀ t L, S11 (ix3 0 t L) = outH true (XB (hd L)) (SB (hd L)) t (dd L) := by rw [e_S11]; exact l142 hGB f_114 f_115 f_118 f_119
  have fC0 : ∀ L L', C0 (ix3 0 L L') = if hd L = hd L' then Cnew false (XF (hd L)) (SF (hd L)) (dd L) (dd L') else 0 := by rw [e_C0]; exact l139 hGF f_25 f_120 f_124 f_125
  have fN0 : ∀ L, N0 (ix3 0 0 L) = Nnew false (XF (hd L)) (SF (hd L)) (dd L) := by rw [e_N0]; exact l140 hGF f_24 f_26 f_123 f_124
  have fM0 : ∀ L, M0 (ix3 0 0 L) = mnew false (XF (hd L)) (SF (hd L)) := by rw [e_M0]; exact l141 hGF f_122
  have fC1 : ∀ L L', C1 (ix3 0 L L') = if hd L = hd L' then Cnew true (XB (hd L)) (SB (hd L)) (dd L) (dd L') else 0 := by rw [e_C1]; exact l146 hGB f_52 f_53 f_55 f_57 f_121
  have fN1 : ∀ L, N1 (ix3 0 0 L) = Nnew true (XB (hd L)) (SB (hd L)) (dd L) := by rw [e_N1]; exact l1 hGB f_54 f_127 f_128
  have fM1 : ∀ L, M1 (ix3 0 0 L) = mnew true (XB (hd L)) (SB (hd L)) := by rw [e_M1]; exact l2 hGB f_126
  exact ⟨fS10, fS11, fC0, fN0, fM0, fC1, fN1, fM1⟩

end Cert.KernelIdeal.Hand
end
-- ==== Proof.StepB.lean ====
module

public import proofs.«01_k».proof.Defs
public import proofs.«01_k».proof.Proof.Gen.KernelIdeal.Frame
public import Idealize.ShloMosaic.Lib.Pipeline.Value
public import Idealize.ShloMosaic.Lib.Pointwise
public import Idealize.ShloMosaic.Lib.Tactic
public import proofs.«01_k».proof.Proof.Chunk

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Mlstm

theorem hz2 : (![0, 0] : Fin 2 → Nat) = fun _ => 0 := funext fun a => by fin_cases a <;> rfl
theorem hz3 : (![0, 0, 0] : Fin 3 → Nat) = fun _ => 0 := funext fun a => by fin_cases a <;> rfl

/-- The blocks one grid point reads: two chunks (one for each direction), the gate columns of each,
    the gate bias and the constant tables. -/
structure In (x0 x1 : Vec Ideal S1x64x1024 .f32) (x2 x3 : Vec Ideal S1x64x128 .f32) (x4 : Vec Ideal S1x128 .f32)
    (x5 x6 : Vec Ideal S64x64 .f32) (x7 : Vec Ideal S256x256 .f32) (x8 : Vec Ideal S4x128x256 .f32)
    (x9 : Vec Ideal S4x8x128 .f32) (XF XB : Fin 4 → Ch) (ZF ZB : Fin 64 → Fin 128 → EReal) (B : Fin 128 → EReal) : Prop where
  gF : Gates XF ZF B 0 1
  gB : Gates XB ZB B 2 3
  q0 : ∀ (t : Fin 64) (L : Fin 256), x0 (ix3 0 t ⟨L.val, by omega⟩) = (XF (hd L)).q t (dd L)
  k0 : ∀ (t : Fin 64) (L : Fin 256), x0 (ix3 0 t ⟨256 + L.val, by omega⟩) * Ideal.ofBits FTy.f32 0x3E000000#32 = (XF (hd L)).k t (dd L)
  v0 : ∀ (t : Fin 64) (L : Fin 256), x0 (ix3 0 t ⟨512 + L.val, by omega⟩) = (XF (hd L)).v t (dd L)
  q1 : ∀ (t : Fin 64) (L : Fin 256), x1 (ix3 0 t ⟨L.val, by omega⟩) = (XB (hd L)).q t (dd L)
  k1 : ∀ (t : Fin 64) (L : Fin 256), x1 (ix3 0 t ⟨256 + L.val, by omega⟩) * Ideal.ofBits FTy.f32 0x3E000000#32 = (XB (hd L)).k t (dd L)
  v1 : ∀ (t : Fin 64) (L : Fin 256), x1 (ix3 0 t ⟨512 + L.val, by omega⟩) = (XB (hd L)).v t (dd L)
  z2 : ∀ t c, x2 (ix3 0 t c) = ZF t c
  z3 : ∀ t c, x3 (ix3 0 t c) = ZB t c
  b4 : ∀ c, x4 (ix2 0 c) = B c
  c5 : ∀ t u, x5 (ix2 t u) = if live false t u then 1 else 0
  c6 : ∀ t u, x6 (ix2 t u) = if live true t u then 1 else 0
  c7 : ∀ L L', x7 (ix2 L L') = if hd L = hd L' then 1 else 0
  c8 : ∀ (a : Fin 4) (c : Fin 128) (L : Fin 256), x8 (ix3 a c L) = if c = gc a (hd L) then 1 else 0
  c9 : ∀ (a : Fin 4) (h : Fin 4) (c : Fin 128), x9 (ix3 a (h8 h) c) = if c = gc a h then 1 else 0

/-- The scratch buffers hold the states of the four heads, both directions. -/
structure Sc (xs0 : Vec Ideal S2x256x256 .f32) (xs1 xs2 : Vec Ideal S2x1x256 .f32) (SF SB : Fin 4 → St) : Prop where
  cF : ∀ L L', xs0 (ix3 0 L L') = if hd L = hd L' then (SF (hd L)).C (dd L) (dd L') else 0
  cB : ∀ L L', xs0 (ix3 1 L L') = if hd L = hd L' then (SB (hd L)).C (dd L) (dd L') else 0
  nF : ∀ L, xs1 (ix3 0 0 L) = (SF (hd L)).N (dd L)
  nB : ∀ L, xs1 (ix3 1 0 L) = (SB (hd L)).N (dd L)
  mF : ∀ L, xs2 (ix3 0 0 L) = (SF (hd L)).M
  mB : ∀ L, xs2 (ix3 1 0 L) = (SB (hd L)).M

/-- What the two output blocks hold. -/
structure Ou (o10 o11 : Vec Ideal S1x64x256 .f32) (XF XB : Fin 4 → Ch) (SF SB : Fin 4 → St) : Prop where
  oF : ∀ t L, o10 (ix3 0 t L) = outH false (XF (hd L)) (SF (hd L)) t (dd L)
  oB : ∀ t L, o11 (ix3 0 t L) = outH true (XB (hd L)) (SB (hd L)) t (dd L)

/-- The states after a chunk. -/
def nxt (r : Bool) (X : Fin 4 → Ch) (S : Fin 4 → St) (h : Fin 4) : St := stepH r (X h) (S h)
/-- The states before the first chunk. -/
def st0 : Fin 4 → St := fun _ => ⟨fun _ _ => 0, fun _ => 0, 0⟩

set_option maxHeartbeats 1000000 in
/-- A point after the first of its batch: the stored payloads are the chunk step. -/
theorem coreB (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S256x256 .f32) (harg9 : arg9.IsWhole) (arg10 : Memref sig .tc .vmem S4x128x256 .f32) (harg10 : arg10.IsWhole) (arg11 : Memref sig .tc .vmem S4x8x128 .f32) (harg11 : arg11.IsWhole) (arg12 : Memref sig .tc .vmem S1x64x256 .f32) (harg12 : arg12.IsWhole) (arg13 : Memref sig .tc .vmem S1x64x256 .f32) (harg13 : arg13.IsWhole) (arg14 : Memref sig .tc .vmem S2x256x256 .f32) (harg14 : arg14.IsWhole) (arg15 : Memref sig .tc .vmem S2x1x256 .f32) (harg15 : arg15.IsWhole) (arg16 : Memref sig .tc .vmem S2x1x256 .f32) (harg16 : arg16.IsWhole) (hc0 : ¬cond0_0 i)
    (x0 : Vec Ideal S1x64x1024 .f32) (x1 : Vec Ideal S1x64x1024 .f32) (x2 : Vec Ideal S1x64x128 .f32) (x3 : Vec Ideal S1x64x128 .f32) (x4 : Vec Ideal S1x128 .f32) (x5 : Vec Ideal S64x64 .f32) (x6 : Vec Ideal S64x64 .f32) (x7 : Vec Ideal S256x256 .f32) (x8 : Vec Ideal S4x128x256 .f32) (x9 : Vec Ideal S4x8x128 .f32) (xs0 : Vec Ideal S2x256x256 .f32) (xs1 : Vec Ideal S2x1x256 .f32) (xs2 : Vec Ideal S2x1x256 .f32)
    {XF XB : Fin 4 → Ch} {SF SB : Fin 4 → St} {ZF ZB : Fin 64 → Fin 128 → EReal} {B : Fin 128 → EReal}
    (H : In x0 x1 x2 x3 x4 x5 x6 x7 x8 x9 XF XB ZF ZB B) (HS : Sc xs0 xs1 xs2 SF SB) :
    (∀ t L, (k0_pay134 (kernelRun0_B.sl.r_108 c arg2 harg2 arg4 harg4 arg6 harg6 arg7 harg7 arg8 harg8 arg9 harg9 arg10 harg10 arg11 harg11 arg14 harg14 arg15 harg15 arg16 harg16 x0 x2 x4 x5 x6 x7 x8 x9 xs0 xs1 xs2) (kernelRun0_B.sl.r_109 c arg2 harg2 arg4 harg4 arg6 harg6 arg7 harg7 arg8 harg8 arg9 harg9 arg10 harg10 arg11 harg11 arg14 harg14 arg15 harg15 arg16 harg16 x0 x2 x4 x5 x6 x7 x8 x9 xs0 xs1 xs2) (kernelRun0_B.sl.r_110 c arg2 harg2 arg4 harg4 arg6 harg6 arg7 harg7 arg8 harg8 arg9 harg9 arg10 harg10 arg11 harg11 arg14 harg14 arg15 harg15 arg16 harg16 x0 x2 x4 x5 x6 x7 x8 x9 xs0 xs1 xs2) (kernelRun0_B.sl.r_113 c arg2 harg2 arg4 harg4 arg6 harg6 arg7 harg7 arg8 harg8 arg9 harg9 arg10 harg10 arg11 harg11 arg14 harg14 arg15 harg15 arg16 harg16 x0 x2 x4 x5 x6 x7 x8 x9 xs0 xs1 xs2)) (ix3 0 t L) = outH false (XF (hd L)) (SF (hd L)) t (dd L)) ∧
      (∀ t L, (k0_pay142 (kernelRun0_B.sl.r_114 c arg3 harg3 arg5 harg5 arg6 harg6 arg7 harg7 arg8 harg8 arg9 harg9 arg10 harg10 arg11 harg11 arg14 harg14 arg15 harg15 arg16 harg16 x1 x3 x4 x5 x6 x7 x8 x9 xs0 xs1 xs2) (kernelRun0_B.sl.r_115 c arg3 harg3 arg5 harg5 arg6 harg6 arg7 harg7 arg8 harg8 arg9 harg9 arg10 harg10 arg11 harg11 arg14 harg14 arg15 harg15 arg16 harg16 x1 x3 x4 x5 x6 x7 x8 x9 xs0 xs1 xs2) (kernelRun0_B.sl.r_118 c arg3 harg3 arg5 harg5 arg6 harg6 arg7 harg7 arg8 harg8 arg9 harg9 arg10 harg10 arg11 harg11 arg14 harg14 arg15 harg15 arg16 harg16 x1 x3 x4 x5 x6 x7 x8 x9 xs0 xs1 xs2) (kernelRun0_B.sl.r_119 c arg3 harg3 arg5 harg5 arg6 harg6 arg7 harg7 arg8 harg8 arg9 harg9 arg10 harg10 arg11 harg11 arg14 harg14 arg15 harg15 arg16 harg16 x1 x3 x4 x5 x6 x7 x8 x9 xs0 xs1 xs2)) (ix3 0 t L) = outH true (XB (hd L)) (SB (hd L)) t (dd L)) ∧
      (∀ L L', (k0_pay139 (kernelRun0_B.sl.r_25 c arg14 harg14 xs0) (kernelRun0_B.sl.r_120 c arg2 harg2 arg4 harg4 arg6 harg6 arg7 harg7 arg9 harg9 arg10 harg10 x0 x2 x4 x5 x7 x8) (kernelRun0_B.sl.r_124 c arg4 harg4 arg6 harg6 arg7 harg7 arg10 harg10 arg16 harg16 x2 x4 x5 x8 xs2) (kernelRun0_B.sl.r_125 c arg4 harg4 arg6 harg6 arg7 harg7 arg10 harg10 arg16 harg16 x2 x4 x5 x8 xs2)) (ix3 0 L L') = if hd L = hd L' then Cnew false (XF (hd L)) (SF (hd L)) (dd L) (dd L') else 0) ∧
      (∀ L, (k0_pay140 (kernelRun0_B.sl.r_24 c arg2 harg2 arg4 harg4 arg6 harg6 arg7 harg7 arg10 harg10 x0 x2 x4 x5 x8) (kernelRun0_B.sl.r_26 c arg15 harg15 xs1) (kernelRun0_B.sl.r_123 c arg4 harg4 arg6 harg6 arg7 harg7 arg10 harg10 arg16 harg16 x2 x4 x5 x8 xs2) (kernelRun0_B.sl.r_124 c arg4 harg4 arg6 harg6 arg7 harg7 arg10 harg10 arg16 harg16 x2 x4 x5 x8 xs2)) (ix3 0 0 L) = Nnew false (XF (hd L)) (SF (hd L)) (dd L)) ∧
      (∀ L, (k0_pay141 (kernelRun0_B.sl.r_122 c arg4 harg4 arg6 harg6 arg7 harg7 arg10 harg10 arg16 harg16 x2 x4 x5 x8 xs2)) (ix3 0 0 L) = mnew false (XF (hd L)) (SF (hd L))) ∧
      (∀ L L', (k0_pay146 (kernelRun0_B.sl.r_52 c arg5 harg5 arg6 harg6 arg8 harg8 arg10 harg10 x3 x4 x6 x8) (kernelRun0_B.sl.r_53 c arg5 harg5 arg6 harg6 arg8 harg8 arg10 harg10 x3 x4 x6 x8) (kernelRun0_B.sl.r_55 c arg14 harg14 xs0) (kernelRun0_B.sl.r_57 c arg16 harg16 xs2) (kernelRun0_B.sl.r_121 c arg3 harg3 arg5 harg5 arg6 harg6 arg8 harg8 arg9 harg9 arg10 harg10 x1 x3 x4 x6 x7 x8)) (ix3 0 L L') = if hd L = hd L' then Cnew true (XB (hd L)) (SB (hd L)) (dd L) (dd L') else 0) ∧
      (∀ L, (k0_pay1 (kernelRun0_B.sl.r_54 c arg3 harg3 arg5 harg5 arg6 harg6 arg8 harg8 arg10 harg10 x1 x3 x4 x6 x8) (kernelRun0_B.sl.r_127 c arg5 harg5 arg6 harg6 arg8 harg8 arg10 harg10 arg16 harg16 x3 x4 x6 x8 xs2) (kernelRun0_B.sl.r_128 c arg5 harg5 arg6 harg6 arg8 harg8 arg10 harg10 arg15 harg15 arg16 harg16 x3 x4 x6 x8 xs1 xs2)) (ix3 0 0 L) = Nnew true (XB (hd L)) (SB (hd L)) (dd L)) ∧
      (∀ L, (k0_pay2 (kernelRun0_B.sl.r_126 c arg5 harg5 arg6 harg6 arg8 harg8 arg10 harg10 arg16 harg16 x3 x4 x6 x8 xs2)) (ix3 0 0 L) = mnew true (XB (hd L)) (SB (hd L))) := by
  refine chunk H.gF H.gB ?_ ?_ ?_ ?_ ?_ ?_ ?_ ?_ ?_ ?_ ?_ ?_ ?_ ?_ ?_ ?_ ?_ ?_ ?_ ?_ ?_ ?_ ?_ ?_ ?_ ?_ ?_ rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl
  · intro t u
    rw [View.readAt_eq_ld, harg7.read_unread]
    pointwise []
    exact H.c5 t u
  · intro t u
    rw [View.readAt_eq_ld, harg8.read_unread]
    pointwise []
    exact H.c6 t u
  · intro L L'
    rw [View.readAt_eq_ld, harg9.read_unread]
    pointwise []
    exact H.c7 L L'
  · intro c
    rw [View.readAt_eq_ld, harg6.read_unread]
    pointwise []
    exact H.b4 c
  · intro c L
    rw [View.readAt_eq_ld, harg10.read_unread]
    pointwise []
    exact (H.c8 0) c L
  · intro c L
    rw [View.readAt_eq_ld, harg10.read_unread]
    pointwise []
    exact (H.c8 1) c L
  · intro h c
    rw [View.readAt_eq_ld, harg11.read_unread]
    pointwise []
    exact (H.c9 0) h c
  · intro h c
    rw [View.readAt_eq_ld, harg11.read_unread]
    pointwise []
    exact (H.c9 1) h c
  · intro t L
    rw [View.readAt_eq_ld, harg2.read_unread]
    pointwise []
    exact H.q0 t L
  · intro t L
    rw [View.readAt_eq_ld, harg2.read_unread]
    pointwise []
    exact H.k0 t L
  · intro t L
    rw [View.readAt_eq_ld, harg2.read_unread]
    pointwise []
    exact H.v0 t L
  · intro t c
    rw [View.readAt_eq_ld, harg4.read_unread]
    pointwise []
    exact H.z2 t c
  · intro L L'
    rw [View.readAt_eq_ld, harg14.read_unread]
    pointwise []
    exact HS.cF L L'
  · intro L
    rw [View.readAt_eq_ld, harg15.read_unread]
    pointwise []
    exact HS.nF L
  · intro L
    rw [View.readAt_eq_ld, harg16.read_unread]
    pointwise []
    exact HS.mF L
  · intro c L
    rw [View.readAt_eq_ld, harg10.read_unread]
    pointwise []
    exact (H.c8 3) c L
  · intro h c
    rw [View.readAt_eq_ld, harg11.read_unread]
    pointwise []
    exact (H.c9 2) h c
  · intro h c
    rw [View.readAt_eq_ld, harg11.read_unread]
    pointwise []
    exact (H.c9 3) h c
  · intro t L
    rw [View.readAt_eq_ld, harg3.read_unread]
    pointwise []
    exact H.q1 t L
  · intro t L
    rw [View.readAt_eq_ld, harg3.read_unread]
    pointwise []
    exact H.k1 t L
  · intro t L
    rw [View.readAt_eq_ld, harg3.read_unread]
    pointwise []
    exact H.v1 t L
  · intro t c
    rw [View.readAt_eq_ld, harg5.read_unread]
    pointwise []
    exact H.z3 t c
  · intro c L
    rw [View.readAt_eq_ld, harg10.read_unread]
    pointwise []
    exact (H.c8 2) c L
  · intro L L'
    rw [View.readAt_eq_ld, harg14.read_unread]
    pointwise []
    exact HS.cB L L'
  · intro L
    rw [View.readAt_eq_ld, harg15.read_unread]
    pointwise []
    exact HS.nB L
  · intro L
    rw [View.readAt_eq_ld, harg16.read_unread]
    pointwise []
    exact HS.mB L
  · intro t L; pointwise [kernelRun0_B.sl.v339]

end Cert.KernelIdeal.Hand
end
-- ==== Proof.Steps.lean ====
module

public import proofs.«01_k».proof.Defs
public import proofs.«01_k».proof.Proof.Gen.KernelIdeal.Frame
public import Idealize.ShloMosaic.Lib.Pipeline.Value
public import Idealize.ShloMosaic.Lib.Pointwise
public import Idealize.ShloMosaic.Lib.Tactic
public import proofs.«01_k».proof.Proof.StepB

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Mlstm

theorem canon_fst {S : Shape} {e : EltTy} {W : EltTy → Type} [∀ e, Nonempty (W e)] (r : Rect S) (w : r.shape.Idx → W e)
    (L : List (View.Piece W S e)) (x : r.shape.Idx) (y : S.Idx) (h : r.emb x = y) : View.canon (⟨r, w⟩ :: L) y = w x := by
  rw [← h]; exact View.canon_cons_emb _ _ _ _
theorem canon_snd {S : Shape} {e : EltTy} {W : EltTy → Type} [∀ e, Nonempty (W e)] (p : View.Piece W S e) (r : Rect S)
    (w : r.shape.Idx → W e) (L : List (View.Piece W S e)) (x : r.shape.Idx) (y : S.Idx) (hn : y ∉ p.1.set) (h : r.emb x = y) :
    View.canon (p :: ⟨r, w⟩ :: L) y = w x :=
  (View.canon_cons_of_not_mem _ _ hn).trans (canon_fst r w L x y h)

theorem emb_rowC0 (L L' : Fin 256) : (Rect.unit (s := S2x256x256) ![0, 0, 0] S1x256x256.size inb_S2x256x256_S1x256x256_0_0_0).emb (ix3 (n0 := 1) 0 L L') = (ix3 0 L L' : S2x256x256.Idx) := by
  funext a; fin_cases a <;> apply Fin.ext <;> simp [Rect.emb, Rect.unit, ix3]
theorem emb_rowC1 (L L' : Fin 256) : (Rect.unit (s := S2x256x256) ![1, 0, 0] S1x256x256.size inb_S2x256x256_S1x256x256_1_0_0).emb (ix3 (n0 := 1) 0 L L') = (ix3 1 L L' : S2x256x256.Idx) := by
  funext a; fin_cases a <;> apply Fin.ext <;> simp [Rect.emb, Rect.unit, ix3]
theorem out_rowC (L L' : Fin 256) : (ix3 0 L L' : S2x256x256.Idx) ∉ (Rect.unit (s := S2x256x256) ![1, 0, 0] S1x256x256.size inb_S2x256x256_S1x256x256_1_0_0).set := by
  rw [Rect.mem_set_unit]; intro h; have := (h 0).1; exact absurd (show (1 : Nat) ≤ 0 from this) (by decide)
theorem emb_rowN0 (L : Fin 256) : (Rect.unit (s := S2x1x256) ![0, 0, 0] S1x1x256.size inb_S2x1x256_S1x1x256_0_0_0).emb (ix3 (n0 := 1) 0 0 L) = (ix3 0 0 L : S2x1x256.Idx) := by
  funext a; fin_cases a <;> apply Fin.ext <;> simp [Rect.emb, Rect.unit, ix3]
theorem emb_rowN1 (L : Fin 256) : (Rect.unit (s := S2x1x256) ![1, 0, 0] S1x1x256.size inb_S2x1x256_S1x1x256_1_0_0).emb (ix3 (n0 := 1) 0 0 L) = (ix3 1 0 L : S2x1x256.Idx) := by
  funext a; fin_cases a <;> apply Fin.ext <;> simp [Rect.emb, Rect.unit, ix3]
theorem out_rowN (L : Fin 256) : (ix3 0 0 L : S2x1x256.Idx) ∉ (Rect.unit (s := S2x1x256) ![1, 0, 0] S1x1x256.size inb_S2x1x256_S1x1x256_1_0_0).set := by
  rw [Rect.mem_set_unit]; intro h; have := (h 0).1; exact absurd (show (1 : Nat) ≤ 0 from this) (by decide)
set_option maxHeartbeats 1000000 in
/-- What a point of this case leaves in its output blocks and its scratch. -/
theorem stepB (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S256x256 .f32) (harg9 : arg9.IsWhole) (arg10 : Memref sig .tc .vmem S4x128x256 .f32) (harg10 : arg10.IsWhole) (arg11 : Memref sig .tc .vmem S4x8x128 .f32) (harg11 : arg11.IsWhole) (arg12 : Memref sig .tc .vmem S1x64x256 .f32) (harg12 : arg12.IsWhole) (arg13 : Memref sig .tc .vmem S1x64x256 .f32) (harg13 : arg13.IsWhole) (arg14 : Memref sig .tc .vmem S2x256x256 .f32) (harg14 : arg14.IsWhole) (arg15 : Memref sig .tc .vmem S2x1x256 .f32) (harg15 : arg15.IsWhole) (arg16 : Memref sig .tc .vmem S2x1x256 .f32) (harg16 : arg16.IsWhole) (hc0 : ¬cond0_0 i)
    (x0 : Vec Ideal S1x64x1024 .f32) (x1 : Vec Ideal S1x64x1024 .f32) (x2 : Vec Ideal S1x64x128 .f32) (x3 : Vec Ideal S1x64x128 .f32) (x4 : Vec Ideal S1x128 .f32) (x5 : Vec Ideal S64x64 .f32) (x6 : Vec Ideal S64x64 .f32) (x7 : Vec Ideal S256x256 .f32) (x8 : Vec Ideal S4x128x256 .f32) (x9 : Vec Ideal S4x8x128 .f32) (xs0 : Vec Ideal S2x256x256 .f32) (xs1 : Vec Ideal S2x1x256 .f32) (xs2 : Vec Ideal S2x1x256 .f32)
    {XF XB : Fin 4 → Ch} {SF SB : Fin 4 → St} {ZF ZB : Fin 64 → Fin 128 → EReal} {B : Fin 128 → EReal}
    (H : In x0 x1 x2 x3 x4 x5 x6 x7 x8 x9 XF XB ZF ZB B) (HS : Sc xs0 xs1 xs2 SF SB) :
    Ou (out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2) (out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2) XF XB SF SB ∧
    Sc (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2) (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2) (sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2) (nxt false XF SF) (nxt true XB SB) := by
  obtain ⟨f1, f2, f3, f4, f5, f6, f7, f8⟩ := coreB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2 H HS
  refine ⟨⟨?_, ?_⟩, ⟨?_, ?_, ?_, ?_, ?_, ?_⟩⟩
  · intro t L
    unfold out0_B_10
    rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
    unfold kernelRun0_B
    dsimp only
    rw [View.canon_unit_zero hz3]
    exact f1 t L
  · intro t L
    unfold out0_B_11
    rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
    unfold kernelRun0_B
    dsimp only
    rw [View.canon_unit_zero hz3]
    exact f2 t L
  · intro L L'
    unfold sout0_B_0
    rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
    unfold kernelRun0_B
    dsimp only
    exact Eq.trans (canon_snd _ _ _ _ _ _ (out_rowC L L') (emb_rowC0 L L')) (f3 L L')
  · intro L L'
    unfold sout0_B_0
    rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
    unfold kernelRun0_B
    dsimp only
    exact Eq.trans (canon_fst _ _ _ _ _ (emb_rowC1 L L')) (f6 L L')
  · intro L
    unfold sout0_B_1
    rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
    unfold kernelRun0_B
    dsimp only
    exact Eq.trans (canon_snd _ _ _ _ _ _ (out_rowN L) (emb_rowN0 L)) (f4 L)
  · intro L
    unfold sout0_B_1
    rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
    unfold kernelRun0_B
    dsimp only
    exact Eq.trans (canon_fst _ _ _ _ _ (emb_rowN1 L)) (f7 L)
  · intro L
    unfold sout0_B_2
    rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
    unfold kernelRun0_B
    dsimp only
    exact Eq.trans (canon_snd _ _ _ _ _ _ (out_rowN L) (emb_rowN0 L)) (f5 L)
  · intro L
    unfold sout0_B_2
    rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
    unfold kernelRun0_B
    dsimp only
    exact Eq.trans (canon_fst _ _ _ _ _ (emb_rowN1 L)) (f8 L)

end Cert.KernelIdeal.Hand
end
-- ==== Proof.StepA.lean ====
module

public import proofs.«01_k».proof.Defs
public import proofs.«01_k».proof.Proof.Gen.KernelIdeal.Frame
public import Idealize.ShloMosaic.Lib.Pipeline.Value
public import Idealize.ShloMosaic.Lib.Pointwise
public import Idealize.ShloMosaic.Lib.Tactic
public import proofs.«01_k».proof.Proof.Steps

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Mlstm

theorem zcovC (w : FVec Ideal S2x256x256 .f32) (y : S2x256x256.Idx) : ∃ p ∈ ([⟨Rect.unit (s := S2x256x256) ![0, 0, 0] S2x256x256.size inb_S2x256x256_S2x256x256_0_0_0, w⟩] : List (View.Piece (Elt Ideal) S2x256x256 .f32)), y ∈ p.1.set := by
  refine ⟨_, List.mem_singleton_self _, ?_⟩
  rw [Rect.mem_set_unit]; intro a; fin_cases a
  · exact ⟨Nat.zero_le _, lt_of_lt_of_eq (y 0).isLt rfl⟩
  · exact ⟨Nat.zero_le _, lt_of_lt_of_eq (y 1).isLt rfl⟩
  · exact ⟨Nat.zero_le _, lt_of_lt_of_eq (y 2).isLt rfl⟩
theorem zcovN (w : FVec Ideal S2x1x256 .f32) (y : S2x1x256.Idx) : ∃ p ∈ ([⟨Rect.unit (s := S2x1x256) ![0, 0, 0] S2x1x256.size inb_S2x1x256_S2x1x256_0_0_0, w⟩] : List (View.Piece (Elt Ideal) S2x1x256 .f32)), y ∈ p.1.set := by
  refine ⟨_, List.mem_singleton_self _, ?_⟩
  rw [Rect.mem_set_unit]; intro a; fin_cases a
  · exact ⟨Nat.zero_le _, lt_of_lt_of_eq (y 0).isLt rfl⟩
  · exact ⟨Nat.zero_le _, lt_of_lt_of_eq (y 1).isLt rfl⟩
  · exact ⟨Nat.zero_le _, lt_of_lt_of_eq (y 2).isLt rfl⟩

set_option maxHeartbeats 1000000 in
theorem coreA (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S256x256 .f32) (harg9 : arg9.IsWhole) (arg10 : Memref sig .tc .vmem S4x128x256 .f32) (harg10 : arg10.IsWhole) (arg11 : Memref sig .tc .vmem S4x8x128 .f32) (harg11 : arg11.IsWhole) (arg12 : Memref sig .tc .vmem S1x64x256 .f32) (harg12 : arg12.IsWhole) (arg13 : Memref sig .tc .vmem S1x64x256 .f32) (harg13 : arg13.IsWhole) (arg14 : Memref sig .tc .vmem S2x256x256 .f32) (harg14 : arg14.IsWhole) (arg15 : Memref sig .tc .vmem S2x1x256 .f32) (harg15 : arg15.IsWhole) (arg16 : Memref sig .tc .vmem S2x1x256 .f32) (harg16 : arg16.IsWhole) (hc0 : cond0_0 i)
    (x0 : Vec Ideal S1x64x1024 .f32) (x1 : Vec Ideal S1x64x1024 .f32) (x2 : Vec Ideal S1x64x128 .f32) (x3 : Vec Ideal S1x64x128 .f32) (x4 : Vec Ideal S1x128 .f32) (x5 : Vec Ideal S64x64 .f32) (x6 : Vec Ideal S64x64 .f32) (x7 : Vec Ideal S256x256 .f32) (x8 : Vec Ideal S4x128x256 .f32) (x9 : Vec Ideal S4x8x128 .f32)
    {XF XB : Fin 4 → Ch} {ZF ZB : Fin 64 → Fin 128 → EReal} {B : Fin 128 → EReal}
    (H : In x0 x1 x2 x3 x4 x5 x6 x7 x8 x9 XF XB ZF ZB B) :
    (∀ t L, (k0_pay134 (kernelRun0_A.sl.r_108 c arg2 harg2 arg4 harg4 arg6 harg6 arg7 harg7 arg8 harg8 arg9 harg9 arg10 harg10 arg11 harg11 arg14 arg15 arg16 x0 x2 x4 x5 x6 x7 x8 x9) (kernelRun0_A.sl.r_109 c arg2 harg2 arg4 harg4 arg6 harg6 arg7 harg7 arg8 harg8 arg9 harg9 arg10 harg10 arg11 harg11 arg14 arg15 arg16 x0 x2 x4 x5 x6 x7 x8 x9) (kernelRun0_A.sl.r_110 c arg2 harg2 arg4 harg4 arg6 harg6 arg7 harg7 arg8 harg8 arg9 harg9 arg10 harg10 arg11 harg11 arg14 arg15 arg16 x0 x2 x4 x5 x6 x7 x8 x9) (kernelRun0_A.sl.r_113 c arg2 harg2 arg4 harg4 arg6 harg6 arg7 harg7 arg8 harg8 arg9 harg9 arg10 harg10 arg11 harg11 arg14 arg15 arg16 x0 x2 x4 x5 x6 x7 x8 x9)) (ix3 0 t L) = outH false (XF (hd L)) (st0 (hd L)) t (dd L)) ∧
      (∀ t L, (k0_pay142 (kernelRun0_A.sl.r_114 c arg3 harg3 arg5 harg5 arg6 harg6 arg7 harg7 arg8 harg8 arg9 harg9 arg10 harg10 arg11 harg11 arg14 arg15 arg16 x1 x3 x4 x5 x6 x7 x8 x9) (kernelRun0_A.sl.r_115 c arg3 harg3 arg5 harg5 arg6 harg6 arg7 harg7 arg8 harg8 arg9 harg9 arg10 harg10 arg11 harg11 arg14 arg15 arg16 x1 x3 x4 x5 x6 x7 x8 x9) (kernelRun0_A.sl.r_118 c arg3 harg3 arg5 harg5 arg6 harg6 arg7 harg7 arg8 harg8 arg9 harg9 arg10 harg10 arg11 harg11 arg14 arg15 arg16 x1 x3 x4 x5 x6 x7 x8 x9) (kernelRun0_A.sl.r_119 c arg3 harg3 arg5 harg5 arg6 harg6 arg7 harg7 arg8 harg8 arg9 harg9 arg10 harg10 arg11 harg11 arg14 arg15 arg16 x1 x3 x4 x5 x6 x7 x8 x9)) (ix3 0 t L) = outH true (XB (hd L)) (st0 (hd L)) t (dd L)) ∧
      (∀ L L', (k0_pay139 (kernelRun0_A.sl.r_25 c arg14) (kernelRun0_A.sl.r_120 c arg2 harg2 arg4 harg4 arg6 harg6 arg7 harg7 arg9 harg9 arg10 harg10 x0 x2 x4 x5 x7 x8) (kernelRun0_A.sl.r_124 c arg4 harg4 arg6 harg6 arg7 harg7 arg10 harg10 arg16 x2 x4 x5 x8) (kernelRun0_A.sl.r_125 c arg4 harg4 arg6 harg6 arg7 harg7 arg10 harg10 arg16 x2 x4 x5 x8)) (ix3 0 L L') = if hd L = hd L' then Cnew false (XF (hd L)) (st0 (hd L)) (dd L) (dd L') else 0) ∧
      (∀ L, (k0_pay140 (kernelRun0_A.sl.r_24 c arg2 harg2 arg4 harg4 arg6 harg6 arg7 harg7 arg10 harg10 x0 x2 x4 x5 x8) (kernelRun0_A.sl.r_26 c arg15) (kernelRun0_A.sl.r_123 c arg4 harg4 arg6 harg6 arg7 harg7 arg10 harg10 arg16 x2 x4 x5 x8) (kernelRun0_A.sl.r_124 c arg4 harg4 arg6 harg6 arg7 harg7 arg10 harg10 arg16 x2 x4 x5 x8)) (ix3 0 0 L) = Nnew false (XF (hd L)) (st0 (hd L)) (dd L)) ∧
      (∀ L, (k0_pay141 (kernelRun0_A.sl.r_122 c arg4 harg4 arg6 harg6 arg7 harg7 arg10 harg10 arg16 x2 x4 x5 x8)) (ix3 0 0 L) = mnew false (XF (hd L)) (st0 (hd L))) ∧
      (∀ L L', (k0_pay146 (kernelRun0_A.sl.r_52 c arg5 harg5 arg6 harg6 arg8 harg8 arg10 harg10 x3 x4 x6 x8) (kernelRun0_A.sl.r_53 c arg5 harg5 arg6 harg6 arg8 harg8 arg10 harg10 x3 x4 x6 x8) (kernelRun0_A.sl.r_55 c arg14) (kernelRun0_A.sl.r_57 c arg16) (kernelRun0_A.sl.r_121 c arg3 harg3 arg5 harg5 arg6 harg6 arg8 harg8 arg9 harg9 arg10 harg10 x1 x3 x4 x6 x7 x8)) (ix3 0 L L') = if hd L = hd L' then Cnew true (XB (hd L)) (st0 (hd L)) (dd L) (dd L') else 0) ∧
      (∀ L, (k0_pay1 (kernelRun0_A.sl.r_54 c arg3 harg3 arg5 harg5 arg6 harg6 arg8 harg8 arg10 harg10 x1 x3 x4 x6 x8) (kernelRun0_A.sl.r_127 c arg5 harg5 arg6 harg6 arg8 harg8 arg10 harg10 arg16 x3 x4 x6 x8) (kernelRun0_A.sl.r_128 c arg5 harg5 arg6 harg6 arg8 harg8 arg10 harg10 arg15 arg16 x3 x4 x6 x8)) (ix3 0 0 L) = Nnew true (XB (hd L)) (st0 (hd L)) (dd L)) ∧
      (∀ L, (k0_pay2 (kernelRun0_A.sl.r_126 c arg5 harg5 arg6 harg6 arg8 harg8 arg10 harg10 arg16 x3 x4 x6 x8)) (ix3 0 0 L) = mnew true (XB (hd L)) (st0 (hd L))) := by
  refine chunk H.gF H.gB ?_ ?_ ?_ ?_ ?_ ?_ ?_ ?_ ?_ ?_ ?_ ?_ ?_ ?_ ?_ ?_ ?_ ?_ ?_ ?_ ?_ ?_ ?_ ?_ ?_ ?_ ?_ rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl
  · intro t u
    rw [View.readAt_eq_ld, harg7.read_unread]
    pointwise []
    exact H.c5 t u
  · intro t u
    rw [View.readAt_eq_ld, harg8.read_unread]
    pointwise []
    exact H.c6 t u
  · intro L L'
    rw [View.readAt_eq_ld, harg9.read_unread]
    pointwise []
    exact H.c7 L L'
  · intro c
    rw [View.readAt_eq_ld, harg6.read_unread]
    pointwise []
    exact H.b4 c
  · intro c L
    rw [View.readAt_eq_ld, harg10.read_unread]
    pointwise []
    exact (H.c8 0) c L
  · intro c L
    rw [View.readAt_eq_ld, harg10.read_unread]
    pointwise []
    exact (H.c8 1) c L
  · intro h c
    rw [View.readAt_eq_ld, harg11.read_unread]
    pointwise []
    exact (H.c9 0) h c
  · intro h c
    rw [View.readAt_eq_ld, harg11.read_unread]
    pointwise []
    exact (H.c9 1) h c
  · intro t L
    rw [View.readAt_eq_ld, harg2.read_unread]
    pointwise []
    exact H.q0 t L
  · intro t L
    rw [View.readAt_eq_ld, harg2.read_unread]
    pointwise []
    exact H.k0 t L
  · intro t L
    rw [View.readAt_eq_ld, harg2.read_unread]
    pointwise []
    exact H.v0 t L
  · intro t c
    rw [View.readAt_eq_ld, harg4.read_unread]
    pointwise []
    exact H.z2 t c
  · intro L L'
    unfold kernelRun0_A.sl.v155 kernelRun0_A.sl.HS0_1
    rw [View.readCov_eq_canon_ld _ _ _ (zcovC _), View.canon_unit_zero hz3]
    pointwise [k0_pay3]
    simp [st0]
  · intro L
    unfold kernelRun0_A.sl.v157 kernelRun0_A.sl.HS1_1
    rw [View.readCov_eq_canon_ld _ _ _ (zcovN _), View.canon_unit_zero hz3]
    pointwise [k0_pay4]
    simp [st0]
  · intro L
    unfold kernelRun0_A.sl.v159 kernelRun0_A.sl.HS2_1
    rw [View.readCov_eq_canon_ld _ _ _ (zcovN _), View.canon_unit_zero hz3]
    pointwise [k0_pay5]
    simp [st0]
  · intro c L
    rw [View.readAt_eq_ld, harg10.read_unread]
    pointwise []
    exact (H.c8 3) c L
  · intro h c
    rw [View.readAt_eq_ld, harg11.read_unread]
    pointwise []
    exact (H.c9 2) h c
  · intro h c
    rw [View.readAt_eq_ld, harg11.read_unread]
    pointwise []
    exact (H.c9 3) h c
  · intro t L
    rw [View.readAt_eq_ld, harg3.read_unread]
    pointwise []
    exact H.q1 t L
  · intro t L
    rw [View.readAt_eq_ld, harg3.read_unread]
    pointwise []
    exact H.k1 t L
  · intro t L
    rw [View.readAt_eq_ld, harg3.read_unread]
    pointwise []
    exact H.v1 t L
  · intro t c
    rw [View.readAt_eq_ld, harg5.read_unread]
    pointwise []
    exact H.z3 t c
  · intro c L
    rw [View.readAt_eq_ld, harg10.read_unread]
    pointwise []
    exact (H.c8 2) c L
  · intro L L'
    unfold kernelRun0_A.sl.v319 kernelRun0_A.sl.HS0_1
    rw [View.readCov_eq_canon_ld _ _ _ (zcovC _), View.canon_unit_zero hz3]
    pointwise [k0_pay3]
    simp [st0]
  · intro L
    unfold kernelRun0_A.sl.v321 kernelRun0_A.sl.HS1_1
    rw [View.readCov_eq_canon_ld _ _ _ (zcovN _), View.canon_unit_zero hz3]
    pointwise [k0_pay4]
    simp [st0]
  · intro L
    unfold kernelRun0_A.sl.v323 kernelRun0_A.sl.HS2_1
    rw [View.readCov_eq_canon_ld _ _ _ (zcovN _), View.canon_unit_zero hz3]
    pointwise [k0_pay5]
    simp [st0]
  · intro t L; pointwise [kernelRun0_A.sl.v339]
set_option maxHeartbeats 1000000 in
/-- What a point of this case leaves in its output blocks and its scratch. -/
theorem stepA (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S256x256 .f32) (harg9 : arg9.IsWhole) (arg10 : Memref sig .tc .vmem S4x128x256 .f32) (harg10 : arg10.IsWhole) (arg11 : Memref sig .tc .vmem S4x8x128 .f32) (harg11 : arg11.IsWhole) (arg12 : Memref sig .tc .vmem S1x64x256 .f32) (harg12 : arg12.IsWhole) (arg13 : Memref sig .tc .vmem S1x64x256 .f32) (harg13 : arg13.IsWhole) (arg14 : Memref sig .tc .vmem S2x256x256 .f32) (harg14 : arg14.IsWhole) (arg15 : Memref sig .tc .vmem S2x1x256 .f32) (harg15 : arg15.IsWhole) (arg16 : Memref sig .tc .vmem S2x1x256 .f32) (harg16 : arg16.IsWhole) (hc0 : cond0_0 i)
    (x0 : Vec Ideal S1x64x1024 .f32) (x1 : Vec Ideal S1x64x1024 .f32) (x2 : Vec Ideal S1x64x128 .f32) (x3 : Vec Ideal S1x64x128 .f32) (x4 : Vec Ideal S1x128 .f32) (x5 : Vec Ideal S64x64 .f32) (x6 : Vec Ideal S64x64 .f32) (x7 : Vec Ideal S256x256 .f32) (x8 : Vec Ideal S4x128x256 .f32) (x9 : Vec Ideal S4x8x128 .f32)
    {XF XB : Fin 4 → Ch} {ZF ZB : Fin 64 → Fin 128 → EReal} {B : Fin 128 → EReal}
    (H : In x0 x1 x2 x3 x4 x5 x6 x7 x8 x9 XF XB ZF ZB B) :
    Ou (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9) (out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9) XF XB st0 st0 ∧
    Sc (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9) (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9) (sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9) (nxt false XF st0) (nxt true XB st0) := by
  obtain ⟨f1, f2, f3, f4, f5, f6, f7, f8⟩ := coreA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 H
  refine ⟨⟨?_, ?_⟩, ⟨?_, ?_, ?_, ?_, ?_, ?_⟩⟩
  · intro t L
    unfold out0_A_10
    rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
    unfold kernelRun0_A
    dsimp only
    rw [View.canon_unit_zero hz3]
    exact f1 t L
  · intro t L
    unfold out0_A_11
    rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
    unfold kernelRun0_A
    dsimp only
    rw [View.canon_unit_zero hz3]
    exact f2 t L
  · intro L L'
    unfold sout0_A_0
    rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
    unfold kernelRun0_A
    dsimp only
    exact Eq.trans (canon_snd _ _ _ _ _ _ (out_rowC L L') (emb_rowC0 L L')) (f3 L L')
  · intro L L'
    unfold sout0_A_0
    rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
    unfold kernelRun0_A
    dsimp only
    exact Eq.trans (canon_fst _ _ _ _ _ (emb_rowC1 L L')) (f6 L L')
  · intro L
    unfold sout0_A_1
    rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
    unfold kernelRun0_A
    dsimp only
    exact Eq.trans (canon_snd _ _ _ _ _ _ (out_rowN L) (emb_rowN0 L)) (f4 L)
  · intro L
    unfold sout0_A_1
    rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
    unfold kernelRun0_A
    dsimp only
    exact Eq.trans (canon_fst _ _ _ _ _ (emb_rowN1 L)) (f7 L)
  · intro L
    unfold sout0_A_2
    rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
    unfold kernelRun0_A
    dsimp only
    exact Eq.trans (canon_snd _ _ _ _ _ _ (out_rowN L) (emb_rowN0 L)) (f5 L)
  · intro L
    unfold sout0_A_2
    rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
    unfold kernelRun0_A
    dsimp only
    exact Eq.trans (canon_fst _ _ _ _ _ (emb_rowN1 L)) (f8 L)

end Cert.KernelIdeal.Hand
end
-- ==== Proof.Glob.lean ====
module

public import proofs.«01_k».proof.Proof.Spec
public import proofs.«01_k».proof.Defs
public import Idealize.ShloMosaic.Lib.Pointwise

@[expose] public section

set_option maxRecDepth 16384

/-!
The mLSTM chunk step over the extended reals, for one head and one direction: what one chunk of
64 rows gives of its projected rows, its gates and the state carried into it.
-/

noncomputable section

open Idealize.ShloMosaic

namespace Cert.Mlstm

/-- The two parts of the sequence, one below the other, by row number. -/
def cat (z : Fin 4 → Fin 4096 → Fin 1040 → EReal) (zc : Fin 4 → Fin 256 → Fin 1040 → EReal) (b : Fin 4) (n : ℕ)
    (k : Fin 1040) : EReal :=
  if h : n < 4096 then z b ⟨n, h⟩ k else if h' : n - 4096 < 256 then zc b ⟨n - 4096, h'⟩ k else 0

/-- The column of gate `a` of head `h`. -/
def gcol (a h : Fin 4) : Fin 1040 := ⟨1024 + (4 * a.val + h.val), by omega⟩

/-- Head `h`'s chunk at block `n` of 64 rows; `ai` and `af` number its input and forget gates. -/
def chunkAt (x : ℕ → Fin 1040 → EReal) (gb : Fin 4 → Fin 4 → EReal) (ai af : Fin 4) (n : ℕ) (h : Fin 4) : Ch where
  q t d := x (64 * n + t.val) ⟨64 * h.val + d.val, by omega⟩
  k t d := x (64 * n + t.val) ⟨256 + (64 * h.val + d.val), by omega⟩ * Ideal.ofBits FTy.f32 0x3E000000#32
  v t d := x (64 * n + t.val) ⟨512 + (64 * h.val + d.val), by omega⟩
  i t := x (64 * n + t.val) (gcol ai h) + gb ai h
  f t := lsg (x (64 * n + t.val) (gcol af h) + gb af h)

/-- The block the forward scan reads at its `j`-th chunk. -/
abbrev fwd (j : ℕ) : ℕ := (j + 64) % 68
/-- The block the backward scan reads at its `j`-th chunk. -/
abbrev bwd (j : ℕ) : ℕ := 67 - j

/-- The states of the four heads before the `j`-th of a sequence of chunks. -/
def states (r : Bool) (X : ℕ → Fin 4 → Ch) : ℕ → Fin 4 → St
  | 0 => fun _ => ⟨fun _ _ => 0, fun _ => 0, 0⟩
  | j + 1 => fun h => stepH r (X j h) (states r X j h)

variable (z : Fin 4 → Fin 4096 → Fin 1040 → EReal) (zc : Fin 4 → Fin 256 → Fin 1040 → EReal) (gb : Fin 4 → Fin 4 → EReal)

/-- Batch `b`'s `j`-th chunk of the forward scan. -/
def XF (b : Fin 4) (j : ℕ) : Fin 4 → Ch := chunkAt (cat z zc b) gb 0 1 (fwd j)
/-- Batch `b`'s `j`-th chunk of the backward scan, its rows in their natural order. -/
def XB (b : Fin 4) (j : ℕ) : Fin 4 → Ch := chunkAt (cat z zc b) gb 2 3 (bwd j)

/-- The forward scan's result at a row and a lane. -/
def hF (b : Fin 4) (n : Fin 4352) (L : Fin 256) : EReal :=
  outH false (XF z zc gb b ((n.val / 64 + 4) % 68) (hd L)) (states false (XF z zc gb b) ((n.val / 64 + 4) % 68) (hd L))
    ⟨n.val % 64, by omega⟩ (dd L)
/-- The backward scan's result at a row and a lane. -/
def hB (b : Fin 4) (n : Fin 4352) (L : Fin 256) : EReal :=
  outH true (XB z zc gb b (67 - n.val / 64) (hd L)) (states true (XB z zc gb b) (67 - n.val / 64) (hd L))
    ⟨n.val % 64, by omega⟩ (dd L)

end Cert.Mlstm

end
-- ==== Proof.Inp.lean ====
module

public import proofs.«01_k».proof.Defs
public import proofs.«01_k».proof.Proof.Gen.KernelIdeal.Frame
public import Idealize.ShloMosaic.Lib.Pipeline.Value
public import Idealize.ShloMosaic.Lib.Pointwise
public import Idealize.ShloMosaic.Lib.Tactic
public import proofs.«01_k».proof.Proof.StepA
public import proofs.«01_k».proof.Proof.Glob
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Mlstm

theorem idx : ∀ t : Fin cfg0.N, win0_0.index t = ![t.val / 68, (t.val % 68 + 64) % 68, 0] ∧ win0_1.index t = ![t.val / 68, 67 - t.val % 68, 0]
    ∧ win0_2.index t = ![t.val / 68, (t.val % 68 + 64) % 68, 0] ∧ win0_3.index t = ![t.val / 68, 67 - t.val % 68, 0]
    ∧ win0_4.index t = ![0, 0] ∧ win0_5.index t = ![0, 0] ∧ win0_6.index t = ![0, 0] ∧ win0_7.index t = ![0, 0]
    ∧ win0_8.index t = ![0, 0, 0] ∧ win0_9.index t = ![0, 0, 0]
    ∧ win0_10.index t = ![t.val / 68, (t.val % 68 + 64) % 68, 0] ∧ win0_11.index t = ![t.val / 68, 67 - t.val % 68, 0] :=
  (by decide +kernel : ∀ t : Fin grid0.N, _)

variable (m : (ℓ : Loc nD τ sig) → Buf (Elt Ideal) ℓ) (c : Dev nD)

abbrev gz (b : Fin 4) (n : Fin 4096) (k : Fin 1040) : EReal := (m ((c : Thread nD τ).loc main_arg0) : Vec Ideal S4x4096x1040 .f32) (ix3 b n k)
abbrev gzc (b : Fin 4) (n : Fin 256) (k : Fin 1040) : EReal := (m ((c : Thread nD τ).loc main_arg1) : Vec Ideal S4x256x1040 .f32) (ix3 b n k)
abbrev ggb (a h : Fin 4) : EReal := (m ((c : Thread nD τ).loc main_arg2) : Vec Ideal S4x4 .f32) (ix2 a h)

/-- A host array as the call finds it. -/
abbrev A2 : Vec Ideal S4x4352x1024 .f32 := V m c main_v2
/-- A host array as the call finds it. -/
abbrev A6 : Vec Ideal S4x4352x128 .f32 := V m c main_v6
/-- A host array as the call finds it. -/
abbrev A79 : Vec Ideal S1x128 .f32 := V m c main_v79
/-- A host array as the call finds it. -/
abbrev A10 : Vec Ideal S64x64 .f32 := V m c main_v10
/-- A host array as the call finds it. -/
abbrev A12 : Vec Ideal S64x64 .f32 := V m c main_v12
/-- A host array as the call finds it. -/
abbrev A18 : Vec Ideal S256x256 .f32 := V m c main_v18
/-- A host array as the call finds it. -/
abbrev A42 : Vec Ideal S4x128x256 .f32 := V m c main_v42
/-- A host array as the call finds it. -/
abbrev A77 : Vec Ideal S4x8x128 .f32 := V m c main_v77
/-- The block of operand 0 at a grid point. -/
abbrev I0 (t : Fin cfg0.N) : Vec Ideal S1x64x1024 .f32 := iblk m c 0 t
/-- The block of operand 1 at a grid point. -/
abbrev I1 (t : Fin cfg0.N) : Vec Ideal S1x64x1024 .f32 := iblk m c 1 t
/-- The block of operand 2 at a grid point. -/
abbrev I2 (t : Fin cfg0.N) : Vec Ideal S1x64x128 .f32 := iblk m c 2 t
/-- The block of operand 3 at a grid point. -/
abbrev I3 (t : Fin cfg0.N) : Vec Ideal S1x64x128 .f32 := iblk m c 3 t
/-- The block of operand 4 at a grid point. -/
abbrev I4 (t : Fin cfg0.N) : Vec Ideal S1x128 .f32 := iblk m c 4 t
/-- The block of operand 5 at a grid point. -/
abbrev I5 (t : Fin cfg0.N) : Vec Ideal S64x64 .f32 := iblk m c 5 t
/-- The block of operand 6 at a grid point. -/
abbrev I6 (t : Fin cfg0.N) : Vec Ideal S64x64 .f32 := iblk m c 6 t
/-- The block of operand 7 at a grid point. -/
abbrev I7 (t : Fin cfg0.N) : Vec Ideal S256x256 .f32 := iblk m c 7 t
/-- The block of operand 8 at a grid point. -/
abbrev I8 (t : Fin cfg0.N) : Vec Ideal S4x128x256 .f32 := iblk m c 8 t
/-- The block of operand 9 at a grid point. -/
abbrev I9 (t : Fin cfg0.N) : Vec Ideal S4x8x128 .f32 := iblk m c 9 t

theorem bit1 (b : BitVec 1) : (FloatOps.uitofp (F := Ideal) FTy.f32 b) = if b = 1#1 then (1 : EReal) else 0 := by
  have h : b = 0#1 ∨ b = 1#1 := by revert b; decide
  rcases h with rfl | rfl
  · simp [FloatOps.uitofp]
  · simp [FloatOps.uitofp]
theorem fdiv0 : ∀ L : Fin 256, (Scalar.select
            (IntOp.andi
              (IntOp.cmpi CmpIPredicate.ne
                (if BitVec.ofNat 32 L.val = 0 then (0 : BitVec 32) else if (BitVec.ofNat 32 L.val).msb = true then -1 else 1)
                (if 64#32 = 0 then (0 : BitVec 32) else if (64#32).msb = true then -1 else 1))
              (IntOp.cmpi CmpIPredicate.ne (IntOp.remsi ArithUnit.host (BitVec.ofNat 32 L.val) 64#32) 0#32))
            (IntOp.subi (IntOp.divsi ArithUnit.host (BitVec.ofNat 32 L.val) 64#32) 1#32)
            (IntOp.divsi ArithUnit.host (BitVec.ofNat 32 L.val) 64#32)) = BitVec.ofNat 32 (hd L).val := by decide +kernel
theorem cmpH : ∀ h h' : Fin 4, IntOp.cmpi CmpIPredicate.eq (BitVec.ofNat 32 h.val) (BitVec.ofNat 32 h'.val) = 1#1 ↔ h = h' := by decide +kernel
theorem cmpL : ∀ t u : Fin 64, IntOp.cmpi CmpIPredicate.sge (BitVec.ofNat 32 t.val) (BitVec.ofNat 32 u.val) = 1#1 ↔ u ≤ t := by decide +kernel
theorem cmpL' : ∀ t u : Fin 64, IntOp.cmpi CmpIPredicate.sle (BitVec.ofNat 32 t.val) (BitVec.ofNat 32 u.val) = 1#1 ↔ t ≤ u := by decide +kernel
theorem cmpK : ∀ (a : Fin 4) (k : Fin 128) (h : Fin 4), IntOp.cmpi CmpIPredicate.eq (BitVec.ofNat 32 k.val) (IntOp.addi (BitVec.ofNat 32 (4 * a.val)) (BitVec.ofNat 32 h.val)) = 1#1 ↔ k = gc a h := by decide +kernel
theorem cmpM : ∀ (a : Fin 4) (k : Fin 128) (h : Fin 4), IntOp.andi (IntOp.cmpi CmpIPredicate.eq (BitVec.ofNat 32 k.val) (IntOp.addi (BitVec.ofNat 32 (4 * a.val)) (BitVec.ofNat 32 (h8 h).val))) (IntOp.cmpi CmpIPredicate.slt (BitVec.ofNat 32 (h8 h).val) 4#32) = 1#1 ↔ k = gc a h := by decide +kernel

theorem v2 (b : Fin 4) (n : Fin 4352) (k : Fin 1024) : A2 m c (ix3 b n k) = cat (gz m c) (gzc m c) b n.val ⟨k.val, by omega⟩ := by
  unfold A2 V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_reads_simp; (try dsimp only [Matrix.cons_val]); (try after_reads_simp); (try dsimp only [Matrix.cons_val]); (try after_reads_simp); (try simp -implicitDefEqProofs only [StableHlo.TRef.toBuf, StableHlo.TRef.ofBuf, cast_cast, cast_eq, id_eq]); pointwise []
  have := n.isLt
  unfold cat
  split
  · rfl
  · rw [dif_pos (by omega)]
theorem v6 (b : Fin 4) (n : Fin 4352) (a h : Fin 4) : A6 m c (ix3 b n (gc a h)) = cat (gz m c) (gzc m c) b n.val (gcol a h) := by
  unfold A6 V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_results_simp; (try simp -implicitDefEqProofs only [StableHlo.TRef.toBuf, StableHlo.TRef.ofBuf, cast_cast, cast_eq, id_eq]); pointwise []; after_results_simp; pointwise []
  have hn := n.isLt
  have ha := a.isLt
  have hh := h.isLt
  rw [dif_pos (by simp only [gc]; omega)]
  unfold cat
  split
  · rfl
  · rw [dif_pos (by omega)]; rfl
theorem v79 (a h : Fin 4) : A79 m c (ix2 0 (gc a h)) = ggb m c a h := by
  unfold A79 V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_reads_simp; (try dsimp only [Matrix.cons_val]); (try after_reads_simp); (try dsimp only [Matrix.cons_val]); (try after_reads_simp); (try simp -implicitDefEqProofs only [StableHlo.TRef.toBuf, StableHlo.TRef.ofBuf, cast_cast, cast_eq, id_eq]); pointwise []
  have ha := a.isLt
  have hh := h.isLt
  rw [dif_pos (by simp only [gc]; omega)]
  have e1 : (⟨(gc a h).val / 4, by simp only [gc]; omega⟩ : Fin 4) = a := Fin.ext (by simp only [gc]; omega)
  have e2 : (⟨(gc a h).val % 4, by simp only [gc]; omega⟩ : Fin 4) = h := Fin.ext (by simp only [gc]; omega)
  rw [e1, e2]
theorem v10 (t u : Fin 64) : A10 m c (ix2 t u) = if live false t u then 1 else 0 := by
  unfold A10 V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_reads_simp; (try dsimp only [Matrix.cons_val]); (try after_reads_simp); (try dsimp only [Matrix.cons_val]); (try after_reads_simp); (try simp -implicitDefEqProofs only [StableHlo.TRef.toBuf, StableHlo.TRef.ofBuf, cast_cast, cast_eq, id_eq]); pointwise []
  rw [bit1]; simp only [cmpL', cmpL, live]; rfl
theorem v12 (t u : Fin 64) : A12 m c (ix2 t u) = if live true t u then 1 else 0 := by
  unfold A12 V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_reads_simp; (try dsimp only [Matrix.cons_val]); (try after_reads_simp); (try dsimp only [Matrix.cons_val]); (try after_reads_simp); (try simp -implicitDefEqProofs only [StableHlo.TRef.toBuf, StableHlo.TRef.ofBuf, cast_cast, cast_eq, id_eq]); pointwise []
  rw [bit1]; simp only [cmpL', cmpL, live]; rfl
theorem v18 (L L' : Fin 256) : A18 m c (ix2 L L') = if hd L = hd L' then 1 else 0 := by
  unfold A18 V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_reads_simp; (try dsimp only [Matrix.cons_val]); (try after_reads_simp); (try dsimp only [Matrix.cons_val]); (try after_reads_simp); (try simp -implicitDefEqProofs only [StableHlo.TRef.toBuf, StableHlo.TRef.ofBuf, cast_cast, cast_eq, id_eq]); pointwise []
  refine Eq.trans (congrArg₂ (fun x y => FloatOps.uitofp (F := Ideal) FTy.f32 (IntOp.cmpi CmpIPredicate.eq x y)) (fdiv0 L) (fdiv0 L')) ?_
  rw [bit1]; exact if_congr (cmpH _ _) rfl rfl
theorem v42 (a : Fin 4) (k : Fin 128) (L : Fin 256) : A42 m c (ix3 a k L) = if k = gc a (hd L) then 1 else 0 := by
  unfold A42 V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_reads_simp; (try dsimp only [Matrix.cons_val]); (try after_reads_simp); (try dsimp only [Matrix.cons_val]); (try after_reads_simp); (try simp -implicitDefEqProofs only [StableHlo.TRef.toBuf, StableHlo.TRef.ofBuf, cast_cast, cast_eq, id_eq]); pointwise []
  fin_cases a
  · refine Eq.trans (congrArg (fun x => FloatOps.uitofp (F := Ideal) FTy.f32 (IntOp.cmpi CmpIPredicate.eq (BitVec.ofNat 32 k.val) (IntOp.addi 0#32 x))) (fdiv0 L)) ?_
    dsimp only; rw [bit1]; exact if_congr (cmpK 0 k (hd L)) rfl rfl
  · refine Eq.trans (congrArg (fun x => FloatOps.uitofp (F := Ideal) FTy.f32 (IntOp.cmpi CmpIPredicate.eq (BitVec.ofNat 32 k.val) (IntOp.addi 4#32 x))) (fdiv0 L)) ?_
    dsimp only; rw [bit1]; exact if_congr (cmpK 1 k (hd L)) rfl rfl
  · refine Eq.trans (congrArg (fun x => FloatOps.uitofp (F := Ideal) FTy.f32 (IntOp.cmpi CmpIPredicate.eq (BitVec.ofNat 32 k.val) (IntOp.addi 8#32 x))) (fdiv0 L)) ?_
    dsimp only; rw [bit1]; exact if_congr (cmpK 2 k (hd L)) rfl rfl
  · refine Eq.trans (congrArg (fun x => FloatOps.uitofp (F := Ideal) FTy.f32 (IntOp.cmpi CmpIPredicate.eq (BitVec.ofNat 32 k.val) (IntOp.addi 12#32 x))) (fdiv0 L)) ?_
    dsimp only; rw [bit1]; exact if_congr (cmpK 3 k (hd L)) rfl rfl
theorem v77 (a : Fin 4) (h : Fin 4) (k : Fin 128) : A77 m c (ix3 a (h8 h) k) = if k = gc a h then 1 else 0 := by
  unfold A77 V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_reads_simp; (try dsimp only [Matrix.cons_val]); (try after_reads_simp); (try dsimp only [Matrix.cons_val]); (try after_reads_simp); (try simp -implicitDefEqProofs only [StableHlo.TRef.toBuf, StableHlo.TRef.ofBuf, cast_cast, cast_eq, id_eq]); pointwise []
  simp only [bit1]
  fin_cases a
  · exact if_congr (cmpM 0 k h) rfl rfl
  · exact if_congr (cmpM 1 k h) rfl rfl
  · exact if_congr (cmpM 2 k h) rfl rfl
  · exact if_congr (cmpM 3 k h) rfl rfl
/-- The batch of a grid point. -/
def bt (t : Fin cfg0.N) : Fin 4 := ⟨t.val / 68, by have := t.isLt; have : cfg0.N = 272 := N_0; omega⟩

theorem lt0 (t : Fin cfg0.N) (r : Fin 64) : 64 * fwd (t.val % 68) + r.val < 4352 := by simp only [fwd]; omega
theorem lt1 (t : Fin cfg0.N) (r : Fin 64) : 64 * bwd (t.val % 68) + r.val < 4352 := by simp only [bwd]; omega
theorem b0 (t : Fin cfg0.N) (r : Fin 64) (k : Fin 1024) : I0 m c t (ix3 0 r k) = A2 m c (ix3 (bt t) ⟨_, lt0 t r⟩ k) := by
  unfold I0 iblk; blk_point [idx t, fwd, bt]
theorem b1 (t : Fin cfg0.N) (r : Fin 64) (k : Fin 1024) : I1 m c t (ix3 0 r k) = A2 m c (ix3 (bt t) ⟨_, lt1 t r⟩ k) := by
  unfold I1 iblk; blk_point [idx t, bwd, bt]
theorem b2 (t : Fin cfg0.N) (r : Fin 64) (k : Fin 128) : I2 m c t (ix3 0 r k) = A6 m c (ix3 (bt t) ⟨_, lt0 t r⟩ k) := by
  unfold I2 iblk; blk_point [idx t, fwd, bt]
theorem b3 (t : Fin cfg0.N) (r : Fin 64) (k : Fin 128) : I3 m c t (ix3 0 r k) = A6 m c (ix3 (bt t) ⟨_, lt1 t r⟩ k) := by
  unfold I3 iblk; blk_point [idx t, bwd, bt]
theorem b4 (t : Fin cfg0.N) (k : Fin 128) : I4 m c t (ix2 0 k) = A79 m c (ix2 0 k) := by
  unfold I4 iblk; blk_point [idx t]
theorem b5 (t : Fin cfg0.N) (r k : Fin 64) : I5 m c t (ix2 r k) = A10 m c (ix2 r k) := by
  unfold I5 iblk; blk_point [idx t]
theorem b6 (t : Fin cfg0.N) (r k : Fin 64) : I6 m c t (ix2 r k) = A12 m c (ix2 r k) := by
  unfold I6 iblk; blk_point [idx t]
theorem b7 (t : Fin cfg0.N) (r k : Fin 256) : I7 m c t (ix2 r k) = A18 m c (ix2 r k) := by
  unfold I7 iblk; blk_point [idx t]
theorem b8 (t : Fin cfg0.N) (a : Fin 4) (r : Fin 128) (k : Fin 256) : I8 m c t (ix3 a r k) = A42 m c (ix3 a r k) := by
  unfold I8 iblk; blk_point [idx t]
theorem b9 (t : Fin cfg0.N) (a : Fin 4) (r : Fin 8) (k : Fin 128) : I9 m c t (ix3 a r k) = A77 m c (ix3 a r k) := by
  unfold I9 iblk; blk_point [idx t]

/-- A column by its head and its column within the head. -/
theorem col0 (x : Fin 1040 → EReal) (L : Fin 256) : x ⟨L.val, by omega⟩ = x ⟨64 * (hd L).val + (dd L).val, by omega⟩ :=
  congrArg x (Fin.ext (by simp only [hd, dd]; omega))
theorem col256 (x : Fin 1040 → EReal) (L : Fin 256) : x ⟨256 + L.val, by omega⟩ = x ⟨256 + (64 * (hd L).val + (dd L).val), by omega⟩ :=
  congrArg x (Fin.ext (by simp only [hd, dd]; omega))
theorem col512 (x : Fin 1040 → EReal) (L : Fin 256) : x ⟨512 + L.val, by omega⟩ = x ⟨512 + (64 * (hd L).val + (dd L).val), by omega⟩ :=
  congrArg x (Fin.ext (by simp only [hd, dd]; omega))

theorem fin_add {a b : EReal} (ha : Fin' a) (hb : Fin' b) : Fin' (a + b) :=
  ⟨EReal.add_ne_top ha.1 hb.1, by
    rw [Ne, EReal.add_eq_bot_iff]; rintro (h | h)
    · exact ha.2 h
    · exact hb.2 h⟩

/-- The gate columns and the gate bias are finite. -/
structure FinG : Prop where
  z : ∀ b n a h, Fin' (gz m c b n (gcol a h))
  zc : ∀ b n a h, Fin' (gzc m c b n (gcol a h))
  gb : ∀ a h, Fin' (ggb m c a h)

theorem FinG.cat {m c} (H : FinG m c) (b : Fin 4) (n : ℕ) (hn : n < 4352) (a h : Fin 4) :
    Fin' (Cert.Mlstm.cat (gz m c) (gzc m c) b n (gcol a h)) := by
  unfold Cert.Mlstm.cat
  split
  · exact H.z _ _ _ _
  · rw [dif_pos (by omega)]; exact H.zc _ _ _ _

/-- Batch `b`'s chunks, of the arrays as the program is given them. -/
abbrev KF (b : Fin 4) (j : ℕ) : Fin 4 → Ch := XF (gz m c) (gzc m c) (ggb m c) b j
abbrev KB (b : Fin 4) (j : ℕ) : Fin 4 → Ch := XB (gz m c) (gzc m c) (ggb m c) b j

/-- The blocks a grid point reads are its two chunks and the tables. -/
theorem inp (H : FinG m c) (t : Fin cfg0.N) :
    In (I0 m c t) (I1 m c t) (I2 m c t) (I3 m c t) (I4 m c t) (I5 m c t) (I6 m c t) (I7 m c t) (I8 m c t) (I9 m c t)
      (KF m c (bt t) (t.val % 68)) (KB m c (bt t) (t.val % 68))
      (fun r k => I2 m c t (ix3 0 r k)) (fun r k => I3 m c t (ix3 0 r k)) (fun k => I4 m c t (ix2 0 k)) where
  gF := by
    have e1 : ∀ r a h, I2 m c t (ix3 0 r (gc a h)) = _ := fun r a h => (b2 m c t r _).trans (v6 m c _ _ a h)
    have e2 : ∀ a h, I4 m c t (ix2 0 (gc a h)) = _ := fun a h => (b4 m c t _).trans (v79 m c a h)
    refine ⟨fun h r => ?_, fun h r => ?_, fun h r => ?_, fun h r => ?_⟩
    · rw [e1, e2]; rfl
    · rw [e1, e2]; rfl
    · rw [e1, e2]; exact fin_add (H.cat _ _ (lt0 t r) _ _) (H.gb _ _)
    · rw [e1, e2]; exact fin_add (H.cat _ _ (lt0 t r) _ _) (H.gb _ _)
  gB := by
    have e1 : ∀ r a h, I3 m c t (ix3 0 r (gc a h)) = _ := fun r a h => (b3 m c t r _).trans (v6 m c _ _ a h)
    have e2 : ∀ a h, I4 m c t (ix2 0 (gc a h)) = _ := fun a h => (b4 m c t _).trans (v79 m c a h)
    refine ⟨fun h r => ?_, fun h r => ?_, fun h r => ?_, fun h r => ?_⟩
    · rw [e1, e2]; rfl
    · rw [e1, e2]; rfl
    · rw [e1, e2]; exact fin_add (H.cat _ _ (lt1 t r) _ _) (H.gb _ _)
    · rw [e1, e2]; exact fin_add (H.cat _ _ (lt1 t r) _ _) (H.gb _ _)
  q0 r L := ((b0 m c t r _).trans (v2 m c _ _ _)).trans (col0 (cat (gz m c) (gzc m c) (bt t) (64 * fwd (t.val % 68) + r.val)) L)
  k0 r L := congrArg (· * Ideal.ofBits FTy.f32 0x3E000000#32) (((b0 m c t r _).trans (v2 m c _ _ _)).trans (col256 (cat (gz m c) (gzc m c) (bt t) (64 * fwd (t.val % 68) + r.val)) L))
  v0 r L := ((b0 m c t r _).trans (v2 m c _ _ _)).trans (col512 (cat (gz m c) (gzc m c) (bt t) (64 * fwd (t.val % 68) + r.val)) L)
  q1 r L := ((b1 m c t r _).trans (v2 m c _ _ _)).trans (col0 (cat (gz m c) (gzc m c) (bt t) (64 * bwd (t.val % 68) + r.val)) L)
  k1 r L := congrArg (· * Ideal.ofBits FTy.f32 0x3E000000#32) (((b1 m c t r _).trans (v2 m c _ _ _)).trans (col256 (cat (gz m c) (gzc m c) (bt t) (64 * bwd (t.val % 68) + r.val)) L))
  v1 r L := ((b1 m c t r _).trans (v2 m c _ _ _)).trans (col512 (cat (gz m c) (gzc m c) (bt t) (64 * bwd (t.val % 68) + r.val)) L)
  z2 _ _ := rfl
  z3 _ _ := rfl
  b4 _ := rfl
  c5 r u := (b5 m c t r u).trans (v10 m c r u)
  c6 r u := (b6 m c t r u).trans (v12 m c r u)
  c7 r u := (b7 m c t r u).trans (v18 m c r u)
  c8 a k u := (b8 m c t a k u).trans (v42 m c a k u)
  c9 a h k := (b9 m c t a (h8 h) k).trans (v77 m c a h k)

end Cert.KernelIdeal.Hand
end
-- ==== Proof.Kern.lean ====
module

public import proofs.«01_k».proof.Defs
public import proofs.«01_k».proof.Proof.Gen.KernelIdeal.Frame
public import Idealize.ShloMosaic.Lib.Pipeline.Value
public import Idealize.ShloMosaic.Lib.Pointwise
public import Idealize.ShloMosaic.Lib.Tactic
public import proofs.«01_k».proof.Proof.Inp
public import proofs.«01_k».proof.Proof.StepA
public import proofs.«01_k».proof.Proof.Glob
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Mlstm
variable (m : (ℓ : Loc nD τ sig) → Buf (Elt Ideal) ℓ) (c : Dev nD)

/-- What a grid point leaves: the two blocks its chunks give, and the states after them. -/
abbrev Pt (t : Fin cfg0.N) : Prop :=
  Ou (outsAt0 m c t.val t.isLt).1 (outsAt0 m c t.val t.isLt).2.1 (KF m c (bt t) (t.val % 68)) (KB m c (bt t) (t.val % 68))
      (states false (KF m c (bt t)) (t.val % 68)) (states true (KB m c (bt t)) (t.val % 68)) ∧
    Sc (outsAt0 m c t.val t.isLt).2.2.1 (outsAt0 m c t.val t.isLt).2.2.2.1 (outsAt0 m c t.val t.isLt).2.2.2.2
      (states false (KF m c (bt t)) (t.val % 68 + 1)) (states true (KB m c (bt t)) (t.val % 68 + 1))

theorem states_zero (r : Bool) (X : ℕ → Fin 4 → Ch) : states r X 0 = st0 := rfl
theorem states_succ (r : Bool) (X : ℕ → Fin 4 → Ch) (j : ℕ) : states r X (j + 1) = nxt r (X j) (states r X j) := rfl

/-- At the first chunk of a batch. -/
theorem ptA (H : FinG m c) (t : Fin cfg0.N) (h0 : t.val % 68 = 0) : Pt m c t := by
  unfold Pt
  have hi := inp m c H t
  rw [outsAt0_A m c t h0]
  dsimp only
  have eF : states false (KF m c (bt t)) (t.val % 68) = st0 := by rw [h0]; rfl
  have eB : states true (KB m c (bt t)) (t.val % 68) = st0 := by rw [h0]; rfl
  rw [states_succ, states_succ, eF, eB]
  exact stepA _ _ _ _ _ _ _ _ _ _ _ _ _ _ _ _ _ _ _ _ _ _ _ _ _ _ _ _ _ _ _ _ _ _ _ _ _ _ _ _ _ _ _ hi

/-- At a later chunk, of what the point before left. -/
theorem ptB (H : FinG m c) (t : Fin cfg0.N) (h0 : ¬ t.val % 68 = 0)
    (hp : Pt m c ⟨t.val - 1, Nat.lt_of_le_of_lt (Nat.sub_le _ _) t.isLt⟩) : Pt m c t := by
  have hi := inp m c H t
  have e : (t.val - 1) % 68 + 1 = t.val % 68 := by omega
  have eb : bt ⟨t.val - 1, Nat.lt_of_le_of_lt (Nat.sub_le _ _) t.isLt⟩ = bt t := Fin.ext (show (t.val - 1) / 68 = t.val / 68 by omega)
  have hs := hp.2
  rw [eb] at hs
  simp only [e] at hs
  unfold Pt
  rw [outsAt0_B m c t h0]
  dsimp only
  rw [states_succ, states_succ]
  exact stepB _ _ _ _ _ _ _ _ _ _ _ _ _ _ _ _ _ _ _ _ _ _ _ _ _ _ _ _ _ _ _ _ _ _ _ _ _ _ _ _ _ _ _ _ _ _ hi hs

/-- Every grid point. -/
theorem pt (H : FinG m c) : ∀ (n : ℕ) (hn : n < cfg0.N), Pt m c ⟨n, hn⟩
  | 0, hn => ptA m c H ⟨0, hn⟩ rfl
  | n + 1, hn => by
    by_cases h0 : (n + 1) % 68 = 0
    · exact ptA m c H ⟨n + 1, hn⟩ h0
    · exact ptB m c H ⟨n + 1, hn⟩ h0 (pt H n _)

theorem hF_at (z : Fin 4 → Fin 4096 → Fin 1040 → EReal) (zc : Fin 4 → Fin 256 → Fin 1040 → EReal) (gb : Fin 4 → Fin 4 → EReal)
    (b : Fin 4) (j : ℕ) (hj : j < 68) (r : Fin 64) (L : Fin 256) (n : Fin 4352) (hn : n.val = 64 * fwd j + r.val) :
    hF z zc gb b n L = outH false (XF z zc gb b j (hd L)) (states false (XF z zc gb b) j (hd L)) r (dd L) := by
  have e1 : (n.val / 64 + 4) % 68 = j := by simp only [fwd] at hn; omega
  have e2 : (⟨n.val % 64, by omega⟩ : Fin 64) = r := Fin.ext (by show n.val % 64 = r.val; omega)
  unfold hF
  rw [e1, e2]

theorem hB_at (z : Fin 4 → Fin 4096 → Fin 1040 → EReal) (zc : Fin 4 → Fin 256 → Fin 1040 → EReal) (gb : Fin 4 → Fin 4 → EReal)
    (b : Fin 4) (j : ℕ) (hj : j < 68) (r : Fin 64) (L : Fin 256) (n : Fin 4352) (hn : n.val = 64 * bwd j + r.val) :
    hB z zc gb b n L = outH true (XB z zc gb b j (hd L)) (states true (XB z zc gb b) j (hd L)) r (dd L) := by
  have e1 : 67 - n.val / 64 = j := by simp only [bwd] at hn; omega
  have e2 : (⟨n.val % 64, by omega⟩ : Fin 64) = r := Fin.ext (by show n.val % 64 = r.val; omega)
  unfold hB
  rw [e1, e2]

theorem ix_y (y : S1x64x256.Idx) : ∃ (r : Fin 64) (L : Fin 256), y = ix3 0 r L :=
  ⟨y 1, y 2, by funext k; match k with | 0 => exact Subsingleton.elim (α := Fin 1) _ _ | 1 => rfl | 2 => rfl⟩

/-- The first result: the forward scan's output rows. -/
theorem arr10 (H : FinG m c) : (dats m 0 c).arrAt 10 cfg0.N =
    (fun i : S4x4352x256.Idx => hF (gz m c) (gzc m c) (ggb m c) (i 0) (i 1) (i 2) : Vec Ideal S4x4352x256 .f32) := by
  refine (dats m 0 c).arrAt_eq_of_covers 10 _ (by decide +kernel) fun t hf y => ?_
  blk_simp
  rw [after0_10]
  obtain ⟨r, L, rfl⟩ : ∃ (r : Fin 64) (L : Fin 256), y = (ix3 0 r L : S1x64x256.Idx) := ix_y y
  have e : (win0_10.blk t).view.emb (ix3 0 r L : S1x64x256.Idx) = (ix3 (bt t) ⟨_, lt0 t r⟩ L : S4x4352x256.Idx) := by
    blk_ext [idx t, fwd, bt]
  rw [e]
  exact ((pt m c H t.val t.isLt).1.oF r L).trans (hF_at _ _ _ _ _ (Nat.mod_lt _ (by decide)) r L _ rfl).symm

/-- The second result: the backward scan's output rows. -/
theorem arr11 (H : FinG m c) : (dats m 0 c).arrAt 11 cfg0.N =
    (fun i : S4x4352x256.Idx => hB (gz m c) (gzc m c) (ggb m c) (i 0) (i 1) (i 2) : Vec Ideal S4x4352x256 .f32) := by
  refine (dats m 0 c).arrAt_eq_of_covers 11 _ (by decide +kernel) fun t hf y => ?_
  blk_simp
  rw [after0_11]
  obtain ⟨r, L, rfl⟩ : ∃ (r : Fin 64) (L : Fin 256), y = (ix3 0 r L : S1x64x256.Idx) := ix_y y
  have e : (win0_11.blk t).view.emb (ix3 0 r L : S1x64x256.Idx) = (ix3 (bt t) ⟨_, lt1 t r⟩ L : S4x4352x256.Idx) := by
    blk_ext [idx t, bwd, bt]
  rw [e]
  exact ((pt m c H t.val t.isLt).1.oB r L).trans (hB_at _ _ _ _ _ (Nat.mod_lt _ (by decide)) r L _ rfl).symm

end Cert.KernelIdeal.Hand
-- ==== Proof.Fin.lean ====
module

public import proofs.«01_k».proof.Defs
public import proofs.«01_k».proof.Proof.Inp
public import Idealize.ShloMosaic.Lib.ReduceAll
public import Idealize.ShloMosaic.Lib.Pointwise

@[expose] public section

set_option maxRecDepth 16384

/-! The precondition read back: the gate columns and the gate bias are finite. -/

noncomputable section

open Idealize.ShloMosaic Idealize.ShloMosaic.TcCoe Cert.Mlstm

namespace Cert.Pre_gates_finite

/-- The side conditions of the precondition's operations. -/
theorem facts : Facts := by
  constructor <;> decide

/-- A number whose absolute value is below infinity is finite. -/
theorem fin_of_lt (x : EReal) (h : FloatOps.cmpf (F := Ideal) (φ := .f32) .olt (FloatOps.hostAbsf (F := Ideal) (φ := .f32) x) (FloatOps.ofBits (F := Ideal) .f32 0x7F800000#32) = 1#1) : Fin' x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  constructor
  · rintro rfl
    revert h
    simp [Ideal.cmp]
  · rintro rfl
    revert h
    simp [Ideal.cmp]

instance : Subsingleton S_.Idx := ⟨fun a b => funext fun i => absurd i.isLt (Nat.not_lt_zero _)⟩

/-- Two bits whose conjunction is set are both set. -/
theorem and_one (a b : BitVec 1) (h : IntOp.andi a b = 1#1) : a = 1#1 ∧ b = 1#1 := by
  revert a b; decide

theorem slice_z [Facts] (z : Vec Ideal S4x4096x1040 .f32) (b : Fin 4) (n : Fin 4096) (k : Fin 16) :
    (extractStridedSlice S4x4096x16 ![0, 0, 1024] z Facts.slices_S4x4096x1040_S4x4096x16_0_0_1024 : Vec Ideal S4x4096x16 .f32) (ix3 b n k)
      = z (ix3 b n ⟨1024 + k.val, by omega⟩) := by
  pointwise []
theorem slice_zc [Facts] (z : Vec Ideal S4x256x1040 .f32) (b : Fin 4) (n : Fin 256) (k : Fin 16) :
    (extractStridedSlice S4x256x16 ![0, 0, 1024] z Facts.slices_S4x256x1040_S4x256x16_0_0_1024 : Vec Ideal S4x256x16 .f32) (ix3 b n k)
      = z (ix3 b n ⟨1024 + k.val, by omega⟩) := by
  pointwise []

/-- The precondition says that every gate column and every gate bias is finite. -/
theorem read [Facts] (z : Vec Ideal S4x4096x1040 .f32) (zc : Vec Ideal S4x256x1040 .f32) (gb : Vec Ideal S4x4 .f32)
    (h : fn (F := Ideal) z zc gb = fun _ => 1#1) :
    (∀ b n a g, Fin' (z (ix3 b n (gcol a g)))) ∧ (∀ b n a g, Fin' (zc (ix3 b n (gcol a g)))) ∧ ∀ a g, Fin' (gb (ix2 a g)) := by
  have h' := congrFun h (fun i => absurd i.isLt (Nat.not_lt_zero _))
  unfold fn at h'
  obtain ⟨h1, h2⟩ := and_one _ _ h'
  obtain ⟨h3, h4⟩ := and_one _ _ h1
  have q1 := Host.reduce_andi_all _ _ _ _ _ h3
  have q2 := Host.reduce_andi_all _ _ _ _ _ h4
  have q3 := Host.reduce_andi_all _ _ _ _ _ h2
  refine ⟨fun b n a g => ?_, fun b n a g => ?_, fun a g => fin_of_lt _ (q3 (ix2 a g))⟩
  · have := fin_of_lt _ (q1 (ix3 b n (⟨4 * a.val + g.val, by omega⟩ : Fin 16)))
    exact (slice_z z b n ⟨4 * a.val + g.val, by omega⟩) ▸ this
  · have := fin_of_lt _ (q2 (ix3 b n (⟨4 * a.val + g.val, by omega⟩ : Fin 16)))
    exact (slice_zc zc b n ⟨4 * a.val + g.val, by omega⟩) ▸ this

end Cert.Pre_gates_finite

end
-- ==== Proof.RefA.lean ====
module

public import proofs.«01_k».proof.Defs
public import proofs.«01_k».proof.Proof.Glob
public import proofs.«01_k».proof.Proof.Gen.ReferenceIdeal.Run
public import Idealize.ShloMosaic.Lib.DynamicIndex
public import Idealize.ShloMosaic.Lib.Pipeline.Value
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem Idealize.ShloMosaic.StableHlo
open Idealize.ShloMosaic.Pipeline (Dat)

namespace Cert.ReferenceIdeal.Hand
open Cert.ReferenceIdeal Cert.ReferenceIdeal.Gen Cert.ReferenceIdeal.Value Cert.Mlstm

/-- A fold of additions is a sum. -/
theorem foldl_sum {n : ℕ} (f : Fin n → EReal) (v : EReal) :
    (List.finRange n).foldl (fun r k => r + f k) v = v + ∑ k, f k := by
  rw [← List.sum_ofFn, List.ofFn_eq_map]
  generalize List.finRange n = l
  induction l generalizing v with
  | nil => simp
  | cons a l ih => rw [List.foldl_cons, ih, List.map_cons, List.sum_cons, add_assoc]

/-- The sums over the rows so far, as a window of 64 rows padded below writes them. -/
theorem sum_window (x : Fin 64 → EReal) (t : Fin 64) :
    (∑ n : Fin 64, if h : 63 ≤ t.val + n.val then x ⟨t.val + n.val - 63, by omega⟩ else 0) = ∑ u, if live false t u then x u else 0 := by
  have hl : ∀ u : Fin 64, live false t u ↔ u.val ≤ t.val := fun u => by simp [live]
  have e1 : ∀ n : Fin 64, (if h : 63 ≤ t.val + n.val then x ⟨t.val + n.val - 63, by omega⟩ else 0)
      = ∑ u : Fin 64, if u.val + 63 = t.val + n.val then x u else 0 := fun n => by
    split
    · rename_i h
      rw [Finset.sum_eq_single (⟨t.val + n.val - 63, by omega⟩ : Fin 64) (fun u _ hu => if_neg fun e => hu (Fin.ext (by dsimp only; omega)))
        (fun h' => absurd (Finset.mem_univ _) h')]
      rw [if_pos (by dsimp only; omega)]
    · exact (Finset.sum_eq_zero fun u _ => if_neg (by omega)).symm
  rw [Finset.sum_congr rfl fun n _ => e1 n, Finset.sum_comm]
  refine Finset.sum_congr rfl fun u _ => ?_
  simp only [hl]
  split
  · rw [Finset.sum_eq_single (⟨u.val + 63 - t.val, by omega⟩ : Fin 64) (fun n _ hn => if_neg fun e => hn (Fin.ext (by dsimp only; omega)))
        (fun h' => absurd (Finset.mem_univ _) h')]
    rw [if_pos (by dsimp only; omega)]
  · exact Finset.sum_eq_zero fun n _ => if_neg (by omega)

/-- The rows of a window of 64, in order. -/
theorem win_row : ∀ n : Fin (⟨4, ![1, 1, 1, 64]⟩ : Shape).numel, (((⟨4, ![1, 1, 1, 64]⟩ : Shape).rowMajor.symm n) 3).val = n.val := by
  decide +kernel

theorem ideal_window (x : Vec Ideal S2x4x4x64 .f32) (init : Vec Ideal S_ .f32) (h) (hu) (r : Fin 2) (b g : Fin 4) (t : Fin 64)
    (hi : init (Shape.Idx.first hu) = 0) :
    Host.reduceWindowAdd (F := Ideal) (s := S2x4x4x64) (t := S2x4x4x64) (φ := .f32) ![1, 1, 1, 64] ![1, 1, 1, 1] ![0, 0, 0, 63] ![0, 0, 0, 0] x init h hu (ix4 r b g t)
      = ∑ u, if live false t u then x (ix4 r b g u) else 0 := by
  rw [← sum_window fun u => x (ix4 r b g u)]
  show Ideal.hostReduceWindowAdd ![1, 1, 1, 64] ![1, 1, 1, 1] ![0, 0, 0, 63] ![0, 0, 0, 0] h x (init (Shape.Idx.first hu)) (ix4 r b g t) = _
  rw [hi]
  unfold Ideal.hostReduceWindowAdd Host.reduceWindow
  dsimp only
  rw [foldl_sum, zero_add]
  refine Fintype.sum_equiv (finCongr (by decide +kernel)) _ _ fun n => ?_
  have w0 : (((⟨4, ![1, 1, 1, 64]⟩ : Shape).rowMajor.symm n) 0).val = 0 := Nat.lt_one_iff.mp (Fin.isLt _)
  have w1 : (((⟨4, ![1, 1, 1, 64]⟩ : Shape).rowMajor.symm n) 1).val = 0 := Nat.lt_one_iff.mp (Fin.isLt _)
  have w2 : (((⟨4, ![1, 1, 1, 64]⟩ : Shape).rowMajor.symm n) 2).val = 0 := Nat.lt_one_iff.mp (Fin.isLt _)
  have w3 := win_row n
  have hn : n.val < 64 := (finCongr (by decide +kernel : (⟨4, ![1, 1, 1, 64]⟩ : Shape).numel = 64) n).isLt
  change _ = (fun k : Fin 64 => if h : 63 ≤ t.val + k.val then x (ix4 r b g ⟨t.val + k.val - 63, by omega⟩) else 0) ⟨n.val, hn⟩
  split
  · next hin =>
    have h3 := hin 3
    change 63 ≤ t.val * 1 + (((⟨4, ![1, 1, 1, 64]⟩ : Shape).rowMajor.symm n) 3).val ∧ _ at h3
    rw [w3] at h3
    refine Eq.trans ?_ (dif_pos (show 63 ≤ t.val + n.val by omega)).symm
    refine congrArg x (funext fun a => Fin.ext ?_)
    match a with
    | ⟨0, _⟩ => show r.val * 1 + (((⟨4, ![1, 1, 1, 64]⟩ : Shape).rowMajor.symm n) 0).val - 0 = r.val; rw [w0]; omega
    | ⟨1, _⟩ => show b.val * 1 + (((⟨4, ![1, 1, 1, 64]⟩ : Shape).rowMajor.symm n) 1).val - 0 = b.val; rw [w1]; omega
    | ⟨2, _⟩ => show g.val * 1 + (((⟨4, ![1, 1, 1, 64]⟩ : Shape).rowMajor.symm n) 2).val - 0 = g.val; rw [w2]; omega
    | ⟨3, _⟩ => show t.val * 1 + (((⟨4, ![1, 1, 1, 64]⟩ : Shape).rowMajor.symm n) 3).val - 63 = t.val + n.val - 63; rw [w3]; omega
  · next hin =>
    have hc : ¬ 63 ≤ t.val + n.val := fun h63 => hin fun a => by
      match a with
      | ⟨0, _⟩ => show 0 ≤ r.val * 1 + (((⟨4, ![1, 1, 1, 64]⟩ : Shape).rowMajor.symm n) 0).val ∧ r.val * 1 + (((⟨4, ![1, 1, 1, 64]⟩ : Shape).rowMajor.symm n) 0).val - 0 < 2; rw [w0]; omega
      | ⟨1, _⟩ => show 0 ≤ b.val * 1 + (((⟨4, ![1, 1, 1, 64]⟩ : Shape).rowMajor.symm n) 1).val ∧ b.val * 1 + (((⟨4, ![1, 1, 1, 64]⟩ : Shape).rowMajor.symm n) 1).val - 0 < 4; rw [w1]; omega
      | ⟨2, _⟩ => show 0 ≤ g.val * 1 + (((⟨4, ![1, 1, 1, 64]⟩ : Shape).rowMajor.symm n) 2).val ∧ g.val * 1 + (((⟨4, ![1, 1, 1, 64]⟩ : Shape).rowMajor.symm n) 2).val - 0 < 4; rw [w2]; omega
      | ⟨3, _⟩ => show 63 ≤ t.val * 1 + (((⟨4, ![1, 1, 1, 64]⟩ : Shape).rowMajor.symm n) 3).val ∧ t.val * 1 + (((⟨4, ![1, 1, 1, 64]⟩ : Shape).rowMajor.symm n) 3).val - 63 < 64; rw [w3]; omega
    beta_reduce
    rw [dif_neg (show ¬ 63 ≤ t.val + (⟨n.val, hn⟩ : Fin 64).val from hc)]

variable (V0 : Valuation τ sig (Elt Ideal))

abbrev vq : Vec Ideal S68x2x4x4x64x64 .f32 := V0 (Proc.devRef .tc main_v56_0)
abbrev vk : Vec Ideal S68x2x4x4x64x64 .f32 := V0 (Proc.devRef .tc main_v56_1)
abbrev vv : Vec Ideal S68x2x4x4x64x64 .f32 := V0 (Proc.devRef .tc main_v56_2)
abbrev vi : Vec Ideal S68x2x4x4x64 .f32 := V0 (Proc.devRef .tc main_v56_3)
abbrev vf : Vec Ideal S68x2x4x4x64 .f32 := V0 (Proc.devRef .tc main_v56_4)
abbrev vC : Vec Ideal S2x4x4x64x64 .f32 := V0 (Proc.devRef .tc main_v56_7)
abbrev vN : Vec Ideal S2x4x4x64 .f32 := V0 (Proc.devRef .tc main_v56_8)
abbrev vM : Vec Ideal S2x4x4 .f32 := V0 (Proc.devRef .tc main_v56_9)
abbrev vY : Vec Ideal S68x2x4x4x64x64 .f32 := V0 (Proc.devRef .tc main_v56_10)

/-- What head `h` of batch `b` in direction `r` reads of chunk `i`. -/
def rch (i : Fin 68) (r : Fin 2) (b h : Fin 4) : Ch where
  q t d := vq V0 (ix6 i r b h t d)
  k t d := vk V0 (ix6 i r b h t d)
  v t d := vv V0 (ix6 i r b h t d)
  i t := vi V0 (ix5 i r b h t)
  f t := vf V0 (ix5 i r b h t)

/-- The state the scan carries for it. -/
def rst (r : Fin 2) (b h : Fin 4) : St where
  C d e := vC V0 (ix5 r b h d e)
  N d := vN V0 (ix4 r b h d)
  M := vM V0 (ix3 r b h)

/-- The counter and the causal mask. -/
structure At (i : Fin 68) : Prop where
  ctr : ∀ j, V0 (Proc.devRef .tc main_v56_6) j = BitVec.ofNat 32 i.val
  mask : ∀ (t u : Fin 64), V0 (Proc.devRef .tc main_v56_5) (ix2 t u) = if live false t u then 1#1 else 0#1

variable {V0}

theorem start6 {i : Fin 68} (H : At V0 i) (a : Fin 6) :
    (((![V0 (Proc.devRef .tc main_v56_6), constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt
      = ((![i.val, 0, 0, 0, 0, 0] : Fin 6 → ℕ) a : Int) := by
  match a with
  | 0 => exact (congrArg BitVec.toInt (H.ctr _)).trans (toInt_ofNat_of_lt (by have := i.isLt; omega))
  | 1 => rfl
  | 2 => rfl
  | 3 => rfl
  | 4 => rfl
  | 5 => rfl

theorem start5 {i : Fin 68} (H : At V0 i) (a : Fin 5) :
    (((![V0 (Proc.devRef .tc main_v56_6), constantI S_ 32 0#32, constantI S_ 32 0#32, constantI S_ 32 0#32, constantI S_ 32 0#32] : Fin 5 → (⟨S_, .i32⟩ : BufTy).Contents (Elt Ideal))) a (Shape.Idx.first h_S_)).toInt
      = ((![i.val, 0, 0, 0, 0] : Fin 5 → ℕ) a : Int) := by
  match a with
  | 0 => exact (congrArg BitVec.toInt (H.ctr _)).trans (toInt_ofNat_of_lt (by have := i.isLt; omega))
  | 1 => rfl
  | 2 => rfl
  | 3 => rfl
  | 4 => rfl

theorem fits6 (i : Fin 68) : S68x2x4x4x64x64.Slices ![i.val, 0, 0, 0, 0, 0] S1x2x4x4x64x64 :=
  (by decide +kernel : ∀ i : Fin 68, S68x2x4x4x64x64.Slices ![i.val, 0, 0, 0, 0, 0] S1x2x4x4x64x64) i
theorem fits5 (i : Fin 68) : S68x2x4x4x64.Slices ![i.val, 0, 0, 0, 0] S1x2x4x4x64 :=
  (by decide +kernel : ∀ i : Fin 68, S68x2x4x4x64.Slices ![i.val, 0, 0, 0, 0] S1x2x4x4x64) i

section
variable {i : Fin 68} (H : At V0 i) (r : Fin 2) (b h : Fin 4)
include H

theorem r73 (t d : Fin 64) : res_main_while0b_v73 V0 (ix5 r b h t d) = (rch V0 i r b h).q t d := by
  unfold res_main_while0b_v73
  refine Eq.trans (congrArg (fun y => shapeCast S2x4x4x64x64 y shapeCasts_S1x2x4x4x64x64_S2x4x4x64x64 (ix5 r b h t d)) (Host.dynamicSlice_eq_extractStridedSlice _ _ _ _ _ (fits6 i) (start6 H))) ?_
  pointwise []
  rfl
theorem r74 (t d : Fin 64) : res_main_while0b_v74 V0 (ix5 r b h t d) = (rch V0 i r b h).k t d := by
  unfold res_main_while0b_v74
  refine Eq.trans (congrArg (fun y => shapeCast S2x4x4x64x64 y shapeCasts_S1x2x4x4x64x64_S2x4x4x64x64 (ix5 r b h t d)) (Host.dynamicSlice_eq_extractStridedSlice _ _ _ _ _ (fits6 i) (start6 H))) ?_
  pointwise []
  rfl
theorem r75 (t d : Fin 64) : res_main_while0b_v75 V0 (ix5 r b h t d) = (rch V0 i r b h).v t d := by
  unfold res_main_while0b_v75
  refine Eq.trans (congrArg (fun y => shapeCast S2x4x4x64x64 y shapeCasts_S1x2x4x4x64x64_S2x4x4x64x64 (ix5 r b h t d)) (Host.dynamicSlice_eq_extractStridedSlice _ _ _ _ _ (fits6 i) (start6 H))) ?_
  pointwise []
  rfl
theorem r76 (t : Fin 64) : res_main_while0b_v76 V0 (ix4 r b h t) = (rch V0 i r b h).i t := by
  unfold res_main_while0b_v76
  refine Eq.trans (congrArg (fun y => shapeCast S2x4x4x64 y shapeCasts_S1x2x4x4x64_S2x4x4x64 (ix4 r b h t)) (Host.dynamicSlice_eq_extractStridedSlice _ _ _ _ _ (fits5 i) (start5 H))) ?_
  pointwise []
  rfl
theorem r78 (t : Fin 64) : res_main_while0b_v78 V0 (ix4 r b h t) = fcum false (rch V0 i r b h) t := by
  unfold res_main_while0b_v78
  refine (ideal_window _ _ _ _ r b h t (by pointwise [])).trans ?_
  unfold fcum
  refine Finset.sum_congr rfl fun u _ => if_congr Iff.rfl ?_ rfl
  refine Eq.trans (congrArg (fun y => shapeCast S2x4x4x64 y shapeCasts_S1x2x4x4x64_S2x4x4x64 (ix4 r b h u)) (Host.dynamicSlice_eq_extractStridedSlice _ _ _ _ _ (fits5 i) (start5 H))) ?_
  pointwise []
  rfl
end

end Cert.ReferenceIdeal.Hand
-- ==== Proof.RefB.lean ====
module

public import proofs.«01_k».proof.Defs
public import proofs.«01_k».proof.Proof.RefA
public import proofs.«01_k».proof.Proof.Gen.ReferenceIdeal.Run
public import Idealize.ShloMosaic.Lib.DynamicIndex
public import Idealize.ShloMosaic.Lib.Pipeline.Value
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem Idealize.ShloMosaic.StableHlo
open Idealize.ShloMosaic.Pipeline (Dat)

namespace Cert.ReferenceIdeal.Hand
open Cert.ReferenceIdeal Cert.ReferenceIdeal.Gen Cert.ReferenceIdeal.Value Cert.Mlstm

/-- The indices that drop to a row of the fourth axis. -/
theorem fib54 (h : S2x4x4x64x64.ReducesTo [4] S2x4x4x64) (r : Fin 2) (b g : Fin 4) (t : Fin 64) (i : S2x4x4x64x64.Idx) :
    h.drop i = ix4 r b g t ↔ ∃ k : Fin 64, ix5 r b g t k = i := by
  constructor
  · intro e
    refine ⟨i 4, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext a
    match a with
    | ⟨0, _⟩ => rfl
    | ⟨1, _⟩ => rfl
    | ⟨2, _⟩ => rfl
    | ⟨3, _⟩ => rfl

theorem fold54 (h : S2x4x4x64x64.ReducesTo [4] S2x4x4x64) (r : Fin 2) (b g : Fin 4) (t : Fin 64) (z : EReal) (v : S2x4x4x64x64.Idx → EReal)
    [DecidablePred fun i => h.drop i = ix4 r b g t] :
    (Finset.univ.filter fun i => h.drop i = ix4 r b g t).fold max z v = (Finset.univ : Finset (Fin 64)).fold max z fun k => v (ix5 r b g t k) :=
  Finset.fold_filter_eq_fold_of_fiber max _ (fun k : Fin 64 => (ix5 r b g t k : S2x4x4x64x64.Idx)) (fun _ _ e => congrFun e 4) (fib54 h r b g t) z v

/-- The indices that drop to a row of the last axis. -/
theorem fib43 (h : S2x4x4x64.ReducesTo [3] S2x4x4) (r : Fin 2) (b g : Fin 4) (i : S2x4x4x64.Idx) :
    h.drop i = ix3 r b g ↔ ∃ k : Fin 64, ix4 r b g k = i := by
  constructor
  · intro e
    refine ⟨i 3, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
  · rintro ⟨k, rfl⟩
    funext a
    match a with
    | ⟨0, _⟩ => rfl
    | ⟨1, _⟩ => rfl
    | ⟨2, _⟩ => rfl

theorem fold43 (h : S2x4x4x64.ReducesTo [3] S2x4x4) (r : Fin 2) (b g : Fin 4) (z : EReal) (v : S2x4x4x64.Idx → EReal)
    [DecidablePred fun i => h.drop i = ix3 r b g] :
    (Finset.univ.filter fun i => h.drop i = ix3 r b g).fold max z v = (Finset.univ : Finset (Fin 64)).fold max z fun k => v (ix4 r b g k) :=
  Finset.fold_filter_eq_fold_of_fiber max _ (fun k : Fin 64 => (ix4 r b g k : S2x4x4x64.Idx)) (fun _ _ e => congrFun e 3) (fib43 h r b g) z v

section
variable {V0 : Valuation τ sig (Elt Ideal)} {i : Fin 68} (H : At V0 i) (r : Fin 2) (b h : Fin 4)
include H

theorem r87 (t u : Fin 64) : res_main_while0b_v87 V0 (ix5 r b h t u) = amat false (rch V0 i r b h) t u := by
  unfold res_main_while0b_v87
  pointwise []
  rw [r78 H, r78 H, r76 H, H.mask]
  unfold amat
  by_cases e : live false t u
  · rw [if_pos e, if_pos e]; rfl
  · rw [if_neg e, if_neg e]; rfl

theorem r90 (t : Fin 64) : res_main_while0b_v90 V0 (ix4 r b h t) = ainit false (rch V0 i r b h) (rst V0 r b h) t := by
  unfold res_main_while0b_v90
  pointwise []
  rw [r78 H]; rfl

theorem r92 (t : Fin 64) : res_main_while0b_v92 V0 (ix4 r b h t) = mt false (rch V0 i r b h) (rst V0 r b h) t := by
  unfold res_main_while0b_v92
  pointwise []
  rw [r90 H]
  refine congrArg₂ (max : EReal → EReal → EReal) ((fold54 _ r b h t _ _).trans ?_) rfl
  simp only [r87 H]

theorem r98 (t u : Fin 64) : res_main_while0b_v98 V0 (ix5 r b h t u) = pmat false (rch V0 i r b h) (rst V0 r b h) t u := by
  unfold res_main_while0b_v98
  pointwise []
  simp only [r87 H, r92 H, r73 H, r74 H]
  rfl

theorem r100 (t : Fin 64) : res_main_while0b_v100 V0 (ix4 r b h t) = e0 false (rch V0 i r b h) (rst V0 r b h) t := by
  unfold res_main_while0b_v100
  pointwise []
  rw [r90 H, r92 H]
  rfl

theorem r119 : res_main_while0b_v119 V0 (ix3 r b h) = ftot false (rch V0 i r b h) := by
  unfold res_main_while0b_v119
  pointwise []
  rw [r78 H]
  rfl

theorem r123 (t : Fin 64) : res_main_while0b_v123 V0 (ix4 r b h t) = g false (rch V0 i r b h) t := by
  unfold res_main_while0b_v123
  pointwise []
  rw [r78 H, r78 H, r76 H]
  rfl

theorem r124 : res_main_while0b_v124 V0 (ix3 r b h) = gmax false (rch V0 i r b h) := by
  unfold res_main_while0b_v124
  pointwise []
  refine (fold43 _ r b h _ _).trans ?_
  simp only [r123 H]
  rfl

theorem r131 (t d : Fin 64) : res_main_while0b_v131 V0 (ix5 r b h t d) = kw false (rch V0 i r b h) t d := by
  unfold res_main_while0b_v131
  pointwise []
  rw [r74 H, r123 H, r124 H]
  rfl

theorem r133 : res_main_while0b_v133 V0 (ix3 r b h) = mnew false (rch V0 i r b h) (rst V0 r b h) := by
  unfold res_main_while0b_v133
  pointwise []
  rw [r119 H, r124 H]
  rfl

theorem r136 : res_main_while0b_v136 V0 (ix3 r b h) = aold false (rch V0 i r b h) (rst V0 r b h) := by
  unfold res_main_while0b_v136
  pointwise []
  rw [r119 H, r133 H]
  rfl

theorem r138 : res_main_while0b_v138 V0 (ix3 r b h) = anew false (rch V0 i r b h) (rst V0 r b h) := by
  unfold res_main_while0b_v138
  pointwise []
  rw [r124 H, r133 H]
  rfl

theorem s7 (d e : Fin 64) : step_main_v56_7 V0 (ix5 r b h d e) = Cnew false (rch V0 i r b h) (rst V0 r b h) d e := by
  unfold step_main_v56_7
  rw [id_eq]
  pointwise []
  simp only [r136 H, r138 H, r131 H, r75 H]
  rfl

theorem s8 (d : Fin 64) : step_main_v56_8 V0 (ix4 r b h d) = Nnew false (rch V0 i r b h) (rst V0 r b h) d := by
  unfold step_main_v56_8
  rw [id_eq]
  pointwise []
  simp only [r136 H, r138 H, r131 H]
  rfl

theorem s9 : step_main_v56_9 V0 (ix3 r b h) = mnew false (rch V0 i r b h) (rst V0 r b h) := r133 H r b h

end

end Cert.ReferenceIdeal.Hand
-- ==== Proof.RefC.lean ====
module

public import proofs.«01_k».proof.Defs
public import proofs.«01_k».proof.Proof.RefB
public import proofs.«01_k».proof.Proof.Gen.ReferenceIdeal.Run
public import Idealize.ShloMosaic.Lib.DynamicIndex
public import Idealize.ShloMosaic.Lib.WordCmp
public import Idealize.ShloMosaic.Lib.Pipeline.Value
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem Idealize.ShloMosaic.StableHlo
open Idealize.ShloMosaic.Pipeline (Dat)

namespace Cert.ReferenceIdeal.Hand
open Cert.ReferenceIdeal Cert.ReferenceIdeal.Gen Cert.ReferenceIdeal.Value Cert.Mlstm

section
variable {V0 : Valuation τ sig (Elt Ideal)} {i : Fin 68} (H : At V0 i) (r : Fin 2) (b h : Fin 4)
include H

/-- The output rows after a trip: the chunk's own are set, the others are as they were. -/
theorem s10 (j : Fin 68) (t d : Fin 64) : step_main_v56_10 V0 (ix6 j r b h t d) =
    if j = i then outH false (rch V0 i r b h) (rst V0 r b h) t d else vY V0 (ix6 j r b h t d) := by
  unfold step_main_v56_10
  rw [id_eq]
  refine Eq.trans (congrFun (WordCmp.dynamicUpdateSlice_eq_update _ _ _ _ _ (fits6 i) (start6 H)) _) ?_
  unfold updateSlice
  by_cases e : j = i
  · rw [if_pos e]
    subst e
    rw [dif_pos (by
      intro a
      match a with
      | 0 => exact ⟨Nat.le_refl _, Nat.lt_succ_self _⟩
      | 1 => exact ⟨Nat.zero_le _, by show r.val < 0 + 2; omega⟩
      | 2 => exact ⟨Nat.zero_le _, by show b.val < 0 + 4; omega⟩
      | 3 => exact ⟨Nat.zero_le _, by show h.val < 0 + 4; omega⟩
      | 4 => exact ⟨Nat.zero_le _, by show t.val < 0 + 64; omega⟩
      | 5 => exact ⟨Nat.zero_le _, by show d.val < 0 + 64; omega⟩)]
    refine Eq.trans (congrArg _ (?_ : _ = (ix6 0 r b h t d : S1x2x4x4x64x64.Idx))) ?_
    · funext a
      match a with
      | 0 => exact Subsingleton.elim (α := Fin 1) _ _
      | 1 => rfl
      | 2 => rfl
      | 3 => rfl
      | 4 => rfl
      | 5 => rfl
    · pointwise []
      simp only [r98 H, r75 H, r100 H, r73 H, r92 H]
      unfold outH
      rw [zero_sub]
      rfl
  · rw [if_neg e, dif_neg]
    intro hin
    have h0 := hin 0
    change i.val ≤ j.val ∧ j.val < i.val + 1 at h0
    exact e (Fin.ext (by omega))

end

/-- The chunks one direction and batch meets, from the arrays the loop reads. -/
def rX (V0 : Valuation τ sig (Elt Ideal)) (r : Fin 2) (b : Fin 4) (j : ℕ) (h : Fin 4) : Ch := rch V0 ⟨j % 68, by omega⟩ r b h

/-- What the loop's buffers hold after `k` trips. -/
structure Inv (E W : Valuation τ sig (Elt Ideal)) (k : ℕ) : Prop where
  q : vq W = vq E
  kk : vk W = vk E
  v : vv W = vv E
  i : vi W = vi E
  f : vf W = vf E
  ctr : ∀ j, W (Proc.devRef .tc main_v56_6) j = BitVec.ofNat 32 k
  mask : ∀ (t u : Fin 64), W (Proc.devRef .tc main_v56_5) (ix2 t u) = if live false t u then 1#1 else 0#1
  st : ∀ r b h, rst W r b h = states false (rX E r b) k h
  y : ∀ (j : Fin 68) r b h t d, j.val < k → vY W (ix6 j r b h t d) = outH false (rX E r b j.val h) (states false (rX E r b) j.val h) t d

theorem inv_step {E W : Valuation τ sig (Elt Ideal)} {k : ℕ} (hk : k < 68) (I : Inv E W k) : Inv E (STEP W) (k + 1) where
  q := (STEP_main_v56_0 W).trans I.q
  kk := (STEP_main_v56_1 W).trans I.kk
  v := (STEP_main_v56_2 W).trans I.v
  i := (STEP_main_v56_3 W).trans I.i
  f := (STEP_main_v56_4 W).trans I.f
  ctr j := by
    rw [STEP_main_v56_6]
    unfold step_main_v56_6
    show IntOp.addi (W (Proc.devRef .tc main_v56_6) j : BitVec 32) 1#32 = _
    rw [I.ctr]
    exact (BitVec.ofNat_add k 1).symm
  mask t u := (congrFun (STEP_main_v56_5 W) _).trans (I.mask t u)
  st r b h := by
    have H : At W ⟨k, hk⟩ := ⟨I.ctr, I.mask⟩
    have hc : rch W ⟨k, hk⟩ r b h = rX E r b k h := by
      have e : (⟨k % 68, by omega⟩ : Fin 68) = ⟨k, hk⟩ := Fin.ext (Nat.mod_eq_of_lt hk)
      unfold rX rch
      rw [I.q, I.kk, I.v, I.i, I.f, e]
    have h7 : vC (STEP W) = step_main_v56_7 W := STEP_main_v56_7 W
    have h8 : vN (STEP W) = step_main_v56_8 W := STEP_main_v56_8 W
    have h9 : vM (STEP W) = step_main_v56_9 W := STEP_main_v56_9 W
    show _ = stepH false (rX E r b k h) (states false (rX E r b) k h)
    rw [← hc, ← I.st]
    unfold rst stepH
    rw [h7, h8, h9]
    congr 1
    · funext d e; exact s7 H r b h d e
    · funext d; exact s8 H r b h d
    · exact s9 H r b h
  y j r b h t d hj := by
    have H : At W ⟨k, hk⟩ := ⟨I.ctr, I.mask⟩
    have hc : rch W ⟨k, hk⟩ r b h = rX E r b k h := by
      have e : (⟨k % 68, by omega⟩ : Fin 68) = ⟨k, hk⟩ := Fin.ext (Nat.mod_eq_of_lt hk)
      unfold rX rch
      rw [I.q, I.kk, I.v, I.i, I.f, e]
    have h10 : vY (STEP W) = step_main_v56_10 W := STEP_main_v56_10 W
    rw [h10, s10 H]
    by_cases e : j = ⟨k, hk⟩
    · rw [if_pos e, hc, I.st, e]
    · rw [if_neg e]
      refine I.y j r b h t d ?_
      have : j.val ≠ k := fun e' => e (Fin.ext e')
      omega

theorem inv_iter {E : Valuation τ sig (Elt Ideal)} (I : Inv E E 0) : ∀ k, k ≤ 68 → Inv E (STEP^[k] E) k
  | 0, _ => I
  | k + 1, hk => by
    rw [Function.iterate_succ_apply']
    exact inv_step (by omega) (inv_iter I k (by omega))

end Cert.ReferenceIdeal.Hand
-- ==== Proof.RefD.lean ====
module

public import proofs.«01_k».proof.Defs
public import proofs.«01_k».proof.Proof.RefC
public import proofs.«01_k».proof.Proof.Gen.ReferenceIdeal.Run
public import Idealize.ShloMosaic.Lib.DynamicIndex
public import Idealize.ShloMosaic.Lib.WordCmp
public import Idealize.ShloMosaic.Lib.Pipeline.Value
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem Idealize.ShloMosaic.StableHlo
open Idealize.ShloMosaic.Pipeline (Dat)

namespace Cert.ReferenceIdeal.Hand
open Cert.ReferenceIdeal Cert.ReferenceIdeal.Gen Cert.ReferenceIdeal.Value Cert.Mlstm

variable (m : (ℓ : Loc nD τ sig) → Buf (Elt Ideal) ℓ) (c : Dev nD)

abbrev rz (b : Fin 4) (n : Fin 4096) (k : Fin 1040) : EReal := (m ((c : Thread nD τ).loc main_arg0) : Vec Ideal S4x4096x1040 .f32) (ix3 b n k)
abbrev rzc (b : Fin 4) (n : Fin 256) (k : Fin 1040) : EReal := (m ((c : Thread nD τ).loc main_arg1) : Vec Ideal S4x256x1040 .f32) (ix3 b n k)
abbrev rgb (a h : Fin 4) : EReal := (m ((c : Thread nD τ).loc main_arg2) : Vec Ideal S4x4 .f32) (ix2 a h)
/-- The buffers as the loop finds them. -/
abbrev E0 : Valuation τ sig (Elt Ideal) := entryContents preI m c
/-- The rows of both directions, in the order each meets them. -/
abbrev R6 : Vec Ideal S2x4x4352x1040 .f32 := E0 m c (Proc.devRef .tc main_v6)
/-- The four gates of both directions. -/
abbrev R22 : Vec Ideal S4x2x4x4x4352 .f32 := E0 m c (Proc.devRef .tc main_v22)
/-- The forget gates before their logistic. -/
abbrev R36 : Vec Ideal S2x4x4x4352 .f32 := E0 m c (Proc.devRef .tc main_v36)

/-- The row a direction meets at its `n`-th step. -/
def srow (r : Fin 2) (n : ℕ) : ℕ := if r = 0 then (n + 4096) % 4352 else 4351 - n

theorem revc (X : Vec Ideal S4x256x1040 .f32) (b : Fin 4) (n : Fin 256) (k : Fin 1040) :
    (Host.reverse [1] X : Vec Ideal S4x256x1040 .f32) (ix3 b n k) = X (ix3 b n.rev k) := by
  pointwise []
  rfl
theorem revz (X : Vec Ideal S4x4096x1040 .f32) (b : Fin 4) (n : Fin 4096) (k : Fin 1040) :
    (Host.reverse [1] X : Vec Ideal S4x4096x1040 .f32) (ix3 b n k) = X (ix3 b n.rev k) := by
  pointwise []
  rfl
/-- A forward direction's row is the concatenation's, the context first; a backward one's comes from the end. -/
theorem R6_at (r : Fin 2) (b : Fin 4) (n : Fin 4352) (k : Fin 1040) :
    R6 m c (ix4 r b n k) = cat (rz m c) (rzc m c) b (srow r n.val) k := by
  unfold R6 E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  pointwise []
  simp only [upto_zero]
  after_reads_simp
  (try simp -implicitDefEqProofs only [StableHlo.TRef.toBuf, StableHlo.TRef.ofBuf, cast_cast, cast_eq, id_eq])
  have hn := n.isLt
  unfold srow cat
  have hr : r.val = 0 ∨ r.val = 1 := by omega
  rcases hr with e | e
  · have e' : r = 0 := Fin.ext e
    rw [dif_pos (by omega), if_pos e']
    by_cases h : n.val < 256
    · rw [dif_pos h, dif_neg (by omega), dif_pos (by omega)]
      exact congrArg (fun x => rzc m c b x k) (Fin.ext (by dsimp only; omega))
    · rw [dif_neg h, dif_pos (by omega)]
      exact congrArg (fun x => rz m c b x k) (Fin.ext (by dsimp only; omega))
  · have e' : ¬ r = 0 := fun h => by rw [h] at e; exact absurd e (by decide)
    rw [dif_neg (by omega), if_neg e']
    by_cases h : n.val < 256
    · rw [dif_pos h, dif_neg (by omega), dif_pos (by omega)]
      have e3 : (⟨n.val, h⟩ : Fin 256).rev = ⟨4351 - n.val - 4096, by omega⟩ := Fin.ext (by simp only [Fin.val_rev]; omega)
      exact (revc _ b _ k).trans (congrArg (fun x => rzc m c b x k) e3)
    · rw [dif_neg h, dif_pos (by omega)]
      have e3 : (⟨n.val - 256, by omega⟩ : Fin 4096).rev = ⟨4351 - n.val, by omega⟩ := Fin.ext (by simp only [Fin.val_rev]; omega)
      exact (revz _ b _ k).trans (congrArg (fun x => rz m c b x k) e3)

theorem q_read : vq (E0 m c) = transpose S68x2x4x4x64x64 [3, 0, 1, 2, 4, 5] (fun i => shapeCast S2x4x4x68x64x64
    (transpose S2x4x4x4352x64 [0, 1, 3, 2, 4] (fun i => shapeCast S2x4x4352x4x64 (extractStridedSlice S2x4x4352x256 ![0, 0, 0, 0]
    (extractStridedSlice S2x4x4352x768 ![0, 0, 0, 0] (R6 m c) slices_S2x4x4352x1040_S2x4x4352x768_0_0_0_0)
    slices_S2x4x4352x768_S2x4x4352x256_0_0_0_0) shapeCasts_S2x4x4352x256_S2x4x4352x4x64 i) transposes_S2x4x4352x4x64_S2x4x4x4352x64_0_1_3_2_4) shapeCasts_S2x4x4x4352x64_S2x4x4x68x64x64 i) transposes_S2x4x4x68x64x64_S68x2x4x4x64x64_3_0_1_2_4_5 := by
  unfold R6 vq E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  rfl

theorem k_read : vk (E0 m c) = transpose S68x2x4x4x64x64 [3, 0, 1, 2, 4, 5] (fun i => shapeCast S2x4x4x68x64x64
    (mulf (F := Ideal) (φ := .f32) (transpose S2x4x4x4352x64 [0, 1, 3, 2, 4] (fun i => shapeCast S2x4x4352x4x64 (extractStridedSlice S2x4x4352x256 ![0, 0, 0, 256]
    (extractStridedSlice S2x4x4352x768 ![0, 0, 0, 0] (R6 m c) slices_S2x4x4352x1040_S2x4x4352x768_0_0_0_0)
    slices_S2x4x4352x768_S2x4x4352x256_0_0_0_256) shapeCasts_S2x4x4352x256_S2x4x4352x4x64 i) transposes_S2x4x4352x4x64_S2x4x4x4352x64_0_1_3_2_4) (broadcastInDim S2x4x4x4352x64 ![] bcast_S_S2x4x4x4352x64 (constant (F := Ideal) S_ .f32 0x3E000000#32))) shapeCasts_S2x4x4x4352x64_S2x4x4x68x64x64 i) transposes_S2x4x4x68x64x64_S68x2x4x4x64x64_3_0_1_2_4_5 := by
  unfold R6 vk E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  rfl

theorem v_read : vv (E0 m c) = transpose S68x2x4x4x64x64 [3, 0, 1, 2, 4, 5] (fun i => shapeCast S2x4x4x68x64x64
    (transpose S2x4x4x4352x64 [0, 1, 3, 2, 4] (fun i => shapeCast S2x4x4352x4x64 (extractStridedSlice S2x4x4352x256 ![0, 0, 0, 512]
    (extractStridedSlice S2x4x4352x768 ![0, 0, 0, 0] (R6 m c) slices_S2x4x4352x1040_S2x4x4352x768_0_0_0_0)
    slices_S2x4x4352x768_S2x4x4352x256_0_0_0_512) shapeCasts_S2x4x4352x256_S2x4x4352x4x64 i) transposes_S2x4x4352x4x64_S2x4x4x4352x64_0_1_3_2_4) shapeCasts_S2x4x4x4352x64_S2x4x4x68x64x64 i) transposes_S2x4x4x68x64x64_S68x2x4x4x64x64_3_0_1_2_4_5 := by
  unfold R6 vv E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  rfl

theorem heads_at (X : Vec Ideal S2x4x4x4352x64 .f32) (j : Fin 68) (r : Fin 2) (b h : Fin 4) (t d : Fin 64) :
    (transpose S68x2x4x4x64x64 [3, 0, 1, 2, 4, 5] (fun i => shapeCast S2x4x4x68x64x64 X shapeCasts_S2x4x4x4352x64_S2x4x4x68x64x64 i)
      transposes_S2x4x4x68x64x64_S68x2x4x4x64x64_3_0_1_2_4_5 : Vec Ideal S68x2x4x4x64x64 .f32) (ix6 j r b h t d)
      = X (ix5 r b h ⟨64 * j.val + t.val, by omega⟩ d) := by
  pointwise []
  exact congrArg (fun x => X (ix5 r b h x d)) (Fin.ext (by dsimp only; omega))

theorem q_pt (X : Vec Ideal S2x4x4352x1040 .f32) (r : Fin 2) (b h : Fin 4) (n : Fin 4352) (d : Fin 64) :
    ((transpose S2x4x4x4352x64 [0, 1, 3, 2, 4] (fun i => shapeCast S2x4x4352x4x64 (extractStridedSlice S2x4x4352x256 ![0, 0, 0, 0]
    (extractStridedSlice S2x4x4352x768 ![0, 0, 0, 0] X slices_S2x4x4352x1040_S2x4x4352x768_0_0_0_0)
    slices_S2x4x4352x768_S2x4x4352x256_0_0_0_0) shapeCasts_S2x4x4352x256_S2x4x4352x4x64 i) transposes_S2x4x4352x4x64_S2x4x4x4352x64_0_1_3_2_4) : Vec Ideal S2x4x4x4352x64 .f32) (ix5 r b h n d)
      = X (ix4 r b n ⟨64 * h.val + d.val, by omega⟩) := by
  pointwise []

  exact congrArg (fun x => X (ix4 r b n x)) (Fin.ext (by dsimp only; omega))
theorem q_at (j : Fin 68) (r : Fin 2) (b h : Fin 4) (t d : Fin 64) : vq (E0 m c) (ix6 j r b h t d)
    = R6 m c (ix4 r b ⟨64 * j.val + t.val, by omega⟩ ⟨64 * h.val + d.val, by omega⟩) :=
  (congrFun (q_read m c) _).trans ((heads_at _ j r b h t d).trans (q_pt (R6 m c) r b h _ d))

theorem k_pt (X : Vec Ideal S2x4x4352x1040 .f32) (r : Fin 2) (b h : Fin 4) (n : Fin 4352) (d : Fin 64) :
    ((mulf (F := Ideal) (φ := .f32) (transpose S2x4x4x4352x64 [0, 1, 3, 2, 4] (fun i => shapeCast S2x4x4352x4x64 (extractStridedSlice S2x4x4352x256 ![0, 0, 0, 256]
    (extractStridedSlice S2x4x4352x768 ![0, 0, 0, 0] X slices_S2x4x4352x1040_S2x4x4352x768_0_0_0_0)
    slices_S2x4x4352x768_S2x4x4352x256_0_0_0_256) shapeCasts_S2x4x4352x256_S2x4x4352x4x64 i) transposes_S2x4x4352x4x64_S2x4x4x4352x64_0_1_3_2_4) (broadcastInDim S2x4x4x4352x64 ![] bcast_S_S2x4x4x4352x64 (constant (F := Ideal) S_ .f32 0x3E000000#32))) : Vec Ideal S2x4x4x4352x64 .f32) (ix5 r b h n d)
      = X (ix4 r b n ⟨256 + (64 * h.val + d.val), by omega⟩) * Ideal.ofBits FTy.f32 0x3E000000#32 := by
  pointwise []
  refine congrArg (fun y : EReal => y * _) ?_
  exact congrArg (fun x => X (ix4 r b n x)) (Fin.ext (by dsimp only; omega))
theorem k_at (j : Fin 68) (r : Fin 2) (b h : Fin 4) (t d : Fin 64) : vk (E0 m c) (ix6 j r b h t d)
    = R6 m c (ix4 r b ⟨64 * j.val + t.val, by omega⟩ ⟨256 + (64 * h.val + d.val), by omega⟩) * Ideal.ofBits FTy.f32 0x3E000000#32 :=
  (congrFun (k_read m c) _).trans ((heads_at _ j r b h t d).trans (k_pt (R6 m c) r b h _ d))

theorem v_pt (X : Vec Ideal S2x4x4352x1040 .f32) (r : Fin 2) (b h : Fin 4) (n : Fin 4352) (d : Fin 64) :
    ((transpose S2x4x4x4352x64 [0, 1, 3, 2, 4] (fun i => shapeCast S2x4x4352x4x64 (extractStridedSlice S2x4x4352x256 ![0, 0, 0, 512]
    (extractStridedSlice S2x4x4352x768 ![0, 0, 0, 0] X slices_S2x4x4352x1040_S2x4x4352x768_0_0_0_0)
    slices_S2x4x4352x768_S2x4x4352x256_0_0_0_512) shapeCasts_S2x4x4352x256_S2x4x4352x4x64 i) transposes_S2x4x4352x4x64_S2x4x4x4352x64_0_1_3_2_4) : Vec Ideal S2x4x4x4352x64 .f32) (ix5 r b h n d)
      = X (ix4 r b n ⟨512 + (64 * h.val + d.val), by omega⟩) := by
  pointwise []

  exact congrArg (fun x => X (ix4 r b n x)) (Fin.ext (by dsimp only; omega))
theorem v_at (j : Fin 68) (r : Fin 2) (b h : Fin 4) (t d : Fin 64) : vv (E0 m c) (ix6 j r b h t d)
    = R6 m c (ix4 r b ⟨64 * j.val + t.val, by omega⟩ ⟨512 + (64 * h.val + d.val), by omega⟩) :=
  (congrFun (v_read m c) _).trans ((heads_at _ j r b h t d).trans (v_pt (R6 m c) r b h _ d))

theorem R22_read : R22 m c = (transpose S4x2x4x4x4352 [3, 0, 1, 4, 2] (addf (F := Ideal) (φ := .f32) (fun i => shapeCast S2x4x4352x4x4 (extractStridedSlice S2x4x4352x16 ![0, 0, 0, 1024] (R6 m c)
    slices_S2x4x4352x1040_S2x4x4352x16_0_0_0_1024) shapeCasts_S2x4x4352x16_S2x4x4352x4x4 i)
    (broadcastInDim S2x4x4352x4x4 ![0, 1, 2, 3, 4] bcast_S1x1x1x4x4_S2x4x4352x4x4_0_1_2_3_4 (broadcastInDim S1x1x1x4x4 ![3, 4] bcast_S4x4_S1x1x1x4x4_3_4
      (launchContents m c (Proc.devRef .tc main_arg2) : Vec Ideal S4x4 .f32)))) transposes_S2x4x4352x4x4_S4x2x4x4x4352_3_0_1_4_2) := by
  unfold R22 R6 E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  rfl
theorem gates_pt (X : Vec Ideal S2x4x4352x1040 .f32) (B : Vec Ideal S4x4 .f32) (a : Fin 4) (r : Fin 2) (b h : Fin 4) (n : Fin 4352) :
    ((transpose S4x2x4x4x4352 [3, 0, 1, 4, 2] (addf (F := Ideal) (φ := .f32) (fun i => shapeCast S2x4x4352x4x4 (extractStridedSlice S2x4x4352x16 ![0, 0, 0, 1024] X
    slices_S2x4x4352x1040_S2x4x4352x16_0_0_0_1024) shapeCasts_S2x4x4352x16_S2x4x4352x4x4 i)
    (broadcastInDim S2x4x4352x4x4 ![0, 1, 2, 3, 4] bcast_S1x1x1x4x4_S2x4x4352x4x4_0_1_2_3_4 (broadcastInDim S1x1x1x4x4 ![3, 4] bcast_S4x4_S1x1x1x4x4_3_4
      B))) transposes_S2x4x4352x4x4_S4x2x4x4x4352_3_0_1_4_2)  : Vec Ideal S4x2x4x4x4352 .f32) (ix5 a r b h n) = X (ix4 r b n (gcol a h)) + B (ix2 a h) := by
  pointwise []
  refine congrArg (fun y : EReal => y + _) ?_
  exact congrArg (fun x => X (ix4 r b n x)) (Fin.ext (by simp only [gcol]; omega))
theorem R22_at (a : Fin 4) (r : Fin 2) (b h : Fin 4) (n : Fin 4352) :
    R22 m c (ix5 a r b h n) = R6 m c (ix4 r b n (gcol a h)) + rgb m c a h :=
  (congrFun (R22_read m c) _).trans (gates_pt (R6 m c) _ a r b h n)

/-- A gate of the forward direction over a gate of the backward one. -/
def pair (G : Vec Ideal S4x2x4x4x4352 .f32) (a a' : ℕ) (s : S4x2x4x4x4352.Slices ![a, 0, 0, 0, 0] S1x1x4x4x4352) (s' : S4x2x4x4x4352.Slices ![a', 1, 0, 0, 0] S1x1x4x4x4352) :
    Vec Ideal S2x4x4x4352 .f32 :=
  concatenate S2x4x4x4352 0
    [⟨S1x4x4x4352, broadcastInDim S1x4x4x4352 ![1, 2, 3] bcast_S4x4x4352_S1x4x4x4352_1_2_3 (fun i => shapeCast S4x4x4352 (extractStridedSlice S1x1x4x4x4352 ![a, 0, 0, 0, 0] G s) shapeCasts_S1x1x4x4x4352_S4x4x4352 i)⟩,
     ⟨S1x4x4x4352, broadcastInDim S1x4x4x4352 ![1, 2, 3] bcast_S4x4x4352_S1x4x4x4352_1_2_3 (fun i => shapeCast S4x4x4352 (extractStridedSlice S1x1x4x4x4352 ![a', 1, 0, 0, 0] G s') shapeCasts_S1x1x4x4x4352_S4x4x4352 i)⟩]
    concatenates_S1x4x4x4352_S1x4x4x4352_S2x4x4x4352_d0
theorem cat2 {a a' b b' : Vec Ideal S1x4x4x4352 .f32} (ea : a = a') (eb : b = b') :
    (concatenate S2x4x4x4352 0 [⟨S1x4x4x4352, a⟩, ⟨S1x4x4x4352, b⟩] concatenates_S1x4x4x4352_S1x4x4x4352_S2x4x4x4352_d0 : Vec Ideal S2x4x4x4352 .f32)
      = concatenate S2x4x4x4352 0 [⟨S1x4x4x4352, a'⟩, ⟨S1x4x4x4352, b'⟩] concatenates_S1x4x4x4352_S1x4x4x4352_S2x4x4x4352_d0 := by
  rw [ea, eb]
theorem i_read : vi (E0 m c) = transpose S68x2x4x4x64 [3, 0, 1, 2, 4] (fun i => shapeCast S2x4x4x68x64 (pair (R22 m c) 0 2
    slices_S4x2x4x4x4352_S1x1x4x4x4352_0_0_0_0_0 slices_S4x2x4x4x4352_S1x1x4x4x4352_2_1_0_0_0) shapeCasts_S2x4x4x4352_S2x4x4x68x64 i) transposes_S2x4x4x68x64_S68x2x4x4x64_3_0_1_2_4 := by
  unfold pair vi R22 E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  refine congrArg (fun y : Vec Ideal S2x4x4x4352 .f32 => (transpose S68x2x4x4x64 [3, 0, 1, 2, 4] (fun i => shapeCast S2x4x4x68x64 y shapeCasts_S2x4x4x4352_S2x4x4x68x64 i) transposes_S2x4x4x68x64_S68x2x4x4x64_3_0_1_2_4 : Vec Ideal S68x2x4x4x64 .f32)) (cat2 ?_ ?_)
  · after_reads_simp
    rfl
  · after_reads_simp
    rfl
theorem pair0 (G : Vec Ideal S4x2x4x4x4352 .f32) (r : Fin 2) (b h : Fin 4) (n : Fin 4352) :
    pair G 0 2 slices_S4x2x4x4x4352_S1x1x4x4x4352_0_0_0_0_0 slices_S4x2x4x4x4352_S1x1x4x4x4352_2_1_0_0_0 (ix4 r b h n)
      = G (ix5 (if r = 0 then 0 else 2) r b h n) := by
  unfold pair
  fin_cases r
  · pointwise []
  · pointwise []
theorem pair1 (G : Vec Ideal S4x2x4x4x4352 .f32) (r : Fin 2) (b h : Fin 4) (n : Fin 4352) :
    pair G 1 3 slices_S4x2x4x4x4352_S1x1x4x4x4352_1_0_0_0_0 slices_S4x2x4x4x4352_S1x1x4x4x4352_3_1_0_0_0 (ix4 r b h n)
      = G (ix5 (if r = 0 then 1 else 3) r b h n) := by
  unfold pair
  fin_cases r
  · pointwise []
  · pointwise []
theorem gate_at (X : Vec Ideal S2x4x4x4352 .f32) (j : Fin 68) (r : Fin 2) (b h : Fin 4) (t : Fin 64) :
    (transpose S68x2x4x4x64 [3, 0, 1, 2, 4] (fun i => shapeCast S2x4x4x68x64 X shapeCasts_S2x4x4x4352_S2x4x4x68x64 i)
      transposes_S2x4x4x68x64_S68x2x4x4x64_3_0_1_2_4 : Vec Ideal S68x2x4x4x64 .f32) (ix5 j r b h t)
      = X (ix4 r b h ⟨64 * j.val + t.val, by omega⟩) := by
  pointwise []
  exact congrArg (fun x => X (ix4 r b h x)) (Fin.ext (by dsimp only; omega))
theorem i_at (j : Fin 68) (r : Fin 2) (b h : Fin 4) (t : Fin 64) :
    vi (E0 m c) (ix5 j r b h t) = R22 m c (ix5 (if r = 0 then 0 else 2) r b h ⟨64 * j.val + t.val, by omega⟩) := by
  exact (congrFun (i_read m c) _).trans ((gate_at _ j r b h t).trans (pair0 _ r b h _))
theorem R36_at (r : Fin 2) (b h : Fin 4) (n : Fin 4352) :
    R36 m c (ix4 r b h n) = R22 m c (ix5 (if r = 0 then 1 else 3) r b h n) := by
  have e : R36 m c = pair (R22 m c) 1 3 slices_S4x2x4x4x4352_S1x1x4x4x4352_1_0_0_0_0 slices_S4x2x4x4x4352_S1x1x4x4x4352_3_1_0_0_0 := by
    unfold R36 pair R22 E0
    simp only [entryContents, afterL_cons, afterL_nil]
    after_reads_simp
    (try dsimp only [Matrix.cons_val])
    (try after_reads_simp)
    (try dsimp only [Matrix.cons_val])
    (try after_reads_simp)
    (try simp -implicitDefEqProofs only [StableHlo.TRef.toBuf, StableHlo.TRef.ofBuf, cast_cast, cast_eq, id_eq])
    refine cat2 ?_ ?_
    · after_reads_simp
      rfl
    · after_reads_simp
      rfl
  exact (congrFun e _).trans (pair1 _ r b h n)
/-- The logistic's logarithm as the host writes it. -/
def lsgV (x : Vec Ideal S2x4x4x4352 .f32) : Vec Ideal S2x4x4x4352 .f32 :=
  let o : Vec Ideal S2x4x4x4352 .f32 := broadcastInDim S2x4x4x4352 ![] bcast_S_S2x4x4x4352 (constant (F := Ideal) S_ .f32 0x00000000#32)
  let y : Vec Ideal S2x4x4x4352 .f32 := Host.negf (F := Ideal) (φ := .f32) x
  let d : Vec Ideal S2x4x4x4352 .f32 := subf (F := Ideal) (φ := .f32) y o
  Host.negf (F := Ideal) (φ := .f32) (select (cmpf (F := Ideal) (φ := .f32) .une d d) (addf (F := Ideal) (φ := .f32) y o)
    (addf (F := Ideal) (φ := .f32) (maximumf (F := Ideal) (φ := .f32) y o) (Host.log1p (F := Ideal) (φ := .f32) (Host.exp (F := Ideal) (φ := .f32) (Host.negf (F := Ideal) (φ := .f32) (Host.absf (F := Ideal) (φ := .f32) d))))))
theorem lsgV_at (x : Vec Ideal S2x4x4x4352 .f32) (i) : lsgV x i = lsg (x i) := by
  unfold lsgV
  dsimp only
  pointwise []
  rw [if_neg (by simp)]
  unfold lsg
  simp only [zero_sub]
  rfl
theorem f_read : vf (E0 m c) = transpose S68x2x4x4x64 [3, 0, 1, 2, 4] (fun i => shapeCast S2x4x4x68x64 (lsgV (R36 m c)) shapeCasts_S2x4x4x4352_S2x4x4x68x64 i)
     transposes_S2x4x4x68x64_S68x2x4x4x64_3_0_1_2_4 := by
  unfold lsgV vf R36 E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  rfl
theorem f_at (j : Fin 68) (r : Fin 2) (b h : Fin 4) (t : Fin 64) :
    vf (E0 m c) (ix5 j r b h t) = lsg (R36 m c (ix4 r b h ⟨64 * j.val + t.val, by omega⟩)) := by
  exact (congrFun (f_read m c) _).trans ((gate_at _ j r b h t).trans (lsgV_at _ _))
theorem cmpT : ∀ t u : Fin 64, IntOp.cmpi CmpIPredicate.sge (BitVec.ofNat 32 t.val) (BitVec.ofNat 32 u.val) = if u ≤ t then 1#1 else 0#1 := by decide +kernel
theorem mask_at (t u : Fin 64) : E0 m c (Proc.devRef .tc main_v56_5) (ix2 t u) = if live false t u then 1#1 else 0#1 := by
  unfold E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  pointwise []
  rw [show IntOp.addi (BitVec.ofNat 32 t.val) 0#32 = BitVec.ofNat 32 t.val from BitVec.add_zero _, cmpT]
  have e : live false t u ↔ u ≤ t := by simp [live]
  by_cases h : u ≤ t
  · rw [if_pos h, if_pos (e.2 h)]; rfl
  · rw [if_neg h, if_neg (fun h' => h (e.1 h'))]; rfl
theorem C_at (r : Fin 2) (b h : Fin 4) (d e : Fin 64) : vC (E0 m c) (ix5 r b h d e) = 0 := by
  unfold vC E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  pointwise []
theorem N_at (r : Fin 2) (b h : Fin 4) (d : Fin 64) : vN (E0 m c) (ix4 r b h d) = 0 := by
  unfold vN E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  pointwise []
theorem M_at (r : Fin 2) (b h : Fin 4) : vM (E0 m c) (ix3 r b h) = 0 := by
  unfold vM E0
  simp only [entryContents, afterL_cons, afterL_nil]
  after_reads_simp
  (try dsimp only [Matrix.cons_val])
  (try after_reads_simp)
  (try dsimp only [Matrix.cons_val])
  (try after_reads_simp)
  (try simp -implicitDefEqProofs only [StableHlo.TRef.toBuf, StableHlo.TRef.ofBuf, cast_cast, cast_eq, id_eq])
  pointwise []

/-- What the loop starts from. -/
theorem inv0 : Inv (E0 m c) (E0 m c) 0 where
  q := rfl
  kk := rfl
  v := rfl
  i := rfl
  f := rfl
  ctr j := congrFun (ctr_entry m c) j
  mask := mask_at m c
  st r b h := by
    show (⟨_, _, _⟩ : St) = ⟨fun _ _ => 0, fun _ => 0, 0⟩
    rw [St.mk.injEq]
    exact ⟨funext fun d => funext fun e => C_at m c r b h d e, funext fun d => N_at m c r b h d, M_at m c r b h⟩
  y _ _ _ _ _ _ h := absurd h (Nat.not_lt_zero _)

theorem rX0 (b : Fin 4) (j : ℕ) (hj : j < 68) (h : Fin 4) : rX (E0 m c) 0 b j h = XF (rz m c) (rzc m c) (rgb m c) b j h := by
  have er : ∀ t : Fin 64, srow 0 (64 * (j % 68) + t.val) = 64 * fwd j + t.val := fun t => by
    rw [srow, if_pos rfl]
    have := t.isLt
    unfold fwd
    omega
  unfold rX rch XF chunkAt
  simp only [Ch.mk.injEq]
  refine ⟨?_, ?_, ?_, ?_, ?_⟩
  · funext t d; rw [q_at, R6_at, er]
  · funext t d; rw [k_at, R6_at, er]
  · funext t d; rw [v_at, R6_at, er]
  · funext t; rw [i_at, R22_at, R6_at, er, if_pos rfl]
  · funext t; rw [f_at, R36_at, R22_at, R6_at, er, if_pos rfl]

theorem rX1 (b : Fin 4) (j : ℕ) (hj : j < 68) (h : Fin 4) : rX (E0 m c) 1 b j h = (XB (rz m c) (rzc m c) (rgb m c) b j h).rev := by
  have er : ∀ t : Fin 64, srow 1 (64 * (j % 68) + t.val) = 64 * bwd j + t.rev.val := fun t => by
    rw [srow, if_neg (by decide), Fin.val_rev]
    have := t.isLt
    unfold bwd
    omega
  unfold rX rch XB chunkAt Ch.rev
  simp only [Ch.mk.injEq]
  refine ⟨?_, ?_, ?_, ?_, ?_⟩
  · funext t d; rw [q_at, R6_at, er]
  · funext t d; rw [k_at, R6_at, er]
  · funext t d; rw [v_at, R6_at, er]
  · funext t; rw [i_at, R22_at, R6_at, er, if_neg (by decide)]
  · funext t; rw [f_at, R36_at, R22_at, R6_at, er, if_neg (by decide)]

theorem states_congr {X Y : ℕ → Fin 4 → Ch} (r : Bool) : ∀ j, (∀ i, i < j → ∀ h, X i h = Y i h) → ∀ h, states r X j h = states r Y j h
  | 0, _, _ => rfl
  | j + 1, e, h => by
    show stepH r (X j h) (states r X j h) = stepH r (Y j h) (states r Y j h)
    rw [e j (Nat.lt_succ_self j), states_congr r j (fun i hi => e i (Nat.lt_succ_of_lt hi)) h]

/-- A scan of chunks that meets rows last to first carries what a scan of the turned chunks carries. -/
theorem states_rev (X : ℕ → Fin 4 → Ch) : ∀ j h, states false (fun j h => (X j h).rev) j h = states true X j h
  | 0, _ => rfl
  | j + 1, h => by
    show stepH false (X j h).rev (states false (fun j h => (X j h).rev) j h) = stepH true (X j h) (states true X j h)
    rw [states_rev X j h, stepH_rev]

/-- The loop's result for the forward scan. -/
theorem yF (b : Fin 4) (j : Fin 68) (h : Fin 4) (t d : Fin 64) : vY (STEP^[68] (E0 m c)) (ix6 j 0 b h t d)
    = outH false (XF (rz m c) (rzc m c) (rgb m c) b j.val h) (states false (XF (rz m c) (rzc m c) (rgb m c) b) j.val h) t d := by
  rw [(inv_iter (inv0 m c) 68 le_rfl).y j 0 b h t d j.isLt, rX0 m c b j.val j.isLt,
    states_congr false j.val fun i hi h => rX0 m c b i (hi.trans j.isLt) h]

/-- The loop's result for the backward scan. -/
theorem yB (b : Fin 4) (j : Fin 68) (h : Fin 4) (t d : Fin 64) : vY (STEP^[68] (E0 m c)) (ix6 j 1 b h t d)
    = outH true (XB (rz m c) (rzc m c) (rgb m c) b j.val h) (states true (XB (rz m c) (rzc m c) (rgb m c) b) j.val h) t.rev d := by
  rw [(inv_iter (inv0 m c) 68 le_rfl).y j 1 b h t d j.isLt, rX1 m c b j.val j.isLt,
    states_congr false j.val fun i hi h => rX1 m c b i (hi.trans j.isLt) h, states_rev, outH_rev, Fin.rev_rev]

end Cert.ReferenceIdeal.Hand

end
-- ==== Proof.RefE.lean ====
module

public import proofs.«01_k».proof.Defs
public import proofs.«01_k».proof.Proof.RefD
public import proofs.«01_k».proof.Proof.Gen.ReferenceIdeal.Run
public import Idealize.ShloMosaic.Lib.DynamicIndex
public import Idealize.ShloMosaic.Lib.WordCmp
public import Idealize.ShloMosaic.Lib.Pipeline.Value
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem Idealize.ShloMosaic.StableHlo
open Idealize.ShloMosaic.Pipeline (Dat)

namespace Cert.ReferenceIdeal.Hand
open Cert.ReferenceIdeal Cert.ReferenceIdeal.Gen Cert.ReferenceIdeal.Value Cert.Mlstm

/-- The loop's results, gathered over both directions, at a place. -/
theorem gather (Y : Vec Ideal S68x2x4x4x64x64 .f32) (r : Fin 2) (b : Fin 4) (n : Fin 4352) (L : Fin 256) :
    (shapeCast S2x4x4352x256 (transpose S2x4x4352x4x64 [0, 1, 3, 2, 4] (shapeCast S2x4x4x4352x64
      (transpose S2x4x4x68x64x64 [1, 2, 3, 0, 4, 5] Y transposes_S68x2x4x4x64x64_S2x4x4x68x64x64_1_2_3_0_4_5)
      shapeCasts_S2x4x4x68x64x64_S2x4x4x4352x64) transposes_S2x4x4x4352x64_S2x4x4352x4x64_0_1_3_2_4)
      shapeCasts_S2x4x4352x4x64_S2x4x4352x256 : Vec Ideal S2x4x4352x256 .f32) (ix4 r b n L)
      = Y (ix6 ⟨n.val / 64, by omega⟩ r b (hd L) ⟨n.val % 64, by omega⟩ (dd L)) := by
  pointwise []
  rfl

theorem back65 (X : Vec Ideal S2x4x4352x256 .f32) (b : Fin 4) (n : Fin 4352) (L : Fin 256) :
    (concatenate S4x4352x256 1
      [⟨S4x4096x256, shapeCast S4x4096x256 (extractStridedSlice S1x4x4096x256 ![0, 0, 256, 0] X slices_S2x4x4352x256_S1x4x4096x256_0_0_256_0) shapeCasts_S1x4x4096x256_S4x4096x256⟩,
       ⟨S4x256x256, shapeCast S4x256x256 (extractStridedSlice S1x4x256x256 ![0, 0, 0, 0] X slices_S2x4x4352x256_S1x4x256x256_0_0_0_0) shapeCasts_S1x4x256x256_S4x256x256⟩]
      concatenates_S4x4096x256_S4x256x256_S4x4352x256_d1 : Vec Ideal S4x4352x256 .f32) (ix3 b n L)
      = X (ix4 0 b ⟨(n.val + 256) % 4352, by omega⟩ L) := by
  have := n.isLt
  pointwise []
  split
  · exact congrArg (fun x => X (ix4 0 b x L)) (Fin.ext (by dsimp only; omega))
  · exact congrArg (fun x => X (ix4 0 b x L)) (Fin.ext (by dsimp only; omega))
theorem back72 (X : Vec Ideal S2x4x4352x256 .f32) (b : Fin 4) (n : Fin 4352) (L : Fin 256) :
    (concatenate S4x4352x256 1
      [⟨S4x4096x256, Host.reverse [1] (shapeCast S4x4096x256 (extractStridedSlice S1x4x4096x256 ![1, 0, 256, 0] X slices_S2x4x4352x256_S1x4x4096x256_1_0_256_0) shapeCasts_S1x4x4096x256_S4x4096x256)⟩,
       ⟨S4x256x256, Host.reverse [1] (shapeCast S4x256x256 (extractStridedSlice S1x4x256x256 ![1, 0, 0, 0] X slices_S2x4x4352x256_S1x4x256x256_1_0_0_0) shapeCasts_S1x4x256x256_S4x256x256)⟩]
      concatenates_S4x4096x256_S4x256x256_S4x4352x256_d1 : Vec Ideal S4x4352x256 .f32) (ix3 b n L)
      = X (ix4 1 b ⟨4351 - n.val, by omega⟩ L) := by
  have := n.isLt
  pointwise []
  split
  · exact congrArg (fun x => X (ix4 1 b x L)) (Fin.ext (by
      change 256 + (4096 - (n.val + 1)) = 4351 - n.val; omega))
  · exact congrArg (fun x => X (ix4 1 b x L)) (Fin.ext (by
      change 256 - (n.val - 4096 + 1) = 4351 - n.val; omega))
theorem out65 (V0 : Valuation τ sig (Elt Ideal)) (b : Fin 4) (n : Fin 4352) (L : Fin 256) :
    (out_main_v65 V0 : Vec Ideal S4x4352x256 .f32) (ix3 b n L)
      = vY V0 (ix6 ⟨(n.val + 256) % 4352 / 64, by omega⟩ 0 b (hd L) ⟨(n.val + 256) % 4352 % 64, by omega⟩ (dd L)) := by
  unfold out_main_v65
  exact (back65 _ b n L).trans (gather (vY V0) 0 b ⟨(n.val + 256) % 4352, by omega⟩ L)
theorem out72 (V0 : Valuation τ sig (Elt Ideal)) (b : Fin 4) (n : Fin 4352) (L : Fin 256) :
    (out_main_v72 V0 : Vec Ideal S4x4352x256 .f32) (ix3 b n L)
      = vY V0 (ix6 ⟨(4351 - n.val) / 64, by omega⟩ 1 b (hd L) ⟨(4351 - n.val) % 64, by omega⟩ (dd L)) := by
  unfold out_main_v72
  exact (back72 _ b n L).trans (gather (vY V0) 1 b ⟨4351 - n.val, by omega⟩ L)

variable (m : (ℓ : Loc nD τ sig) → Buf (Elt Ideal) ℓ) (c : Dev nD)

theorem ix_z (i : S4x4352x256.Idx) : ∃ (b : Fin 4) (n : Fin 4352) (L : Fin 256), i = ix3 b n L :=
  ⟨i 0, i 1, i 2, by funext k; match k with | 0 => rfl | 1 => rfl | 2 => rfl⟩

/-- The reference's first result is the forward scan's. -/
theorem outF : (out_main_v65 (STEP^[68] (E0 m c)) : Vec Ideal S4x4352x256 .f32) = fun i => hF (rz m c) (rzc m c) (rgb m c) (i 0) (i 1) (i 2) := by
  funext i
  obtain ⟨b, n, L, rfl⟩ := ix_z i
  have hn := n.isLt
  have e1 : (⟨(n.val + 256) % 4352 / 64, by omega⟩ : Fin 68) = ⟨(n.val / 64 + 4) % 68, by omega⟩ := Fin.ext (by dsimp only; omega)
  have e2 : (⟨(n.val + 256) % 4352 % 64, by omega⟩ : Fin 64) = ⟨n.val % 64, by omega⟩ := Fin.ext (by dsimp only; omega)
  rw [out65, e1, e2, yF]
  rfl

/-- The reference's second result is the backward scan's. -/
theorem outB : (out_main_v72 (STEP^[68] (E0 m c)) : Vec Ideal S4x4352x256 .f32) = fun i => hB (rz m c) (rzc m c) (rgb m c) (i 0) (i 1) (i 2) := by
  funext i
  obtain ⟨b, n, L, rfl⟩ := ix_z i
  have hn := n.isLt
  have e1 : (⟨(4351 - n.val) / 64, by omega⟩ : Fin 68) = ⟨67 - n.val / 64, by omega⟩ := Fin.ext (by dsimp only; omega)
  have e2 : (⟨(4351 - n.val) % 64, by omega⟩ : Fin 64).rev = ⟨n.val % 64, by omega⟩ := Fin.ext (by rw [Fin.val_rev]; dsimp only; omega)
  rw [out72, e1, yB, e2]
  rfl

end Cert.ReferenceIdeal.Hand

end
-- ==== Proof.InA.lean ====
/-
The input projection: a row is normalized by its root mean square, scaled and shifted, and multiplied with the weights.
-/
module

public import Idealize.ShloMosaic.Lib.Pointwise

@[expose] public section

noncomputable section

open Idealize.ShloMosaic

namespace Cert.InProj

/-- One entry of a normalized, scaled and shifted row. -/
def nrm (x g sc sh : Fin 1024 → EReal) (k : Fin 1024) : EReal :=
  x k * Ideal.rsqrt (Ideal.div (∑ i, x i * x i) (Ideal.ofBits .f32 0x44800000#32) + Ideal.ofBits .f32 0x358637BD#32) * g k
    * (1 + sc k) + sh k

/-- The row of the tables that a position reads: its batch's, and the last one in the context. -/
def row (b : Fin 4) (n : Fin 4352) : Fin 5 := if n.val < 4096 then ⟨b.val, by omega⟩ else 4

/-- One product: position `n` of batch `b` with column `j` of the weights. -/
def prod (x : Fin 4 → Fin 4352 → Fin 1024 → EReal) (g : Fin 1024 → EReal) (sc sh : Fin 5 → Fin 1024 → EReal)
    (w : Fin 1024 → Fin 4128 → EReal) (b : Fin 4) (n : Fin 4352) (j : Fin 4128) : EReal :=
  ∑ k, nrm (x b n) g (sc (row b n)) (sh (row b n)) k * w k j

/-- The columns of the first result. -/
def c0 (j : Fin 1280) : Fin 4128 := ⟨j.val, by omega⟩
/-- The columns of the second. -/
def c1 (j : Fin 1024) : Fin 4128 := ⟨1280 + j.val, by omega⟩
/-- The columns of the third. -/
def c2 (j : Fin 768) : Fin 4128 := ⟨2320 + j.val, by omega⟩
/-- The columns of the fourth. -/
def c3 (j : Fin 1024) : Fin 4128 := ⟨3088 + j.val, by omega⟩
/-- A gate column of the fifth. -/
def c4 (j : Fin 32) : Fin 4128 := if j.val < 16 then ⟨2304 + j.val, by omega⟩ else ⟨4096 + j.val, by omega⟩

/-- The fifth result: 32 gate columns, and zeros. -/
def gate (f : Fin 4128 → EReal) (j : Fin 128) : EReal := if h : j.val < 32 then f (c4 ⟨j.val, h⟩) else 0

/-- The columns as the kernel orders them: the four groups without their gates, the gates, and zeros. -/
def perm (f : Fin 4128 → EReal) (j : Fin 4224) : EReal :=
  if h : j.val < 1280 then f ⟨j.val, by omega⟩
  else if h : j.val - 1280 < 1024 then f ⟨1280 + (j.val - 1280), by omega⟩
  else if h : j.val - 1280 - 1024 < 768 then f ⟨2320 + (j.val - 1280 - 1024), by omega⟩
  else if h : j.val - 1280 - 1024 - 768 < 1024 then f ⟨3088 + (j.val - 1280 - 1024 - 768), by omega⟩
  else if h : j.val - 1280 - 1024 - 768 - 1024 < 16 then f ⟨2304 + (j.val - 1280 - 1024 - 768 - 1024), by omega⟩
  else if h : j.val - 1280 - 1024 - 768 - 1024 - 16 < 16 then f ⟨4112 + (j.val - 1280 - 1024 - 768 - 1024 - 16), by omega⟩
  else 0

theorem perm0 (f : Fin 4128 → EReal) (j : Fin 1280) : perm f ⟨j.val, by omega⟩ = f (c0 j) := by
  unfold perm
  rw [dif_pos (show j.val < 1280 from j.isLt)]
  rfl
theorem perm1 (f : Fin 4128 → EReal) (j : Fin 1024) : perm f ⟨1280 + j.val, by omega⟩ = f (c1 j) := by
  unfold perm; dsimp only
  rw [dif_neg (by omega), dif_pos (by omega)]
  exact congrArg f (Fin.ext (by simp only [c1]; omega))
theorem perm2 (f : Fin 4128 → EReal) (j : Fin 768) : perm f ⟨2304 + j.val, by omega⟩ = f (c2 j) := by
  unfold perm; dsimp only
  rw [dif_neg (by omega), dif_neg (by omega), dif_pos (by omega)]
  exact congrArg f (Fin.ext (by simp only [c2]; omega))
theorem perm3 (f : Fin 4128 → EReal) (j : Fin 1024) : perm f ⟨3072 + j.val, by omega⟩ = f (c3 j) := by
  unfold perm; dsimp only
  rw [dif_neg (by omega), dif_neg (by omega), dif_neg (by omega), dif_pos (by omega)]
  exact congrArg f (Fin.ext (by simp only [c3]; omega))
theorem perm4 (f : Fin 4128 → EReal) (j : Fin 128) : perm f ⟨4096 + j.val, by omega⟩ = gate f j := by
  unfold perm gate; dsimp only
  rw [dif_neg (by omega), dif_neg (by omega), dif_neg (by omega), dif_neg (by omega)]
  split
  · rw [dif_pos (by omega)]
    exact congrArg f (Fin.ext (by simp only [c4]; rw [if_pos (by omega)]; dsimp only; omega))
  · split
    · rw [dif_pos (by omega)]
      exact congrArg f (Fin.ext (by simp only [c4]; rw [if_neg (by omega)]; dsimp only; omega))
    · rw [dif_neg (by omega)]

/-- A row against the gate columns and the zeros. -/
theorem gate_sum (x : Fin 1024 → EReal) (w : Fin 1024 → Fin 4128 → EReal) (j : Fin 128) :
    ∑ k, x k * gate (w k) j = gate (fun j => ∑ k, x k * w k j) j := by
  unfold gate
  split
  · rfl
  · simp only [mul_zero, Finset.sum_const_zero]

end Cert.InProj
-- ==== Proof.InB.lean ====
module

public import proofs.«01_k».proof.Defs
public import proofs.«01_k».proof.Proof.Gen.Kernel2Ideal.Frame
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim
public import Idealize.ShloMosaic.Lib.StableHlo.RunRead
public import proofs.«01_k».proof.Proof.InA

@[expose] public section

set_option maxRecDepth 16384

noncomputable section

open Idealize.ShloMosaic Idealize.ShloMosaic.TcCoe Idealize.SL.Sem
open Idealize.ShloMosaic.Pipeline (Dat)

namespace Cert.Kernel2Ideal.Hand
open Cert.Kernel2Ideal Cert.Kernel2Ideal.Gen Cert.InProj

theorem hz3 : (![0, 0, 0] : Fin 3 → Nat) = fun _ => 0 := funext fun a => by fin_cases a <;> rfl

/-- The normalized rows of a block. -/
theorem p5 (v0 : Vec Ideal S1x256x1024 .f32) (v2 : Vec Ideal S1x1024 .f32) (v4 v6 : Vec Ideal S1x1x1024 .f32) (r : Fin 256) (k : Fin 1024) :
    k0_pay5 v0 v2 v4 v6 (ix2 r k) = nrm (fun k => v0 (ix3 0 r k)) (fun k => v2 (ix2 0 k)) (fun k => v4 (ix3 0 0 k)) (fun k => v6 (ix3 0 0 k)) k := by
  pointwise [k0_pay5]
  rfl

theorem p1 (h : FVec Ideal S256x1024 .bf16) (w : Vec Ideal S1024x1024 .bf16) (r : Fin 256) (j : Fin 1024) :
    k0_pay1 h w (ix3 0 r j) = ∑ k, h (ix2 r k) * w (ix2 k j) := by
  pointwise [k0_pay1]
theorem p2 (h : FVec Ideal S256x1024 .bf16) (w : Vec Ideal S1024x768 .bf16) (r : Fin 256) (j : Fin 768) :
    k0_pay2 h w (ix3 0 r j) = ∑ k, h (ix2 r k) * w (ix2 k j) := by
  pointwise [k0_pay2]
theorem p3 (h : FVec Ideal S256x1024 .bf16) (w : Vec Ideal S1024x1024 .bf16) (r : Fin 256) (j : Fin 1024) :
    k0_pay3 h w (ix3 0 r j) = ∑ k, h (ix2 r k) * w (ix2 k j) := by
  pointwise [k0_pay3]
theorem p4 (h : FVec Ideal S256x1024 .bf16) (w : Vec Ideal S1024x128 .bf16) (r : Fin 256) (j : Fin 128) :
    k0_pay4 h w (ix3 0 r j) = ∑ k, h (ix2 r k) * w (ix2 k j) := by
  pointwise [k0_pay4]
theorem p6 (v0 : Vec Ideal S1x256x1024 .f32) (v2 : Vec Ideal S1x1024 .f32) (v4 v6 : Vec Ideal S1x1x1024 .f32) (w : Vec Ideal S1024x1280 .bf16) (r : Fin 256) (j : Fin 1280) :
    k0_pay6 v0 v2 v4 v6 w (ix3 0 r j) = ∑ k, k0_pay5 v0 v2 v4 v6 (ix2 r k) * w (ix2 k j) := by
  pointwise [k0_pay6]

theorem idx : ∀ t : Fin cfg0.N, win0_0.index t = ![t.val / 17, t.val % 17, 0] ∧ win0_1.index t = ![0, 0]
    ∧ win0_2.index t = ![if t.val % 17 = 16 then 4 else t.val / 17, 0, 0] ∧ win0_3.index t = ![if t.val % 17 = 16 then 4 else t.val / 17, 0, 0]
    ∧ win0_4.index t = ![0, 0]
    ∧ win0_5.index t = ![t.val / 17, t.val % 17, 0] ∧ win0_6.index t = ![t.val / 17, t.val % 17, 0] ∧ win0_7.index t = ![t.val / 17, t.val % 17, 0]
    ∧ win0_8.index t = ![t.val / 17, t.val % 17, 0] ∧ win0_9.index t = ![t.val / 17, t.val % 17, 0] :=
  (by decide +kernel : ∀ t : Fin grid0.N, _)

variable (m : (ℓ : Loc nD τ sig) → Buf (Elt Ideal) ℓ) (c : Dev nD)

abbrev gx (b : Fin 4) (n : Fin 4352) (k : Fin 1024) : EReal := (m ((c : Thread nD τ).loc main_arg0) : Vec Ideal S4x4352x1024 .f32) (ix3 b n k)
abbrev gg (k : Fin 1024) : EReal := (m ((c : Thread nD τ).loc main_arg1) : Vec Ideal S1024 .f32) (ix1 k)
abbrev gsc (b : Fin 5) (k : Fin 1024) : EReal := (m ((c : Thread nD τ).loc main_arg2) : Vec Ideal S5x1x1024 .f32) (ix3 b 0 k)
abbrev gsh (b : Fin 5) (k : Fin 1024) : EReal := (m ((c : Thread nD τ).loc main_arg3) : Vec Ideal S5x1x1024 .f32) (ix3 b 0 k)
abbrev gw (k : Fin 1024) (j : Fin 4128) : EReal := (m ((c : Thread nD τ).loc main_arg4) : Vec Ideal S1024x4128 .f32) (ix2 k j)

/-- The gain row, as the call finds it. -/
abbrev A9 : Vec Ideal S1x1024 .f32 := V m c main_v9
/-- The weights, as the call finds them. -/
abbrev A8 : Vec Ideal S1024x4224 .bf16 := V m c main_v8
abbrev I0 (t : Fin cfg0.N) : Vec Ideal S1x256x1024 .f32 := iblk m c 0 t
abbrev I1 (t : Fin cfg0.N) : Vec Ideal S1x1024 .f32 := iblk m c 1 t
abbrev I2 (t : Fin cfg0.N) : Vec Ideal S1x1x1024 .f32 := iblk m c 2 t
abbrev I3 (t : Fin cfg0.N) : Vec Ideal S1x1x1024 .f32 := iblk m c 3 t
abbrev I4 (t : Fin cfg0.N) : Vec Ideal S1024x4224 .bf16 := iblk m c 4 t

theorem v9 (k : Fin 1024) : A9 m c (ix2 0 k) = gg m c k := by
  unfold A9 V; simp only [hostOps0]; after_reads_simp; (try dsimp only [Matrix.cons_val]); (try after_reads_simp); pointwise []
theorem v8 (k : Fin 1024) (j : Fin 4224) : A8 m c (ix2 k j) = perm (gw m c k) j := by
  unfold A8 V; simp only [hostOps0]; after_results_simp; (try dsimp only [Matrix.cons_val]); pointwise []; (try after_results_simp); pointwise []
  rfl

/-- The batch of a grid point. -/
def bt (t : Fin cfg0.N) : Fin 4 := ⟨t.val / 17, by have := t.isLt; have : cfg0.N = 68 := N_0; omega⟩
/-- A position of a grid point's block. -/
def nt (t : Fin cfg0.N) (r : Fin 256) : Fin 4352 := ⟨256 * (t.val % 17) + r.val, by omega⟩

theorem row_nt (t : Fin cfg0.N) (r : Fin 256) : (if t.val % 17 = 16 then 4 else t.val / 17) = (row (bt t) (nt t r)).val := by
  unfold row bt nt
  dsimp only
  split
  · rw [if_neg (by omega)]; rfl
  · rw [if_pos (by omega)]

theorem b0 (t : Fin cfg0.N) (r : Fin 256) (k : Fin 1024) : I0 m c t (ix3 0 r k) = gx m c (bt t) (nt t r) k := by
  unfold I0 iblk; blk_point [idx t, bt, nt]
theorem b1 (t : Fin cfg0.N) (k : Fin 1024) : I1 m c t (ix2 0 k) = A9 m c (ix2 0 k) := by
  unfold I1 iblk; blk_point [idx t]
theorem b2 (t : Fin cfg0.N) (r : Fin 256) (k : Fin 1024) : I2 m c t (ix3 0 0 k) = gsc m c (row (bt t) (nt t r)) k := by
  unfold I2 iblk; blk_point [idx t]
  exact row_nt t r
theorem b3 (t : Fin cfg0.N) (r : Fin 256) (k : Fin 1024) : I3 m c t (ix3 0 0 k) = gsh m c (row (bt t) (nt t r)) k := by
  unfold I3 iblk; blk_point [idx t]
  exact row_nt t r
theorem b4 (t : Fin cfg0.N) (k : Fin 1024) (j : Fin 4224) : I4 m c t (ix2 k j) = perm (gw m c k) j := by
  refine Eq.trans ?_ (v8 m c k j)
  unfold I4 iblk; blk_point [idx t]

/-- The normalized row of a position. -/
abbrev xr (b : Fin 4) (n : Fin 4352) (k : Fin 1024) : EReal :=
  nrm (gx m c b n) (gg m c) (gsc m c (row b n)) (gsh m c (row b n)) k

theorem hz2 : (![0, 0] : Fin 2 → Nat) = fun _ => 0 := funext fun a => by fin_cases a <;> rfl

theorem h_at (t : Fin cfg0.N) (r : Fin 256) (k : Fin 1024) :
    k0_pay5 (View.ld (I0 m c t) r0_0) (View.ld (I1 m c t) r0_1) (View.ld (I2 m c t) r0_2) (View.ld (I3 m c t) r0_2) (ix2 r k)
      = xr m c (bt t) (nt t r) k := by
  have e0 : ∀ k, View.ld (I0 m c t) r0_0 (ix3 0 r k) = gx m c (bt t) (nt t r) k := fun k => by
    rw [View.ld_unit_zero hz3]; exact b0 m c t r k
  have e1 : ∀ k, View.ld (I1 m c t) r0_1 (ix2 0 k) = gg m c k := fun k => by
    rw [View.ld_unit_zero hz2]; exact (b1 m c t k).trans (v9 m c k)
  have e2 : ∀ k, View.ld (I2 m c t) r0_2 (ix3 0 0 k) = gsc m c (row (bt t) (nt t r)) k := fun k => by
    rw [View.ld_unit_zero hz3]; exact b2 m c t r k
  have e3 : ∀ k, View.ld (I3 m c t) r0_2 (ix3 0 0 k) = gsh m c (row (bt t) (nt t r)) k := fun k => by
    rw [View.ld_unit_zero hz3]; exact b3 m c t r k
  rw [p5]
  simp only [e0, e1, e2, e3]

/-- The weights' columns that one product reads. -/
theorem w3 (t : Fin cfg0.N) (k : Fin 1024) (j : Fin 1280) : View.ld (I4 m c t) r0_3 (ix2 k j) = gw m c k (c0 j) := by
  refine Eq.trans ?_ ((b4 m c t k _).trans (perm0 (gw m c k) j))
  refine congrArg (I4 m c t) (funext fun a => Fin.ext ?_)
  match a with
  | ⟨0, _⟩ => exact (Rect.idx_unit_val _ _ _ _ _).trans (show 0 + k.val = k.val by omega)
  | ⟨1, _⟩ => exact (Rect.idx_unit_val _ _ _ _ _).trans (show 0 + j.val = j.val by omega)
theorem w5 (t : Fin cfg0.N) (k : Fin 1024) (j : Fin 1024) : View.ld (I4 m c t) r0_5 (ix2 k j) = gw m c k (c1 j) := by
  refine Eq.trans ?_ ((b4 m c t k _).trans (perm1 (gw m c k) j))
  refine congrArg (I4 m c t) (funext fun a => Fin.ext ?_)
  match a with
  | ⟨0, _⟩ => exact (Rect.idx_unit_val _ _ _ _ _).trans (show 0 + k.val = k.val by omega)
  | ⟨1, _⟩ => exact (Rect.idx_unit_val _ _ _ _ _).trans (show 1280 + j.val = 1280 + j.val by omega)
theorem w6 (t : Fin cfg0.N) (k : Fin 1024) (j : Fin 768) : View.ld (I4 m c t) r0_6 (ix2 k j) = gw m c k (c2 j) := by
  refine Eq.trans ?_ ((b4 m c t k _).trans (perm2 (gw m c k) j))
  refine congrArg (I4 m c t) (funext fun a => Fin.ext ?_)
  match a with
  | ⟨0, _⟩ => exact (Rect.idx_unit_val _ _ _ _ _).trans (show 0 + k.val = k.val by omega)
  | ⟨1, _⟩ => exact (Rect.idx_unit_val _ _ _ _ _).trans (show 2304 + j.val = 2304 + j.val by omega)
theorem w8 (t : Fin cfg0.N) (k : Fin 1024) (j : Fin 1024) : View.ld (I4 m c t) r0_8 (ix2 k j) = gw m c k (c3 j) := by
  refine Eq.trans ?_ ((b4 m c t k _).trans (perm3 (gw m c k) j))
  refine congrArg (I4 m c t) (funext fun a => Fin.ext ?_)
  match a with
  | ⟨0, _⟩ => exact (Rect.idx_unit_val _ _ _ _ _).trans (show 0 + k.val = k.val by omega)
  | ⟨1, _⟩ => exact (Rect.idx_unit_val _ _ _ _ _).trans (show 3072 + j.val = 3072 + j.val by omega)
theorem w9 (t : Fin cfg0.N) (k : Fin 1024) (j : Fin 128) : View.ld (I4 m c t) r0_9 (ix2 k j) = gate (gw m c k) j := by
  refine Eq.trans ?_ ((b4 m c t k _).trans (perm4 (gw m c k) j))
  refine congrArg (I4 m c t) (funext fun a => Fin.ext ?_)
  match a with
  | ⟨0, _⟩ => exact (Rect.idx_unit_val _ _ _ _ _).trans (show 0 + k.val = k.val by omega)
  | ⟨1, _⟩ => exact (Rect.idx_unit_val _ _ _ _ _).trans (show 4096 + j.val = 4096 + j.val by omega)

/-- Every product of the kernel's arguments. -/
abbrev pr (b : Fin 4) (n : Fin 4352) (j : Fin 4128) : EReal := prod (gx m c) (gg m c) (gsc m c) (gsh m c) (gw m c) b n j

/-! What each output's block holds. -/

theorem o5 (t : Fin cfg0.N) (r : Fin 256) (j : Fin 1280) :
    out0_5 (I0 m c t) (I1 m c t) (I2 m c t) (I3 m c t) (I4 m c t) (ix3 0 r j) = pr m c (bt t) (nt t r) (c0 j) := by
  unfold_out out0_5
  rw [View.canon_unit_zero hz3, p6]
  exact Finset.sum_congr rfl fun k _ => by rw [h_at, w3]
theorem o6 (t : Fin cfg0.N) (r : Fin 256) (j : Fin 1024) :
    out0_6 (I0 m c t) (I1 m c t) (I2 m c t) (I3 m c t) (I4 m c t) (ix3 0 r j) = pr m c (bt t) (nt t r) (c1 j) := by
  unfold_out out0_6
  rw [View.canon_unit_zero hz3, p1]
  exact Finset.sum_congr rfl fun k _ => by rw [h_at, w5]
theorem o7 (t : Fin cfg0.N) (r : Fin 256) (j : Fin 768) :
    out0_7 (I0 m c t) (I1 m c t) (I2 m c t) (I3 m c t) (I4 m c t) (ix3 0 r j) = pr m c (bt t) (nt t r) (c2 j) := by
  unfold_out out0_7
  rw [View.canon_unit_zero hz3, p2]
  exact Finset.sum_congr rfl fun k _ => by rw [h_at, w6]
theorem o8 (t : Fin cfg0.N) (r : Fin 256) (j : Fin 1024) :
    out0_8 (I0 m c t) (I1 m c t) (I2 m c t) (I3 m c t) (I4 m c t) (ix3 0 r j) = pr m c (bt t) (nt t r) (c3 j) := by
  unfold_out out0_8
  rw [View.canon_unit_zero hz3, p3]
  exact Finset.sum_congr rfl fun k _ => by rw [h_at, w8]
theorem o9 (t : Fin cfg0.N) (r : Fin 256) (j : Fin 128) :
    out0_9 (I0 m c t) (I1 m c t) (I2 m c t) (I3 m c t) (I4 m c t) (ix3 0 r j) = gate (pr m c (bt t) (nt t r)) j := by
  unfold_out out0_9
  rw [View.canon_unit_zero hz3, p4]
  refine Eq.trans ?_ (gate_sum (xr m c (bt t) (nt t r)) (gw m c) j)
  exact Finset.sum_congr rfl fun k _ => by rw [h_at, w9]

theorem ix_y {n : ℕ} (y : (⟨3, ![1, 256, n]⟩ : Shape).Idx) : ∃ (r : Fin 256) (L : Fin n), y = ix3 0 r L :=
  ⟨y 1, y 2, by funext k; match k with | 0 => exact Subsingleton.elim (α := Fin 1) _ _ | 1 => rfl | 2 => rfl⟩

/-! What each result array holds after the run. -/

theorem arr5 : (dats m 0 c).arrAt 5 cfg0.N =
    (fun i : S4x4352x1280.Idx => pr m c (i 0) (i 1) (c0 (i 2)) : Vec Ideal S4x4352x1280 .f32) := by
  refine (dats m 0 c).arrAt_eq_of_covers 5 _ (by decide +kernel) fun t hf y => ?_
  blk_simp
  rw [after0_5]
  obtain ⟨r, L, rfl⟩ : ∃ (r : Fin 256) (L : Fin 1280), y = (ix3 0 r L : S1x256x1280.Idx) := ix_y y
  have e : (win0_5.blk t).view.emb (ix3 0 r L : S1x256x1280.Idx) = (ix3 (bt t) (nt t r) L : S4x4352x1280.Idx) := by
    blk_ext [idx t, bt, nt]
  rw [e]
  exact o5 m c t r L

theorem arr6 : (dats m 0 c).arrAt 6 cfg0.N =
    (fun i : S4x4352x1024.Idx => pr m c (i 0) (i 1) (c1 (i 2)) : Vec Ideal S4x4352x1024 .f32) := by
  refine (dats m 0 c).arrAt_eq_of_covers 6 _ (by decide +kernel) fun t hf y => ?_
  blk_simp
  rw [after0_6]
  obtain ⟨r, L, rfl⟩ : ∃ (r : Fin 256) (L : Fin 1024), y = (ix3 0 r L : S1x256x1024.Idx) := ix_y y
  have e : (win0_6.blk t).view.emb (ix3 0 r L : S1x256x1024.Idx) = (ix3 (bt t) (nt t r) L : S4x4352x1024.Idx) := by
    blk_ext [idx t, bt, nt]
  rw [e]
  exact o6 m c t r L

theorem arr7 : (dats m 0 c).arrAt 7 cfg0.N =
    (fun i : S4x4352x768.Idx => pr m c (i 0) (i 1) (c2 (i 2)) : Vec Ideal S4x4352x768 .f32) := by
  refine (dats m 0 c).arrAt_eq_of_covers 7 _ (by decide +kernel) fun t hf y => ?_
  blk_simp
  rw [after0_7]
  obtain ⟨r, L, rfl⟩ : ∃ (r : Fin 256) (L : Fin 768), y = (ix3 0 r L : S1x256x768.Idx) := ix_y y
  have e : (win0_7.blk t).view.emb (ix3 0 r L : S1x256x768.Idx) = (ix3 (bt t) (nt t r) L : S4x4352x768.Idx) := by
    blk_ext [idx t, bt, nt]
  rw [e]
  exact o7 m c t r L

theorem arr8 : (dats m 0 c).arrAt 8 cfg0.N =
    (fun i : S4x4352x1024.Idx => pr m c (i 0) (i 1) (c3 (i 2)) : Vec Ideal S4x4352x1024 .f32) := by
  refine (dats m 0 c).arrAt_eq_of_covers 8 _ (by decide +kernel) fun t hf y => ?_
  blk_simp
  rw [after0_8]
  obtain ⟨r, L, rfl⟩ : ∃ (r : Fin 256) (L : Fin 1024), y = (ix3 0 r L : S1x256x1024.Idx) := ix_y y
  have e : (win0_8.blk t).view.emb (ix3 0 r L : S1x256x1024.Idx) = (ix3 (bt t) (nt t r) L : S4x4352x1024.Idx) := by
    blk_ext [idx t, bt, nt]
  rw [e]
  exact o8 m c t r L

theorem arr9 : (dats m 0 c).arrAt 9 cfg0.N =
    (fun i : S4x4352x128.Idx => gate (pr m c (i 0) (i 1)) (i 2) : Vec Ideal S4x4352x128 .f32) := by
  refine (dats m 0 c).arrAt_eq_of_covers 9 _ (by decide +kernel) fun t hf y => ?_
  blk_simp
  rw [after0_9]
  obtain ⟨r, L, rfl⟩ : ∃ (r : Fin 256) (L : Fin 128), y = (ix3 0 r L : S1x256x128.Idx) := ix_y y
  have e : (win0_9.blk t).view.emb (ix3 0 r L : S1x256x128.Idx) = (ix3 (bt t) (nt t r) L : S4x4352x128.Idx) := by
    blk_ext [idx t, bt, nt]
  rw [e]
  exact o9 m c t r L

end Cert.Kernel2Ideal.Hand
-- ==== Proof.InC.lean ====
module

public import proofs.«01_k».proof.Defs
public import proofs.«01_k».proof.Proof.Gen.Reference2Ideal.Run
public import Idealize.ShloMosaic.Lib.Pointwise
public import Idealize.ShloMosaic.Lib.Tactic
public import Idealize.ShloMosaic.Lib.Claim
public import proofs.«01_k».proof.Proof.InA

@[expose] public section

set_option maxRecDepth 16384

noncomputable section

open Idealize.ShloMosaic Idealize.ShloMosaic.TcCoe Idealize.SL.Sem Idealize.ShloMosaic.StableHlo

namespace Cert.Reference2Ideal.Hand
open Cert.Reference2Ideal Cert.Reference2Ideal.Gen Cert.Reference2Ideal.Value Cert.InProj

variable (X : FVec Ideal S4x4352x1024 .f32) (G : FVec Ideal S1024 .f32) (SC SH : FVec Ideal S5x1x1024 .f32) (W : FVec Ideal S1024x4128 .f32)

/-- The normalized rows of the latent tokens. -/
def hL : FVec Ideal S4x4096x1024 .f32 := (addf (mulf (mulf (mulf (extractStridedSlice S4x4096x1024 ![0, 0, 0] X slices_S4x4352x1024_S4x4096x1024_0_0_0) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (extractStridedSlice S4x4096x1024 ![0, 0, 0] X slices_S4x4352x1024_S4x4096x1024_0_0_0) (extractStridedSlice S4x4096x1024 ![0, 0, 0] X slices_S4x4352x1024_S4x4096x1024_0_0_0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 G))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 0] SC slices_S5x1x1024_S4x1x1024_0_0_0)))) (broadcastInDim S4x4096x1024 ![0, 1, 2] bcast_S4x1x1024_S4x4096x1024_0_1_2 (extractStridedSlice S4x1x1024 ![0, 0, 0] SH slices_S5x1x1024_S4x1x1024_0_0_0)))
/-- The normalized rows of the context tokens. -/
def hC : FVec Ideal S4x256x1024 .f32 := (addf (mulf (mulf (mulf (extractStridedSlice S4x256x1024 ![0, 4096, 0] X slices_S4x4352x1024_S4x256x1024_0_4096_0) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (extractStridedSlice S4x256x1024 ![0, 4096, 0] X slices_S4x4352x1024_S4x256x1024_0_4096_0) (extractStridedSlice S4x256x1024 ![0, 4096, 0] X slices_S4x4352x1024_S4x256x1024_0_4096_0)) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 G))) (broadcastInDim S4x256x1024 ![0, 1, 2] bcast_S1x1x1024_S4x256x1024_0_1_2 (broadcastInDim S1x1x1024 ![1, 2] bcast_S1x1024_S1x1x1024_1_2 (addf (broadcastInDim S1x1024 ![] bcast_S_S1x1024 (constant S_ .f32 0x3F800000#32)) (shapeCast _ (extractStridedSlice S1x1x1024 ![4, 0, 0] SC slices_S5x1x1024_S1x1x1024_4_0_0) shapeCasts_S1x1x1024_S1x1024))))) (broadcastInDim S4x256x1024 ![0, 1, 2] bcast_S1x1x1024_S4x256x1024_0_1_2 (broadcastInDim S1x1x1024 ![1, 2] bcast_S1x1024_S1x1x1024_1_2 (shapeCast _ (extractStridedSlice S1x1x1024 ![4, 0, 0] SH slices_S5x1x1024_S1x1x1024_4_0_0) shapeCasts_S1x1x1024_S1x1024))))
/-- All products. -/
def zz : FVec Ideal S4x4352x4128 .f32 :=
  Host.dotGeneral dot_S4x4352x1024_S1024x4128_S4x4352x4128_2_0_01_1_n_n none (concatenate S4x4352x1024 1 [⟨S4x4096x1024, hL X G SC SH⟩, ⟨S4x256x1024, hC X G SC SH⟩] concatenates_S4x4096x1024_S4x256x1024_S4x4352x1024_d1) W

theorem hL_at (b : Fin 4) (n : Fin 4096) (k : Fin 1024) : hL X G SC SH (ix3 b n k)
    = nrm (fun k => X (ix3 b ⟨n.val, by omega⟩ k)) (fun k => G (ix1 k)) (fun k => SC (ix3 ⟨b.val, by omega⟩ 0 k)) (fun k => SH (ix3 ⟨b.val, by omega⟩ 0 k)) k := by
  unfold hL
  pointwise []
  rfl
theorem hC_at (b : Fin 4) (n : Fin 256) (k : Fin 1024) : hC X G SC SH (ix3 b n k)
    = nrm (fun k => X (ix3 b ⟨4096 + n.val, by omega⟩ k)) (fun k => G (ix1 k)) (fun k => SC (ix3 4 0 k)) (fun k => SH (ix3 4 0 k)) k := by
  unfold hC
  pointwise []
  rfl

theorem h_at (b : Fin 4) (n : Fin 4352) (k : Fin 1024) :
    concatenate S4x4352x1024 1 [⟨S4x4096x1024, hL X G SC SH⟩, ⟨S4x256x1024, hC X G SC SH⟩] concatenates_S4x4096x1024_S4x256x1024_S4x4352x1024_d1 (ix3 b n k)
      = nrm (fun k => X (ix3 b n k)) (fun k => G (ix1 k)) (fun k => SC (ix3 (row b n) 0 k)) (fun k => SH (ix3 (row b n) 0 k)) k := by
  pointwise []
  unfold row
  split
  · exact hL_at X G SC SH b _ k
  · rename_i h
    refine (hC_at X G SC SH b _ k).trans ?_
    have e : (⟨4096 + (n.val - 4096), by omega⟩ : Fin 4352) = n := Fin.ext (by have := Nat.not_lt.mp h; dsimp only; omega)
    dsimp only
    rw [e]

theorem zz_at (b : Fin 4) (n : Fin 4352) (j : Fin 4128) : zz X G SC SH W (ix3 b n j)
    = prod (fun b n k => X (ix3 b n k)) (fun k => G (ix1 k)) (fun b k => SC (ix3 b 0 k)) (fun b k => SH (ix3 b 0 k)) (fun k j => W (ix2 k j)) b n j := by
  unfold zz
  generalize hH : concatenate S4x4352x1024 1 [⟨S4x4096x1024, hL X G SC SH⟩, ⟨S4x256x1024, hC X G SC SH⟩] concatenates_S4x4096x1024_S4x256x1024_S4x4352x1024_d1 = H
  pointwise []
  unfold prod
  exact Finset.sum_congr rfl fun k _ => by rw [← hH, h_at]

variable (m : (ℓ : Loc nD τ sig) → Buf (Elt Ideal) ℓ) (c : Dev nD)

/-- All products of the reference's arguments. -/
abbrev zr : FVec Ideal S4x4352x4128 .f32 := zz (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))

theorem r0 (b : Fin 4) (n : Fin 4352) (j : Fin 1280) (Z : FVec Ideal S4x4352x4128 .f32) :
    extractStridedSlice S4x4352x1280 ![0, 0, 0] Z slices_S4x4352x4128_S4x4352x1280_0_0_0 (ix3 b n j) = Z (ix3 b n (c0 j)) := by
  pointwise []
  rfl
theorem r1 (b : Fin 4) (n : Fin 4352) (j : Fin 1024) (Z : FVec Ideal S4x4352x4128 .f32) :
    extractStridedSlice S4x4352x1024 ![0, 0, 0] (extractStridedSlice S4x4352x1040 ![0, 0, 1280] Z slices_S4x4352x4128_S4x4352x1040_0_0_1280) slices_S4x4352x1040_S4x4352x1024_0_0_0 (ix3 b n j) = Z (ix3 b n (c1 j)) := by
  pointwise []
  rfl
theorem r2 (b : Fin 4) (n : Fin 4352) (j : Fin 768) (Z : FVec Ideal S4x4352x4128 .f32) :
    extractStridedSlice S4x4352x768 ![0, 0, 2320] Z slices_S4x4352x4128_S4x4352x768_0_0_2320 (ix3 b n j) = Z (ix3 b n (c2 j)) := by
  pointwise []
  rfl
theorem r3 (b : Fin 4) (n : Fin 4352) (j : Fin 1024) (Z : FVec Ideal S4x4352x4128 .f32) :
    extractStridedSlice S4x4352x1024 ![0, 0, 0] (extractStridedSlice S4x4352x1040 ![0, 0, 3088] Z slices_S4x4352x4128_S4x4352x1040_0_0_3088) slices_S4x4352x1040_S4x4352x1024_0_0_0 (ix3 b n j) = Z (ix3 b n (c3 j)) := by
  pointwise []
  rfl
theorem r4 (b : Fin 4) (n : Fin 4352) (j : Fin 128) (Z : FVec Ideal S4x4352x4128 .f32) :
    pad S4x4352x128 ![0, 0, 0] ![0, 0, 96] ![0, 0, 0] (concatenate S4x4352x32 2 [⟨S4x4352x16, (extractStridedSlice S4x4352x16 ![0, 0, 1024] (extractStridedSlice S4x4352x1040 ![0, 0, 1280] Z slices_S4x4352x4128_S4x4352x1040_0_0_1280) slices_S4x4352x1040_S4x4352x16_0_0_1024)⟩, ⟨S4x4352x16, (extractStridedSlice S4x4352x16 ![0, 0, 1024] (extractStridedSlice S4x4352x1040 ![0, 0, 3088] Z slices_S4x4352x4128_S4x4352x1040_0_0_3088) slices_S4x4352x1040_S4x4352x16_0_0_1024)⟩] concatenates_S4x4352x16_S4x4352x16_S4x4352x32_d2) (sitofp .f32 (constantI S_ 32 0#32)) pads_S4x4352x32_S4x4352x128_000_000_0960 h_S_ (ix3 b n j) = gate (fun j => Z (ix3 b n j)) j := by
  pointwise []
  unfold gate
  split
  · dsimp only [c4]
    split
    · exact congrArg (fun l => Z (ix3 b n l)) (Fin.ext (by dsimp only; omega))
    · exact congrArg (fun l => Z (ix3 b n l)) (Fin.ext (by dsimp only; omega))
  · simp [FloatOps.sitofp]

end Cert.Reference2Ideal.Hand
-- ==== Proof.ExA.lean ====
/-
  The expert feed-forward kernel's body at one grid point, in its three cases: the expert of the block differs from the
  block before's (its weights are converted into the two scratch buffers), it is the same (the scratch buffers are read as
  they stand), or the block is past the last used one (zeros are stored).
-/
module

public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Ex

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer reads its contents, and a store over the whole of it leaves the stored value. -/
theorem rd_whole {κ : Kind} {sp : Space} {S : Shape} {e : EltTy} (v : View sig κ sp S e) {off : Fin S.rank → ℕ} (hz : off = fun _ => 0)
    (inb : ∀ a, off a + S.size a ≤ S.size a) (g : v.ty.Contents (Elt F)) :
    v.readAt (Elt F) (Rect.unit off S.size inb).toLoadRect g = v.read (Elt F) g := by
  rw [View.readAt_eq_ld, View.ld_unit_zero hz]
theorem wr_whole {κ : Kind} {sp : Space} {S : Shape} {e : EltTy} (v : View sig κ sp S e) {off : Fin S.rank → ℕ} (hz : off = fun _ => 0)
    (inb : ∀ a, off a + S.size a ≤ S.size a) (g : v.ty.Contents (Elt F)) (w : S.Idx → Elt F e) :
    v.read (Elt F) (v.writes (Elt F) g [⟨Rect.unit off S.size inb, w⟩]) = w :=
  funext fun y => View.read_writes_cons_unit_of_mem v g inb w [] y y hz fun a => (Nat.zero_add _).symm
theorem cov_whole {κ : Kind} {sp : Space} {S : Shape} {e : EltTy} (v : View sig κ sp S e) {off : Fin S.rank → ℕ} (hz : off = fun _ => 0)
    (inb inb' : ∀ a, off a + S.size a ≤ S.size a) (w : S.Idx → Elt F e) :
    v.readCov [⟨Rect.unit off S.size inb, w⟩] (Rect.unit off S.size inb').toLoadRect = w :=
  (rd_whole v hz inb' _).trans (wr_whole v hz inb _ w)

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide

/-- The expert of block `i`, of the block before it, and the number of used blocks, as the body loads them. -/
abbrev eCur (pf : pre0.Contents (Elt F)) (i : grid0.Coords) : BitVec 32 :=
  pf.at 0 (Rect.unit (s := S304) (k0_off1 i) S1.size (k0_off1_inb i)) numel1_S1
abbrev ePrev (pf : pre0.Contents (Elt F)) (i : grid0.Coords) : BitVec 32 :=
  pf.at 0 (Rect.unit (s := S304) (k0_off2 i) S1.size (k0_off2_inb i)) numel1_S1
abbrev nUse (pf : pre0.Contents (Elt F)) : BitVec 32 :=
  pf.at 1 (Rect.unit (s := S1) ![0] S1.size inb_S1_S1_0) numel1_S1

/-- The first branch's condition: the block is used, and it is the first or its expert is a new one. -/
abbrev fresh (pf : pre0.Contents (Elt F)) (i : grid0.Coords) : BitVec 1 :=
  Scalar.cmpi .ne (Scalar.extui (Scalar.andi
    (Scalar.ori (Scalar.cmpi .eq (BitVec.ofNat 32 (i 0).val) 0#32) (Scalar.cmpi .ne (eCur pf i) (ePrev pf i)))
    (Scalar.cmpi .slt (BitVec.ofNat 32 (i 0).val) (nUse pf)))) 0#32

/-- The two tables as the body is handed them. -/
abbrev tM0 : Memref sig .tc .smem S304 .i32 := Memref.whole main_arg0
abbrev tM1 : Memref sig .tc .smem S1 .i32 := Memref.whole main_arg1

/-- A table's buffer held at half the full share. -/
abbrev tPt (c : Dev nD) {S : Shape} {e : EltTy} (M : Memref sig .tc .smem S e) (f : Buf (Elt F) (M.view.loc (c : Thread nD τ))) : sProp 𝕄 :=
  M.view.loc (c : Thread nD τ) ↦{fullShare.right} f

/-- The tables' halves, table by table. -/
theorem tables_eq (pf : pre0.Contents (Elt F)) (c : Dev nD) :
    (Pipeline.ΦT pre0 pf c : sProp 𝕄) = iprop(tPt c tM0 (pf 0) ∗ tPt c tM1 (pf 1)) := by
  unfold Pipeline.ΦT Pipeline.prefHeld
  rw [show (Finset.univ : Finset (Fin 2)) = insert (0 : Fin 2) {(1 : Fin 2)} from by decide, bigSep_insert (by decide), bigSep_singleton]
  rfl

variable (pf : pre0.Contents (Elt F)) (c : Dev nD) (i : grid0.Coords)
  (arg3 : Memref sig .tc .vmem S256x1024 .f32) (harg3 : arg3.IsWhole)
  (arg4 : Memref sig .tc .vmem S1x1x1024x2048 .f32) (harg4 : arg4.IsWhole)
  (arg5 : Memref sig .tc .vmem S1x1x2048 .f32) (harg5 : arg5.IsWhole)
  (arg6 : Memref sig .tc .vmem S1x1x1024x1024 .f32) (harg6 : arg6.IsWhole)
  (arg7 : Memref sig .tc .vmem S1x1x1024 .f32) (harg7 : arg7.IsWhole)
  (arg8 : Memref sig .tc .vmem S256x1024 .f32) (harg8 : arg8.IsWhole)
  (arg9 : Memref sig .tc .vmem S1024x2048 .bf16) (harg9 : arg9.IsWhole)
  (arg10 : Memref sig .tc .vmem S1024x1024 .bf16) (harg10 : arg10.IsWhole)
  (x : Vec F S256x1024 .f32) (w1 : Vec F S1x1x1024x2048 .f32) (b1 : Vec F S1x1x2048 .f32)
  (w2 : Vec F S1x1x1024x1024 .f32) (b2 : Vec F S1x1x1024 .f32)

set_option maxHeartbeats 1000000 in
theorem run_fresh (h1 : fresh pf i = 1#1) (h2 : k0_cond2 i (nUse pf) = 1#1) (h3 : ¬ k0_cond3 i (nUse pf) = 1#1)
    (E : Set ℕ) (K : PUnit → sProp 𝕄) :
    iprop(tPt c tM0 (pf 0) ∗ tPt c tM1 (pf 1)
        ∗ owns (c : Thread nD τ) arg3 fullShare x ∗ owns (c : Thread nD τ) arg4 fullShare w1 ∗ owns (c : Thread nD τ) arg5 fullShare b1 ∗ owns (c : Thread nD τ) arg6 fullShare w2 ∗ owns (c : Thread nD τ) arg7 fullShare b2
        ∗ (∃ d, owns (c : Thread nD τ) arg8 fullShare d) ∗ (∃ d, owns (c : Thread nD τ) arg9 fullShare d) ∗ (∃ d, owns (c : Thread nD τ) arg10 fullShare d)
        ∗ (iprop(tPt c tM0 (pf 0) ∗ tPt c tM1 (pf 1)
            ∗ owns (c : Thread nD τ) arg3 fullShare x ∗ owns (c : Thread nD τ) arg4 fullShare w1 ∗ owns (c : Thread nD τ) arg5 fullShare b1 ∗ owns (c : Thread nD τ) arg6 fullShare w2 ∗ owns (c : Thread nD τ) arg7 fullShare b2
            ∗ owns (c : Thread nD τ) arg8 fullShare (k0_pay3 x (k0_pay1 w1) b1 (k0_pay2 w2) b2) ∗ owns (c : Thread nD τ) arg9 fullShare (k0_pay1 w1) ∗ owns (c : Thread nD τ) arg10 fullShare (k0_pay2 w2)) -∗ K ⟨⟩))
      ⊢ wp frame (wpE (defs₀ (F := F)) Variants.none c none) E
          (cc0_expert_ffn i tM0 (Memref.isWhole_whole _) tM1 (Memref.isWhole_whole _) arg3 harg3 arg4 harg4 arg5 harg5 arg6 harg6
            arg7 harg7 arg8 harg8 arg9 harg9 arg10 harg10) K := by
  simp only [cc0_expert_ffn_eq_skeleton]; unfold cc0_expert_ffn_skel
  unfold owns
  iintro ⟨T0, T1, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg3.eq_unread hf3; obtain rfl := harg4.eq_unread hf4; obtain rfl := harg5.eq_unread hf5; obtain rfl := harg6.eq_unread hf6; obtain rfl := harg7.eq_unread hf7
  sl_exec (disch := first | sl_exact h1 | sl_exact h2 | sl_exact h3)
  sl_step
  iapply Hk
  isplitl [T0]; · iexact T0
  isplitl [T1]; · iexact T1
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr; rotate_left
    · iexact H8
    ipureintro
    unfold run_fresh.sl.v21 run_fresh.sl.v43 run_fresh.sl.H9_1 run_fresh.sl.H10_1
    rw [wr_whole _ z2, cov_whole _ z2, cov_whole _ z2, rd_whole _ z2, rd_whole _ z4, rd_whole _ z3, rd_whole _ z4, rd_whole _ z3, hf3, hf4, hf5, hf6, hf7]
  isplitl [H9]
  · iexists _; isplitr; rotate_left
    · iexact H9
    ipureintro
    unfold run_fresh.sl.H9_1; rw [wr_whole _ z2, rd_whole _ z4, hf4]
  iexists _; isplitr; rotate_left
  · iexact H10
  ipureintro
  unfold run_fresh.sl.H10_1; rw [wr_whole _ z2, rd_whole _ z4, hf6]

set_option maxHeartbeats 1000000 in
theorem run_kept (s1 : Vec F S1024x2048 .bf16) (s2 : Vec F S1024x1024 .bf16) (h1 : ¬ fresh pf i = 1#1) (h2 : k0_cond2 i (nUse pf) = 1#1) (h3 : ¬ k0_cond3 i (nUse pf) = 1#1)
    (E : Set ℕ) (K : PUnit → sProp 𝕄) :
    iprop(tPt c tM0 (pf 0) ∗ tPt c tM1 (pf 1)
        ∗ owns (c : Thread nD τ) arg3 fullShare x ∗ owns (c : Thread nD τ) arg4 fullShare w1 ∗ owns (c : Thread nD τ) arg5 fullShare b1 ∗ owns (c : Thread nD τ) arg6 fullShare w2 ∗ owns (c : Thread nD τ) arg7 fullShare b2
        ∗ (∃ d, owns (c : Thread nD τ) arg8 fullShare d) ∗ owns (c : Thread nD τ) arg9 fullShare s1 ∗ owns (c : Thread nD τ) arg10 fullShare s2
        ∗ (iprop(tPt c tM0 (pf 0) ∗ tPt c tM1 (pf 1)
            ∗ owns (c : Thread nD τ) arg3 fullShare x ∗ owns (c : Thread nD τ) arg4 fullShare w1 ∗ owns (c : Thread nD τ) arg5 fullShare b1 ∗ owns (c : Thread nD τ) arg6 fullShare w2 ∗ owns (c : Thread nD τ) arg7 fullShare b2
            ∗ owns (c : Thread nD τ) arg8 fullShare (k0_pay3 x s1 b1 s2 b2) ∗ owns (c : Thread nD τ) arg9 fullShare s1 ∗ owns (c : Thread nD τ) arg10 fullShare s2) -∗ K ⟨⟩))
      ⊢ wp frame (wpE (defs₀ (F := F)) Variants.none c none) E
          (cc0_expert_ffn i tM0 (Memref.isWhole_whole _) tM1 (Memref.isWhole_whole _) arg3 harg3 arg4 harg4 arg5 harg5 arg6 harg6
            arg7 harg7 arg8 harg8 arg9 harg9 arg10 harg10) K := by
  simp only [cc0_expert_ffn_eq_skeleton]; unfold cc0_expert_ffn_skel
  unfold owns
  iintro ⟨T0, T1, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10
  sl_exec (disch := first | sl_exact h1 | sl_exact h2 | sl_exact h3)
  sl_step
  iapply Hk
  isplitl [T0]; · iexact T0
  isplitl [T1]; · iexact T1
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr; rotate_left
    · iexact H8
    ipureintro
    rw [wr_whole _ z2, rd_whole _ z2, rd_whole _ z2, rd_whole _ z3, rd_whole _ z2, rd_whole _ z3, hf3, hf5, hf7, hf9, hf10]
  isplitl [H9]; · iexists _; isplitr; · ipureintro; exact hf9
                  iexact H9
  iexists _; isplitr; · ipureintro; exact hf10
  iexact H10

set_option maxHeartbeats 1000000 in
theorem run_past (s1 : Vec F S1024x2048 .bf16) (s2 : Vec F S1024x1024 .bf16) (h1 : ¬ fresh pf i = 1#1) (h2 : ¬ k0_cond2 i (nUse pf) = 1#1) (h3 : k0_cond3 i (nUse pf) = 1#1)
    (E : Set ℕ) (K : PUnit → sProp 𝕄) :
    iprop(tPt c tM0 (pf 0) ∗ tPt c tM1 (pf 1)
        ∗ owns (c : Thread nD τ) arg3 fullShare x ∗ owns (c : Thread nD τ) arg4 fullShare w1 ∗ owns (c : Thread nD τ) arg5 fullShare b1 ∗ owns (c : Thread nD τ) arg6 fullShare w2 ∗ owns (c : Thread nD τ) arg7 fullShare b2
        ∗ (∃ d, owns (c : Thread nD τ) arg8 fullShare d) ∗ owns (c : Thread nD τ) arg9 fullShare s1 ∗ owns (c : Thread nD τ) arg10 fullShare s2
        ∗ (iprop(tPt c tM0 (pf 0) ∗ tPt c tM1 (pf 1)
            ∗ owns (c : Thread nD τ) arg3 fullShare x ∗ owns (c : Thread nD τ) arg4 fullShare w1 ∗ owns (c : Thread nD τ) arg5 fullShare b1 ∗ owns (c : Thread nD τ) arg6 fullShare w2 ∗ owns (c : Thread nD τ) arg7 fullShare b2
            ∗ owns (c : Thread nD τ) arg8 fullShare k0_pay4 ∗ owns (c : Thread nD τ) arg9 fullShare s1 ∗ owns (c : Thread nD τ) arg10 fullShare s2) -∗ K ⟨⟩))
      ⊢ wp frame (wpE (defs₀ (F := F)) Variants.none c none) E
          (cc0_expert_ffn i tM0 (Memref.isWhole_whole _) tM1 (Memref.isWhole_whole _) arg3 harg3 arg4 harg4 arg5 harg5 arg6 harg6
            arg7 harg7 arg8 harg8 arg9 harg9 arg10 harg10) K := by
  simp only [cc0_expert_ffn_eq_skeleton]; unfold cc0_expert_ffn_skel
  unfold owns
  iintro ⟨T0, T1, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10
  sl_exec (disch := first | sl_exact h1 | sl_exact h2 | sl_exact h3)
  sl_step
  iapply Hk
  isplitl [T0]; · iexact T0
  isplitl [T1]; · iexact T1
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr; rotate_left
    · iexact H8
    ipureintro
    rw [wr_whole _ z2]
  isplitl [H9]; · iexists _; isplitr; · ipureintro; exact hf9
                  iexact H9
  iexists _; isplitr; · ipureintro; exact hf10
  iexact H10

end Cert.Proof.Ex
-- ==== Proof.ExB.lean ====
/-
  The expert feed-forward kernel's run: what its windows hold at each grid point, the two scratch buffers carried from
  point to point (they hold the converted weights of the block's expert after every used block), and the launch.
-/
module

public import proofs.«01_k».proof.Proof.ExA
public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Ex

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region is entered: after the two reshapes of the biases. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-- The tables' contents as the region finds them, and the region pinned at them. -/
def tbl : pre0.Contents (Elt F) := fun j => V m (0 : Dev nD) (pre0.ref j)
theorem V_pre (c : Dev nD) (j : Fin 2) : V m c (pre0.ref j) = tbl m j := by
  obtain rfl : c = 0 := Subsingleton.elim _ _
  rfl

variable (hO : ok0 (tbl m))

abbrev adm (hO : ok0 (tbl m)) : (pcfg0 (F := F)).Adm := ⟨tbl m, hO⟩
abbrev cfgM (hO : ok0 (tbl m)) := cfg0 (adm m hO)

/-- Window `w`'s block at point `t`. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev bx (c : Dev nD) (t : Fin (cfgM m hO).N) : Vec F S256x1024 .f32 := iblk m hO c 0 t
abbrev bw1 (c : Dev nD) (t : Fin (cfgM m hO).N) : Vec F S1x1x1024x2048 .f32 := iblk m hO c 1 t
abbrev bb1 (c : Dev nD) (t : Fin (cfgM m hO).N) : Vec F S1x1x2048 .f32 := iblk m hO c 2 t
abbrev bw2 (c : Dev nD) (t : Fin (cfgM m hO).N) : Vec F S1x1x1024x1024 .f32 := iblk m hO c 3 t
abbrev bb2 (c : Dev nD) (t : Fin (cfgM m hO).N) : Vec F S1x1x1024 .f32 := iblk m hO c 4 t

/-- Whether the block at point `t` is used. -/
abbrev used (t : Fin (cfgM m hO).N) : Prop := k0_cond2 (grid0.coords t) (nUse (tbl m)) = 1#1

/-- What the kernel leaves in the result's block at point `t`. -/
def outAt (c : Dev nD) (t : Fin (cfgM m hO).N) : Vec F S256x1024 .f32 :=
  if used m hO t then k0_pay3 (bx m hO c t) (k0_pay1 (bw1 m hO c t)) (bb1 m hO c t) (k0_pay2 (bw2 m hO c t)) (bb2 m hO c t) else k0_pay4

abbrev sM0 : Memref sig .tc .vmem S1024x2048 .bf16 := Memref.whole cc0_scratch0
abbrev sM1 : Memref sig .tc .vmem S1024x1024 .bf16 := Memref.whole cc0_scratch1

theorem PhiA0_eq (c : Dev nD) :
    (Pipeline.ΦA spec0 c : sProp 𝕄)
      = iprop(iprop((∃ d, owns (c : Thread nD τ) sM0 fullShare d) ∗ (∃ d, owns (c : Thread nD τ) sM1 fullShare d)) ∗ (∃ r, prngReg c r)) := by
  unfold Pipeline.ΦA; rw [scopedRest0_eq]; simp only [sM0, sM1, owns_whole]; try rfl

/-- The scratch contents a point may rely on: the converted weights of the block before, when that block is used. -/
def Carries (c : Dev nD) (n : ℕ) (s1 : Vec F S1024x2048 .bf16) (s2 : Vec F S1024x1024 .bf16) : Prop :=
  ∀ t : Fin (cfgM m hO).N, n = t.val + 1 → used m hO t → s1 = k0_pay1 (bw1 m hO c t) ∧ s2 = k0_pay2 (bw2 m hO c t)

/-- The invariant before position `n`. -/
def PhiS (c : Dev nD) (n : ℕ) : sProp 𝕄 :=
  iprop(∃ s1 s2, ⌜Carries m hO c n s1 s2⌝ ∗ owns (c : Thread nD τ) sM0 fullShare s1 ∗ owns (c : Thread nD τ) sM1 fullShare s2
    ∗ (∃ r, prngReg c r) ∗ tPt c tM0 (tbl m 0) ∗ tPt c tM1 (tbl m 1))

abbrev aM (hO : ok0 (tbl m)) : (p : Fin 1) → (pcfgs (F := F) p).Adm := fun _ => adm m hO

/-- The proof data. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val
  q _ := fullShare
  owed _ := 0

theorem A_eq (c : Dev nD) (w : Fin (cfgM m hO).W) : (dats m hO 0 c).A w = V m c (Pipeline.arrRef spec0 w) := by
  dsimp only [dats]

theorem after_0 (c : Dev nD) (t : Fin (cfgM m hO).N) : (dats m hO 0 c).after 0 t = iblk m hO c 0 t := rfl
theorem after_1 (c : Dev nD) (t : Fin (cfgM m hO).N) : (dats m hO 0 c).after 1 t = iblk m hO c 1 t := rfl
theorem after_2 (c : Dev nD) (t : Fin (cfgM m hO).N) : (dats m hO 0 c).after 2 t = iblk m hO c 2 t := rfl
theorem after_3 (c : Dev nD) (t : Fin (cfgM m hO).N) : (dats m hO 0 c).after 3 t = iblk m hO c 3 t := rfl
theorem after_4 (c : Dev nD) (t : Fin (cfgM m hO).N) : (dats m hO 0 c).after 4 t = iblk m hO c 4 t := rfl
theorem after_5 (c : Dev nD) (t : Fin (cfgM m hO).N) : (dats m hO 0 c).after 5 t = outAt m hO c t := by
  dsimp only [dats]; rfl

theorem before_0 (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- Two points whose block of a window is the same one read the same block. -/
theorem iblk_congr_1 (c : Dev nD) (t t' : Fin (cfgM m hO).N) (h : ((cfgM m hO).win 1).index t = ((cfgM m hO).win 1).index t') : bw1 m hO c t = bw1 m hO c t' := by
  have d : ((cfgM m hO).win 1).block.Idx → Elt F ((cfgM m hO).win 1).elt := bw1 m hO c t
  have e := (dats m hO 0 c).fetched_congr (1 : Fin 6) h rfl d
  unfold Dat.fetched Dat.blockOf at e
  rw [A_eq] at e
  exact e
theorem iblk_congr_3 (c : Dev nD) (t t' : Fin (cfgM m hO).N) (h : ((cfgM m hO).win 3).index t = ((cfgM m hO).win 3).index t') : bw2 m hO c t = bw2 m hO c t' := by
  have d : ((cfgM m hO).win 3).block.Idx → Elt F ((cfgM m hO).win 3).elt := bw2 m hO c t
  have e := (dats m hO 0 c).fetched_congr (3 : Fin 6) h rfl d
  unfold Dat.fetched Dat.blockOf at e
  rw [A_eq] at e
  exact e

/-- The branch conditions, in plain form. -/
theorem bit_ne (b : BitVec 1) : Scalar.cmpi .ne (Scalar.extui b : BitVec 32) 0#32 = 1#1 ↔ b = 1#1 := by
  revert b; decide
theorem bit_or_and (a b d : BitVec 1) : Scalar.andi (Scalar.ori a b) d = 1#1 ↔ (a = 1#1 ∨ b = 1#1) ∧ d = 1#1 := by
  revert a b d; decide
theorem bit_not (b : BitVec 1) : Scalar.xori b 1#1 = 1#1 ↔ ¬ b = 1#1 := by
  revert b; decide
theorem cond2_iff (i : grid0.Coords) (n : BitVec 32) : k0_cond2 i n = 1#1 ↔ (BitVec.ofNat 32 (i 0).val).slt n = true := by
  unfold k0_cond2
  rw [bit_ne]
  show IntOp.cmpi _ _ _ = 1#1 ↔ _
  unfold IntOp.cmpi
  cases h : (BitVec.ofNat 32 (i 0).val).slt n <;> simp [h]
theorem cond3_iff (i : grid0.Coords) (n : BitVec 32) : k0_cond3 i n = 1#1 ↔ ¬ k0_cond2 i n = 1#1 := by
  unfold k0_cond3 k0_cond2
  rw [bit_ne, bit_ne, bit_not]

/-- The first branch is taken at a used block that is the first or has another expert than the one before. -/
theorem fresh_iff (pf : pre0.Contents (Elt F)) (i : grid0.Coords) :
    fresh pf i = 1#1 ↔ ((i 0).val = 0 ∨ eCur pf i ≠ ePrev pf i) ∧ k0_cond2 i (nUse pf) = 1#1 := by
  have h0 : Scalar.cmpi .eq (BitVec.ofNat 32 (i 0).val) 0#32 = 1#1 ↔ (i 0).val = 0 := by
    have hi : (i 0).val < 304 := (i 0).isLt
    show IntOp.cmpi _ _ _ = 1#1 ↔ _
    unfold IntOp.cmpi
    constructor
    · intro h
      by_contra hne
      have : ¬ BitVec.ofNat 32 (i 0).val = 0#32 := fun h' => hne (by
        have := congrArg BitVec.toNat h'
        simp only [BitVec.toNat_ofNat] at this
        omega)
      change BitVec.ofBool (BitVec.ofNat 32 (i 0).val == 0#32) = 1#1 at h
      rw [beq_eq_false_iff_ne.mpr this] at h
      exact absurd h (by decide)
    · intro h; simp [h]
  have h1 : Scalar.cmpi .ne (eCur pf i) (ePrev pf i) = 1#1 ↔ eCur pf i ≠ ePrev pf i := by
    show IntOp.cmpi _ _ _ = 1#1 ↔ _
    unfold IntOp.cmpi
    by_cases h : eCur pf i = ePrev pf i
    · simp [h]
    · exact ⟨fun _ => h, fun _ => by rw [bne_iff_ne.mpr h]; rfl⟩
  have h2 : Scalar.cmpi .slt (BitVec.ofNat 32 (i 0).val) (nUse pf) = 1#1 ↔ k0_cond2 i (nUse pf) = 1#1 := by
    unfold k0_cond2
    rw [bit_ne]
  unfold fresh
  rw [bit_ne, bit_or_and, h0, h1, h2]

theorem coords_val (t : Fin grid0.N) : (grid0.coords t 0).val = t.val := by
  have ht : t.val < 304 := lt_of_lt_of_eq t.isLt N_0
  have := Pipeline.Grid.coords_val t (0 : Fin 1) (show grid0.stride 0 = 1 by decide) (show grid0.bound 0 = 304 from rfl)
  omega

/-- A used block that is not the first: the block before is used too, and its expert is the one the body compares with. -/
theorem prev_used (n : BitVec 32) (i i' : grid0.Coords) (h : (i 0).val = (i' 0).val + 1) (hu : k0_cond2 i n = 1#1) : k0_cond2 i' n = 1#1 := by
  rw [cond2_iff] at hu ⊢
  have hi : (i 0).val < 304 := (i 0).isLt
  have e1 : (BitVec.ofNat 32 (i 0).val).toInt = (i 0).val := by
    rw [BitVec.toInt_eq_toNat_of_lt (by rw [BitVec.toNat_ofNat]; omega), BitVec.toNat_ofNat]; omega
  have e2 : (BitVec.ofNat 32 (i' 0).val).toInt = (i' 0).val := by
    rw [BitVec.toInt_eq_toNat_of_lt (by rw [BitVec.toNat_ofNat]; omega), BitVec.toNat_ofNat]; omega
  rw [BitVec.slt_iff_toInt_lt] at hu ⊢
  omega

theorem off_prev (i i' : grid0.Coords) (h : (i 0).val = (i' 0).val + 1) : k0_off2 i = k0_off1 i' := by
  have key : ∀ k : Fin 303, (Scalar.maxsi (Scalar.subi (BitVec.ofNat 32 (k.val + 1)) 1#32) 0#32).toNat = (BitVec.ofNat 32 k.val).toNat := by decide
  have hi : (i 0).val < 304 := (i 0).isLt
  unfold k0_off2 k0_off1
  have := key ⟨(i' 0).val, by omega⟩
  funext a
  fin_cases a
  show (Scalar.maxsi (Scalar.subi (BitVec.ofNat 32 (i 0).val) 1#32) 0#32).toNat = (BitVec.ofNat 32 (i' 0).val).toNat
  rw [h]
  exact this

theorem at_congr (pf : pre0.Contents (Elt F)) (off off' : Fin 1 → ℕ) (h : ∀ a, off a + S1.size a ≤ S304.size a) (h' : ∀ a, off' a + S1.size a ≤ S304.size a)
    (e : off = off') : pf.at 0 (Rect.unit (s := S304) off S1.size h) numel1_S1 = pf.at 0 (Rect.unit (s := S304) off' S1.size h') numel1_S1 := by
  subst e; rfl

theorem ePrev_eq (pf : pre0.Contents (Elt F)) (i i' : grid0.Coords) (h : (i 0).val = (i' 0).val + 1) : ePrev pf i = eCur pf i' :=
  at_congr pf _ _ _ _ (off_prev i i' h)

/-- The weights' block is the one of the block's expert. -/
theorem index_1 (t : Fin (cfgM m hO).N) : ((cfgM m hO).win 1).index t = ![0, (eCur (tbl m) (grid0.coords t)).toNat, 0, 0] := rfl
theorem index_3 (t : Fin (cfgM m hO).N) : ((cfgM m hO).win 3).index t = ![0, (eCur (tbl m) (grid0.coords t)).toNat, 0, 0] := rfl

/-- A used block whose expert is the one before's finds its weights in the scratch buffers. -/
theorem carried (c : Dev nD) (t : Fin (cfgM m hO).N) (s1 : Vec F S1024x2048 .bf16) (s2 : Vec F S1024x1024 .bf16)
    (hc : Carries m hO c t.val s1 s2) (hu : used m hO t) (hf : ¬ fresh (tbl m) (grid0.coords t) = 1#1) :
    s1 = k0_pay1 (bw1 m hO c t) ∧ s2 = k0_pay2 (bw2 m hO c t) := by
  rw [fresh_iff] at hf
  have hne : (grid0.coords t 0).val ≠ 0 := fun h => hf ⟨.inl h, hu⟩
  have he : eCur (tbl m) (grid0.coords t) = ePrev (tbl m) (grid0.coords t) := by
    by_contra h; exact hf ⟨.inr h, hu⟩
  rw [coords_val t] at hne
  have hlt : t.val - 1 < (cfgM m hO).N := by have := t.isLt; omega
  have hs : (grid0.coords t 0).val = (grid0.coords (⟨t.val - 1, hlt⟩ : Fin (cfgM m hO).N) 0).val + 1 := by
    rw [coords_val t, coords_val (⟨t.val - 1, hlt⟩ : Fin grid0.N)]; show t.val = t.val - 1 + 1; omega
  rw [ePrev_eq _ _ _ hs] at he
  obtain ⟨h1, h2⟩ := hc ⟨t.val - 1, hlt⟩ (by show t.val = t.val - 1 + 1; omega) (prev_used _ _ _ hs hu)
  rw [iblk_congr_1 m hO c t ⟨t.val - 1, hlt⟩ (by rw [index_1, index_1, he]), iblk_congr_3 m hO c t ⟨t.val - 1, hlt⟩ (by rw [index_3, index_3, he])]
  exact ⟨h1, h2⟩

/-- The body at point `t` on the point's staging buffers. -/
abbrev bodyAt (t : Fin (cfgM m hO).N) : Prog (TpuEff nD τ sig (Elt F) Λ₀ .tc) PUnit :=
  cc0_expert_ffn (grid0.coords t) tM0 (Memref.isWhole_whole _) tM1 (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))
    sM0 (Memref.isWhole_whole _) sM1 (Memref.isWhole_whole _)

abbrev ms0 (t : Fin (cfgM m hO).N) : Memref sig .tc .vmem S256x1024 .f32 := spec0_0.stage ((cfgM m hO).slots t 0)
abbrev ms1 (t : Fin (cfgM m hO).N) : Memref sig .tc .vmem S1x1x1024x2048 .f32 := spec0_1.stage ((cfgM m hO).slots t 1)
abbrev ms2 (t : Fin (cfgM m hO).N) : Memref sig .tc .vmem S1x1x2048 .f32 := spec0_2.stage ((cfgM m hO).slots t 2)
abbrev ms3 (t : Fin (cfgM m hO).N) : Memref sig .tc .vmem S1x1x1024x1024 .f32 := spec0_3.stage ((cfgM m hO).slots t 3)
abbrev ms4 (t : Fin (cfgM m hO).N) : Memref sig .tc .vmem S1x1x1024 .f32 := spec0_4.stage ((cfgM m hO).slots t 4)
abbrev ms5 (t : Fin (cfgM m hO).N) : Memref sig .tc .vmem S256x1024 .f32 := spec0_5.stage ((cfgM m hO).slots t 5)

def bodyPre (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

def bodyPost (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

set_option maxHeartbeats 1600000 in
theorem sound_body (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    after_0, after_1, after_2, after_3, after_4, after_5]
  rw [show (dats m hO 0 c).Φ t.succ = PhiS m hO c (t.val + 1) from rfl, show (dats m hO 0 c).Φ t.castSucc = PhiS m hO c t.val from rfl]
  unfold PhiS outAt
  iintro ⟨⟨%s1, %s2, %hc, HS0, HS1, Hg, T0, T1⟩, Ho, ⟨%d0, H0⟩, ⟨%d1, H1⟩, ⟨%d2, H2⟩, ⟨%d3, H3⟩, ⟨%d4, H4⟩, ⟨%d5, H5⟩⟩
  by_cases hu : used m hO t
  · rw [if_pos hu]
    have h3 : ¬ k0_cond3 (grid0.coords t) (nUse (tbl m)) = 1#1 := fun h => (cond3_iff _ _).mp h hu
    by_cases hf : fresh (tbl m) (grid0.coords t) = 1#1
    · iapply (run_fresh (tbl m) c (grid0.coords t) _ _ _ _ _ _ _ _ _ _ _ _ _ _ _ _ (bx m hO c t) (bw1 m hO c t) (bb1 m hO c t) (bw2 m hO c t) (bb2 m hO c t) hf hu h3 Set.univ _)
      isplitl [T0]; · iexact T0
      isplitl [T1]; · iexact T1
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨T0, T1, H0, H1, H2, H3, H4, H5, HS0, HS1⟩
      isplitl [HS0 HS1 Hg T0 T1]
      · iexists _, _; isplitr; rotate_left
        · isplitl [HS0]; · iexact HS0
          isplitl [HS1]; · iexact HS1
          isplitl [Hg]; · iexact Hg
          isplitl [T0]; · iexact T0
          iexact T1
        ipureintro
        intro t' ht' _; obtain rfl : t' = t := Fin.ext (by omega); exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5
    · obtain ⟨rfl, rfl⟩ := carried m hO c t s1 s2 hc hu hf
      iapply (run_kept (tbl m) c (grid0.coords t) _ _ _ _ _ _ _ _ _ _ _ _ _ _ _ _ (bx m hO c t) (bw1 m hO c t) (bb1 m hO c t) (bw2 m hO c t) (bb2 m hO c t) _ _ hf hu h3 Set.univ _)
      isplitl [T0]; · iexact T0
      isplitl [T1]; · iexact T1
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨T0, T1, H0, H1, H2, H3, H4, H5, HS0, HS1⟩
      isplitl [HS0 HS1 Hg T0 T1]
      · iexists _, _; isplitr; rotate_left
        · isplitl [HS0]; · iexact HS0
          isplitl [HS1]; · iexact HS1
          isplitl [Hg]; · iexact Hg
          isplitl [T0]; · iexact T0
          iexact T1
        ipureintro
        intro t' ht' _; obtain rfl : t' = t := Fin.ext (by omega); exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5
  · rw [if_neg hu]
    have hf : ¬ fresh (tbl m) (grid0.coords t) = 1#1 := fun h => hu ((fresh_iff _ _).mp h).2
    iapply (run_past (tbl m) c (grid0.coords t) _ _ _ _ _ _ _ _ _ _ _ _ _ _ _ _ (bx m hO c t) (bw1 m hO c t) (bb1 m hO c t) (bw2 m hO c t) (bb2 m hO c t) s1 s2 hf hu ((cond3_iff _ _).mpr hu) Set.univ _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨T0, T1, H0, H1, H2, H3, H4, H5, HS0, HS1⟩
    isplitl [HS0 HS1 Hg T0 T1]
    · iexists _, _; isplitr; rotate_left
      · isplitl [HS0]; · iexact HS0
        isplitl [HS1]; · iexact HS1
        isplitl [Hg]; · iexact Hg
        isplitl [T0]; · iexact T0
        iexact T1
      ipureintro
      intro t' ht' hu'; obtain rfl : t' = t := Fin.ext (by omega); exact absurd hu' hu
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin (cfgM m hO).N) :
    defs₀ (F := F) .tc (cfgM m hO).body ((cfgM m hO).bodyArgs t ((cfgM m hO).slots t)) = bodyAt m hO t := by
  unfold defs₀; rw [Defs.onTc_tc]

/-- Every point stores the result's block: one of the two last branches is taken. -/
theorem idle_5 (pf : pre0.Contents (Elt F)) (i : grid0.Coords) : idle0 pf 5 i = false := by
  have key : ∀ n : BitVec 32, (!(k0_cond2 i n == 1#1) && !(k0_cond3 i n == 1#1)) = false := fun n => by
    by_cases h : k0_cond2 i n = 1#1
    · rw [h]; rfl
    · rw [(cond3_iff i _).mpr h, Bool.and_eq_false_iff]; right; rfl
  exact key _

theorem body_obligation (c : Dev nD) : BodyObligation (dats (F := F) m hO 0 c) (defs₀ (F := F)) Variants.none () Set.univ := fun t => by
  rw [bigSep_W0, bigSep_W0, defs₀_row]
  refine triple_restated (sound_body m hO c t) rfl .rfl fun _ => ?_
  dsimp only
  rw [idle_5]
  exact .rfl

theorem hin (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq, tables_eq]
  unfold PhiS
  iintro ⟨⟨⟨⟨%d0, HS0⟩, ⟨%d1, HS1⟩⟩, Hg⟩, T0, T1⟩
  iexists d0, d1; isplitr; · ipureintro; intro t ht; omega
  isplitl [HS0]; · iexact HS0
  isplitl [HS1]; · iexact HS1
  isplitl [Hg]; · iexact Hg
  isplitl [T0]; · iexact T0
  iexact T1

theorem hout (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA0_eq]
  unfold PhiS
  iintro ⟨%s1, %s2, -, HS0, HS1, Hg, -, -⟩
  isplitl [HS0 HS1]
  · isplitl [HS0]
    · iexists _; iexact HS0
    iexists _; iexact HS1
  iexact Hg

set_option backward.isDefEq.respectTransparency.types false in
set_option maxHeartbeats 1600000 in
/-- The launch. -/
theorem run_main : θ_run defs (onTc (τ := τ) (main (F := F))) (s₀ m ρ)
    (fun r => (Pipeline.FramePost (Pipeline.pin (pcfgs (F := F)) (aM m hO)) (dats m hO) 0 (V m)) r ∧ r.2.sem = fun _ => 0) :=
  Pipeline.θ_run_frameP_track (Q' := _) (pcfgs (F := F)) (aM m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

end Cert.Proof.Ex
-- ==== Proof.ExC.lean ====
/-
  The tables' precondition read back: every block's expert is one of the 32 and the number of used blocks is between 1
  and 304, so every block the windows name is inside its array. The frames follow.
-/
module

public import proofs.«01_k».proof.Defs
public import proofs.«01_k».proof.Proof.ExB
public import proofs.«01_k».proof.Proof.Gen.Kernel3
public import Idealize.ShloMosaic.Lib.ReduceAll
public import Idealize.ShloMosaic.Lib.Pointwise

@[expose] public section

set_option maxRecDepth 16384

noncomputable section

open Idealize.ShloMosaic Idealize.ShloMosaic.TcCoe

namespace Cert.Pre_tables_in_range

/-- The side conditions of the precondition's operations. -/
theorem facts : Facts := by
  constructor <;> decide

instance : Subsingleton S_.Idx := ⟨fun a b => funext fun i => absurd i.isLt (Nat.not_lt_zero _)⟩

theorem both (a b : BitVec 1) (h : IntOp.andi a b = 1#1) : a = 1#1 ∧ b = 1#1 := by
  revert a b; decide

theorem sge_of (a b : BitVec 32) (h : IntOp.cmpi .sge a b = 1#1) : b.toInt ≤ a.toInt := by
  change BitVec.ofBool (b.sle a) = 1#1 at h
  cases e : b.sle a
  · rw [e] at h; exact absurd h (by decide)
  · exact BitVec.sle_iff_toInt_le.mp e
theorem sle_of (a b : BitVec 32) (h : IntOp.cmpi .sle a b = 1#1) : a.toInt ≤ b.toInt := by
  change BitVec.ofBool (a.sle b) = 1#1 at h
  cases e : a.sle b
  · rw [e] at h; exact absurd h (by decide)
  · exact BitVec.sle_iff_toInt_le.mp e
theorem slt_of (a b : BitVec 32) (h : IntOp.cmpi .slt a b = 1#1) : a.toInt < b.toInt := by
  change BitVec.ofBool (a.slt b) = 1#1 at h
  cases e : a.slt b
  · rw [e] at h; exact absurd h (by decide)
  · exact BitVec.slt_iff_toInt_lt.mp e

/-- The precondition says that every expert is one of the 32 and that between 1 and 304 blocks are used. -/
theorem read [Facts] {F : FTy → Type} [FloatOps F] (a0 : IVec S304 32) (a1 : IVec S1 32) (a2 : FVec F S77824x1024 .f32)
    (a3 : FVec F S2x32x1024x2048 .f32) (a4 : FVec F S32x2048 .f32) (a5 : FVec F S2x32x1024x1024 .f32) (a6 : FVec F S32x1024 .f32)
    (h : fn (F := F) a0 a1 a2 a3 a4 a5 a6 = fun _ => 1#1) :
    (∀ i, 0 ≤ (a0 i).toInt ∧ (a0 i).toInt < 32) ∧ ∀ i, 1 ≤ (a1 i).toInt ∧ (a1 i).toInt ≤ 304 := by
  have h' := congrFun h (fun i => absurd i.isLt (Nat.not_lt_zero _))
  unfold fn at h'
  obtain ⟨h1, h2⟩ := both _ _ h'
  have q1 := Host.reduce_andi_all _ _ _ _ _ h1
  have q2 := Host.reduce_andi_all _ _ _ _ _ h2
  refine ⟨fun i => ?_, fun i => ?_⟩
  · obtain ⟨u, v⟩ := both _ _ (q1 i)
    exact ⟨sge_of _ _ u, slt_of _ _ v⟩
  · obtain ⟨u, v⟩ := both _ _ (q2 i)
    exact ⟨sge_of _ _ u, sle_of _ _ v⟩

end Cert.Pre_tables_in_range

namespace Cert.Proof.Ex

open Cert.Kernel3Ideal Cert.Kernel3Ideal.Gen
open Idealize.SL.Sem

variable {F : FTy → Type} [FloatOps F]

theorem toNat_lt_of (a : BitVec 32) (n : ℕ) (h0 : 0 ≤ a.toInt) (h1 : a.toInt < n) : a.toNat < n := by
  rw [BitVec.toInt_eq_toNat_cond] at h0 h1
  have := a.isLt
  split at h1 <;> omega

/-- What the precondition says of the tables. -/
structure InRange (pf : pre0.Contents (Elt F)) : Prop where
  exp : ∀ i, 0 ≤ ((pf 0 : IVec S304 32) i).toInt ∧ ((pf 0 : IVec S304 32) i).toInt < 32
  use : ∀ i, 1 ≤ ((pf 1 : IVec S1 32) i).toInt ∧ ((pf 1 : IVec S1 32) i).toInt ≤ 304

theorem eCur_lt (pf : pre0.Contents (Elt F)) (h : InRange pf) (i : grid0.Coords) : (eCur pf i).toNat < 32 :=
  toNat_lt_of _ 32 (h.exp _).1 (h.exp _).2

theorem row_lt (pf : pre0.Contents (Elt F)) (h : InRange pf) (i : grid0.Coords) :
    (Scalar.minsi (BitVec.ofNat 32 (i 0).val) (Scalar.subi (nUse pf) 1#32)).toNat < 304 := by
  obtain ⟨h1, h2⟩ : 1 ≤ (nUse pf).toInt ∧ (nUse pf).toInt ≤ 304 := h.use _
  generalize nUse pf = n at h1 h2
  have hi : (i 0).val < 304 := (i 0).isLt
  have hn : n.toNat < 305 := toNat_lt_of _ 305 (by omega) (by omega)
  have hn1 : n.toNat ≠ 0 := fun h0 => by rw [BitVec.toInt_eq_toNat_of_lt (by omega)] at h1; omega
  have e1 : (BitVec.ofNat 32 (i 0).val).toNat = (i 0).val := by rw [BitVec.toNat_ofNat]; omega
  show (if (BitVec.ofNat 32 (i 0).val).slt (n - 1#32) then BitVec.ofNat 32 (i 0).val else n - 1#32).toNat < 304
  split
  · omega
  · rw [BitVec.toNat_sub, show (1#32 : BitVec 32).toNat = 1 from rfl]; omega

/-- Every block the windows name is inside its array. -/
theorem ok_of (pf : pre0.Contents (Elt F)) (h : InRange pf) : ok0 pf := by
  have he := eCur_lt pf h
  have hr := row_lt pf h
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  · have := hr i
    match a with
    | ⟨0, _⟩ => show ((Scalar.minsi (BitVec.ofNat 32 (i 0).val) (Scalar.subi (nUse pf) 1#32)).toNat + 1) * 256 ≤ 77824; omega
    | ⟨1, _⟩ => show (0 + 1) * 1024 ≤ 1024; omega
  · have := he i
    match a with
    | ⟨0, _⟩ => show (0 + 1) * 1 ≤ 2; omega
    | ⟨1, _⟩ => show ((eCur pf i).toNat + 1) * 1 ≤ 32; omega
    | ⟨2, _⟩ => show (0 + 1) * 1024 ≤ 1024; omega
    | ⟨3, _⟩ => show (0 + 1) * 2048 ≤ 2048; omega
  · have := he i
    match a with
    | ⟨0, _⟩ => show ((eCur pf i).toNat + 1) * 1 ≤ 32; omega
    | ⟨1, _⟩ => show (0 + 1) * 1 ≤ 1; omega
    | ⟨2, _⟩ => show (0 + 1) * 2048 ≤ 2048; omega
  · have := he i
    match a with
    | ⟨0, _⟩ => show (0 + 1) * 1 ≤ 2; omega
    | ⟨1, _⟩ => show ((eCur pf i).toNat + 1) * 1 ≤ 32; omega
    | ⟨2, _⟩ => show (0 + 1) * 1024 ≤ 1024; omega
    | ⟨3, _⟩ => show (0 + 1) * 1024 ≤ 1024; omega
  · have := he i
    match a with
    | ⟨0, _⟩ => show ((eCur pf i).toNat + 1) * 1 ≤ 32; omega
    | ⟨1, _⟩ => show (0 + 1) * 1 ≤ 1; omega
    | ⟨2, _⟩ => show (0 + 1) * 1024 ≤ 1024; omega

variable (m : (ℓ : Loc nD τ sig) → Buf (Elt F) ℓ) (ρ : Dev nD → PrngReg)

/-- The precondition, of the kernel's arguments. -/
abbrev Pre (m : (ℓ : Loc nD τ sig) → Buf (Elt F) ℓ) : Prop := ∀ c : Dev nD,
  haveI := Cert.Pre_tables_in_range.facts; Cert.Pre_tables_in_range.fn (F := F) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) = fun _ => 1#1

theorem tbl_0 : (tbl m 0 : IVec S304 32) = m (((0 : Dev nD) : Thread nD τ).loc main_arg0) := V_arg0 m 0
theorem tbl_1 : (tbl m 1 : IVec S1 32) = m (((0 : Dev nD) : Thread nD τ).loc main_arg1) := V_arg1 m 0

theorem inRange (h : Pre m) : InRange (tbl m) := by
  haveI := Cert.Pre_tables_in_range.facts
  obtain ⟨h1, h2⟩ := Cert.Pre_tables_in_range.read _ _ _ _ _ _ _ (h 0)
  exact ⟨fun i => by rw [tbl_0]; exact h1 i, fun i => by rw [tbl_1]; exact h2 i⟩

theorem ne_0 : ∀ w, (spec0 w).arr.view.ref ≠ main_arg0 := by decide
theorem ne_1 : ∀ w, (spec0 w).arr.view.ref ≠ main_arg1 := by decide
theorem ne_4 : ∀ w, (spec0 w).arr.view.ref ≠ main_arg4 := by decide
theorem ne_6 : ∀ w, (spec0 w).arr.view.ref ≠ main_arg6 := by decide

/-- The kernel runs, keeps its arguments, and leaves every counter at zero. -/
theorem frame3 (h : Pre m) : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  let hO := ok_of _ (inRange m h)
  (θ_run defs _ _).mono (fun r hr => ⟨fun c => ⟨
      ((hr.1 c).2 main_arg0 (Pipeline.mem_restRefs_of main_arg0 (by decide) (by exact ne_0))).trans (V_arg0 m c),
      ((hr.1 c).2 main_arg1 (Pipeline.mem_restRefs_of main_arg1 (by decide) (by exact ne_1))).trans (V_arg1 m c),
      ((hr.1 c).1 0).trans (((dats m hO 0 c).arrAt_in 0 rfl _).trans ((A_eq m hO c 0).trans (V_arg2 m c))),
      ((hr.1 c).1 1).trans (((dats m hO 0 c).arrAt_in 1 rfl _).trans ((A_eq m hO c 1).trans (V_arg3 m c))),
      ((hr.1 c).2 main_arg4 (Pipeline.mem_restRefs_of main_arg4 (by decide) (by exact ne_4))).trans (V_arg4 m c),
      ((hr.1 c).1 3).trans (((dats m hO 0 c).arrAt_in 3 rfl _).trans ((A_eq m hO c 3).trans (V_arg5 m c))),
      ((hr.1 c).2 main_arg6 (Pipeline.mem_restRefs_of main_arg6 (by decide) (by exact ne_6))).trans (V_arg6 m c)⟩, hr.2⟩)
    (run_main m ρ hO)

/-- The printed program and the one read over the extended reals have the same text. -/
theorem defs₀_same : (haveI := Cert.Kernel3.Gen.facts; Cert.Kernel3.defs₀ (F := Bits)) = Cert.Kernel3Ideal.defs₀ (F := Bits) := by
  unfold Cert.Kernel3.defs₀ Cert.Kernel3Ideal.defs₀
  refine congrArg Defs.onTc (funext fun l => funext fun a => ?_)
  match l, a with
  | 0, (t, s) => rfl
theorem defs_same : (haveI := Cert.Kernel3.Gen.facts; Cert.Kernel3.defs (F := Bits)) = Cert.Kernel3Ideal.defs (F := Bits) :=
  congrArg (Pipeline.defs (pcfgs (F := Bits))) defs₀_same

theorem frame_kernel3 : Cert.quiescent_Kernel3 (hKernel3 := Cert.Kernel3.Gen.facts) (hPre_tables_in_range := Cert.Pre_tables_in_range.facts) := fun m ρ h => by
  have key := frame3 (F := Bits) m ρ h
  rw [← defs_same] at key
  exact key
theorem frame_kernel3Ideal : Cert.quiescent_Kernel3Ideal (hKernel3Ideal := Cert.Kernel3Ideal.Gen.facts) (hPre_tables_in_range := Cert.Pre_tables_in_range.facts) := fun m ρ h =>
  frame3 (F := Ideal) m ρ h

end Cert.Proof.Ex

end
-- ==== Proof.ExD.lean ====
/-
  The expert feed-forward block as plain sums over the extended reals, and the kernel's payloads read at an index.
-/
module

public import proofs.«01_k».proof.Defs
public import proofs.«01_k».proof.Proof.Gen.Kernel3Ideal
public import proofs.«01_k».proof.Proof.Gen.Kernel3Ideal.Skeleton
public import Idealize.ShloMosaic.Lib.Pointwise
public import Idealize.ShloMosaic.Lib.Tactic

@[expose] public section

set_option maxRecDepth 16384

noncomputable section

open Idealize.ShloMosaic Idealize.ShloMosaic.TcCoe

namespace Cert.Ffn

/-- The clamped gated unit: `(l + 1) · g · σ(1.702 g)` of the clamped gate and the clamped linear half. -/
def glu (g l : EReal) : EReal :=
  (min (Ideal.ofBits .f32 0x40E00000#32) (max (Ideal.ofBits .f32 0xC0E00000#32) l) + 1)
    * min g (Ideal.ofBits .f32 0x40E00000#32)
    * Ideal.logistic (Ideal.ofBits .f32 0x3FD9DB23#32 * min g (Ideal.ofBits .f32 0x40E00000#32))

/-- The hidden row of a token: the two halves of the first product gated. -/
def hid (x : Fin 1024 → EReal) (w1 : Fin 1024 → Fin 2048 → EReal) (b1 : Fin 2048 → EReal) (k : Fin 1024) : EReal :=
  glu ((∑ d, x d * w1 d ⟨k.val, by omega⟩) + b1 ⟨k.val, by omega⟩) ((∑ d, x d * w1 d ⟨1024 + k.val, by omega⟩) + b1 ⟨1024 + k.val, by omega⟩)

/-- The feed-forward row of a token. -/
def ffn (x : Fin 1024 → EReal) (w1 : Fin 1024 → Fin 2048 → EReal) (b1 : Fin 2048 → EReal) (w2 : Fin 1024 → Fin 1024 → EReal) (b2 : Fin 1024 → EReal)
    (j : Fin 1024) : EReal := (∑ k, hid x w1 b1 k * w2 k j) + b2 j

end Cert.Ffn

namespace Cert.Proof.Ex

open Cert.Kernel3Ideal Cert.Kernel3Ideal.Gen Cert.Ffn

theorem pay1_at (w : Vec Ideal S1x1x1024x2048 .f32) (d : Fin 1024) (j : Fin 2048) : k0_pay1 w (ix2 d j) = w (ix4 0 0 d j) := by
  pointwise [k0_pay1]
theorem pay2_at (w : Vec Ideal S1x1x1024x1024 .f32) (d : Fin 1024) (j : Fin 1024) : k0_pay2 w (ix2 d j) = w (ix4 0 0 d j) := by
  pointwise [k0_pay2]
theorem pay4_at (r : Fin 256) (j : Fin 1024) : k0_pay4 (F := Ideal) (ix2 r j) = 0 := by
  pointwise [k0_pay4]
theorem pay3_at (x : Vec Ideal S256x1024 .f32) (w1 : Vec Ideal S1024x2048 .bf16) (b1 : Vec Ideal S1x1x2048 .f32) (w2 : Vec Ideal S1024x1024 .bf16)
    (b2 : Vec Ideal S1x1x1024 .f32) (r : Fin 256) (j : Fin 1024) :
    k0_pay3 x w1 b1 w2 b2 (ix2 r j)
      = ffn (fun d => x (ix2 r d)) (fun d k => w1 (ix2 d k)) (fun k => b1 (ix3 0 0 k)) (fun k j => w2 (ix2 k j)) (fun j => b2 (ix3 0 0 j)) j := by
  pointwise [k0_pay3]
  rfl

end Cert.Proof.Ex

end
-- ==== Proof.ExE.lean ====
/-
  The expert feed-forward kernel's result: row by row, what the blocks hold of the kernel's arguments.
-/
module

public import proofs.«01_k».proof.Defs
public import proofs.«01_k».proof.Proof.ExC
public import proofs.«01_k».proof.Proof.ExD
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim
public import Idealize.ShloMosaic.Lib.StableHlo.RunRead

@[expose] public section

set_option maxRecDepth 16384

noncomputable section

namespace Cert.Proof.Ex

open Cert.Kernel3Ideal Cert.Kernel3Ideal.Gen Cert.Ffn
open Idealize.ShloMosaic Idealize.ShloMosaic.TcCoe
open Idealize.SL.Sem
open Idealize.ShloMosaic.Pipeline (Dat)

variable (m : (ℓ : Loc nD τ sig) → Buf (Elt Ideal) ℓ) (hO : ok0 (tbl m)) (c : Dev nD)

abbrev ax (R : Fin 77824) (d : Fin 1024) : EReal := (m ((c : Thread nD τ).loc main_arg2) : Vec Ideal S77824x1024 .f32) (ix2 R d)
abbrev aw1 (e : Fin 32) (d : Fin 1024) (k : Fin 2048) : EReal := (m ((c : Thread nD τ).loc main_arg3) : Vec Ideal S2x32x1024x2048 .f32) (ix4 0 e d k)
abbrev ab1 (e : Fin 32) (k : Fin 2048) : EReal := (m ((c : Thread nD τ).loc main_arg4) : Vec Ideal S32x2048 .f32) (ix2 e k)
abbrev aw2 (e : Fin 32) (k : Fin 1024) (j : Fin 1024) : EReal := (m ((c : Thread nD τ).loc main_arg5) : Vec Ideal S2x32x1024x1024 .f32) (ix4 0 e k j)
abbrev ab2 (e : Fin 32) (j : Fin 1024) : EReal := (m ((c : Thread nD τ).loc main_arg6) : Vec Ideal S32x1024 .f32) (ix2 e j)

/-- The biases, as the call finds them. -/
theorem v0_at (e : Fin 32) (k : Fin 2048) : (V m c main_v0 : Vec Ideal S32x1x2048 .f32) (ix3 e 0 k) = ab1 m c e k := by
  unfold V; simp only [hostOps0]; after_results_simp; pointwise []
theorem v1_at (e : Fin 32) (k : Fin 1024) : (V m c main_v1 : Vec Ideal S32x1x1024 .f32) (ix3 e 0 k) = ab2 m c e k := by
  unfold V; simp only [hostOps0]; after_results_simp; pointwise []

/-- The row block of the tokens that point `t` reads. -/
abbrev rowOf (t : Fin (cfgM m hO).N) : ℕ := (Scalar.minsi (BitVec.ofNat 32 (grid0.coords t 0).val) (Scalar.subi (nUse (tbl m)) 1#32)).toNat
abbrev expOf (t : Fin (cfgM m hO).N) : ℕ := (eCur (tbl m) (grid0.coords t)).toNat

theorem index_0 (t : Fin (cfgM m hO).N) : ((cfgM m hO).win 0).index t = ![rowOf m hO t, 0] := rfl
theorem index_2 (t : Fin (cfgM m hO).N) : ((cfgM m hO).win 2).index t = ![expOf m hO t, 0, 0] := rfl
theorem index_4 (t : Fin (cfgM m hO).N) : ((cfgM m hO).win 4).index t = ![expOf m hO t, 0, 0] := rfl
theorem index_5 (t : Fin (cfgM m hO).N) : ((cfgM m hO).win 5).index t = ![(BitVec.ofNat 32 (grid0.coords t 0).val).toNat, 0] := rfl

theorem bx_at (t : Fin (cfgM m hO).N) (r : Fin 256) (d : Fin 1024) (R : Fin 77824) (hR : rowOf m hO t * 256 + r.val = R.val) :
    bx m hO c t (ix2 r d) = ax m c R d := by
  refine Eq.trans (congrFun (V_arg2 m c) ((((cfgM m hO).win 0).rect t).emb (ix2 r d))) ?_
  refine congrArg (m ((c : Thread nD τ).loc main_arg2)) (funext fun a => Fin.ext ((Pipeline.Window.rect_emb_val ((cfgM m hO).win 0) t _ a rfl).trans ?_))
  rw [index_0]
  match a with
  | ⟨0, _⟩ => exact hR
  | ⟨1, _⟩ => show 0 * 1024 + d.val = d.val; rw [Nat.zero_mul, Nat.zero_add]

theorem bw1_at (t : Fin (cfgM m hO).N) (d : Fin 1024) (k : Fin 2048) (e : Fin 32) (he : expOf m hO t = e.val) :
    bw1 m hO c t (ix4 0 0 d k) = aw1 m c e d k := by
  refine Eq.trans (congrFun (V_arg3 m c) ((((cfgM m hO).win 1).rect t).emb (ix4 0 0 d k))) ?_
  refine congrArg (m ((c : Thread nD τ).loc main_arg3)) (funext fun a => Fin.ext ((Pipeline.Window.rect_emb_val ((cfgM m hO).win 1) t _ a rfl).trans ?_))
  rw [index_1]
  match a with
  | ⟨0, _⟩ => rfl
  | ⟨1, _⟩ => show expOf m hO t * 1 + 0 = e.val; omega
  | ⟨2, _⟩ => show 0 * 1024 + d.val = d.val; omega
  | ⟨3, _⟩ => show 0 * 2048 + k.val = k.val; omega

theorem bb1_at (t : Fin (cfgM m hO).N) (k : Fin 2048) (e : Fin 32) (he : expOf m hO t = e.val) :
    bb1 m hO c t (ix3 0 0 k) = ab1 m c e k := by
  refine Eq.trans ?_ (v0_at m c e k)
  refine congrArg (V m c main_v0) (funext fun a => Fin.ext ((Pipeline.Window.rect_emb_val ((cfgM m hO).win 2) t _ a rfl).trans ?_))
  rw [index_2]
  match a with
  | ⟨0, _⟩ => show expOf m hO t * 1 + 0 = e.val; omega
  | ⟨1, _⟩ => rfl
  | ⟨2, _⟩ => show 0 * 2048 + k.val = k.val; omega

theorem bw2_at (t : Fin (cfgM m hO).N) (d : Fin 1024) (k : Fin 1024) (e : Fin 32) (he : expOf m hO t = e.val) :
    bw2 m hO c t (ix4 0 0 d k) = aw2 m c e d k := by
  refine Eq.trans (congrFun (V_arg5 m c) ((((cfgM m hO).win 3).rect t).emb (ix4 0 0 d k))) ?_
  refine congrArg (m ((c : Thread nD τ).loc main_arg5)) (funext fun a => Fin.ext ((Pipeline.Window.rect_emb_val ((cfgM m hO).win 3) t _ a rfl).trans ?_))
  rw [index_3]
  match a with
  | ⟨0, _⟩ => rfl
  | ⟨1, _⟩ => show expOf m hO t * 1 + 0 = e.val; omega
  | ⟨2, _⟩ => show 0 * 1024 + d.val = d.val; omega
  | ⟨3, _⟩ => show 0 * 1024 + k.val = k.val; omega

theorem bb2_at (t : Fin (cfgM m hO).N) (k : Fin 1024) (e : Fin 32) (he : expOf m hO t = e.val) :
    bb2 m hO c t (ix3 0 0 k) = ab2 m c e k := by
  refine Eq.trans ?_ (v1_at m c e k)
  refine congrArg (V m c main_v1) (funext fun a => Fin.ext ((Pipeline.Window.rect_emb_val ((cfgM m hO).win 4) t _ a rfl).trans ?_))
  rw [index_4]
  match a with
  | ⟨0, _⟩ => show expOf m hO t * 1 + 0 = e.val; omega
  | ⟨1, _⟩ => rfl
  | ⟨2, _⟩ => show 0 * 1024 + k.val = k.val; omega

/-- The number of used blocks, read in two ways. -/
theorem used_iff (t : Fin (cfgM m hO).N) : used m hO t ↔ (BitVec.ofNat 32 t.val).slt (nUse (tbl m)) = true := by
  rw [show used m hO t ↔ k0_cond2 (grid0.coords t) (nUse (tbl m)) = 1#1 from Iff.rfl, cond2_iff, coords_val t]

theorem row_used (t : Fin (cfgM m hO).N) (hu : used m hO t) (h : InRange (tbl m)) : rowOf m hO t = t.val := by
  rw [used_iff] at hu
  obtain ⟨h1, h2⟩ : 1 ≤ (nUse (tbl m)).toInt ∧ (nUse (tbl m)).toInt ≤ 304 := h.use _
  have ht : t.val < 304 := lt_of_lt_of_eq t.isLt N_0
  have ec : (grid0.coords t 0).val = t.val := coords_val t
  unfold rowOf
  rw [ec]
  generalize nUse (tbl m) = n at hu h1 h2
  generalize t.val = k at hu ht
  have e1 : (BitVec.ofNat 32 k).toNat = k := by rw [BitVec.toNat_ofNat]; omega
  have e2 : (BitVec.ofNat 32 k).toInt = k := by rw [BitVec.toInt_eq_toNat_of_lt (by omega), e1]
  have hn : n.toNat < 305 := toNat_lt_of _ 305 (by omega) (by omega)
  have e3 : n.toInt = n.toNat := BitVec.toInt_eq_toNat_of_lt (by omega)
  rw [BitVec.slt_iff_toInt_lt, e2, e3] at hu
  have e4 : (n - 1#32).toNat = n.toNat - 1 := by
    rw [BitVec.toNat_sub, show (1#32 : BitVec 32).toNat = 1 from rfl]; omega
  show (if (BitVec.ofNat 32 k).slt (n - 1#32) then BitVec.ofNat 32 k else n - 1#32).toNat = k
  split
  · exact e1
  · rename_i hs
    rw [BitVec.slt_iff_toInt_lt, e2, BitVec.toInt_eq_toNat_of_lt (by omega), e4] at hs
    rw [e4]; omega

/-- The expert of a block, of the 32. -/
def ex (h : InRange (tbl m)) (t : Fin (cfgM m hO).N) : Fin 32 := ⟨expOf m hO t, eCur_lt _ h _⟩

/-- The result's rows: a used block's are the feed-forward rows of its expert, the others are zero. -/
def res3 (h : InRange (tbl m)) : Vec Ideal S77824x1024 .f32 := fun i : S77824x1024.Idx =>
  let t : Fin (cfgM m hO).N := ⟨(i 0).val / 256, lt_of_lt_of_eq (by have : (i 0).val < 77824 := (i 0).isLt; omega) N_0.symm⟩
  if (BitVec.ofNat 32 t.val).slt (nUse (tbl m)) = true then
    ffn (ax m c (i 0)) (aw1 m c (ex m hO h t)) (ab1 m c (ex m hO h t)) (aw2 m c (ex m hO h t)) (ab2 m c (ex m hO h t)) (i 1)
  else 0

theorem out_at (h : InRange (tbl m)) (t : Fin (cfgM m hO).N) (r : Fin 256) (j : Fin 1024) (R : Fin 77824) (hR : R.val = t.val * 256 + r.val) :
    outAt m hO c t (ix2 r j) = res3 m hO c h (ix2 R j) := by
  have et : (⟨R.val / 256, lt_of_lt_of_eq (by omega) N_0.symm⟩ : Fin (cfgM m hO).N) = t := Fin.ext (by show R.val / 256 = t.val; omega)
  have er : res3 m hO c h (ix2 R j) = if (BitVec.ofNat 32 t.val).slt (nUse (tbl m)) = true then
      ffn (ax m c R) (aw1 m c (ex m hO h t)) (ab1 m c (ex m hO h t)) (aw2 m c (ex m hO h t)) (ab2 m c (ex m hO h t)) j else 0 := by
    rw [← et]; rfl
  rw [er]
  unfold outAt
  by_cases hu : used m hO t
  · rw [if_pos hu, if_pos ((used_iff m hO t).mp hu), pay3_at]
    have hrow := row_used m hO t hu h
    have e0 : (fun d => bx m hO c t (ix2 r d)) = ax m c R := funext fun d => bx_at m hO c t r d R (by rw [hrow]; exact hR.symm)
    have e1 : (fun d k => k0_pay1 (bw1 m hO c t) (ix2 d k)) = aw1 m c (ex m hO h t) := funext fun d => funext fun k =>
      (pay1_at _ d k).trans (bw1_at m hO c t d k _ rfl)
    have e2 : (fun k => bb1 m hO c t (ix3 0 0 k)) = ab1 m c (ex m hO h t) := funext fun k => bb1_at m hO c t k _ rfl
    have e3 : (fun k j => k0_pay2 (bw2 m hO c t) (ix2 k j)) = aw2 m c (ex m hO h t) := funext fun d => funext fun k =>
      (pay2_at _ d k).trans (bw2_at m hO c t d k _ rfl)
    have e4 : (fun j => bb2 m hO c t (ix3 0 0 j)) = ab2 m c (ex m hO h t) := funext fun k => bb2_at m hO c t k _ rfl
    rw [e0, e1, e2, e3, e4]
  · rw [if_neg hu, if_neg (fun h' => hu ((used_iff m hO t).mpr h'))]
    exact pay4_at r j

theorem emb_5 (t : Fin (cfgM m hO).N) (r : Fin 256) (j : Fin 1024) (R : Fin 77824) (hR : R.val = t.val * 256 + r.val) :
    ((((cfgM m hO).win 5).rect t).emb (ix2 r j : S256x1024.Idx)) = (ix2 R j : S77824x1024.Idx) := by
  refine funext fun a => Fin.ext ((Pipeline.Window.rect_emb_val ((cfgM m hO).win 5) t _ a rfl).trans ?_)
  have ht : t.val < 304 := lt_of_lt_of_eq t.isLt N_0
  have ec : (grid0.coords t 0).val = t.val := coords_val t
  rw [index_5, ec]
  have e1 : (BitVec.ofNat 32 t.val).toNat = t.val := by rw [BitVec.toNat_ofNat]; omega
  rw [e1]
  match a with
  | ⟨0, _⟩ => exact hR.symm
  | ⟨1, _⟩ => show 0 * 1024 + j.val = j.val; rw [Nat.zero_mul, Nat.zero_add]

theorem covers_5 : ((cfgM m hO).win 5).Covers := by
  refine ⟨(by decide : ∀ a, 0 < S256x1024.size a), fun β => ?_⟩
  have hb0 : (β (0 : Fin 2)).val < 304 := lt_of_lt_of_eq (β (0 : Fin 2)).isLt (show (77824 + 256 - 1) / 256 = 304 by decide)
  have hb1 : (β (1 : Fin 2)).val < 1 := lt_of_lt_of_eq (β (1 : Fin 2)).isLt (show (1024 + 1024 - 1) / 1024 = 1 by decide)
  have ix : ∀ t : Fin (cfgM m hO).N, ((cfgM m hO).win 5).index t = ![t.val, 0] := fun t => by
    have ht : t.val < 304 := lt_of_lt_of_eq t.isLt N_0
    have ec : (grid0.coords t 0).val = t.val := coords_val t
    have e1 : (BitVec.ofNat 32 t.val).toNat = t.val := by rw [BitVec.toNat_ofNat]; omega
    rw [index_5, ec, e1]
  refine ⟨⟨(β (0 : Fin 2)).val, lt_of_lt_of_eq hb0 N_0.symm⟩, ?_, fun a => ?_⟩
  · unfold Pipeline.Window.flush
    refine Bool.and_eq_true_iff.mpr ⟨rfl, ?_⟩
    by_cases hl : (β (0 : Fin 2)).val + 1 = 304
    · exact Bool.or_eq_true_iff.mpr (.inl (decide_eq_true (hl.trans N_0.symm)))
    · refine Bool.or_eq_true_iff.mpr (.inr (decide_eq_true ⟨lt_of_lt_of_eq (show (β (0 : Fin 2)).val + 1 < 304 by omega) N_0.symm, fun hc => ?_⟩))
      rw [ix, ix] at hc
      have := congrFun hc (0 : Fin 2)
      change (β (0 : Fin 2)).val + 1 = (β (0 : Fin 2)).val at this
      omega
  · rw [ix]
    match a with
    | ⟨0, _⟩ => exact ⟨rfl, .inl rfl⟩
    | ⟨1, _⟩ => exact ⟨by show 0 = (β (1 : Fin 2)).val; omega, .inl rfl⟩

/-- What the result array holds after the run. -/
theorem arr5 (h : InRange (tbl m)) : (dats m hO 0 c).arrAt 5 (cfgM m hO).N = res3 m hO c h := by
  refine (dats m hO 0 c).arrAt_eq_of_covers 5 _ (covers_5 m hO) (fun t hf (y : S256x1024.Idx) => ?_) (Memref.isWhole_whole _)
  have ht : t.val < 304 := lt_of_lt_of_eq t.isLt N_0
  have hr : (y 0).val < 256 := (y 0).isLt
  have ey : y = (ix2 (y 0) (y 1) : S256x1024.Idx) := by funext k; match k with | ⟨0, _⟩ => rfl | ⟨1, _⟩ => rfl
  have e := emb_5 m hO t (y 0) (y 1) ⟨t.val * 256 + (y 0).val, by omega⟩ rfl
  have key : outAt m hO c t y = res3 m hO c h ((((cfgM m hO).win 5).rect t).emb y) := by
    rw [ey]
    exact (out_at m hO c h t (y 0) (y 1) ⟨t.val * 256 + (y 0).val, by omega⟩ rfl).trans (congrArg (res3 m hO c h) e).symm
  exact (congrFun (after_5 m hO c t) y).trans key

/-- The kernel ends with the rows above, and keeps its arguments. -/
theorem run3 (ρ : Dev nD → PrngReg) (h : InRange (tbl m)) : θ_run defs (onTc (τ := τ) (main (F := Ideal))) ⟨m, fun _ => 0, ρ⟩ (fun r => ∀ c : Dev nD,
      r.2.mem ((c : Thread nD τ).loc main_v2) = res3 m (ok_of _ h) c h
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  have hO := ok_of _ h
  (θ_run defs _ _).mono (fun r hr c => ⟨((hr.1 c).1 5).trans (arr5 m hO c h),
    ((hr.1 c).2 main_arg0 (Pipeline.mem_restRefs_of main_arg0 (by decide) (by exact ne_0))).trans (V_arg0 m c),
    ((hr.1 c).2 main_arg1 (Pipeline.mem_restRefs_of main_arg1 (by decide) (by exact ne_1))).trans (V_arg1 m c),
    ((hr.1 c).1 0).trans (((dats m hO 0 c).arrAt_in 0 rfl _).trans ((A_eq m hO c 0).trans (V_arg2 m c))),
    ((hr.1 c).1 1).trans (((dats m hO 0 c).arrAt_in 1 rfl _).trans ((A_eq m hO c 1).trans (V_arg3 m c))),
    ((hr.1 c).2 main_arg4 (Pipeline.mem_restRefs_of main_arg4 (by decide) (by exact ne_4))).trans (V_arg4 m c),
    ((hr.1 c).1 3).trans (((dats m hO 0 c).arrAt_in 3 rfl _).trans ((A_eq m hO c 3).trans (V_arg5 m c))),
    ((hr.1 c).2 main_arg6 (Pipeline.mem_restRefs_of main_arg6 (by decide) (by exact ne_6))).trans (V_arg6 m c)⟩) (run_main m ρ hO)

end Cert.Proof.Ex

end
-- ==== Proof.ExF.lean ====
/-
  The expert feed-forward reference's result, read at an index.
-/
module

public import proofs.«01_k».proof.Defs
public import proofs.«01_k».proof.Proof.ExD
public import proofs.«01_k».proof.Proof.Gen.Reference3Ideal.Run
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem Idealize.ShloMosaic.StableHlo

namespace Cert.Reference3Ideal.Hand
open Cert.Reference3Ideal Cert.Reference3Ideal.Gen Cert.Reference3Ideal.Value Cert.Ffn

variable (A0 : IVec S304 32) (A1 : IVec S1 32) (A2 : FVec Ideal S77824x1024 .f32) (A3 : FVec Ideal S2x32x1024x2048 .f32) (A4 : FVec Ideal S32x2048 .f32)
  (A5 : FVec Ideal S2x32x1024x1024 .f32) (A6 : FVec Ideal S32x1024 .f32)

/-- The experts, as the gathers read them. -/
def be : IVec S304x1 32 := (broadcastInDim S304x1 ![0] bcast_S304_S304x1_0 (select (cmpi .slt A0 (broadcastInDim S304 ![] bcast_S_S304 (constantI S_ 32 0#32))) (addi A0 (broadcastInDim S304 ![] bcast_S_S304 (constantI S_ 32 32#32))) A0))
/-- The first product with its bias. -/
def hh : FVec Ideal S304x256x2048 .f32 := (addf (Host.dotGeneral dot_S304x256x1024_S304x1024x2048_S304x256x2048_2_1_1_2_0_0 none (shapeCast S304x256x1024 A2 shapeCasts_S77824x1024_S304x256x1024) (Host.gather gather_S32x1024x2048_S304x1_S304x1024x2048_12_0_n_n_0_1_110242048 (shapeCast S32x1024x2048 (extractStridedSlice S1x32x1024x2048 ![0, 0, 0, 0] A3 slices_S2x32x1024x2048_S1x32x1024x2048_0_0_0_0) shapeCasts_S1x32x1024x2048_S32x1024x2048) (be A0))) (broadcastInDim S304x256x2048 ![0, 1, 2] bcast_S304x1x2048_S304x256x2048_0_1_2 (broadcastInDim S304x1x2048 ![0, 2] bcast_S304x2048_S304x1x2048_0_2 (Host.gather gather_S32x2048_S304x1_S304x2048_1_0_n_n_0_1_12048 A4 (be A0)))))
/-- The gated unit of the two halves. -/
def gu (H : FVec Ideal S304x256x2048 .f32) : FVec Ideal S304x256x1024 .f32 := (mulf (mulf (addf (minimumf (broadcastInDim S304x256x1024 ![] bcast_S_S304x256x1024 (id (constant S_ .f32 0x40E00000#32))) (maximumf (broadcastInDim S304x256x1024 ![] bcast_S_S304x256x1024 (id (constant S_ .f32 0xC0E00000#32))) (extractStridedSlice S304x256x1024 ![0, 0, 1024] H slices_S304x256x2048_S304x256x1024_0_0_1024))) (broadcastInDim S304x256x1024 ![] bcast_S_S304x256x1024 (constant S_ .f32 0x3F800000#32))) (minimumf (extractStridedSlice S304x256x1024 ![0, 0, 0] H slices_S304x256x2048_S304x256x1024_0_0_0) (broadcastInDim S304x256x1024 ![] bcast_S_S304x256x1024 (constant S_ .f32 0x40E00000#32)))) (Host.divf (broadcastInDim S304x256x1024 ![] bcast_S_S304x256x1024 (constant S_ .f32 0x3F800000#32)) (addf (broadcastInDim S304x256x1024 ![] bcast_S_S304x256x1024 (constant S_ .f32 0x3F800000#32)) (Host.exp (Host.negf (mulf (broadcastInDim S304x256x1024 ![] bcast_S_S304x256x1024 (constant S_ .f32 0x3FD9DB23#32)) (minimumf (extractStridedSlice S304x256x1024 ![0, 0, 0] H slices_S304x256x2048_S304x256x1024_0_0_0) (broadcastInDim S304x256x1024 ![] bcast_S_S304x256x1024 (constant S_ .f32 0x40E00000#32)))))))))
/-- The second product with its bias. -/
def oo : FVec Ideal S304x256x1024 .f32 := (addf (Host.dotGeneral dot_S304x256x1024_S304x1024x1024_S304x256x1024_2_1_1_2_0_0 none (gu (hh A0 A2 A3 A4)) (Host.gather gather_S32x1024x1024_S304x1_S304x1024x1024_12_0_n_n_0_1_110241024 (shapeCast S32x1024x1024 (extractStridedSlice S1x32x1024x1024 ![0, 0, 0, 0] A5 slices_S2x32x1024x1024_S1x32x1024x1024_0_0_0_0) shapeCasts_S1x32x1024x1024_S32x1024x1024) (be A0))) (broadcastInDim S304x256x1024 ![0, 1, 2] bcast_S304x1x1024_S304x256x1024_0_1_2 (broadcastInDim S304x1x1024 ![0, 2] bcast_S304x1024_S304x1x1024_0_2 (Host.gather gather_S32x1024_S304x1_S304x1024_1_0_n_n_0_1_11024 A6 (be A0)))))
/-- The result. -/
def rr : FVec Ideal S77824x1024 .f32 := shapeCast S77824x1024 (select (broadcastInDim S304x256x1024 ![0, 1, 2] bcast_S304x1x1_S304x256x1024_0_1_2 (broadcastInDim S304x1x1 ![0] bcast_S304_S304x1x1_0 (cmpi .slt (iotaInDim S304 32 0) (broadcastInDim S304 ![] bcast_S_S304 (shapeCast S_ A1 shapeCasts_S1_S_))))) (oo A0 A2 A3 A4 A5 A6) (broadcastInDim S304x256x1024 ![] bcast_S_S304x256x1024 (id (constant S_ .f32 0x00000000#32)))) shapeCasts_S304x256x1024_S77824x1024

/-- The row a gather takes for block `t`. -/
def sel (idx : IVec S304x1 32) (t : Fin 304) : Fin 32 := ⟨min (idx (ix2 t 0)).toInt.toNat 31, by omega⟩

theorem take3a {α : Type} (x : S32x1024x2048.Idx → α) (idx : IVec S304x1 32) (t : Fin 304) (d : Fin 1024) (k : Fin 2048) :
    Host.gather gather_S32x1024x2048_S304x1_S304x1024x2048_12_0_n_n_0_1_110242048 x idx (ix3 t d k) = x (ix3 (sel idx t) d k) := by
  unfold Host.gather
  refine congrArg x (funext fun a => Fin.ext ?_)
  match a with
  | ⟨0, _⟩ =>
    refine congrArg (fun y => min (idx y).toInt.toNat 31) (funext fun b => ?_)
    match b with
    | ⟨0, _⟩ => rfl
    | ⟨1, _⟩ => rfl
  | ⟨1, _⟩ => exact Nat.zero_add _
  | ⟨2, _⟩ => exact Nat.zero_add _

theorem take3b {α : Type} (x : S32x1024x1024.Idx → α) (idx : IVec S304x1 32) (t : Fin 304) (d : Fin 1024) (k : Fin 1024) :
    Host.gather gather_S32x1024x1024_S304x1_S304x1024x1024_12_0_n_n_0_1_110241024 x idx (ix3 t d k) = x (ix3 (sel idx t) d k) := by
  unfold Host.gather
  refine congrArg x (funext fun a => Fin.ext ?_)
  match a with
  | ⟨0, _⟩ =>
    refine congrArg (fun y => min (idx y).toInt.toNat 31) (funext fun b => ?_)
    match b with
    | ⟨0, _⟩ => rfl
    | ⟨1, _⟩ => rfl
  | ⟨1, _⟩ => exact Nat.zero_add _
  | ⟨2, _⟩ => exact Nat.zero_add _

theorem take2a {α : Type} (x : S32x2048.Idx → α) (idx : IVec S304x1 32) (t : Fin 304) (k : Fin 2048) :
    Host.gather gather_S32x2048_S304x1_S304x2048_1_0_n_n_0_1_12048 x idx (ix2 t k) = x (ix2 (sel idx t) k) := by
  unfold Host.gather
  refine congrArg x (funext fun a => Fin.ext ?_)
  match a with
  | ⟨0, _⟩ =>
    refine congrArg (fun y => min (idx y).toInt.toNat 31) (funext fun b => ?_)
    match b with
    | ⟨0, _⟩ => rfl
    | ⟨1, _⟩ => rfl
  | ⟨1, _⟩ => exact Nat.zero_add _

theorem take2b {α : Type} (x : S32x1024.Idx → α) (idx : IVec S304x1 32) (t : Fin 304) (k : Fin 1024) :
    Host.gather gather_S32x1024_S304x1_S304x1024_1_0_n_n_0_1_11024 x idx (ix2 t k) = x (ix2 (sel idx t) k) := by
  unfold Host.gather
  refine congrArg x (funext fun a => Fin.ext ?_)
  match a with
  | ⟨0, _⟩ =>
    refine congrArg (fun y => min (idx y).toInt.toNat 31) (funext fun b => ?_)
    match b with
    | ⟨0, _⟩ => rfl
    | ⟨1, _⟩ => rfl
  | ⟨1, _⟩ => exact Nat.zero_add _

/-- An expert in range is the one the gathers take. -/
theorem sel_be (t : Fin 304) (e : Fin 32) (h0 : 0 ≤ (A0 (ix1 t)).toInt) (he : (A0 (ix1 t)).toNat = e.val) : sel (be A0) t = e := by
  have hb : be A0 (ix2 t 0) = A0 (ix1 t) := by
    unfold be
    pointwise []
    have hs : (A0 (ix1 t)).slt 0#32 = false := by
      rw [BitVec.slt_eq_decide]
      exact decide_eq_false (by rw [show (0#32 : BitVec 32).toInt = 0 from rfl]; omega)
    simp only [Scalar.select, IntOp.cmpi, hs]
    rfl
  unfold sel
  refine Fin.ext ?_
  show min (be A0 (ix2 t 0)).toInt.toNat 31 = e.val
  rw [hb]
  have := e.isLt
  have : (A0 (ix1 t)).toInt.toNat = (A0 (ix1 t)).toNat := by
    rw [BitVec.toInt_eq_toNat_cond]; split <;> omega
  omega

/-- A block's row of the tokens. -/
abbrev tok (t : Fin 304) (r : Fin 256) : Fin 77824 := ⟨t.val * 256 + r.val, by omega⟩

theorem w1_at (e : Fin 32) (d : Fin 1024) (k : Fin 2048) :
    shapeCast S32x1024x2048 (extractStridedSlice S1x32x1024x2048 ![0, 0, 0, 0] A3 slices_S2x32x1024x2048_S1x32x1024x2048_0_0_0_0)
      shapeCasts_S1x32x1024x2048_S32x1024x2048 (ix3 e d k) = A3 (ix4 0 e d k) := by
  pointwise []
theorem w2_at (e : Fin 32) (k : Fin 1024) (j : Fin 1024) :
    shapeCast S32x1024x1024 (extractStridedSlice S1x32x1024x1024 ![0, 0, 0, 0] A5 slices_S2x32x1024x1024_S1x32x1024x1024_0_0_0_0)
      shapeCasts_S1x32x1024x1024_S32x1024x1024 (ix3 e k j) = A5 (ix4 0 e k j) := by
  pointwise []

theorem hh_at (t : Fin 304) (r : Fin 256) (k : Fin 2048) : hh A0 A2 A3 A4 (ix3 t r k)
    = (∑ d, A2 (ix2 (tok t r) d) * A3 (ix4 0 (sel (be A0) t) d k)) + A4 (ix2 (sel (be A0) t) k) := by
  unfold hh
  generalize hH : Host.gather gather_S32x1024x2048_S304x1_S304x1024x2048_12_0_n_n_0_1_110242048 _ _ = H
  generalize hB : Host.gather gather_S32x2048_S304x1_S304x2048_1_0_n_n_0_1_12048 _ _ = B
  pointwise []
  rw [← hB, take2a]
  refine congrArg (· + _) (Finset.sum_congr rfl fun d _ => ?_)
  rw [← hH, take3a, w1_at]

theorem gu_at (H : FVec Ideal S304x256x2048 .f32) (t : Fin 304) (r : Fin 256) (k : Fin 1024) : gu H (ix3 t r k)
    = glu (H (ix3 t r ⟨k.val, by omega⟩)) (H (ix3 t r ⟨1024 + k.val, by omega⟩)) := by
  unfold gu glu
  pointwise []
  rfl

theorem oo_at (t : Fin 304) (r : Fin 256) (j : Fin 1024) : oo A0 A2 A3 A4 A5 A6 (ix3 t r j)
    = ffn (fun d => A2 (ix2 (tok t r) d)) (fun d k => A3 (ix4 0 (sel (be A0) t) d k)) (fun k => A4 (ix2 (sel (be A0) t) k))
        (fun k j => A5 (ix4 0 (sel (be A0) t) k j)) (fun j => A6 (ix2 (sel (be A0) t) j)) j := by
  unfold oo ffn
  generalize hG : gu (hh A0 A2 A3 A4) = G
  generalize hH : Host.gather gather_S32x1024x1024_S304x1_S304x1024x1024_12_0_n_n_0_1_110241024 _ _ = H
  generalize hB : Host.gather gather_S32x1024_S304x1_S304x1024_1_0_n_n_0_1_11024 _ _ = B
  pointwise []
  rw [← hB, take2b]
  refine congrArg (· + _) (Finset.sum_congr rfl fun k _ => ?_)
  rw [← hH, take3b, w2_at, ← hG, gu_at, hh_at, hh_at]
  rfl

theorem choose_slt (a b : BitVec 32) (x y : EReal) : Scalar.select (IntOp.cmpi .slt a b) x y = if a.slt b = true then x else y := by
  unfold Scalar.select IntOp.cmpi
  by_cases h : a.slt b = true
  · rw [if_pos h]; exact if_pos (congrArg BitVec.ofBool h)
  · rw [if_neg h]; exact if_neg (by dsimp only; rw [Bool.eq_false_iff.mpr h]; decide)

theorem rr_at (t : Fin 304) (r : Fin 256) (j : Fin 1024) (R : Fin 77824) (hR : R.val = t.val * 256 + r.val) : rr A0 A1 A2 A3 A4 A5 A6 (ix2 R j)
    = if (BitVec.ofNat 32 t.val).slt (A1 (ix1 0)) = true then oo A0 A2 A3 A4 A5 A6 (ix3 t r j) else 0 := by
  unfold rr
  generalize hG : oo A0 A2 A3 A4 A5 A6 = G
  pointwise []
  have et : R.val / 256 = t.val := by omega
  have eT : (⟨R.val / 256, by omega⟩ : Fin 304) = t := Fin.ext et
  have eR : (⟨R.val % 256, by omega⟩ : Fin 256) = r := Fin.ext (by dsimp only; omega)
  rw [eT, eR, et]
  have z : (id (constant (F := Ideal) S_ FTy.f32 0#32) : FVec Ideal S_ .f32) ix0 = 0 := by
    show Ideal.ofBits FTy.f32 0#32 = 0
    simp
  rw [z]
  exact choose_slt _ _ _ _

/-- The result's rows, in the arguments alone. -/
theorem rr_ffn (t : Fin 304) (r : Fin 256) (j : Fin 1024) (R : Fin 77824) (hR : R.val = t.val * 256 + r.val) (e : Fin 32)
    (h0 : 0 ≤ (A0 (ix1 t)).toInt) (he : (A0 (ix1 t)).toNat = e.val) : rr A0 A1 A2 A3 A4 A5 A6 (ix2 R j)
    = if (BitVec.ofNat 32 t.val).slt (A1 (ix1 0)) = true then
        ffn (fun d => A2 (ix2 R d)) (fun d k => A3 (ix4 0 e d k)) (fun k => A4 (ix2 e k)) (fun k j => A5 (ix4 0 e k j)) (fun j => A6 (ix2 e j)) j
      else 0 := by
  have et : tok t r = R := Fin.ext hR.symm
  rw [rr_at _ _ _ _ _ _ _ t r j R hR, oo_at, sel_be A0 t e h0 he, et]

variable (m : (ℓ : Loc nD τ sig) → Buf (Elt Ideal) ℓ) (c : Dev nD)

theorem res_eq : res_main_v64 (F := Ideal) m c = rr (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

end Cert.Reference3Ideal.Hand

end
-- ==== Proof.ExG.lean ====
/-
  The expert feed-forward kernel and its reference end with the same rows.
-/
module

public import proofs.«01_k».proof.Defs
public import proofs.«01_k».proof.Proof.ExE
public import proofs.«01_k».proof.Proof.ExF

@[expose] public section

set_option maxRecDepth 16384

noncomputable section

namespace Cert.Proof.Ex

open Cert.Kernel3Ideal Cert.Kernel3Ideal.Gen Cert.Ffn
open Idealize.ShloMosaic Idealize.ShloMosaic.TcCoe
open Idealize.SL.Sem

/-- The tables' words, at the blocks' own places. -/
theorem eCur_at (pf : pre0.Contents (Elt Ideal)) (i : grid0.Coords) (t : Fin 304) (ht : (i 0).val = t.val) : eCur pf i = (pf 0 : IVec S304 32) (ix1 t) := by
  refine congrArg (pf 0 : IVec S304 32) (funext fun a => Fin.ext ?_)
  match a with
  | ⟨0, _⟩ =>
    have e1 : (BitVec.ofNat 32 (i 0).val).toNat = t.val := by have := t.isLt; rw [BitVec.toNat_ofNat]; omega
    show (BitVec.ofNat 32 (i 0).val).toNat + 0 * 1 = t.val
    omega
theorem nUse_at (pf : pre0.Contents (Elt Ideal)) : nUse pf = (pf 1 : IVec S1 32) (ix1 0) := by
  refine congrArg (pf 1 : IVec S1 32) (funext fun a => Fin.ext ?_)
  match a with
  | ⟨0, _⟩ => rfl

variable (m : (ℓ : Loc nD τ sig) → Buf (Elt Ideal) ℓ) (c : Dev nD)

/-- The result's row of block `t`, in the arguments alone. -/
theorem res3_at (h : InRange (tbl m)) (t : Fin 304) (R : Fin 77824) (hR : R.val / 256 = t.val) (j : Fin 1024) (e : Fin 32)
    (he : (m ((c : Thread nD τ).loc main_arg0) (ix1 t) : BitVec 32).toNat = e.val) :
    res3 m (ok_of _ h) c h (ix2 R j) = if (BitVec.ofNat 32 t.val).slt (m ((c : Thread nD τ).loc main_arg1) (ix1 0)) = true then
      ffn (ax m c R) (aw1 m c e) (ab1 m c e) (aw2 m c e) (ab2 m c e) j else 0 := by
  obtain rfl : c = 0 := Subsingleton.elim _ _
  have hl : R.val / 256 < (cfgM m (ok_of _ h)).N := lt_of_lt_of_eq (by omega) N_0.symm
  have ee : ex m (ok_of _ h) h ⟨R.val / 256, hl⟩ = e := by
    refine Fin.ext ?_
    show (eCur (tbl m) (grid0.coords ⟨R.val / 256, hl⟩)).toNat = e.val
    rw [eCur_at _ _ t ((coords_val _).trans hR), tbl_0, he]
  have en : nUse (tbl m) = m (((0 : Dev nD) : Thread nD τ).loc main_arg1) (ix1 0) := by rw [nUse_at, tbl_1]
  have er : res3 m (ok_of _ h) 0 h (ix2 R j) = if (BitVec.ofNat 32 (R.val / 256)).slt (nUse (tbl m)) = true then
      ffn (ax m 0 R) (aw1 m 0 (ex m (ok_of _ h) h ⟨R.val / 256, hl⟩)) (ab1 m 0 (ex m (ok_of _ h) h ⟨R.val / 256, hl⟩))
        (aw2 m 0 (ex m (ok_of _ h) h ⟨R.val / 256, hl⟩)) (ab2 m 0 (ex m (ok_of _ h) h ⟨R.val / 256, hl⟩)) j else 0 := rfl
  rw [er, ee, en, hR]

/-- Both programs end with the same rows, and keep their arguments. -/
theorem algebraic3 : Cert.algebraic_Kernel3Ideal_Reference3Ideal (hKernel3Ideal := Cert.Kernel3Ideal.Gen.facts)
    (hReference3Ideal := Cert.Reference3Ideal.Gen.facts) (hPre_tables_in_range := Cert.Pre_tables_in_range.facts) := by
  intro m ρ m' ρ' hp hagree
  have h : InRange (tbl m) := inRange m hp
  refine ⟨fun c => res3 m (ok_of _ h) c h, run3 m ρ h, ?_⟩
  refine (θ_run Cert.Reference3Ideal.defs _ _).mono (fun _ hr c => ⟨(hr c).1.trans ?_, (hr c).2⟩) (Cert.Reference3Ideal.Value.run (F := Ideal) m' ρ')
  obtain ⟨h0, h1, h2, h3, h4, h5, h6⟩ := hagree c
  rw [Cert.Reference3Ideal.Hand.res_eq, h0, h1, h2, h3, h4, h5, h6]
  funext (i : S77824x1024.Idx)
  have ei : i = (ix2 (i 0) (i 1) : S77824x1024.Idx) := by funext k; match k with | ⟨0, _⟩ => rfl | ⟨1, _⟩ => rfl
  have hi : (i 0).val < 77824 := (i 0).isLt
  rw [ei]
  generalize (i 0 : Fin 77824) = R at hi
  generalize (i 1 : Fin 1024) = j
  have hx : ∀ i, 0 ≤ ((m ((c : Thread nD τ).loc main_arg0) : IVec S304 32) i).toInt ∧ ((m ((c : Thread nD τ).loc main_arg0) : IVec S304 32) i).toInt < 32 := fun i => by
    obtain rfl : c = 0 := Subsingleton.elim _ _
    have := h.exp i
    rwa [tbl_0] at this
  let t : Fin 304 := ⟨R.val / 256, by omega⟩
  let e : Fin 32 := ⟨((m ((c : Thread nD τ).loc main_arg0) : IVec S304 32) (ix1 t)).toNat, toNat_lt_of _ 32 (hx _).1 (hx _).2⟩
  have hR : R.val = t.val * 256 + R.val % 256 := by show R.val = R.val / 256 * 256 + R.val % 256; omega
  exact (Cert.Reference3Ideal.Hand.rr_ffn _ _ _ _ _ _ _ t ⟨R.val % 256, by omega⟩ j R hR e (hx _).1 rfl).trans (res3_at m c h t R rfl j e rfl).symm

/-- The reference runs, keeps its arguments, and declares no semaphore. -/
theorem frame_ref3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

end Cert.Proof.Ex

end
-- ==== Proof.OutA.lean ====
/-
The output projection: each head of a mixer's row is normalized by its root mean square, scaled, gated, and the
four mixers' rows are multiplied with their rows of the weights.
-/
module

public import Idealize.ShloMosaic.Lib.Pointwise
public import proofs.«01_k».proof.Proof.Inp
public import proofs.«01_k».proof.Proof.InA

@[expose] public section

noncomputable section

open Idealize.ShloMosaic

namespace Cert.OutProj
open Cert.Mlstm (Fin' sub_self')

/-- The head of a column. -/
def hd (L : Fin 256) : Fin 4 := ⟨L.val / 64, by omega⟩
/-- A column of a head. -/
def col (h : Fin 4) (d : Fin 64) : Fin 256 := ⟨h.val * 64 + d.val, by omega⟩

/-- The mean square of a column's head. -/
def ms (o : Fin 256 → EReal) (L : Fin 256) : EReal := Ideal.div (∑ d, o (col (hd L) d) * o (col (hd L) d)) (Ideal.ofBits .f32 0x42800000#32)

/-- One entry of a row whose heads are normalized and scaled. -/
def nrm (o g : Fin 256 → EReal) (L : Fin 256) : EReal := o L * Ideal.rsqrt (ms o L + Ideal.ofBits .f32 0x358637BD#32) * g L

/-- The mean square as the kernel takes it, from squares and what is left of them. -/
def kms (o : Fin 256 → EReal) (h : Fin 256 → Fin 256 → EReal) (L : Fin 256) : EReal :=
  ∑ k, o k * o k * h k L + ∑ k, (o k * o k - o k * o k) * h k L + ∑ k, (o k * o k - o k * o k - (o k * o k - o k * o k)) * h k L

/-- A heads' mask, each entry over the heads' width. -/
def msk (k L : Fin 256) : EReal := (if hd k = hd L then 1 else 0) * Ideal.ofBits .f32 0x3C800000#32

theorem c64 : Ideal.ofBits .f32 0x42800000#32 = ((64 : ℝ) : EReal) := by
  simp [Ideal.ofBits, Ideal.ieee, ← EReal.coe_inv, ← EReal.coe_mul]
  norm_num
theorem ci64 : Ideal.ofBits .f32 0x3C800000#32 = ((1 / 64 : ℝ) : EReal) := by
  simp [Ideal.ofBits, Ideal.ieee, ← EReal.coe_inv, ← EReal.coe_mul]
  norm_num

/-- A sum of real numbers is real. -/
theorem coe_sum {n : ℕ} (f : Fin n → ℝ) : ∑ k, ((f k : ℝ) : EReal) = ((∑ k, f k : ℝ) : EReal) :=
  (map_sum (⟨⟨fun x : ℝ => (x : EReal), EReal.coe_zero⟩, EReal.coe_add⟩ : ℝ →+ EReal) f Finset.univ).symm

/-- A sum over the columns, head by head. -/
theorem sum_heads (f : Fin 256 → ℝ) : ∑ k, f k = ∑ h, ∑ d, f (col h d) := by
  rw [← Fintype.sum_prod_type' (f := fun h d => f (col h d))]
  refine (Fintype.sum_equiv (finProdFinEquiv (m := 4) (n := 64)) _ _ fun x => ?_).symm
  exact congrArg f (Fin.ext (by simp [col, finProdFinEquiv]; omega))

theorem hd_col (h : Fin 4) (d : Fin 64) : hd (col h d) = h := Fin.ext (by simp only [hd, col]; omega)

/-- The kernel's mean square of a finite row is the mean square. -/
theorem kms_eq (o : Fin 256 → EReal) (ho : ∀ k, Fin' (o k)) (L : Fin 256) : kms o msk L = ms o L := by
  obtain ⟨r, rfl⟩ : ∃ r : Fin 256 → ℝ, o = fun k => ((r k : ℝ) : EReal) :=
    ⟨fun k => (o k).toReal, funext fun k => (EReal.coe_toReal (ho k).1 (ho k).2).symm⟩
  have z : ∀ k, ((r k : ℝ) : EReal) * (r k : ℝ) - ((r k : ℝ) : EReal) * (r k : ℝ) = 0 := fun k => by
    rw [← EReal.coe_mul]; exact EReal.sub_self (EReal.coe_ne_top _) (EReal.coe_ne_bot _)
  have e : ∀ k, ((r k : ℝ) : EReal) * (r k : ℝ) * msk k L = ((if hd k = hd L then r k * r k / 64 else 0 : ℝ) : EReal) := fun k => by
    unfold msk
    rw [ci64]
    split
    · rw [one_mul, ← EReal.coe_mul, ← EReal.coe_mul]; congr 1; ring
    · simp
  have s : ∑ k, (if hd k = hd L then r k * r k / 64 else 0 : ℝ) = (∑ d, r (col (hd L) d) * r (col (hd L) d)) / 64 := by
    rw [sum_heads]
    simp only [hd_col]
    rw [Finset.sum_eq_single (hd L) (fun h _ hn => by simp [hn]) (fun h => absurd (Finset.mem_univ _) h)]
    simp only [if_true, Finset.sum_div]
  unfold kms ms
  simp only [z, e, sub_self, zero_mul, Finset.sum_const_zero, add_zero, sub_zero]
  rw [coe_sum, s, c64]
  simp only [← EReal.coe_mul]
  rw [coe_sum]
  unfold Ideal.div
  rw [if_neg (by norm_num), ← EReal.coe_inv, ← EReal.coe_mul, div_eq_mul_inv]

/-- A row of the weights that one mixer reads. -/
def wr (i : Fin 4) (k : Fin 256) : Fin 1024 := ⟨256 * i.val + k.val, by omega⟩

theorem sum_four (f : Fin 1024 → EReal) : ∑ j, f j = ∑ k, f (wr 0 k) + ∑ k, f (wr 1 k) + ∑ k, f (wr 2 k) + ∑ k, f (wr 3 k) := by
  rw [← Fin.sum_univ_four (fun i => ∑ k, f (wr i k)), ← Fintype.sum_prod_type' (f := fun i k => f (wr i k))]
  refine (Fintype.sum_equiv (finProdFinEquiv (m := 4) (n := 256)) _ _ fun x => ?_).symm
  exact congrArg f (Fin.ext (by simp [wr, finProdFinEquiv]; omega))

/-- One entry of the four mixers' rows, side by side. -/
def mix (oh zh gh om zm gm hy od zd gd : Fin 256 → EReal) (i : Fin 4) (k : Fin 256) : EReal :=
  match i with
  | 0 => nrm oh gh k * (zh k * Ideal.logistic (zh k))
  | 1 => nrm om gm k * Ideal.logistic (zm k)
  | 2 => hy k
  | 3 => nrm od gd k * (zd k * Ideal.logistic (zd k))

/-- One entry of the result: the entry `x`, and the gate times the mixers' row against a column of the weights. -/
def res (x gt : EReal) (M : Fin 4 → Fin 256 → EReal) (w : Fin 1024 → EReal) : EReal :=
  x + gt * (∑ k, M 0 k * w (wr 0 k) + ∑ k, M 1 k * w (wr 1 k) + ∑ k, M 2 k * w (wr 2 k) + ∑ k, M 3 k * w (wr 3 k))

end Cert.OutProj
-- ==== Proof.OutB.lean ====
module

public import proofs.«01_k».proof.Defs
public import proofs.«01_k».proof.Proof.Gen.Kernel4Ideal.Frame
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim
public import Idealize.ShloMosaic.Lib.StableHlo.RunRead
public import proofs.«01_k».proof.Proof.OutA

@[expose] public section

set_option maxRecDepth 16384

noncomputable section

open Idealize.ShloMosaic Idealize.ShloMosaic.TcCoe Idealize.SL.Sem
open Idealize.ShloMosaic.Pipeline (Dat)

namespace Cert.Kernel4Ideal.Hand
open Cert.Kernel4Ideal Cert.Kernel4Ideal.Gen Cert.OutProj
open Cert.InProj (row)
open Cert.Mlstm (Fin')

theorem hz3 : (![0, 0, 0] : Fin 3 → Nat) = fun _ => 0 := funext fun a => by fin_cases a <;> rfl
theorem hz2 : (![0, 0] : Fin 2 → Nat) = fun _ => 0 := funext fun a => by fin_cases a <;> rfl

/-- A normalized, scaled entry as the kernel takes it. -/
def kn (o : Fin 256 → EReal) (h : Fin 256 → Fin 256 → EReal) (g : Fin 256 → EReal) (L : Fin 256) : EReal :=
  o L * Ideal.rsqrt (kms o h L + Ideal.ofBits .f32 0x358637BD#32) * g L

theorem p2 (v0 : Vec Ideal S256x256 .f32) (k L : Fin 256) :
    k0_pay2 v0 (ix2 k L) = v0 (ix2 k L) * Ideal.ofBits .f32 0x3C800000#32 := by
  pointwise [k0_pay2]
theorem p4 (v0 : Vec Ideal S256x256 .f32) (v5 v7 v10 : Vec Ideal S1x256x256 .f32) (v30 : Vec Ideal S1x256 .f32) (r k : Fin 256) :
    k0_pay4 v0 v5 v7 v10 v30 (ix2 r k)
      = kn (fun k => v5 (ix3 0 r k) + v7 (ix3 0 r k)) (fun k L => k0_pay2 v0 (ix2 k L)) (fun k => v30 (ix2 0 k)) k
        * (v10 (ix3 0 r k) * Ideal.logistic (v10 (ix3 0 r k))) := by
  unfold k0_pay4
  generalize k0_pay2 v0 = H
  pointwise []
  rfl
theorem p5 (v3 : FVec Ideal S256x256 .f32) (v4 : FVec Ideal S256x1024 .f32) (v37 : FVec Ideal S256x256 .bf16) (v38 : Vec Ideal S256x1024 .bf16)
    (v42 v44 v47 : Vec Ideal S1x256x256 .f32) (v67 : Vec Ideal S1x256 .f32) (v74 : Vec Ideal S256x1024 .bf16) (r : Fin 256) (j : Fin 1024) :
    k0_pay5 v3 v4 v37 v38 v42 v44 v47 v67 v74 (ix2 r j)
      = v4 (ix2 r j) + ∑ k, v37 (ix2 r k) * v38 (ix2 k j)
        + ∑ k, kn (fun k => v42 (ix3 0 r k) + v44 (ix3 0 r k)) (fun k L => v3 (ix2 k L)) (fun k => v67 (ix2 0 k)) k
          * Ideal.logistic (v47 (ix3 0 r k)) * v74 (ix2 k j) := by
  unfold k0_pay5
  pointwise []
  rfl
theorem p7 (v3 : FVec Ideal S256x256 .f32) (v85 v87 v90 : Vec Ideal S1x256x256 .f32) (v110 : Vec Ideal S1x256 .f32) (r k : Fin 256) :
    k0_pay7 v3 v85 v87 v90 v110 (ix2 r k)
      = kn (fun k => v85 (ix3 0 r k) + v87 (ix3 0 r k)) (fun k L => v3 (ix2 k L)) (fun k => v110 (ix2 0 k)) k
        * (v90 (ix3 0 r k) * Ideal.logistic (v90 (ix3 0 r k))) := by
  unfold k0_pay7
  pointwise []
  rfl
theorem p1 (v84 : FVec Ideal S256x1024 .f32) (v116 : FVec Ideal S256x256 .f32) (v118 : Vec Ideal S256x1024 .bf16) (v122 : Vec Ideal S1x256x1024 .f32) (v124 : Vec Ideal S1x1x1024 .f32) (r : Fin 256) (j : Fin 1024) :
    k0_pay1 v84 v116 v118 v122 v124 (ix3 0 r j) = v122 (ix3 0 r j) + v124 (ix3 0 0 j) * (v84 (ix2 r j) + ∑ k, v116 (ix2 r k) * v118 (ix2 k j)) := by
  pointwise [k0_pay1]
theorem p6 (v77 : FVec Ideal S256x1024 .f32) (v78 : Vec Ideal S1x256x256 .f32) (v81 : Vec Ideal S256x1024 .bf16) (r : Fin 256) (j : Fin 1024) :
    k0_pay6 v77 v78 v81 (ix2 r j) = v77 (ix2 r j) + ∑ k, v78 (ix3 0 r k) * v81 (ix2 k j) := by
  pointwise [k0_pay6]
theorem p3 (r : Fin 256) (j : Fin 1024) : (k0_pay3 : FVec Ideal S256x1024 .f32) (ix2 r j) = 0 := by
  pointwise [k0_pay3]

theorem idx : ∀ t : Fin cfg0.N, win0_0.index t = ![t.val / 17, t.val % 17, 0] ∧ win0_1.index t = ![t.val / 17, t.val % 17, 0]
    ∧ win0_2.index t = ![t.val / 17, t.val % 17, 0] ∧ win0_3.index t = ![t.val / 17, t.val % 17, 4]
    ∧ win0_4.index t = ![t.val / 17, t.val % 17, 0] ∧ win0_5.index t = ![t.val / 17, t.val % 17, 0]
    ∧ win0_6.index t = ![t.val / 17, t.val % 17, 3] ∧ win0_7.index t = ![t.val / 17, t.val % 17, 0]
    ∧ win0_8.index t = ![t.val / 17, t.val % 17, 0] ∧ win0_9.index t = ![t.val / 17, t.val % 17, 0]
    ∧ win0_10.index t = ![t.val / 17, t.val % 17, 3] ∧ win0_11.index t = ![0, 0]
    ∧ win0_12.index t = ![if t.val % 17 = 16 then 4 else t.val / 17, 0, 0] ∧ win0_13.index t = ![0, 0] ∧ win0_14.index t = ![0, 0]
    ∧ win0_15.index t = ![t.val / 17, t.val % 17, 0] :=
  (by decide +kernel : ∀ t : Fin grid0.N, _)

variable (m : (ℓ : Loc nD τ sig) → Buf (Elt Ideal) ℓ) (c : Dev nD)

abbrev gx (b : Fin 4) (n : Fin 4352) (k : Fin 1024) : EReal := (m ((c : Thread nD τ).loc main_arg0) : Vec Ideal S4x4352x1024 .f32) (ix3 b n k)
abbrev gh (d : Fin 2) (b : Fin 4) (n : Fin 4352) (k : Fin 256) : EReal := (m ((c : Thread nD τ).loc main_arg1) : Vec Ideal S2x4x4352x256 .f32) (ix4 d b n k)
abbrev gzh (b : Fin 4) (n : Fin 4352) (k : Fin 256) : EReal := (m ((c : Thread nD τ).loc main_arg2) : Vec Ideal S4x4352x1280 .f32) (ix3 b n ⟨1024 + k.val, by omega⟩)
abbrev gm (d : Fin 2) (b : Fin 4) (n : Fin 4352) (k : Fin 256) : EReal := (m ((c : Thread nD τ).loc main_arg3) : Vec Ideal S2x4x4352x256 .f32) (ix4 d b n k)
abbrev gzm (b : Fin 4) (n : Fin 4352) (k : Fin 256) : EReal := (m ((c : Thread nD τ).loc main_arg4) : Vec Ideal S4x4352x1024 .f32) (ix3 b n ⟨768 + k.val, by omega⟩)
abbrev gy (b : Fin 4) (n : Fin 4352) (k : Fin 256) : EReal := (m ((c : Thread nD τ).loc main_arg5) : Vec Ideal S4x4352x256 .f32) (ix3 b n k)
abbrev gd (d : Fin 2) (b : Fin 4) (n : Fin 4352) (k : Fin 256) : EReal := (m ((c : Thread nD τ).loc main_arg6) : Vec Ideal S2x4x4352x256 .f32) (ix4 d b n k)
abbrev gzd (b : Fin 4) (n : Fin 4352) (k : Fin 256) : EReal := (m ((c : Thread nD τ).loc main_arg7) : Vec Ideal S4x4352x1024 .f32) (ix3 b n ⟨768 + k.val, by omega⟩)
abbrev gg (i : Fin 4) (k : Fin 256) : EReal := (m ((c : Thread nD τ).loc main_arg8) : Vec Ideal S4x256 .f32) (ix2 i k)
abbrev gt (b : Fin 5) (k : Fin 1024) : EReal := (m ((c : Thread nD τ).loc main_arg9) : Vec Ideal S5x1x1024 .f32) (ix3 b 0 k)
abbrev gw (k j : Fin 1024) : EReal := (m ((c : Thread nD τ).loc main_arg10) : Vec Ideal S1024x1024 .f32) (ix2 k j)

theorem v1 (b : Fin 4) (n : Fin 4352) (k : Fin 256) : (V m c main_v1 : Vec Ideal S4x4352x256 .f32) (ix3 b n k) = gh m c 0 b n k := by
  unfold V; simp only [hostOps0, List.flatten_cons, List.flatten_nil, List.append_nil, List.cons_append, List.nil_append]; after_results_simp; pointwise []
theorem v3 (b : Fin 4) (n : Fin 4352) (k : Fin 256) : (V m c main_v3 : Vec Ideal S4x4352x256 .f32) (ix3 b n k) = gh m c 1 b n k := by
  unfold V; simp only [hostOps0, List.flatten_cons, List.flatten_nil, List.append_nil, List.cons_append, List.nil_append]; after_results_simp; pointwise []
theorem v5 (b : Fin 4) (n : Fin 4352) (k : Fin 256) : (V m c main_v5 : Vec Ideal S4x4352x256 .f32) (ix3 b n k) = gm m c 0 b n k := by
  unfold V; simp only [hostOps0, List.flatten_cons, List.flatten_nil, List.append_nil, List.cons_append, List.nil_append]; after_results_simp; pointwise []
theorem v7 (b : Fin 4) (n : Fin 4352) (k : Fin 256) : (V m c main_v7 : Vec Ideal S4x4352x256 .f32) (ix3 b n k) = gm m c 1 b n k := by
  unfold V; simp only [hostOps0, List.flatten_cons, List.flatten_nil, List.append_nil, List.cons_append, List.nil_append]; after_results_simp; pointwise []
theorem v9 (b : Fin 4) (n : Fin 4352) (k : Fin 256) : (V m c main_v9 : Vec Ideal S4x4352x256 .f32) (ix3 b n k) = gd m c 0 b n k := by
  unfold V; simp only [hostOps0, List.flatten_cons, List.flatten_nil, List.append_nil, List.cons_append, List.nil_append]; after_results_simp; pointwise []
theorem v11 (b : Fin 4) (n : Fin 4352) (k : Fin 256) : (V m c main_v11 : Vec Ideal S4x4352x256 .f32) (ix3 b n k) = gd m c 1 b n k := by
  unfold V; simp only [hostOps0, List.flatten_cons, List.flatten_nil, List.append_nil, List.cons_append, List.nil_append]; after_results_simp; pointwise []
theorem v12 (k j : Fin 1024) : (V m c main_v12 : Vec Ideal S1024x1024 .bf16) (ix2 k j) = gw m c k j := by
  unfold V; simp only [hostOps0, List.flatten_cons, List.flatten_nil, List.append_nil, List.cons_append, List.nil_append]; after_results_simp; pointwise []
theorem v18 (k L : Fin 256) : (V m c main_v18 : Vec Ideal S256x256 .f32) (ix2 k L) = (if hd k = hd L then 1 else 0 : EReal) := by
  unfold V; simp only [hostOps0, List.flatten_cons, List.flatten_nil, List.append_nil, List.cons_append, List.nil_append]; after_results_simp; (try simp -implicitDefEqProofs only [StableHlo.TRef.toBuf, StableHlo.TRef.ofBuf, cast_cast, cast_eq, id_eq]); pointwise []
  refine Eq.trans (congrArg₂ (fun x y => FloatOps.uitofp (F := Ideal) FTy.f32 (IntOp.cmpi CmpIPredicate.eq x y)) (Cert.KernelIdeal.Hand.fdiv0 k) (Cert.KernelIdeal.Hand.fdiv0 L)) ?_
  rw [Cert.KernelIdeal.Hand.bit1]; exact if_congr (Cert.KernelIdeal.Hand.cmpH _ _) rfl rfl

/-- The batch of a grid point. -/
def bt (t : Fin cfg0.N) : Fin 4 := ⟨t.val / 17, by have := t.isLt; have : cfg0.N = 68 := N_0; omega⟩
/-- A position of a grid point's block. -/
def nt (t : Fin cfg0.N) (r : Fin 256) : Fin 4352 := ⟨256 * (t.val % 17) + r.val, by omega⟩

theorem row_nt (t : Fin cfg0.N) (r : Fin 256) : (if t.val % 17 = 16 then 4 else t.val / 17) = (row (bt t) (nt t r)).val := by
  unfold row bt nt
  dsimp only
  split
  · rw [if_neg (by omega)]; rfl
  · rw [if_pos (by omega)]

abbrev I0 (t : Fin cfg0.N) : Vec Ideal S1x256x1024 .f32 := iblk m c 0 t
abbrev I1 (t : Fin cfg0.N) : Vec Ideal S1x256x256 .f32 := iblk m c 1 t
abbrev I2 (t : Fin cfg0.N) : Vec Ideal S1x256x256 .f32 := iblk m c 2 t
abbrev I3 (t : Fin cfg0.N) : Vec Ideal S1x256x256 .f32 := iblk m c 3 t
abbrev I4 (t : Fin cfg0.N) : Vec Ideal S1x256x256 .f32 := iblk m c 4 t
abbrev I5 (t : Fin cfg0.N) : Vec Ideal S1x256x256 .f32 := iblk m c 5 t
abbrev I6 (t : Fin cfg0.N) : Vec Ideal S1x256x256 .f32 := iblk m c 6 t
abbrev I7 (t : Fin cfg0.N) : Vec Ideal S1x256x256 .f32 := iblk m c 7 t
abbrev I8 (t : Fin cfg0.N) : Vec Ideal S1x256x256 .f32 := iblk m c 8 t
abbrev I9 (t : Fin cfg0.N) : Vec Ideal S1x256x256 .f32 := iblk m c 9 t
abbrev I10 (t : Fin cfg0.N) : Vec Ideal S1x256x256 .f32 := iblk m c 10 t
abbrev I11 (t : Fin cfg0.N) : Vec Ideal S4x256 .f32 := iblk m c 11 t
abbrev I12 (t : Fin cfg0.N) : Vec Ideal S1x1x1024 .f32 := iblk m c 12 t
abbrev I13 (t : Fin cfg0.N) : Vec Ideal S256x256 .f32 := iblk m c 13 t
abbrev I14 (t : Fin cfg0.N) : Vec Ideal S1024x1024 .bf16 := iblk m c 14 t

theorem b0 (t : Fin cfg0.N) (r : Fin 256) (k : Fin 1024) : I0 m c t (ix3 0 r k) = gx m c (bt t) (nt t r) k := by
  unfold I0 iblk; blk_point [idx t, bt, nt]
theorem b1 (t : Fin cfg0.N) (r : Fin 256) (k : Fin 256) : I1 m c t (ix3 0 r k) = gh m c 0 (bt t) (nt t r) k := by
  refine Eq.trans ?_ (v1 m c (bt t) (nt t r) k)
  unfold I1 iblk; blk_point [idx t, bt, nt]
theorem b2 (t : Fin cfg0.N) (r : Fin 256) (k : Fin 256) : I2 m c t (ix3 0 r k) = gh m c 1 (bt t) (nt t r) k := by
  refine Eq.trans ?_ (v3 m c (bt t) (nt t r) k)
  unfold I2 iblk; blk_point [idx t, bt, nt]
theorem b4 (t : Fin cfg0.N) (r : Fin 256) (k : Fin 256) : I4 m c t (ix3 0 r k) = gm m c 0 (bt t) (nt t r) k := by
  refine Eq.trans ?_ (v5 m c (bt t) (nt t r) k)
  unfold I4 iblk; blk_point [idx t, bt, nt]
theorem b5 (t : Fin cfg0.N) (r : Fin 256) (k : Fin 256) : I5 m c t (ix3 0 r k) = gm m c 1 (bt t) (nt t r) k := by
  refine Eq.trans ?_ (v7 m c (bt t) (nt t r) k)
  unfold I5 iblk; blk_point [idx t, bt, nt]
theorem b8 (t : Fin cfg0.N) (r : Fin 256) (k : Fin 256) : I8 m c t (ix3 0 r k) = gd m c 0 (bt t) (nt t r) k := by
  refine Eq.trans ?_ (v9 m c (bt t) (nt t r) k)
  unfold I8 iblk; blk_point [idx t, bt, nt]
theorem b9 (t : Fin cfg0.N) (r : Fin 256) (k : Fin 256) : I9 m c t (ix3 0 r k) = gd m c 1 (bt t) (nt t r) k := by
  refine Eq.trans ?_ (v11 m c (bt t) (nt t r) k)
  unfold I9 iblk; blk_point [idx t, bt, nt]
theorem b3 (t : Fin cfg0.N) (r : Fin 256) (k : Fin 256) : I3 m c t (ix3 0 r k) = gzh m c (bt t) (nt t r) k := by
  unfold I3 iblk; blk_point [idx t, bt, nt]
theorem b6 (t : Fin cfg0.N) (r : Fin 256) (k : Fin 256) : I6 m c t (ix3 0 r k) = gzm m c (bt t) (nt t r) k := by
  unfold I6 iblk; blk_point [idx t, bt, nt]
theorem b7 (t : Fin cfg0.N) (r : Fin 256) (k : Fin 256) : I7 m c t (ix3 0 r k) = gy m c (bt t) (nt t r) k := by
  unfold I7 iblk; blk_point [idx t, bt, nt]
theorem b10 (t : Fin cfg0.N) (r : Fin 256) (k : Fin 256) : I10 m c t (ix3 0 r k) = gzd m c (bt t) (nt t r) k := by
  unfold I10 iblk; blk_point [idx t, bt, nt]
theorem b11 (t : Fin cfg0.N) (i : Fin 4) (k : Fin 256) : I11 m c t (ix2 i k) = gg m c i k := by
  unfold I11 iblk; blk_point [idx t]
theorem b12 (t : Fin cfg0.N) (r : Fin 256) (k : Fin 1024) : I12 m c t (ix3 0 0 k) = gt m c (row (bt t) (nt t r)) k := by
  unfold I12 iblk; blk_point [idx t]
  exact row_nt t r
theorem b13 (t : Fin cfg0.N) (k L : Fin 256) : I13 m c t (ix2 k L) = if hd k = hd L then 1 else 0 := by
  refine Eq.trans ?_ (v18 m c k L)
  unfold I13 iblk; blk_point [idx t]
theorem b14 (t : Fin cfg0.N) (k j : Fin 1024) : I14 m c t (ix2 k j) = gw m c k j := by
  refine Eq.trans ?_ (v12 m c k j)
  unfold I14 iblk; blk_point [idx t]

/-! The weights' and the gains' rows that the body reads. -/

theorem w3 (t : Fin cfg0.N) (k : Fin 256) (j : Fin 1024) : View.ld (I14 m c t) r0_3 (ix2 k j) = gw m c (wr 0 k) j := by
  refine Eq.trans ?_ (b14 m c t (wr 0 k) j)
  refine congrArg (I14 m c t) (funext fun a => Fin.ext ?_)
  match a with
  | ⟨0, _⟩ => exact (Rect.idx_unit_val _ _ _ _ _).trans (show 0 + k.val = 256 * 0 + k.val by omega)
  | ⟨1, _⟩ => exact (Rect.idx_unit_val _ _ _ _ _).trans (show 0 + j.val = j.val by omega)
theorem w5 (t : Fin cfg0.N) (k : Fin 256) (j : Fin 1024) : View.ld (I14 m c t) r0_5 (ix2 k j) = gw m c (wr 1 k) j := by
  refine Eq.trans ?_ (b14 m c t (wr 1 k) j)
  refine congrArg (I14 m c t) (funext fun a => Fin.ext ?_)
  match a with
  | ⟨0, _⟩ => exact (Rect.idx_unit_val _ _ _ _ _).trans (show 256 + k.val = 256 * 1 + k.val by omega)
  | ⟨1, _⟩ => exact (Rect.idx_unit_val _ _ _ _ _).trans (show 0 + j.val = j.val by omega)
theorem w6 (t : Fin cfg0.N) (k : Fin 256) (j : Fin 1024) : View.ld (I14 m c t) r0_6 (ix2 k j) = gw m c (wr 2 k) j := by
  refine Eq.trans ?_ (b14 m c t (wr 2 k) j)
  refine congrArg (I14 m c t) (funext fun a => Fin.ext ?_)
  match a with
  | ⟨0, _⟩ => exact (Rect.idx_unit_val _ _ _ _ _).trans (show 512 + k.val = 256 * 2 + k.val by omega)
  | ⟨1, _⟩ => exact (Rect.idx_unit_val _ _ _ _ _).trans (show 0 + j.val = j.val by omega)
theorem w8 (t : Fin cfg0.N) (k : Fin 256) (j : Fin 1024) : View.ld (I14 m c t) r0_8 (ix2 k j) = gw m c (wr 3 k) j := by
  refine Eq.trans ?_ (b14 m c t (wr 3 k) j)
  refine congrArg (I14 m c t) (funext fun a => Fin.ext ?_)
  match a with
  | ⟨0, _⟩ => exact (Rect.idx_unit_val _ _ _ _ _).trans (show 768 + k.val = 256 * 3 + k.val by omega)
  | ⟨1, _⟩ => exact (Rect.idx_unit_val _ _ _ _ _).trans (show 0 + j.val = j.val by omega)
theorem g2 (t : Fin cfg0.N) (k : Fin 256) : View.ld (I11 m c t) r0_2 (ix2 0 k) = gg m c 0 k := by
  refine Eq.trans ?_ (b11 m c t 0 k)
  refine congrArg (I11 m c t) (funext fun a => Fin.ext ?_)
  match a with
  | ⟨0, _⟩ => exact (Rect.idx_unit_val _ _ _ _ _).trans (show 0 + 0 = 0 by omega)
  | ⟨1, _⟩ => exact (Rect.idx_unit_val _ _ _ _ _).trans (show 0 + k.val = k.val by omega)
theorem g4 (t : Fin cfg0.N) (k : Fin 256) : View.ld (I11 m c t) r0_4 (ix2 0 k) = gg m c 1 k := by
  refine Eq.trans ?_ (b11 m c t 1 k)
  refine congrArg (I11 m c t) (funext fun a => Fin.ext ?_)
  match a with
  | ⟨0, _⟩ => exact (Rect.idx_unit_val _ _ _ _ _).trans (show 1 + 0 = 1 by omega)
  | ⟨1, _⟩ => exact (Rect.idx_unit_val _ _ _ _ _).trans (show 0 + k.val = k.val by omega)
theorem g7 (t : Fin cfg0.N) (k : Fin 256) : View.ld (I11 m c t) r0_7 (ix2 0 k) = gg m c 3 k := by
  refine Eq.trans ?_ (b11 m c t 3 k)
  refine congrArg (I11 m c t) (funext fun a => Fin.ext ?_)
  match a with
  | ⟨0, _⟩ => exact (Rect.idx_unit_val _ _ _ _ _).trans (show 3 + 0 = 3 by omega)
  | ⟨1, _⟩ => exact (Rect.idx_unit_val _ _ _ _ _).trans (show 0 + k.val = k.val by omega)

/-- The sums of each mixer's two directions are finite. -/
def FinO : Prop := (∀ b n k, Fin' (gh m c 0 b n k + gh m c 1 b n k)) ∧ (∀ b n k, Fin' (gm m c 0 b n k + gm m c 1 b n k))
  ∧ ∀ b n k, Fin' (gd m c 0 b n k + gd m c 1 b n k)

/-- The mixers' rows of a position, side by side. -/
abbrev mx (b : Fin 4) (n : Fin 4352) : Fin 4 → Fin 256 → EReal :=
  mix (fun k => gh m c 0 b n k + gh m c 1 b n k) (gzh m c b n) (gg m c 0) (fun k => gm m c 0 b n k + gm m c 1 b n k) (gzm m c b n) (gg m c 1)
    (gy m c b n) (fun k => gd m c 0 b n k + gd m c 1 b n k) (gzd m c b n) (gg m c 3)

/-- One entry of the result, of the kernel's arguments. -/
abbrev rs (b : Fin 4) (n : Fin 4352) (j : Fin 1024) : EReal :=
  res (gx m c b n j) (gt m c (row b n) j) (mx m c b n) (fun k => gw m c k j)

/-- The heads' mask that the body multiplies with. -/
theorem k_mask (t : Fin cfg0.N) : (fun k L => k0_pay2 (View.ld (I13 m c t) r0_0) (ix2 k L)) = msk := by
  funext k L
  rw [p2, View.ld_unit_zero hz2]
  exact congrArg (· * Ideal.ofBits .f32 0x3C800000#32) (b13 m c t k L)

/-- A normalized, scaled entry of a finite row is the plain one. -/
theorem kn_eq (o g : Fin 256 → EReal) (ho : ∀ k, Fin' (o k)) (k : Fin 256) : kn o msk g k = nrm o g k := by
  unfold kn nrm
  rw [kms_eq o ho]

theorem o15 (h : FinO m c) (t : Fin cfg0.N) (r : Fin 256) (j : Fin 1024) :
    out0_15 (I0 m c t) (I1 m c t) (I2 m c t) (I3 m c t) (I4 m c t) (I5 m c t) (I6 m c t) (I7 m c t) (I8 m c t) (I9 m c t) (I10 m c t)
      (I11 m c t) (I12 m c t) (I13 m c t) (I14 m c t) (ix3 0 r j) = rs m c (bt t) (nt t r) j := by
  obtain ⟨f1, f2, f3⟩ := h
  unfold_out out0_15
  rw [View.canon_unit_zero hz3, p1, p6, p5, p3, zero_add]
  simp only [p4, p7, k_mask, w3, w5, w6, w8, g2, g4, g7]
  have l0 : View.ld (I0 m c t) r0_9 (ix3 0 r j) = gx m c (bt t) (nt t r) j := by rw [View.ld_unit_zero hz3]; exact b0 m c t r j
  have l12 : View.ld (I12 m c t) r0_10 (ix3 0 0 j) = gt m c (row (bt t) (nt t r)) j := by rw [View.ld_unit_zero hz3]; exact b12 m c t r j
  have l1 : ∀ k, View.ld (I1 m c t) r0_1 (ix3 0 r k) = gh m c 0 (bt t) (nt t r) k := fun k => by rw [View.ld_unit_zero hz3]; exact b1 m c t r k
  have l2 : ∀ k, View.ld (I2 m c t) r0_1 (ix3 0 r k) = gh m c 1 (bt t) (nt t r) k := fun k => by rw [View.ld_unit_zero hz3]; exact b2 m c t r k
  have l3 : ∀ k, View.ld (I3 m c t) r0_1 (ix3 0 r k) = gzh m c (bt t) (nt t r) k := fun k => by rw [View.ld_unit_zero hz3]; exact b3 m c t r k
  have l4 : ∀ k, View.ld (I4 m c t) r0_1 (ix3 0 r k) = gm m c 0 (bt t) (nt t r) k := fun k => by rw [View.ld_unit_zero hz3]; exact b4 m c t r k
  have l5 : ∀ k, View.ld (I5 m c t) r0_1 (ix3 0 r k) = gm m c 1 (bt t) (nt t r) k := fun k => by rw [View.ld_unit_zero hz3]; exact b5 m c t r k
  have l6 : ∀ k, View.ld (I6 m c t) r0_1 (ix3 0 r k) = gzm m c (bt t) (nt t r) k := fun k => by rw [View.ld_unit_zero hz3]; exact b6 m c t r k
  have l7 : ∀ k, View.ld (I7 m c t) r0_1 (ix3 0 r k) = gy m c (bt t) (nt t r) k := fun k => by rw [View.ld_unit_zero hz3]; exact b7 m c t r k
  have l8 : ∀ k, View.ld (I8 m c t) r0_1 (ix3 0 r k) = gd m c 0 (bt t) (nt t r) k := fun k => by rw [View.ld_unit_zero hz3]; exact b8 m c t r k
  have l9 : ∀ k, View.ld (I9 m c t) r0_1 (ix3 0 r k) = gd m c 1 (bt t) (nt t r) k := fun k => by rw [View.ld_unit_zero hz3]; exact b9 m c t r k
  have l10 : ∀ k, View.ld (I10 m c t) r0_1 (ix3 0 r k) = gzd m c (bt t) (nt t r) k := fun k => by rw [View.ld_unit_zero hz3]; exact b10 m c t r k
  simp only [l0, l1, l2, l3, l4, l5, l6, l7, l8, l9, l10, l12]
  simp only [kn_eq _ _ (f1 (bt t) (nt t r)), kn_eq _ _ (f2 (bt t) (nt t r)), kn_eq _ _ (f3 (bt t) (nt t r))]
  rfl

theorem ix_y {n : ℕ} (y : (⟨3, ![1, 256, n]⟩ : Shape).Idx) : ∃ (r : Fin 256) (L : Fin n), y = ix3 0 r L :=
  ⟨y 1, y 2, by funext k; match k with | 0 => exact Subsingleton.elim (α := Fin 1) _ _ | 1 => rfl | 2 => rfl⟩

/-- What the result array holds after the run. -/
theorem arr15 (h : FinO m c) : (dats m 0 c).arrAt 15 cfg0.N =
    (fun i : S4x4352x1024.Idx => rs m c (i 0) (i 1) (i 2) : Vec Ideal S4x4352x1024 .f32) := by
  refine (dats m 0 c).arrAt_eq_of_covers 15 _ (by decide +kernel) fun t hf y => ?_
  blk_simp
  rw [after0_15]
  obtain ⟨r, L, rfl⟩ : ∃ (r : Fin 256) (L : Fin 1024), y = (ix3 0 r L : S1x256x1024.Idx) := ix_y y
  have e : (win0_15.blk t).view.emb (ix3 0 r L : S1x256x1024.Idx) = (ix3 (bt t) (nt t r) L : S4x4352x1024.Idx) := by
    blk_ext [idx t, bt, nt]
  rw [e]
  exact o15 m c h t r L

end Cert.Kernel4Ideal.Hand
end
-- ==== Proof.OutC.lean ====
/-
The output projection's reference, read at an index.
-/
module

public import proofs.«01_k».proof.Defs
public import proofs.«01_k».proof.Proof.Gen.Reference4Ideal.Run
public import Idealize.ShloMosaic.Lib.Pointwise
public import Idealize.ShloMosaic.Lib.Tactic
public import Idealize.ShloMosaic.Lib.Claim
public import proofs.«01_k».proof.Proof.OutA

@[expose] public section

set_option maxRecDepth 16384

noncomputable section

open Idealize.ShloMosaic Idealize.ShloMosaic.TcCoe Idealize.SL.Sem Idealize.ShloMosaic.StableHlo

namespace Cert.Reference4Ideal.Hand
open Cert.Reference4Ideal Cert.Reference4Ideal.Gen Cert.Reference4Ideal.Value Cert.OutProj
open Cert.InProj (row)

variable (A0 : FVec Ideal S4x4352x1024 .f32) (A1 : FVec Ideal S2x4x4352x256 .f32) (A2 : FVec Ideal S4x4352x1280 .f32) (A3 : FVec Ideal S2x4x4352x256 .f32)
  (A4 : FVec Ideal S4x4352x1024 .f32) (A5 : FVec Ideal S4x4352x256 .f32) (A6 : FVec Ideal S2x4x4352x256 .f32) (A7 : FVec Ideal S4x4352x1024 .f32)
  (A8 : FVec Ideal S4x256 .f32) (A9 : FVec Ideal S5x1x1024 .f32) (A10 : FVec Ideal S1024x1024 .f32)

/-- The sum of a mixer's two directions. -/
def sm (O : FVec Ideal S2x4x4352x256 .f32) : FVec Ideal S4x4352x256 .f32 := (addf (shapeCast S4x4352x256 (extractStridedSlice S1x4x4352x256 ![0, 0, 0, 0] O slices_S2x4x4352x256_S1x4x4352x256_0_0_0_0) shapeCasts_S1x4x4352x256_S4x4352x256) (shapeCast S4x4352x256 (extractStridedSlice S1x4x4352x256 ![1, 0, 0, 0] O slices_S2x4x4352x256_S1x4x4352x256_1_0_0_0) shapeCasts_S1x4x4352x256_S4x4352x256))
/-- Each head over its root mean square. -/
def hn (X : FVec Ideal S4x4352x256 .f32) : FVec Ideal S4x4352x256 .f32 := (shapeCast S4x4352x256 (mulf (shapeCast S4x4352x4x64 X shapeCasts_S4x4352x256_S4x4352x4x64) (broadcastInDim S4x4352x4x64 ![0, 1, 2, 3] bcast_S4x4352x4x1_S4x4352x4x64_0_1_2_3 (Host.rsqrt (addf (Host.divf (broadcastInDim S4x4352x4x1 ![0, 1, 2] bcast_S4x4352x4_S4x4352x4x1_0_1_2 (Host.reduceAdd (mulf (shapeCast S4x4352x4x64 X shapeCasts_S4x4352x256_S4x4352x4x64) (shapeCast S4x4352x4x64 X shapeCasts_S4x4352x256_S4x4352x4x64)) (constant S_ .f32 0x00000000#32) reducesTo_S4x4352x4x64_S4x4352x4_d3 h_S_)) (broadcastInDim S4x4352x4x1 ![] bcast_S_S4x4352x4x1 (constant S_ .f32 0x42800000#32))) (broadcastInDim S4x4352x4x1 ![] bcast_S_S4x4352x4x1 (constant S_ .f32 0x358637BD#32)))))) shapeCasts_S4x4352x4x64_S4x4352x256)
/-- The sigmoid of every entry. -/
def sgv (X : FVec Ideal S4x4352x256 .f32) : FVec Ideal S4x4352x256 .f32 := (Host.divf (broadcastInDim S4x4352x256 ![] bcast_S_S4x4352x256 (constant S_ .f32 0x3F800000#32)) (addf (broadcastInDim S4x4352x256 ![] bcast_S_S4x4352x256 (constant S_ .f32 0x3F800000#32)) (Host.exp (Host.negf X))))
/-- The first mixer's part. -/
def pa : FVec Ideal S4x4352x256 .f32 := (mulf (mulf (hn (sm A1)) (broadcastInDim S4x4352x256 ![0, 1, 2] bcast_S1x1x256_S4x4352x256_0_1_2 (broadcastInDim S1x1x256 ![2] bcast_S256_S1x1x256_2 (shapeCast S256 (extractStridedSlice S1x256 ![0, 0] A8 slices_S4x256_S1x256_0_0) shapeCasts_S1x256_S256)))) (mulf (extractStridedSlice S4x4352x256 ![0, 0, 1024] A2 slices_S4x4352x1280_S4x4352x256_0_0_1024) (sgv (extractStridedSlice S4x4352x256 ![0, 0, 1024] A2 slices_S4x4352x1280_S4x4352x256_0_0_1024))))
/-- The second mixer's part. -/
def pb : FVec Ideal S4x4352x256 .f32 := (mulf (sgv (extractStridedSlice S4x4352x256 ![0, 0, 768] A4 slices_S4x4352x1024_S4x4352x256_0_0_768)) (mulf (hn (sm A3)) (broadcastInDim S4x4352x256 ![0, 1, 2] bcast_S1x1x256_S4x4352x256_0_1_2 (broadcastInDim S1x1x256 ![2] bcast_S256_S1x1x256_2 (shapeCast S256 (extractStridedSlice S1x256 ![1, 0] A8 slices_S4x256_S1x256_1_0) shapeCasts_S1x256_S256)))))
/-- The fourth mixer's part. -/
def pd : FVec Ideal S4x4352x256 .f32 := (mulf (mulf (hn (sm A6)) (broadcastInDim S4x4352x256 ![0, 1, 2] bcast_S1x1x256_S4x4352x256_0_1_2 (broadcastInDim S1x1x256 ![2] bcast_S256_S1x1x256_2 (shapeCast S256 (extractStridedSlice S1x256 ![3, 0] A8 slices_S4x256_S1x256_3_0) shapeCasts_S1x256_S256)))) (mulf (extractStridedSlice S4x4352x256 ![0, 0, 768] A7 slices_S4x4352x1024_S4x4352x256_0_0_768) (sgv (extractStridedSlice S4x4352x256 ![0, 0, 768] A7 slices_S4x4352x1024_S4x4352x256_0_0_768))))
/-- The parts side by side. -/
def cc : FVec Ideal S4x4352x1024 .f32 := (concatenate S4x4352x1024 2 [⟨S4x4352x256, pa A1 A2 A8⟩, ⟨S4x4352x256, pb A3 A4 A8⟩, ⟨S4x4352x256, A5⟩, ⟨S4x4352x256, pd A6 A7 A8⟩] concatenates_S4x4352x256_S4x4352x256_S4x4352x256_S4x4352x256_S4x4352x1024_d2)
/-- The product with the weights. -/
def yy (C : FVec Ideal S4x4352x1024 .f32) : FVec Ideal S4x4352x1024 .f32 := (Host.dotGeneral dot_S4x4352x1024_S1024x1024_S4x4352x1024_2_0_01_1_n_n none (C) A10)
/-- The result, of the product. -/
def rr (Y : FVec Ideal S4x4352x1024 .f32) : FVec Ideal S4x4352x1024 .f32 := concatenate S4x4352x1024 1 [⟨S4x4096x1024, (addf (extractStridedSlice S4x4096x1024 ![0, 0, 0] A0 slices_S4x4352x1024_S4x4096x1024_0_0_0) (mulf (broadcastInDim S4x4096x1024 ![0, 1, 2] bcast_S4x1x1024_S4x4096x1024_0_1_2 (extractStridedSlice S4x1x1024 ![0, 0, 0] A9 slices_S5x1x1024_S4x1x1024_0_0_0)) (extractStridedSlice S4x4096x1024 ![0, 0, 0] Y slices_S4x4352x1024_S4x4096x1024_0_0_0)))⟩, ⟨S4x256x1024, (addf (extractStridedSlice S4x256x1024 ![0, 4096, 0] A0 slices_S4x4352x1024_S4x256x1024_0_4096_0) (mulf (broadcastInDim S4x256x1024 ![0, 1, 2] bcast_S1x1x1024_S4x256x1024_0_1_2 (broadcastInDim S1x1x1024 ![1, 2] bcast_S1x1024_S1x1x1024_1_2 (shapeCast S1x1024 (extractStridedSlice S1x1x1024 ![4, 0, 0] A9 slices_S5x1x1024_S1x1x1024_4_0_0) shapeCasts_S1x1x1024_S1x1024))) (extractStridedSlice S4x256x1024 ![0, 4096, 0] Y slices_S4x4352x1024_S4x256x1024_0_4096_0)))⟩] concatenates_S4x4096x1024_S4x256x1024_S4x4352x1024_d1

theorem sm_at (O : FVec Ideal S2x4x4352x256 .f32) (b : Fin 4) (n : Fin 4352) (k : Fin 256) :
    sm O (ix3 b n k) = O (ix4 0 b n k) + O (ix4 1 b n k) := by
  unfold sm
  pointwise []
theorem hn_at (X : FVec Ideal S4x4352x256 .f32) (b : Fin 4) (n : Fin 4352) (k : Fin 256) :
    hn X (ix3 b n k) = X (ix3 b n k) * Ideal.rsqrt (ms (fun k => X (ix3 b n k)) k + Ideal.ofBits .f32 0x358637BD#32) := by
  unfold hn
  pointwise []
  rfl
theorem sgv_at (X : FVec Ideal S4x4352x256 .f32) (b : Fin 4) (n : Fin 4352) (k : Fin 256) :
    sgv X (ix3 b n k) = Ideal.logistic (X (ix3 b n k)) := by
  unfold sgv
  pointwise []
  rfl
theorem pa_at (b : Fin 4) (n : Fin 4352) (k : Fin 256) : pa A1 A2 A8 (ix3 b n k)
    = nrm (fun k => A1 (ix4 0 b n k) + A1 (ix4 1 b n k)) (fun k => A8 (ix2 0 k)) k * (A2 (ix3 b n ⟨1024 + k.val, by omega⟩) * Ideal.logistic (A2 (ix3 b n ⟨1024 + k.val, by omega⟩))) := by
  unfold pa
  have h := hn_at (sm A1) b n k
  simp only [sm_at] at h
  have hs := sgv_at (extractStridedSlice S4x4352x256 ![0, 0, 1024] A2 slices_S4x4352x1280_S4x4352x256_0_0_1024) b n k
  have hz : (extractStridedSlice S4x4352x256 ![0, 0, 1024] A2 slices_S4x4352x1280_S4x4352x256_0_0_1024) (ix3 b n k) = A2 (ix3 b n ⟨1024 + k.val, by omega⟩) := by
    pointwise []
  rw [hz] at hs
  revert h hs
  generalize hn (sm A1) = H
  generalize sgv (extractStridedSlice S4x4352x256 ![0, 0, 1024] A2 slices_S4x4352x1280_S4x4352x256_0_0_1024) = G
  intro h hs
  pointwise []
  rw [h, hs]
  rfl
theorem pb_at (b : Fin 4) (n : Fin 4352) (k : Fin 256) : pb A3 A4 A8 (ix3 b n k)
    = nrm (fun k => A3 (ix4 0 b n k) + A3 (ix4 1 b n k)) (fun k => A8 (ix2 1 k)) k * Ideal.logistic (A4 (ix3 b n ⟨768 + k.val, by omega⟩)) := by
  unfold pb
  have h := hn_at (sm A3) b n k
  simp only [sm_at] at h
  have hs := sgv_at (extractStridedSlice S4x4352x256 ![0, 0, 768] A4 slices_S4x4352x1024_S4x4352x256_0_0_768) b n k
  have hz : (extractStridedSlice S4x4352x256 ![0, 0, 768] A4 slices_S4x4352x1024_S4x4352x256_0_0_768) (ix3 b n k) = A4 (ix3 b n ⟨768 + k.val, by omega⟩) := by
    pointwise []
  rw [hz] at hs
  revert h hs
  generalize hn (sm A3) = H
  generalize sgv (extractStridedSlice S4x4352x256 ![0, 0, 768] A4 slices_S4x4352x1024_S4x4352x256_0_0_768) = G
  intro h hs
  pointwise []
  rw [h, hs]
  exact mul_comm _ _
theorem pd_at (b : Fin 4) (n : Fin 4352) (k : Fin 256) : pd A6 A7 A8 (ix3 b n k)
    = nrm (fun k => A6 (ix4 0 b n k) + A6 (ix4 1 b n k)) (fun k => A8 (ix2 3 k)) k * (A7 (ix3 b n ⟨768 + k.val, by omega⟩) * Ideal.logistic (A7 (ix3 b n ⟨768 + k.val, by omega⟩))) := by
  unfold pd
  have h := hn_at (sm A6) b n k
  simp only [sm_at] at h
  have hs := sgv_at (extractStridedSlice S4x4352x256 ![0, 0, 768] A7 slices_S4x4352x1024_S4x4352x256_0_0_768) b n k
  have hz : (extractStridedSlice S4x4352x256 ![0, 0, 768] A7 slices_S4x4352x1024_S4x4352x256_0_0_768) (ix3 b n k) = A7 (ix3 b n ⟨768 + k.val, by omega⟩) := by
    pointwise []
  rw [hz] at hs
  revert h hs
  generalize hn (sm A6) = H
  generalize sgv (extractStridedSlice S4x4352x256 ![0, 0, 768] A7 slices_S4x4352x1024_S4x4352x256_0_0_768) = G
  intro h hs
  pointwise []
  rw [h, hs]
  rfl
theorem yy_at (C : FVec Ideal S4x4352x1024 .f32) (b : Fin 4) (n : Fin 4352) (j : Fin 1024) :
    yy A10 C (ix3 b n j) = ∑ k, C (ix3 b n k) * A10 (ix2 k j) := by
  unfold yy
  pointwise []
/-- The mixers' rows of a position, side by side. -/
abbrev mxr (b : Fin 4) (n : Fin 4352) : Fin 4 → Fin 256 → EReal :=
    mix (fun k => A1 (ix4 0 b n k) + A1 (ix4 1 b n k)) (fun k => A2 (ix3 b n ⟨1024 + k.val, by omega⟩)) (fun k => A8 (ix2 0 k))
      (fun k => A3 (ix4 0 b n k) + A3 (ix4 1 b n k)) (fun k => A4 (ix3 b n ⟨768 + k.val, by omega⟩)) (fun k => A8 (ix2 1 k)) (fun k => A5 (ix3 b n k))
      (fun k => A6 (ix4 0 b n k) + A6 (ix4 1 b n k)) (fun k => A7 (ix3 b n ⟨768 + k.val, by omega⟩)) (fun k => A8 (ix2 3 k))

theorem cc_at (b : Fin 4) (n : Fin 4352) (i : Fin 4) (k : Fin 256) : cc A1 A2 A3 A4 A5 A6 A7 A8 (ix3 b n (wr i k)) = mxr A1 A2 A3 A4 A5 A6 A7 A8 b n i k := by
  have h0 := pa_at A1 A2 A8 b n k
  have h1 := pb_at A3 A4 A8 b n k
  have h3 := pd_at A6 A7 A8 b n k
  unfold cc
  revert h0 h1 h3
  generalize pa A1 A2 A8 = P
  generalize pb A3 A4 A8 = Q
  generalize pd A6 A7 A8 = R
  intro h0 h1 h3
  pointwise []
  match i with
  | 0 =>
    rw [dif_pos (by simp only [wr]; omega)]
    exact (congrArg P (congrArg (ix3 b n) (Fin.ext (by simp only [wr]; omega)))).trans h0
  | 1 =>
    rw [dif_neg (by simp only [wr]; omega), dif_pos (by simp only [wr]; omega)]
    exact (congrArg Q (congrArg (ix3 b n) (Fin.ext (by simp only [wr]; omega)))).trans h1
  | 2 =>
    rw [dif_neg (by simp only [wr]; omega), dif_neg (by simp only [wr]; omega), dif_pos (by simp only [wr]; omega)]
    exact congrArg A5 (congrArg (ix3 b n) (Fin.ext (by simp only [wr]; omega)))
  | 3 =>
    rw [dif_neg (by simp only [wr]; omega), dif_neg (by simp only [wr]; omega), dif_neg (by simp only [wr]; omega)]
    exact (congrArg R (congrArg (ix3 b n) (Fin.ext (by simp only [wr]; omega)))).trans h3
theorem rr_at (Y : FVec Ideal S4x4352x1024 .f32) (b : Fin 4) (n : Fin 4352) (j : Fin 1024) :
    rr A0 A9 Y (ix3 b n j) = A0 (ix3 b n j) + A9 (ix3 (row b n) 0 j) * Y (ix3 b n j) := by
  unfold rr
  pointwise []
  unfold row
  split
  · rfl
  · rename_i h
    have e : (⟨4096 + (n.val - 4096), by omega⟩ : Fin 4352) = n := Fin.ext (by have := Nat.not_lt.mp h; dsimp only; omega)
    rw [e]
/-- One entry of the result. -/
theorem rr_res (b : Fin 4) (n : Fin 4352) (j : Fin 1024) : rr A0 A9 (yy A10 (cc A1 A2 A3 A4 A5 A6 A7 A8)) (ix3 b n j)
    = res (A0 (ix3 b n j)) (A9 (ix3 (row b n) 0 j)) (mxr A1 A2 A3 A4 A5 A6 A7 A8 b n) (fun k => A10 (ix2 k j)) := by
  rw [rr_at, yy_at, sum_four]
  simp only [cc_at]
  rfl

variable (m : (ℓ : Loc nD τ sig) → Buf (Elt Ideal) ℓ) (c : Dev nD)

theorem res_eq : res_main_v96 m c = rr (m ((c.tc : Thread nD τ).loc main_arg0)) (m ((c.tc : Thread nD τ).loc main_arg9))
    (yy (m ((c.tc : Thread nD τ).loc main_arg10)) (cc (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) := rfl

end Cert.Reference4Ideal.Hand

end
-- ==== Proof.OutD.lean ====
/-
The output projection: what its precondition says, and that both programs end with the same array.
-/
module

public import proofs.«01_k».proof.Proof.OutB
public import proofs.«01_k».proof.Proof.OutC
public import proofs.«01_k».proof.Proof.Fin
public import proofs.«01_k».proof.Proof.Gen.Kernel4Ideal.Value
public import Idealize.ShloMosaic.Init

@[expose] public section

set_option maxRecDepth 16384

noncomputable section

open Idealize.ShloMosaic Idealize.ShloMosaic.TcCoe Idealize.SL.Sem

namespace Cert.Pre_mixers_finite
open Cert.Mlstm (Fin')

/-- The side conditions of the precondition's operations. -/
theorem facts : Facts := by
  constructor <;> decide

instance : Subsingleton S_.Idx := ⟨fun a b => funext fun i => absurd i.isLt (Nat.not_lt_zero _)⟩

/-- The sum of the two directions, as the precondition takes it. -/
def dirs [Facts] (O : FVec Ideal S2x4x4352x256 .f32) : FVec Ideal S4x4352x256 .f32 :=
  addf (shapeCast S4x4352x256 (extractStridedSlice S1x4x4352x256 ![0, 0, 0, 0] O Facts.slices_S2x4x4352x256_S1x4x4352x256_0_0_0_0) Facts.shapeCasts_S1x4x4352x256_S4x4352x256)
    (shapeCast S4x4352x256 (extractStridedSlice S1x4x4352x256 ![1, 0, 0, 0] O Facts.slices_S2x4x4352x256_S1x4x4352x256_1_0_0_0) Facts.shapeCasts_S1x4x4352x256_S4x4352x256)

theorem dirs_at [Facts] (O : FVec Ideal S2x4x4352x256 .f32) (b : Fin 4) (n : Fin 4352) (k : Fin 256) :
    dirs O (ix3 b n k) = O (ix4 0 b n k) + O (ix4 1 b n k) := by
  unfold dirs
  pointwise []

/-- The precondition says that the sum of each mixer's two directions is finite. -/
theorem read [Facts] (A0 : FVec Ideal S4x4352x1024 .f32) (A1 : FVec Ideal S2x4x4352x256 .f32) (A2 : FVec Ideal S4x4352x1280 .f32) (A3 : FVec Ideal S2x4x4352x256 .f32)
    (A4 : FVec Ideal S4x4352x1024 .f32) (A5 : FVec Ideal S4x4352x256 .f32) (A6 : FVec Ideal S2x4x4352x256 .f32) (A7 : FVec Ideal S4x4352x1024 .f32)
    (A8 : FVec Ideal S4x256 .f32) (A9 : FVec Ideal S5x1x1024 .f32) (A10 : FVec Ideal S1024x1024 .f32)
    (h : fn (F := Ideal) A0 A1 A2 A3 A4 A5 A6 A7 A8 A9 A10 = fun _ => 1#1) :
    (∀ b n k, Fin' (A1 (ix4 0 b n k) + A1 (ix4 1 b n k))) ∧ (∀ b n k, Fin' (A3 (ix4 0 b n k) + A3 (ix4 1 b n k)))
      ∧ ∀ b n k, Fin' (A6 (ix4 0 b n k) + A6 (ix4 1 b n k)) := by
  have h' := congrFun h (fun i => absurd i.isLt (Nat.not_lt_zero _))
  unfold fn fn_part1 at h'
  obtain ⟨h1, h2⟩ := Cert.Pre_gates_finite.and_one _ _ h'
  obtain ⟨h3, h4⟩ := Cert.Pre_gates_finite.and_one _ _ h1
  have q1 := Host.reduce_andi_all _ _ _ _ _ h3
  have q2 := Host.reduce_andi_all _ _ _ _ _ h4
  have q3 := Host.reduce_andi_all _ _ _ _ _ h2
  exact ⟨fun b n k => dirs_at A1 b n k ▸ Cert.Pre_gates_finite.fin_of_lt (dirs A1 (ix3 b n k)) (q1 (ix3 b n k)),
    fun b n k => dirs_at A3 b n k ▸ Cert.Pre_gates_finite.fin_of_lt (dirs A3 (ix3 b n k)) (q2 (ix3 b n k)),
    fun b n k => dirs_at A6 b n k ▸ Cert.Pre_gates_finite.fin_of_lt (dirs A6 (ix3 b n k)) (q3 (ix3 b n k))⟩

end Cert.Pre_mixers_finite

namespace Cert.Proof.Out
open Cert.Kernel4Ideal Cert.Kernel4Ideal.Hand Cert.OutProj

/-- Where the sums of the mixers' directions are finite, both programs end with the same array. -/
theorem algebraic4 : Cert.algebraic_Kernel4Ideal_Reference4Ideal_pre_mixers_finite (hKernel4Ideal := Cert.Kernel4Ideal.Gen.facts)
    (hReference4Ideal := Cert.Reference4Ideal.Gen.facts) (hPre_mixers_finite := Cert.Pre_mixers_finite.facts) := by
  intro m ρ m' ρ' hpre hagree
  haveI := Cert.Pre_mixers_finite.facts
  have H : ∀ c, FinO m c := fun c => Cert.Pre_mixers_finite.read _ _ _ _ _ _ _ _ _ _ _ (hpre c)
  refine ⟨fun c => (fun i : S4x4352x1024.Idx => rs m c (i 0) (i 1) (i 2) : Vec Ideal S4x4352x1024 .f32), ?_, ?_⟩
  · exact (θ_run Cert.Kernel4Ideal.defs _ _).mono (fun _ h c => ⟨(h c).1.trans (arr15 m c (H c)), (h c).2⟩) (Cert.Kernel4Ideal.Value.run_blocks m ρ)
  · refine (θ_run Cert.Reference4Ideal.defs _ _).mono (fun _ hr c => ⟨(hr c).1.trans ?_, (hr c).2⟩) (Cert.Reference4Ideal.Value.run (F := Ideal) m' ρ')
    obtain ⟨h0, h1, h2, h3, h4, h5, h6, h7, h8, h9, h10⟩ := hagree c
    rw [Cert.Reference4Ideal.Hand.res_eq, h0, h1, h2, h3, h4, h5, h6, h7, h8, h9, h10]
    funext (i : S4x4352x1024.Idx)
    have ei : i = (ix3 (i 0) (i 1) (i 2) : S4x4352x1024.Idx) := by funext k; match k with | ⟨0, _⟩ => rfl | ⟨1, _⟩ => rfl | ⟨2, _⟩ => rfl
    rw [ei]
    exact Cert.Reference4Ideal.Hand.rr_res _ _ _ _ _ _ _ _ _ _ _ (i 0) (i 1) (i 2)

/-- The reference runs, keeps its arguments, and declares no semaphore. -/
theorem frame_ref4 : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

end Cert.Proof.Out

end
-- ==== Proof.lean ====
/-
The bidirectional mLSTM scan: the kernel's two result arrays are the chunked recurrence's, over the extended reals.
The input projection: the kernel's five result arrays are the columns of the normalized rows' products, over the extended reals.
The expert feed-forward blocks: the kernel's result array is its experts' feed-forward rows, over the extended reals.
The output projection: the kernel's result array is the activations plus the gated product of the mixers' rows, over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import Idealize.ShloMosaic.Adequacy
public import proofs.«01_k».proof.Proof.Kern
public import proofs.«01_k».proof.Proof.Fin
public import proofs.«01_k».proof.Proof.RefE
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Value
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.InB
public import proofs.«01_k».proof.Proof.InC
public import proofs.«01_k».proof.Proof.ExC
public import proofs.«01_k».proof.Proof.ExG
public import proofs.«01_k».proof.Proof.OutD
public import Idealize.ShloMosaic.Init

@[expose] public section

set_option maxRecDepth 16384

noncomputable section

-- The claims about Kernel, KernelIdeal, ReferenceIdeal also say that every semaphore counter ends at zero.

namespace Cert.Proof

open Idealize.ShloMosaic Idealize.ShloMosaic.TcCoe Idealize.SL.Sem Cert.Mlstm

/-- Two arrays of three axes are equal entry by entry. -/
theorem ext3 {n0 n1 n2 : ℕ} {f g : Vec Ideal ⟨3, ![n0, n1, n2]⟩ .f32} (h : ∀ a b c, f (ix3 a b c) = g (ix3 a b c)) : f = g :=
  funext fun i => by
    have e : i = ix3 (i 0) (i 1) (i 2) := by funext k; match k with | 0 => rfl | 1 => rfl | 2 => rfl
    rw [e]; exact h _ _ _

/-- The forward scan's rows, of the kernel's argument arrays. -/
def resF (m : (ℓ : Loc Cert.KernelIdeal.nD Cert.KernelIdeal.τ Cert.KernelIdeal.sig) → Buf (Elt Ideal) ℓ) (c : Dev Cert.KernelIdeal.nD) :
    Vec Ideal Cert.KernelIdeal.S4x4352x256 .f32 := fun i : Cert.KernelIdeal.S4x4352x256.Idx =>
  hF (Cert.KernelIdeal.Hand.gz m c) (Cert.KernelIdeal.Hand.gzc m c) (Cert.KernelIdeal.Hand.ggb m c) (i 0) (i 1) (i 2)
/-- The backward scan's rows, of the kernel's argument arrays. -/
def resB (m : (ℓ : Loc Cert.KernelIdeal.nD Cert.KernelIdeal.τ Cert.KernelIdeal.sig) → Buf (Elt Ideal) ℓ) (c : Dev Cert.KernelIdeal.nD) :
    Vec Ideal Cert.KernelIdeal.S4x4352x256 .f32 := fun i : Cert.KernelIdeal.S4x4352x256.Idx =>
  hB (Cert.KernelIdeal.Hand.gz m c) (Cert.KernelIdeal.Hand.gzc m c) (Cert.KernelIdeal.Hand.ggb m c) (i 0) (i 1) (i 2)

/-- Under the precondition both programs end with the same two arrays: the forward scan's rows and the backward scan's. -/
theorem algebraic [hp : Cert.Pre_gates_finite.Facts] :
    Cert.algebraic_KernelIdeal_ReferenceIdeal_pre_gates_finite (hKernelIdeal := Cert.KernelIdeal.Gen.facts) (hReferenceIdeal := Cert.ReferenceIdeal.Gen.facts) := by
  intro m ρ m' ρ' hpre hagree
  have H : ∀ c, Cert.KernelIdeal.Hand.FinG m c := fun c => by
    obtain ⟨h1, h2, h3⟩ := Cert.Pre_gates_finite.read _ _ _ (hpre c)
    exact ⟨h1, h2, h3⟩
  refine ⟨fun c => resF m c, fun c => resB m c, ?_, ?_⟩
  · exact (θ_run Cert.KernelIdeal.defs _ _).mono (fun _ h c => ⟨(h c).1.trans (Cert.KernelIdeal.Hand.arr10 m c (H c)),
        (h c).2.1.trans (Cert.KernelIdeal.Hand.arr11 m c (H c)), (h c).2.2⟩)
      (Cert.KernelIdeal.Value.run_blocks m ρ)
  have ez : ∀ c, Cert.ReferenceIdeal.Hand.rz m' c = Cert.KernelIdeal.Hand.gz m c := fun c => by
    funext b n k; exact congrFun (hagree c).1 _
  have ezc : ∀ c, Cert.ReferenceIdeal.Hand.rzc m' c = Cert.KernelIdeal.Hand.gzc m c := fun c => by
    funext b n k; exact congrFun (hagree c).2.1 _
  have eg : ∀ c, Cert.ReferenceIdeal.Hand.rgb m' c = Cert.KernelIdeal.Hand.ggb m c := fun c => by
    funext a h; exact congrFun (hagree c).2.2 _
  have e1 : ∀ c, Cert.ReferenceIdeal.Value.out_main_v65 (Cert.ReferenceIdeal.Value.STEP^[68] (Cert.ReferenceIdeal.Hand.E0 m' c)) = resF m c := fun c => by
    refine (Cert.ReferenceIdeal.Hand.outF m' c).trans ?_
    rw [ez, ezc, eg]
    rfl
  have e2 : ∀ c, Cert.ReferenceIdeal.Value.out_main_v72 (Cert.ReferenceIdeal.Value.STEP^[68] (Cert.ReferenceIdeal.Hand.E0 m' c)) = resB m c := fun c => by
    refine (Cert.ReferenceIdeal.Hand.outB m' c).trans ?_
    rw [ez, ezc, eg]
    rfl
  exact (θ_run Cert.ReferenceIdeal.defs _ _).mono (fun _ h c => ⟨(h c).1.trans (e1 c), (h c).2.1.trans (e2 c), (h c).2.2⟩)
    (Cert.ReferenceIdeal.Value.run m' ρ')

section
open Cert.InProj Cert.Kernel2Ideal.Hand
/-- The input projection's programs end with the same five arrays, whatever the arguments hold. -/
theorem algebraic2 : Cert.algebraic_Kernel2Ideal_Reference2Ideal (hKernel2Ideal := Cert.Kernel2Ideal.Gen.facts) (hReference2Ideal := Cert.Reference2Ideal.Gen.facts) := by
  intro m ρ m' ρ' _ hagree
  have ez : ∀ c b n j, Cert.Reference2Ideal.Hand.zr m' c (ix3 b n j) = pr m c b n j := fun c b n j => by
    refine (Cert.Reference2Ideal.Hand.zz_at _ _ _ _ _ b n j).trans ?_
    obtain ⟨h0, h1, h2, h3, h4⟩ := hagree c
    have e0 : (fun b n k => (m' ((c.tc : Thread Cert.Reference2Ideal.nD Cert.Reference2Ideal.τ).loc Cert.Reference2Ideal.main_arg0) : FVec Ideal Cert.Reference2Ideal.S4x4352x1024 .f32) (ix3 b n k)) = gx m c := by
      funext b n k; exact congrFun h0 _
    have e1 : (fun k => (m' ((c.tc : Thread Cert.Reference2Ideal.nD Cert.Reference2Ideal.τ).loc Cert.Reference2Ideal.main_arg1) : FVec Ideal Cert.Reference2Ideal.S1024 .f32) (ix1 k)) = gg m c := by
      funext k; exact congrFun h1 _
    have e2 : (fun b k => (m' ((c.tc : Thread Cert.Reference2Ideal.nD Cert.Reference2Ideal.τ).loc Cert.Reference2Ideal.main_arg2) : FVec Ideal Cert.Reference2Ideal.S5x1x1024 .f32) (ix3 b 0 k)) = gsc m c := by
      funext b k; exact congrFun h2 _
    have e3 : (fun b k => (m' ((c.tc : Thread Cert.Reference2Ideal.nD Cert.Reference2Ideal.τ).loc Cert.Reference2Ideal.main_arg3) : FVec Ideal Cert.Reference2Ideal.S5x1x1024 .f32) (ix3 b 0 k)) = gsh m c := by
      funext b k; exact congrFun h3 _
    have e4 : (fun k j => (m' ((c.tc : Thread Cert.Reference2Ideal.nD Cert.Reference2Ideal.τ).loc Cert.Reference2Ideal.main_arg4) : FVec Ideal Cert.Reference2Ideal.S1024x4128 .f32) (ix2 k j)) = gw m c := by
      funext k j; exact congrFun h4 _
    rw [e0, e1, e2, e3, e4]
  refine ⟨fun c => (fun i : Cert.Kernel2Ideal.S4x4352x1280.Idx => pr m c (i 0) (i 1) (c0 (i 2)) : Vec Ideal Cert.Kernel2Ideal.S4x4352x1280 .f32),
    fun c => (fun i : Cert.Kernel2Ideal.S4x4352x1024.Idx => pr m c (i 0) (i 1) (c1 (i 2)) : Vec Ideal Cert.Kernel2Ideal.S4x4352x1024 .f32),
    fun c => (fun i : Cert.Kernel2Ideal.S4x4352x768.Idx => pr m c (i 0) (i 1) (c2 (i 2)) : Vec Ideal Cert.Kernel2Ideal.S4x4352x768 .f32),
    fun c => (fun i : Cert.Kernel2Ideal.S4x4352x1024.Idx => pr m c (i 0) (i 1) (c3 (i 2)) : Vec Ideal Cert.Kernel2Ideal.S4x4352x1024 .f32),
    fun c => (fun i : Cert.Kernel2Ideal.S4x4352x128.Idx => gate (pr m c (i 0) (i 1)) (i 2) : Vec Ideal Cert.Kernel2Ideal.S4x4352x128 .f32), ?_, ?_⟩
  · exact (θ_run Cert.Kernel2Ideal.defs _ _).mono (fun _ h c => ⟨(h c).1.trans (arr5 m c), (h c).2.1.trans (arr6 m c),
        (h c).2.2.1.trans (arr7 m c), (h c).2.2.2.1.trans (arr8 m c), (h c).2.2.2.2.1.trans (arr9 m c), (h c).2.2.2.2.2⟩)
      (Cert.Kernel2Ideal.Value.run_blocks m ρ)
  · exact (θ_run Cert.Reference2Ideal.defs _ _).mono (fun _ h c => ⟨
        (h c).1.trans (ext3 fun b n j => (Cert.Reference2Ideal.Hand.r0 b n j (Cert.Reference2Ideal.Hand.zr m' c)).trans (ez c b n _)),
        (h c).2.1.trans (ext3 fun b n j => (Cert.Reference2Ideal.Hand.r1 b n j (Cert.Reference2Ideal.Hand.zr m' c)).trans (ez c b n _)),
        (h c).2.2.1.trans (ext3 fun b n j => (Cert.Reference2Ideal.Hand.r2 b n j (Cert.Reference2Ideal.Hand.zr m' c)).trans (ez c b n _)),
        (h c).2.2.2.1.trans (ext3 fun b n j => (Cert.Reference2Ideal.Hand.r3 b n j (Cert.Reference2Ideal.Hand.zr m' c)).trans (ez c b n _)),
        (h c).2.2.2.2.1.trans (ext3 fun b n j => (Cert.Reference2Ideal.Hand.r4 b n j (Cert.Reference2Ideal.Hand.zr m' c)).trans
          (congrArg (fun f => gate f j) (funext fun l => ez c b n l))), (h c).2.2.2.2.2⟩)
      (Cert.Reference2Ideal.Value.run m' ρ')
end

/-- The reference runs, keeps its arguments, and declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The input projection's reference runs, keeps its arguments, and declares no semaphore. -/
theorem frame_ref2 : Cert.quiescent_Reference2Ideal (hReference2Ideal := Cert.Reference2Ideal.Gen.facts) := fun m ρ _ =>
  (θ_run Cert.Reference2Ideal.defs _ _).mono (fun r h => ⟨fun c => (h c).2.2.2.2.2, Idealize.ShloMosaic.sem_eq_zero_of_no_sems (by decide) r.2⟩)
    (Cert.Reference2Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_gates_finite.facts, Cert.Pre_tables_in_range.facts, Cert.Pre_mixers_finite.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, frame_ref2,
  Ex.frame_kernel3, Ex.frame_kernel3Ideal, Ex.frame_ref3, fun m ρ _ => Ex.frame_ref3 m ρ trivial,
  fun m ρ _ => Cert.Kernel4.Gen.frame m ρ, fun m ρ _ => Cert.Kernel4Ideal.Gen.frame m ρ, fun m ρ _ => Cert.Kernel4Ideal.Gen.frame m ρ,
  Out.frame_ref4, fun m ρ _ => Out.frame_ref4 m ρ trivial, trivial,
  algebraic (hp := Cert.Pre_gates_finite.facts), trivial, algebraic2, trivial, Ex.algebraic3, trivial, Out.algebraic4⟩

end Cert.Proof

end
